-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_ascend [hPre_counts_ascend : Cert.Pre_counts_ascend.Facts] (m : (ℓ : Loc Cert.KernelIdeal.nD Cert.KernelIdeal.τ Cert.KernelIdeal.sig) → Buf (Elt Ideal) ℓ) : Prop :=
  ∀ c : Dev Cert.KernelIdeal.nD,
    (Cert.Pre_counts_ascend.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_ascend [hPre_counts_ascend : Cert.Pre_counts_ascend.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_ascend.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_counts_ascend [hKernelIdeal : Cert.KernelIdeal.Facts] [hPre_counts_ascend : Cert.Pre_counts_ascend.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_ascend m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_counts_ascend [hReferenceIdeal : Cert.ReferenceIdeal.Facts] [hPre_counts_ascend : Cert.Pre_counts_ascend.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_ascend m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_counts_ascend [hKernelIdeal : Cert.KernelIdeal.Facts] [hReferenceIdeal : Cert.ReferenceIdeal.Facts] [hPre_counts_ascend : Cert.Pre_counts_ascend.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_ascend m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_counts_ascend : Cert.Pre_counts_ascend.Facts),
    quiescent_Kernel (hKernel := hKernel)
    ∧ quiescent_KernelIdeal (hKernelIdeal := hKernelIdeal)
    ∧ quiescent_KernelIdeal_pre_counts_ascend (hKernelIdeal := hKernelIdeal) (hPre_counts_ascend := hPre_counts_ascend)
    ∧ quiescent_ReferenceIdeal (hReferenceIdeal := hReferenceIdeal)
    ∧ quiescent_ReferenceIdeal_pre_counts_ascend (hReferenceIdeal := hReferenceIdeal) (hPre_counts_ascend := hPre_counts_ascend)
    ∧ preserves_Kernel_KernelIdeal
    ∧ algebraic_KernelIdeal_ReferenceIdeal_pre_counts_ascend (hKernelIdeal := hKernelIdeal) (hReferenceIdeal := hReferenceIdeal) (hPre_counts_ascend := hPre_counts_ascend)
-- ==== Pre_counts_ascend.lean ====
abbrev S200000x3 : Shape := ⟨2, ![200000, 3]⟩
abbrev S2 : Shape := ⟨1, ![2]⟩
abbrev S200000x64 : Shape := ⟨2, ![200000, 64]⟩
abbrev S128x67 : Shape := ⟨2, ![128, 67]⟩
abbrev S128 : Shape := ⟨1, ![128]⟩
abbrev S256x128 : Shape := ⟨2, ![256, 128]⟩
abbrev S256 : Shape := ⟨1, ![256]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S200000x3 .f32) (main_arg1 : IVec S2 32) (main_arg2 : FVec F S200000x64 .f32) (main_arg3 : FVec F S128x67 .f32) (main_arg4 : FVec F S128 .f32) (main_arg5 : FVec F S128 .f32) (main_arg6 : FVec F S256x128 .f32) (main_arg7 : FVec F S256 .f32) (main_arg8 : FVec F S256 .f32) : IVec S_ 1 :=
  let main_v0 : IVec S1 32 := (extractStridedSlice S1 ![0] · slices_S2_S1_0) main_arg1
  let main_v1 : IVec S_ 32 := shapeCast S_ main_v0 shapeCasts_S1_S_
  let main_v2 : IVec S1 32 := (extractStridedSlice S1 ![0] · slices_S2_S1_0) main_arg1
  let main_v3 : IVec S_ 32 := shapeCast S_ main_v2 shapeCasts_S1_S_
  let main_v4 : IVec S1 32 := (extractStridedSlice S1 ![1] · slices_S2_S1_1) main_arg1
  let main_v5 : IVec S_ 32 := shapeCast S_ main_v4 shapeCasts_S1_S_
  let main_v6 : IVec S_ 32 := addi main_v3 main_v5
  let main_v7 : IVec S_ 1 := cmpi .sle main_v1 main_v6
  let main_c : IVec S_ 32 := constantI S_ 32 200000#32
  let main_v8 : IVec S_ 1 := cmpi .sle main_v6 main_c
  let main_v9 : IVec S_ 1 := andi main_v7 main_v8
  main_v9
-- ==== Kernel.lean ====
abbrev S200000x3 : Shape := ⟨2, ![200000, 3]⟩
abbrev S2 : Shape := ⟨1, ![2]⟩
abbrev S200000x64 : Shape := ⟨2, ![200000, 64]⟩
abbrev S128x67 : Shape := ⟨2, ![128, 67]⟩
abbrev S128 : Shape := ⟨1, ![128]⟩
abbrev S256x128 : Shape := ⟨2, ![256, 128]⟩
abbrev S256 : Shape := ⟨1, ![256]⟩
abbrev S_ : Shape := ⟨0, ![]⟩
abbrev S200704x3 : Shape := ⟨2, ![200704, 3]⟩
abbrev S3x200704 : Shape := ⟨2, ![3, 200704]⟩
abbrev S200704x64 : Shape := ⟨2, ![200704, 64]⟩
abbrev S128x64 : Shape := ⟨2, ![128, 64]⟩
abbrev S64x128 : Shape := ⟨2, ![64, 128]⟩
abbrev S128x3 : Shape := ⟨2, ![128, 3]⟩
abbrev S3x128 : Shape := ⟨2, ![3, 128]⟩
abbrev S8x128 : Shape := ⟨2, ![8, 128]⟩
abbrev S1x128 : Shape := ⟨2, ![1, 128]⟩
abbrev S128x256 : Shape := ⟨2, ![128, 256]⟩
abbrev S1x256 : Shape := ⟨2, ![1, 256]⟩
abbrev S1024 : Shape := ⟨1, ![1024]⟩
abbrev S1024x1 : Shape := ⟨2, ![1024, 1]⟩
abbrev S64 : Shape := ⟨1, ![64]⟩
abbrev S1x64 : Shape := ⟨2, ![1, 64]⟩
abbrev S1024x64 : Shape := ⟨2, ![1024, 64]⟩
abbrev S200704x256 : Shape := ⟨2, ![200704, 256]⟩
abbrev S196x1x1024 : Shape := ⟨3, ![196, 1, 1024]⟩
abbrev S196x128x64 : Shape := ⟨3, ![196, 128, 64]⟩
abbrev S3x1024 : Shape := ⟨2, ![3, 1024]⟩
abbrev S1024x256 : Shape := ⟨2, ![1024, 256]⟩
abbrev S1x1x1024 : Shape := ⟨3, ![1, 1, 1024]⟩
abbrev S1x128x64 : Shape := ⟨3, ![1, 128, 64]⟩
abbrev S1x1024 : Shape := ⟨2, ![1, 1024]⟩
abbrev S1 : Shape := ⟨1, ![1]⟩
abbrev S128x1 : Shape := ⟨2, ![128, 1]⟩
abbrev S128x1024 : Shape := ⟨2, ![128, 1024]⟩
abbrev S8x1024 : Shape := ⟨2, ![8, 1024]⟩
abbrev S1024x8 : Shape := ⟨2, ![1024, 8]⟩
abbrev S1024x128 : Shape := ⟨2, ![1024, 128]⟩
abbrev S200704 : Shape := ⟨1, ![200704]⟩
abbrev S32768x256 : Shape := ⟨2, ![32768, 256]⟩
abbrev S2x1024 : Shape := ⟨2, ![2, 1024]⟩
abbrev S2x64 : Shape := ⟨2, ![2, 64]⟩
abbrev S16x1x256 : Shape := ⟨3, ![16, 1, 256]⟩
abbrev S256x256 : Shape := ⟨2, ![256, 256]⟩
abbrev S16 : Shape := ⟨1, ![16]⟩
abbrev S1x16 : Shape := ⟨2, ![1, 16]⟩
abbrev S1x1x64 : Shape := ⟨3, ![1, 1, 64]⟩
abbrev S15 : Shape := ⟨1, ![15]⟩
abbrev S14 : Shape := ⟨1, ![14]⟩
abbrev S4 : Shape := ⟨1, ![4]⟩
abbrev S12 : Shape := ⟨1, ![12]⟩
abbrev S8 : Shape := ⟨1, ![8]⟩
abbrev S1x1x256 : Shape := ⟨3, ![1, 1, 256]⟩
abbrev S1x1x16 : Shape := ⟨3, ![1, 1, 16]⟩
abbrev S2x128x128x256 : Shape := ⟨4, ![2, 128, 128, 256]⟩
abbrev S2x256x128x128 : Shape := ⟨4, ![2, 256, 128, 128]⟩

abbrev nBuf : Table → Nat
  | .hbm => 99
  | .local .tc .vmem => 18
  | .local .tc .smem => 1
  | .local .scVector .smem => 2
  | .local .scVector .vmem => 4
  | _ => 0

abbrev bufTy : (tb : Table) → Fin (nBuf tb) → BufTy
  | .hbm, ⟨0, _⟩ => ⟨S200000x3, .f32⟩
  | .hbm, ⟨1, _⟩ => ⟨S2, .i32⟩
  | .hbm, ⟨2, _⟩ => ⟨S200000x64, .f32⟩
  | .hbm, ⟨3, _⟩ => ⟨S128x67, .f32⟩
  | .hbm, ⟨4, _⟩ => ⟨S128, .f32⟩
  | .hbm, ⟨5, _⟩ => ⟨S128, .f32⟩
  | .hbm, ⟨6, _⟩ => ⟨S256x128, .f32⟩
  | .hbm, ⟨7, _⟩ => ⟨S256, .f32⟩
  | .hbm, ⟨8, _⟩ => ⟨S256, .f32⟩
  | .hbm, ⟨9, _⟩ => ⟨S_, .i32⟩
  | .hbm, ⟨10, _⟩ => ⟨S_, .f32⟩
  | .hbm, ⟨11, _⟩ => ⟨S200704x3, .f32⟩
  | .hbm, ⟨12, _⟩ => ⟨S3x200704, .f32⟩
  | .hbm, ⟨13, _⟩ => ⟨S_, .i32⟩
  | .hbm, ⟨14, _⟩ => ⟨S_, .f32⟩
  | .hbm, ⟨15, _⟩ => ⟨S200704x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S128x64, .f32⟩
  | .hbm, ⟨21, _⟩ => ⟨S64x128, .f32⟩
  | .hbm, ⟨22, _⟩ => ⟨S128x3, .f32⟩
  | .hbm, ⟨23, _⟩ => ⟨S3x128, .f32⟩
  | .hbm, ⟨24, _⟩ => ⟨S_, .i32⟩
  | .hbm, ⟨25, _⟩ => ⟨S_, .f32⟩
  | .hbm, ⟨26, _⟩ => ⟨S8x128, .f32⟩
  | .hbm, ⟨27, _⟩ => ⟨S128, .f32⟩
  | .hbm, ⟨28, _⟩ => ⟨S128, .f32⟩
  | .hbm, ⟨29, _⟩ => ⟨S1x128, .f32⟩
  | .hbm, ⟨30, _⟩ => ⟨S1x128, .f32⟩
  | .hbm, ⟨31, _⟩ => ⟨S128x256, .f32⟩
  | .hbm, ⟨32, _⟩ => ⟨S256, .f32⟩
  | .hbm, ⟨33, _⟩ => ⟨S256, .f32⟩
  | .hbm, ⟨34, _⟩ => ⟨S1x256, .f32⟩
  | .hbm, ⟨35, _⟩ => ⟨S1x256, .f32⟩
  | .hbm, ⟨36, _⟩ => ⟨S1024, .i32⟩
  | .hbm, ⟨37, _⟩ => ⟨S1024x1, .i32⟩
  | .hbm, ⟨38, _⟩ => ⟨S_, .i32⟩
  | .hbm, ⟨39, _⟩ => ⟨S_, .i32⟩
  | .hbm, ⟨40, _⟩ => ⟨S1024x1, .i32⟩
  | .hbm, ⟨41, _⟩ => ⟨S1024x1, .i32⟩
  | .hbm, ⟨42, _⟩ => ⟨S1024x1, .i32⟩
  | .hbm, ⟨43, _⟩ => ⟨S_, .i32⟩
  | .hbm, ⟨44, _⟩ => ⟨S1024x1, .i32⟩
  | .hbm, ⟨45, _⟩ => ⟨S1024x1, .i1⟩
  | .hbm, ⟨46, _⟩ => ⟨S1024x1, .i32⟩
  | .hbm, ⟨47, _⟩ => ⟨S1024x1, .i32⟩
  | .hbm, ⟨48, _⟩ => ⟨S_, .i32⟩
  | .hbm, ⟨49, _⟩ => ⟨S1024x1, .i32⟩
  | .hbm, ⟨50, _⟩ => ⟨S1024x1, .i1⟩
  | .hbm, ⟨51, _⟩ => ⟨S1024x1, .i1⟩
  | .hbm, ⟨52, _⟩ => ⟨S_, .i32⟩
  | .hbm, ⟨53, _⟩ => ⟨S1024x1, .i32⟩
  | .hbm, ⟨54, _⟩ => ⟨S1024x1, .i32⟩
  | .hbm, ⟨55, _⟩ => ⟨S1024x1, .i32⟩
  | .hbm, ⟨56, _⟩ => ⟨S64, .i32⟩
  | .hbm, ⟨57, _⟩ => ⟨S1x64, .i32⟩
  | .hbm, ⟨58, _⟩ => ⟨S1024x64, .i32⟩
  | .hbm, ⟨59, _⟩ => ⟨S1024x64, .i32⟩
  | .hbm, ⟨60, _⟩ => ⟨S1024x64, .i1⟩
  | .hbm, ⟨61, _⟩ => ⟨S1024x64, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S1024, .i32⟩
  | .hbm, ⟨69, _⟩ => ⟨S1024, .i32⟩
  | .hbm, ⟨70, _⟩ => ⟨S_, .i32⟩
  | .hbm, ⟨71, _⟩ => ⟨S1024, .i32⟩
  | .hbm, ⟨72, _⟩ => ⟨S1024, .i1⟩
  | .hbm, ⟨73, _⟩ => ⟨S_, .i32⟩
  | .hbm, ⟨74, _⟩ => ⟨S1024, .i32⟩
  | .hbm, ⟨75, _⟩ => ⟨S1024, .i1⟩
  | .hbm, ⟨76, _⟩ => ⟨S_, .i32⟩
  | .hbm, ⟨77, _⟩ => ⟨S_, .i1⟩
  | .hbm, ⟨78, _⟩ => ⟨S1024, .i1⟩
  | .hbm, ⟨79, _⟩ => ⟨S1024, .i1⟩
  | .hbm, ⟨80, _⟩ => ⟨S1024, .i1⟩
  | .hbm, ⟨81, _⟩ => ⟨S1024, .i32⟩
  | .hbm, ⟨82, _⟩ => ⟨S1024, .i32⟩
  | .hbm, ⟨83, _⟩ => ⟨S1024, .i32⟩
  | .hbm, ⟨84, _⟩ => ⟨S1024, .f32⟩
  | .hbm, ⟨85, _⟩ => ⟨S_, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S1024x1, .f32⟩
  | .hbm, ⟨90, _⟩ => ⟨S1024x64, .f32⟩
  | .hbm, ⟨91, _⟩ => ⟨S1024x64, .f32⟩
  | .hbm, ⟨92, _⟩ => ⟨S200704x256, .f32⟩
  | .hbm, ⟨93, _⟩ => ⟨S196x1x1024, .i32⟩
  | .hbm, ⟨94, _⟩ => ⟨S196x128x64, .i32⟩
  | .hbm, ⟨95, _⟩ => ⟨S200704, .i32⟩
  | .hbm, ⟨96, _⟩ => ⟨S32768x256, .f32⟩
  | .hbm, ⟨97, _⟩ => ⟨S2x128x128x256, .f32⟩
  | .hbm, ⟨98, _⟩ => ⟨S2x256x128x128, .f32⟩
  | .local .tc .vmem, ⟨0, _⟩ => ⟨S3x1024, .f32⟩
  | .local .tc .vmem, ⟨1, _⟩ => ⟨S3x1024, .f32⟩
  | .local .tc .vmem, ⟨2, _⟩ => ⟨S1024x64, .f32⟩
  | .local .tc .vmem, ⟨3, _⟩ => ⟨S1024x64, .f32⟩
  | .local .tc .vmem, ⟨4, _⟩ => ⟨S64x128, .f32⟩
  | .local .tc .vmem, ⟨5, _⟩ => ⟨S8x128, .f32⟩
  | .local .tc .vmem, ⟨6, _⟩ => ⟨S1x128, .f32⟩
  | .local .tc .vmem, ⟨7, _⟩ => ⟨S1x128, .f32⟩
  | .local .tc .vmem, ⟨8, _⟩ => ⟨S128x256, .f32⟩
  | .local .tc .vmem, ⟨9, _⟩ => ⟨S1x256, .f32⟩
  | .local .tc .vmem, ⟨10, _⟩ => ⟨S1x256, .f32⟩
  | .local .tc .vmem, ⟨11, _⟩ => ⟨S1024x64, .f32⟩
  | .local .tc .vmem, ⟨12, _⟩ => ⟨S1024x256, .f32⟩
  | .local .tc .vmem, ⟨13, _⟩ => ⟨S1024x256, .f32⟩
  | .local .tc .vmem, ⟨14, _⟩ => ⟨S1x1x1024, .i32⟩
  | .local .tc .vmem, ⟨15, _⟩ => ⟨S1x1x1024, .i32⟩
  | .local .tc .vmem, ⟨16, _⟩ => ⟨S1x128x64, .i32⟩
  | .local .tc .vmem, ⟨17, _⟩ => ⟨S1x128x64, .i32⟩
  | .local .tc .smem, ⟨0, _⟩ => ⟨S2, .i32⟩
  | .local .scVector .smem, ⟨0, _⟩ => ⟨S16, .i32⟩
  | .local .scVector .smem, ⟨1, _⟩ => ⟨S2, .i32⟩
  | .local .scVector .vmem, ⟨0, _⟩ => ⟨S2x1024, .i32⟩
  | .local .scVector .vmem, ⟨1, _⟩ => ⟨S2x64, .i32⟩
  | .local .scVector .vmem, ⟨2, _⟩ => ⟨S16x1x256, .f32⟩
  | .local .scVector .vmem, ⟨3, _⟩ => ⟨S256x256, .f32⟩
  | _, _ => ⟨S200000x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | _ => false

abbrev sig : RefSig :=
  ofTables nBuf rfl bufTy 4 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_call2_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_c : Ref sig .tc := ⟨.hbm, 48, rfl⟩
abbrev main_call3_v9 : Ref sig .tc := ⟨.hbm, 49, rfl⟩
abbrev main_call3_v10 : Ref sig .tc := ⟨.hbm, 50, rfl⟩
abbrev main_call3_v11 : Ref sig .tc := ⟨.hbm, 51, rfl⟩
abbrev main_call3_c_0 : Ref sig .tc := ⟨.hbm, 52, rfl⟩
abbrev main_call3_v12 : Ref sig .tc := ⟨.hbm, 53, rfl⟩
abbrev main_call3_v13 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_4 : Ref sig .tc := ⟨.hbm, 62, rfl⟩
abbrev main_call4_v0 : Ref sig .tc := ⟨.hbm, 63, rfl⟩
abbrev main_call4_c : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_c_1 : Ref sig .tc := ⟨.hbm, 70, rfl⟩
abbrev main_call4_v5 : Ref sig .tc := ⟨.hbm, 71, rfl⟩
abbrev main_call4_v6 : Ref sig .tc := ⟨.hbm, 72, rfl⟩
abbrev main_call4_c_2 : Ref sig .tc := ⟨.hbm, 73, rfl⟩
abbrev main_call4_v7 : Ref sig .tc := ⟨.hbm, 74, rfl⟩
abbrev main_call4_v8 : Ref sig .tc := ⟨.hbm, 75, rfl⟩
abbrev main_call4_c_3 : Ref sig .tc := ⟨.hbm, 76, rfl⟩
abbrev main_call4_v9 : Ref sig .tc := ⟨.hbm, 77, rfl⟩
abbrev main_call4_v10 : Ref sig .tc := ⟨.hbm, 78, rfl⟩
abbrev main_call4_v11 : Ref sig .tc := ⟨.hbm, 79, rfl⟩
abbrev main_call4_v12 : Ref sig .tc := ⟨.hbm, 80, rfl⟩
abbrev main_call4_v13 : Ref sig .tc := ⟨.hbm, 81, rfl⟩
abbrev main_call4_v14 : Ref sig .tc := ⟨.hbm, 82, rfl⟩
abbrev main_v28 : Ref sig .tc := ⟨.hbm, 83, rfl⟩
abbrev main_v29 : Ref sig .tc := ⟨.hbm, 84, rfl⟩
abbrev main_cst_5 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36_0 : Ref sig .tc := ⟨.hbm, 92, rfl⟩
abbrev main_v36_1 : Ref sig .tc := ⟨.hbm, 93, rfl⟩
abbrev main_v36_2 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v37_scv : Ref sig .scVector := ⟨.hbm, 95, rfl⟩
abbrev main_v36_0_scv : Ref sig .scVector := ⟨.hbm, 92, rfl⟩
abbrev main_v36_2_scv : Ref sig .scVector := ⟨.hbm, 94, rfl⟩
abbrev main_v38_scv : Ref sig .scVector := ⟨.hbm, 96, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg0_0 : Ref sig .tc := ⟨.smem, 0, rfl⟩
abbrev cc1_scratch4 : Ref sig .scVector := ⟨.smem, 0, rfl⟩
abbrev cc1_scratch5 : Ref sig .scVector := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![196], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x64 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨2, ![2, 16], ![false, false]⟩

@[reducible] def k1_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
@[reducible] def k1_t2_loop : Scf.Loop 32 :=
  let c0_i32_8 : BitVec 32 := 0#32
  let c256_i32_9 : BitVec 32 := 256#32
  let v14 : BitVec 32 := Scalar.addi c0_i32_8 c256_i32_9
  let c1_i32_10 : BitVec 32 := 1#32
  ⟨c0_i32_8, v14, c1_i32_10⟩
@[reducible] def k1_t3_loop : Scf.Loop 32 :=
  let c0_i32_50 : BitVec 32 := 0#32
  let c16_i32 : BitVec 32 := 16#32
  let v64 : BitVec 32 := Scalar.addi c0_i32_50 c16_i32
  let c1_i32_51 : BitVec 32 := 1#32
  ⟨c0_i32_50, v64, c1_i32_51⟩
def k1_off1 (k1_t2 : Fin k1_t2_loop.trips) (k1_t3 : Fin k1_t3_loop.trips) : Fin 2 → Nat :=
  let c0_i32_8 : BitVec 32 := 0#32
  let c1_i32_10 : BitVec 32 := 1#32
  let arg17 : BitVec 32 := Scf.iv c0_i32_8 c1_i32_10 k1_t2
  let v67 : Index := Scalar.indexCast arg17
  let c0_i32_50 : BitVec 32 := 0#32
  let c1_i32_51 : BitVec 32 := 1#32
  let arg19 : BitVec 32 := Scf.iv c0_i32_50 c1_i32_51 k1_t3
  let c16_i32_53 : BitVec 32 := 16#32
  let v66 : BitVec 32 := Scalar.muli arg19 c16_i32_53
  let v68 : Index := Scalar.indexCast v66
  ![v67.toNat, v68.toNat]
def k1_off2 (i : grid1.Coords) (k1_t1 : Fin k1_t1_loop.trips) : Fin 3 → Nat :=
  let c0_i32_23 : BitVec 32 := 0#32
  let c0_i32_0 : BitVec 32 := 0#32
  let c1_i32 : BitVec 32 := 1#32
  let arg15 : BitVec 32 := Scf.iv c0_i32_0 c1_i32 k1_t1
  let c32_i32 : BitVec 32 := 32#32
  let v5 : BitVec 32 := Scalar.muli arg15 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c0_i32_27 : BitVec 32 := 0#32
  ![0, v6.toNat, 0]
def k1_off3 (i : grid1.Coords) (k1_t1 : Fin k1_t1_loop.trips) : Fin 3 → Nat :=
  let c1_i32_30 : BitVec 32 := 1#32
  let c0_i32_0 : BitVec 32 := 0#32
  let c1_i32 : BitVec 32 := 1#32
  let arg15 : BitVec 32 := Scf.iv c0_i32_0 c1_i32 k1_t1
  let c32_i32 : BitVec 32 := 32#32
  let v5 : BitVec 32 := Scalar.muli arg15 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c0_i32_34 : BitVec 32 := 0#32
  ![1, v6.toNat, 0]
@[reducible] def k1_t4_loop : Scf.Loop 32 :=
  let c0_i32_38 : BitVec 32 := 0#32
  let c196_i32 : BitVec 32 := 196#32
  let v52 : BitVec 32 := Scalar.addi c0_i32_38 c196_i32
  let c1_i32_39 : BitVec 32 := 1#32
  ⟨c0_i32_38, v52, c1_i32_39⟩
def k1_off4 (k1_t4 : Fin k1_t4_loop.trips) : Fin 2 → Nat :=
  let c0_i32_38 : BitVec 32 := 0#32
  let c1_i32_39 : BitVec 32 := 1#32
  let arg17 : BitVec 32 := Scf.iv c0_i32_38 c1_i32_39 k1_t4
  let c2_i32_49 : BitVec 32 := 2#32
  let v64 : BitVec 32 := Scalar.remsi arg17 c2_i32_49
  let c0_i32_50 : BitVec 32 := 0#32
  ![v64.toNat, 0]
def k1_off5 (k1_t4 : Fin k1_t4_loop.trips) : Fin 1 → Nat :=
  let c0_i32_38 : BitVec 32 := 0#32
  let c1_i32_39 : BitVec 32 := 1#32
  let arg17 : BitVec 32 := Scf.iv c0_i32_38 c1_i32_39 k1_t4
  let c2_i32_49 : BitVec 32 := 2#32
  let v64 : BitVec 32 := Scalar.remsi arg17 c2_i32_49
  ![v64.toNat]
def k1_off6 (k1_t4 : Fin k1_t4_loop.trips) : Fin 2 → Nat :=
  let c0_i32_38 : BitVec 32 := 0#32
  let c1_i32_39 : BitVec 32 := 1#32
  let arg17 : BitVec 32 := Scf.iv c0_i32_38 c1_i32_39 k1_t4
  let c2_i32_49 : BitVec 32 := 2#32
  let v64 : BitVec 32 := Scalar.remsi arg17 c2_i32_49
  let c0_i32_55 : BitVec 32 := 0#32
  ![v64.toNat, 0]
def k1_off7 (i : grid1.Coords) (k1_t1 : Fin k1_t1_loop.trips) : Fin 3 → Nat :=
  let c0_i32_54 : BitVec 32 := 0#32
  let c0_i32_0 : BitVec 32 := 0#32
  let c1_i32 : BitVec 32 := 1#32
  let arg15 : BitVec 32 := Scf.iv c0_i32_0 c1_i32 k1_t1
  let c32_i32 : BitVec 32 := 32#32
  let v5 : BitVec 32 := Scalar.muli arg15 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c0_i32_56 : BitVec 32 := 0#32
  ![0, v6.toNat, 0]
@[reducible] def k1_t5_loop : Scf.Loop 32 :=
  let c0_i32_60 : BitVec 32 := 0#32
  let c4_i32_61 : BitVec 32 := 4#32
  let v83 : BitVec 32 := Scalar.addi c0_i32_60 c4_i32_61
  let c1_i32_62 : BitVec 32 := 1#32
  ⟨c0_i32_60, v83, c1_i32_62⟩
def k1_off8 (k1_t4 : Fin k1_t4_loop.trips) (k1_t5 : Fin k1_t5_loop.trips) : Fin 2 → Nat :=
  let c0_i32_38 : BitVec 32 := 0#32
  let c1_i32_39 : BitVec 32 := 1#32
  let arg17 : BitVec 32 := Scf.iv c0_i32_38 c1_i32_39 k1_t4
  let c2_i32_49 : BitVec 32 := 2#32
  let v64 : BitVec 32 := Scalar.remsi arg17 c2_i32_49
  let v90 : Index := Scalar.indexCast v64
  let c0_i32_60 : BitVec 32 := 0#32
  let c1_i32_62 : BitVec 32 := 1#32
  let arg19 : BitVec 32 := Scf.iv c0_i32_60 c1_i32_62 k1_t5
  let c16_i32 : BitVec 32 := 16#32
  let v89 : BitVec 32 := Scalar.muli arg19 c16_i32
  let v91 : Index := Scalar.indexCast v89
  ![v90.toNat, v91.toNat]
@[reducible] def k1_t6_loop (v148 : BitVec 32) : Scf.Loop 32 :=
  let c0_i32_85 : BitVec 32 := 0#32
  let v152 : BitVec 32 := Scalar.subi v148 c0_i32_85
  let c1_i32_86 : BitVec 32 := 1#32
  let v154 : BitVec 32 := Scalar.divsi v152 c1_i32_86
  let v155 : BitVec 32 := Scalar.muli v154 c1_i32_86
  let v156 : BitVec 32 := Scalar.addi c0_i32_85 v155
  let c1_i32_87 : BitVec 32 := 1#32
  ⟨c0_i32_85, v156, c1_i32_87⟩
def k1_cond1 (v148 : BitVec 32) : BitVec 1 :=
  let c0_i32_82 : BitVec 32 := 0#32
  let v149 : BitVec 1 := Scalar.cmpi .sgt v148 c0_i32_82
  let v150 : BitVec 32 := Scalar.extui v149
  let c0_i32_83 : BitVec 32 := 0#32
  let v151 : BitVec 1 := Scalar.cmpi .ne v150 c0_i32_83
  v151

def k1_off9 (k1_t4 : Fin k1_t4_loop.trips) (k1_t5 : Fin k1_t5_loop.trips) (v188 : BitVec 32) : Fin 2 → Nat :=
  let c0_i32_38 : BitVec 32 := 0#32
  let c1_i32_39 : BitVec 32 := 1#32
  let arg17 : BitVec 32 := Scf.iv c0_i32_38 c1_i32_39 k1_t4
  let c2_i32_49 : BitVec 32 := 2#32
  let v64 : BitVec 32 := Scalar.remsi arg17 c2_i32_49
  let v192 : Index := Scalar.indexCast v64
  let c0_i32_60 : BitVec 32 := 0#32
  let c1_i32_62 : BitVec 32 := 1#32
  let arg19 : BitVec 32 := Scf.iv c0_i32_60 c1_i32_62 k1_t5
  let c16_i32_90 : BitVec 32 := 16#32
  let v189 : BitVec 32 := Scalar.muli arg19 c16_i32_90
  let v190 : BitVec 32 := Scalar.addi v189 v188
  let c16_i32_91 : BitVec 32 := 16#32
  let v191 : BitVec 32 := Scalar.muli v190 c16_i32_91
  let v193 : Index := Scalar.indexCast v191
  ![v192.toNat, v193.toNat]

def k1_chk2 (k1_t4 : Fin k1_t4_loop.trips) (k1_t5 : Fin k1_t5_loop.trips) (v148 : BitVec 32) (v188 : BitVec 32) : Prop :=
  (∀ (k1_h1 : k1_cond1 v148 = 1#1), ∀ a, (k1_off9 k1_t4 k1_t5 v188) a + S1x16.size a ≤ S2x1024.size a)
theorem k1_off9_inb : ∀ (k1_t4 : Fin k1_t4_loop.trips) (k1_t5 : Fin k1_t5_loop.trips) (v148 : BitVec 32) (v188 : BitVec 32) (k1_hw2 : k1_chk2 k1_t4 k1_t5 v148 v188), ∀ (k1_h1 : k1_cond1 v148 = 1#1), ∀ a, (k1_off9 k1_t4 k1_t5 v188) a + S1x16.size a ≤ S2x1024.size a := fun k1_t4 k1_t5 v148 v188 k1_hw2 k1_h1 => k1_hw2 k1_h1

@[reducible] def k1_t7_loop (v253 : BitVec 32) : Scf.Loop 32 :=
  let c0_i32_108 : BitVec 32 := 0#32
  let v257 : BitVec 32 := Scalar.subi v253 c0_i32_108
  let c1_i32_109 : BitVec 32 := 1#32
  let v259 : BitVec 32 := Scalar.divsi v257 c1_i32_109
  let v260 : BitVec 32 := Scalar.muli v259 c1_i32_109
  let v261 : BitVec 32 := Scalar.addi c0_i32_108 v260
  let c1_i32_110 : BitVec 32 := 1#32
  ⟨c0_i32_108, v261, c1_i32_110⟩

def k1_off10 (v354 : BitVec 32) : Fin 3 → Nat :=
  let c16_i32_141 : BitVec 32 := 16#32
  let v355 : BitVec 32 := Scalar.remsi v354 c16_i32_141
  let c0_i32_142 : BitVec 32 := 0#32
  let c0_i32_143 : BitVec 32 := 0#32
  ![v355.toNat, 0, 0]
def k1_cond2 (v326 : BitVec 32) (v328 : BitVec 32) : BitVec 1 :=
  let v329 : BitVec 32 := Scalar.subi v326 v328
  let c16_i32_127 : BitVec 32 := 16#32
  let v330 : BitVec 1 := Scalar.cmpi .sge v329 c16_i32_127
  let v331 : BitVec 32 := Scalar.extui v330
  let c0_i32_128 : BitVec 32 := 0#32
  let v332 : BitVec 1 := Scalar.cmpi .ne v331 c0_i32_128
  v332

def k1_off11 (v354 : BitVec 32) : Fin 1 → Nat :=
  let c16_i32_141 : BitVec 32 := 16#32
  let v355 : BitVec 32 := Scalar.remsi v354 c16_i32_141
  ![v355.toNat]
def k1_off12 (v354 : BitVec 32) : Fin 1 → Nat :=
  let c16_i32_141 : BitVec 32 := 16#32
  let v355 : BitVec 32 := Scalar.remsi v354 c16_i32_141
  let v364 : Index := Scalar.indexCast v355
  ![v364.toNat]
@[reducible] def k1_t8_loop : Scf.Loop 32 :=
  let c0_i32_151 : BitVec 32 := 0#32
  let c16_i32_152 : BitVec 32 := 16#32
  let v366 : BitVec 32 := Scalar.addi c0_i32_151 c16_i32_152
  let c1_i32_153 : BitVec 32 := 1#32
  ⟨c0_i32_151, v366, c1_i32_153⟩
def k1_off13 (v365 : BitVec 32) (k1_t8 : Fin k1_t8_loop.trips) : Fin 2 → Nat :=
  let v372 : Index := Scalar.indexCast v365
  let c0_i32_151 : BitVec 32 := 0#32
  let c1_i32_153 : BitVec 32 := 1#32
  let arg25 : BitVec 32 := Scf.iv c0_i32_151 c1_i32_153 k1_t8
  let c16_i32_157 : BitVec 32 := 16#32
  let v371 : BitVec 32 := Scalar.muli arg25 c16_i32_157
  let v373 : Index := Scalar.indexCast v371
  ![v372.toNat, v373.toNat]

def k1_chk5 (v148 : BitVec 32) (v326 : BitVec 32) (v328 : BitVec 32) (v365 : BitVec 32) : Prop :=
  (∀ k1_t8 : Fin k1_t8_loop.trips, ∀ (k1_h1 : k1_cond1 v148 = 1#1), ∀ (k1_h2 : k1_cond2 v326 v328 = 1#1), ∀ a, (k1_off13 v365 k1_t8) a + S1x16.size a ≤ S256x256.size a)
theorem k1_off13_inb : ∀ (v148 : BitVec 32) (v326 : BitVec 32) (v328 : BitVec 32) (v365 : BitVec 32) (k1_hw5 : k1_chk5 v148 v326 v328 v365) (k1_t8 : Fin k1_t8_loop.trips), ∀ (k1_h1 : k1_cond1 v148 = 1#1), ∀ (k1_h2 : k1_cond2 v326 v328 = 1#1), ∀ a, (k1_off13 v365 k1_t8) a + S1x16.size a ≤ S256x256.size a := fun v148 v326 v328 v365 k1_hw5 k1_t8 k1_h1 k1_h2 => k1_hw5 k1_t8 k1_h1 k1_h2

def k1_off14 (v354 : BitVec 32) (k1_t8 : Fin k1_t8_loop.trips) : Fin 3 → Nat :=
  let c16_i32_141 : BitVec 32 := 16#32
  let v355 : BitVec 32 := Scalar.remsi v354 c16_i32_141
  let v377 : Index := Scalar.indexCast v355
  let c0_i32_159 : BitVec 32 := 0#32
  let v378 : Index := Scalar.indexCast c0_i32_159
  let c0_i32_151 : BitVec 32 := 0#32
  let c1_i32_153 : BitVec 32 := 1#32
  let arg25 : BitVec 32 := Scf.iv c0_i32_151 c1_i32_153 k1_t8
  let c16_i32_158 : BitVec 32 := 16#32
  let v376 : BitVec 32 := Scalar.muli arg25 c16_i32_158
  let v379 : Index := Scalar.indexCast v376
  ![v377.toNat, 0, v379.toNat]

def k1_chk4 (v148 : BitVec 32) (v326 : BitVec 32) (v328 : BitVec 32) (v354 : BitVec 32) : Prop :=
  (∀ (k1_h1 : k1_cond1 v148 = 1#1), ∀ (k1_h2 : k1_cond2 v326 v328 = 1#1), ∀ a, (k1_off10 v354) a + S1x1x256.size a ≤ S16x1x256.size a) ∧
  (∀ (k1_h1 : k1_cond1 v148 = 1#1), ∀ (k1_h2 : k1_cond2 v326 v328 = 1#1), ∀ a, (k1_off11 v354) a + S1.size a ≤ S16.size a) ∧
  (∀ (k1_h1 : k1_cond1 v148 = 1#1), ∀ (k1_h2 : k1_cond2 v326 v328 = 1#1), ∀ a, (k1_off12 v354) a + S1.size a ≤ S16.size a) ∧
  (∀ k1_t8 : Fin k1_t8_loop.trips, ∀ (k1_h1 : k1_cond1 v148 = 1#1), ∀ (k1_h2 : k1_cond2 v326 v328 = 1#1), ∀ a, (k1_off14 v354 k1_t8) a + S1x1x16.size a ≤ S16x1x256.size a)
theorem k1_off10_inb : ∀ (v148 : BitVec 32) (v326 : BitVec 32) (v328 : BitVec 32) (v354 : BitVec 32) (k1_hw4 : k1_chk4 v148 v326 v328 v354), ∀ (k1_h1 : k1_cond1 v148 = 1#1), ∀ (k1_h2 : k1_cond2 v326 v328 = 1#1), ∀ a, (k1_off10 v354) a + S1x1x256.size a ≤ S16x1x256.size a := fun v148 v326 v328 v354 k1_hw4 k1_h1 k1_h2 => k1_hw4.1 k1_h1 k1_h2
theorem k1_off11_inb : ∀ (v148 : BitVec 32) (v326 : BitVec 32) (v328 : BitVec 32) (v354 : BitVec 32) (k1_hw4 : k1_chk4 v148 v326 v328 v354), ∀ (k1_h1 : k1_cond1 v148 = 1#1), ∀ (k1_h2 : k1_cond2 v326 v328 = 1#1), ∀ a, (k1_off11 v354) a + S1.size a ≤ S16.size a := fun v148 v326 v328 v354 k1_hw4 k1_h1 k1_h2 => k1_hw4.2.1 k1_h1 k1_h2
theorem k1_off12_inb : ∀ (v148 : BitVec 32) (v326 : BitVec 32) (v328 : BitVec 32) (v354 : BitVec 32) (k1_hw4 : k1_chk4 v148 v326 v328 v354), ∀ (k1_h1 : k1_cond1 v148 = 1#1), ∀ (k1_h2 : k1_cond2 v326 v328 = 1#1), ∀ a, (k1_off12 v354) a + S1.size a ≤ S16.size a := fun v148 v326 v328 v354 k1_hw4 k1_h1 k1_h2 => k1_hw4.2.2.1 k1_h1 k1_h2
theorem k1_off14_inb : ∀ (v148 : BitVec 32) (v326 : BitVec 32) (v328 : BitVec 32) (v354 : BitVec 32) (k1_hw4 : k1_chk4 v148 v326 v328 v354) (k1_t8 : Fin k1_t8_loop.trips), ∀ (k1_h1 : k1_cond1 v148 = 1#1), ∀ (k1_h2 : k1_cond2 v326 v328 = 1#1), ∀ a, (k1_off14 v354 k1_t8) a + S1x1x16.size a ≤ S16x1x256.size a := fun v148 v326 v328 v354 k1_hw4 k1_t8 k1_h1 k1_h2 => k1_hw4.2.2.2 k1_t8 k1_h1 k1_h2

def k1_off15 (v334 : BitVec 32) : Fin 1 → Nat :=
  let c16_i32_130 : BitVec 32 := 16#32
  let v335 : BitVec 32 := Scalar.remsi v334 c16_i32_130
  let v336 : Index := Scalar.indexCast v335
  ![v336.toNat]

def k1_off16 (v334 : BitVec 32) : Fin 3 → Nat :=
  let c16_i32_130 : BitVec 32 := 16#32
  let v335 : BitVec 32 := Scalar.remsi v334 c16_i32_130
  let c0_i32_131 : BitVec 32 := 0#32
  let c0_i32_132 : BitVec 32 := 0#32
  ![v335.toNat, 0, 0]
def k1_off17 (k1_t4 : Fin k1_t4_loop.trips) (k1_t5 : Fin k1_t5_loop.trips) (v188 : BitVec 32) (v302 : BitVec 32) : Fin 2 → Nat :=
  let c0_i32_38 : BitVec 32 := 0#32
  let c1_i32_39 : BitVec 32 := 1#32
  let arg17 : BitVec 32 := Scf.iv c0_i32_38 c1_i32_39 k1_t4
  let c1024_i32_116 : BitVec 32 := 1024#32
  let v304 : BitVec 32 := Scalar.muli arg17 c1024_i32_116
  let c0_i32_60 : BitVec 32 := 0#32
  let c1_i32_62 : BitVec 32 := 1#32
  let arg19 : BitVec 32 := Scf.iv c0_i32_60 c1_i32_62 k1_t5
  let c16_i32_90 : BitVec 32 := 16#32
  let v189 : BitVec 32 := Scalar.muli arg19 c16_i32_90
  let v190 : BitVec 32 := Scalar.addi v189 v188
  let c16_i32_117 : BitVec 32 := 16#32
  let v305 : BitVec 32 := Scalar.muli v190 c16_i32_117
  let v306 : BitVec 32 := Scalar.addi v304 v305
  let c16_i32_115 : BitVec 32 := 16#32
  let v303 : BitVec 32 := Scalar.remsi v302 c16_i32_115
  let v307 : BitVec 32 := Scalar.addi v306 v303
  let c0_i32_133 : BitVec 32 := 0#32
  ![v307.toNat, 0]

def k1_chk7 (k1_t4 : Fin k1_t4_loop.trips) (k1_t5 : Fin k1_t5_loop.trips) (v148 : BitVec 32) (v188 : BitVec 32) (v302 : BitVec 32) : Prop :=
  (∀ (k1_h1 : k1_cond1 v148 = 1#1), ∀ a, (k1_off17 k1_t4 k1_t5 v188 v302) a + S1x256.size a ≤ S200704x256.size a)
theorem k1_off17_inb : ∀ (k1_t4 : Fin k1_t4_loop.trips) (k1_t5 : Fin k1_t5_loop.trips) (v148 : BitVec 32) (v188 : BitVec 32) (v302 : BitVec 32) (k1_hw7 : k1_chk7 k1_t4 k1_t5 v148 v188 v302), ∀ (k1_h1 : k1_cond1 v148 = 1#1), ∀ a, (k1_off17 k1_t4 k1_t5 v188 v302) a + S1x256.size a ≤ S200704x256.size a := fun k1_t4 k1_t5 v148 v188 v302 k1_hw7 k1_h1 => k1_hw7 k1_h1

def k1_off18 (v334 : BitVec 32) : Fin 1 → Nat :=
  let c16_i32_130 : BitVec 32 := 16#32
  let v335 : BitVec 32 := Scalar.remsi v334 c16_i32_130
  ![v335.toNat]
def k1_off19 (v334 : BitVec 32) : Fin 3 → Nat :=
  let c16_i32_130 : BitVec 32 := 16#32
  let v335 : BitVec 32 := Scalar.remsi v334 c16_i32_130
  let c0_i32_134 : BitVec 32 := 0#32
  let c0_i32_135 : BitVec 32 := 0#32
  ![v335.toNat, 0, 0]

def k1_chk6 (v148 : BitVec 32) (v334 : BitVec 32) : Prop :=
  (∀ (k1_h1 : k1_cond1 v148 = 1#1), ∀ a, (k1_off15 v334) a + S1.size a ≤ S16.size a) ∧
  (∀ (k1_h1 : k1_cond1 v148 = 1#1), ∀ a, (k1_off16 v334) a + S1x1x256.size a ≤ S16x1x256.size a) ∧
  (∀ (k1_h1 : k1_cond1 v148 = 1#1), ∀ a, (k1_off18 v334) a + S1.size a ≤ S16.size a) ∧
  (∀ (k1_h1 : k1_cond1 v148 = 1#1), ∀ a, (k1_off19 v334) a + S1x1x256.size a ≤ S16x1x256.size a)
theorem k1_off15_inb : ∀ (v148 : BitVec 32) (v334 : BitVec 32) (k1_hw6 : k1_chk6 v148 v334), ∀ (k1_h1 : k1_cond1 v148 = 1#1), ∀ a, (k1_off15 v334) a + S1.size a ≤ S16.size a := fun v148 v334 k1_hw6 k1_h1 => k1_hw6.1 k1_h1
theorem k1_off16_inb : ∀ (v148 : BitVec 32) (v334 : BitVec 32) (k1_hw6 : k1_chk6 v148 v334), ∀ (k1_h1 : k1_cond1 v148 = 1#1), ∀ a, (k1_off16 v334) a + S1x1x256.size a ≤ S16x1x256.size a := fun v148 v334 k1_hw6 k1_h1 => k1_hw6.2.1 k1_h1
theorem k1_off18_inb : ∀ (v148 : BitVec 32) (v334 : BitVec 32) (k1_hw6 : k1_chk6 v148 v334), ∀ (k1_h1 : k1_cond1 v148 = 1#1), ∀ a, (k1_off18 v334) a + S1.size a ≤ S16.size a := fun v148 v334 k1_hw6 k1_h1 => k1_hw6.2.2.1 k1_h1
theorem k1_off19_inb : ∀ (v148 : BitVec 32) (v334 : BitVec 32) (k1_hw6 : k1_chk6 v148 v334), ∀ (k1_h1 : k1_cond1 v148 = 1#1), ∀ a, (k1_off19 v334) a + S1x1x256.size a ≤ S16x1x256.size a := fun v148 v334 k1_hw6 k1_h1 => k1_hw6.2.2.2 k1_h1

@[reducible] def k1_t9_loop (v253 : BitVec 32) : Scf.Loop 32 :=
  let c0_i32_108 : BitVec 32 := 0#32
  let v257 : BitVec 32 := Scalar.subi v253 c0_i32_108
  let c1_i32_109 : BitVec 32 := 1#32
  let v259 : BitVec 32 := Scalar.divsi v257 c1_i32_109
  let v260 : BitVec 32 := Scalar.muli v259 c1_i32_109
  let v261 : BitVec 32 := Scalar.addi c0_i32_108 v260
  let v258 : BitVec 32 := Scalar.addi c0_i32_108 v257
  let c1_i32_111 : BitVec 32 := 1#32
  ⟨v261, v258, c1_i32_111⟩

def k1_chk3 (v148 : BitVec 32) (v253 : BitVec 32) : Prop :=
  (∀ (k1_h1 : k1_cond1 v148 = 1#1), (k1_t7_loop v253).OK) ∧
  (∀ (k1_h1 : k1_cond1 v148 = 1#1), (k1_t9_loop v253).OK)
theorem k1_t7_ok : ∀ (v148 : BitVec 32) (v253 : BitVec 32) (k1_hw3 : k1_chk3 v148 v253), ∀ (k1_h1 : k1_cond1 v148 = 1#1), (k1_t7_loop v253).OK := fun v148 v253 k1_hw3 k1_h1 => k1_hw3.1 k1_h1
theorem k1_t9_ok : ∀ (v148 : BitVec 32) (v253 : BitVec 32) (k1_hw3 : k1_chk3 v148 v253), ∀ (k1_h1 : k1_cond1 v148 = 1#1), (k1_t9_loop v253).OK := fun v148 v253 k1_hw3 k1_h1 => k1_hw3.2 k1_h1

def k1_off20 (v354 : BitVec 32) : Fin 3 → Nat :=
  let c16_i32_141 : BitVec 32 := 16#32
  let v355 : BitVec 32 := Scalar.remsi v354 c16_i32_141
  let c0_i32_142 : BitVec 32 := 0#32
  let c0_i32_143 : BitVec 32 := 0#32
  ![v355.toNat, 0, 0]
def k1_cond3 (v326 : BitVec 32) (v328 : BitVec 32) : BitVec 1 :=
  let v329 : BitVec 32 := Scalar.subi v326 v328
  let c16_i32_127 : BitVec 32 := 16#32
  let v330 : BitVec 1 := Scalar.cmpi .sge v329 c16_i32_127
  let v331 : BitVec 32 := Scalar.extui v330
  let c0_i32_128 : BitVec 32 := 0#32
  let v332 : BitVec 1 := Scalar.cmpi .ne v331 c0_i32_128
  v332

def k1_off21 (v354 : BitVec 32) : Fin 1 → Nat :=
  let c16_i32_141 : BitVec 32 := 16#32
  let v355 : BitVec 32 := Scalar.remsi v354 c16_i32_141
  ![v355.toNat]
def k1_off22 (v354 : BitVec 32) : Fin 1 → Nat :=
  let c16_i32_141 : BitVec 32 := 16#32
  let v355 : BitVec 32 := Scalar.remsi v354 c16_i32_141
  let v364 : Index := Scalar.indexCast v355
  ![v364.toNat]
@[reducible] def k1_t10_loop : Scf.Loop 32 :=
  let c0_i32_151 : BitVec 32 := 0#32
  let c16_i32_152 : BitVec 32 := 16#32
  let v366 : BitVec 32 := Scalar.addi c0_i32_151 c16_i32_152
  let c1_i32_153 : BitVec 32 := 1#32
  ⟨c0_i32_151, v366, c1_i32_153⟩
def k1_off23 (v365 : BitVec 32) (k1_t10 : Fin k1_t10_loop.trips) : Fin 2 → Nat :=
  let v372 : Index := Scalar.indexCast v365
  let c0_i32_151 : BitVec 32 := 0#32
  let c1_i32_153 : BitVec 32 := 1#32
  let arg25 : BitVec 32 := Scf.iv c0_i32_151 c1_i32_153 k1_t10
  let c16_i32_157 : BitVec 32 := 16#32
  let v371 : BitVec 32 := Scalar.muli arg25 c16_i32_157
  let v373 : Index := Scalar.indexCast v371
  ![v372.toNat, v373.toNat]

def k1_chk9 (v148 : BitVec 32) (v326 : BitVec 32) (v328 : BitVec 32) (v365 : BitVec 32) : Prop :=
  (∀ k1_t10 : Fin k1_t10_loop.trips, ∀ (k1_h1 : k1_cond1 v148 = 1#1), ∀ (k1_h3 : k1_cond3 v326 v328 = 1#1), ∀ a, (k1_off23 v365 k1_t10) a + S1x16.size a ≤ S256x256.size a)
theorem k1_off23_inb : ∀ (v148 : BitVec 32) (v326 : BitVec 32) (v328 : BitVec 32) (v365 : BitVec 32) (k1_hw9 : k1_chk9 v148 v326 v328 v365) (k1_t10 : Fin k1_t10_loop.trips), ∀ (k1_h1 : k1_cond1 v148 = 1#1), ∀ (k1_h3 : k1_cond3 v326 v328 = 1#1), ∀ a, (k1_off23 v365 k1_t10) a + S1x16.size a ≤ S256x256.size a := fun v148 v326 v328 v365 k1_hw9 k1_t10 k1_h1 k1_h3 => k1_hw9 k1_t10 k1_h1 k1_h3

def k1_off24 (v354 : BitVec 32) (k1_t10 : Fin k1_t10_loop.trips) : Fin 3 → Nat :=
  let c16_i32_141 : BitVec 32 := 16#32
  let v355 : BitVec 32 := Scalar.remsi v354 c16_i32_141
  let v377 : Index := Scalar.indexCast v355
  let c0_i32_159 : BitVec 32 := 0#32
  let v378 : Index := Scalar.indexCast c0_i32_159
  let c0_i32_151 : BitVec 32 := 0#32
  let c1_i32_153 : BitVec 32 := 1#32
  let arg25 : BitVec 32 := Scf.iv c0_i32_151 c1_i32_153 k1_t10
  let c16_i32_158 : BitVec 32 := 16#32
  let v376 : BitVec 32 := Scalar.muli arg25 c16_i32_158
  let v379 : Index := Scalar.indexCast v376
  ![v377.toNat, 0, v379.toNat]

def k1_chk8 (v148 : BitVec 32) (v326 : BitVec 32) (v328 : BitVec 32) (v354 : BitVec 32) : Prop :=
  (∀ (k1_h1 : k1_cond1 v148 = 1#1), ∀ (k1_h3 : k1_cond3 v326 v328 = 1#1), ∀ a, (k1_off20 v354) a + S1x1x256.size a ≤ S16x1x256.size a) ∧
  (∀ (k1_h1 : k1_cond1 v148 = 1#1), ∀ (k1_h3 : k1_cond3 v326 v328 = 1#1), ∀ a, (k1_off21 v354) a + S1.size a ≤ S16.size a) ∧
  (∀ (k1_h1 : k1_cond1 v148 = 1#1), ∀ (k1_h3 : k1_cond3 v326 v328 = 1#1), ∀ a, (k1_off22 v354) a + S1.size a ≤ S16.size a) ∧
  (∀ k1_t10 : Fin k1_t10_loop.trips, ∀ (k1_h1 : k1_cond1 v148 = 1#1), ∀ (k1_h3 : k1_cond3 v326 v328 = 1#1), ∀ a, (k1_off24 v354 k1_t10) a + S1x1x16.size a ≤ S16x1x256.size a)
theorem k1_off20_inb : ∀ (v148 : BitVec 32) (v326 : BitVec 32) (v328 : BitVec 32) (v354 : BitVec 32) (k1_hw8 : k1_chk8 v148 v326 v328 v354), ∀ (k1_h1 : k1_cond1 v148 = 1#1), ∀ (k1_h3 : k1_cond3 v326 v328 = 1#1), ∀ a, (k1_off20 v354) a + S1x1x256.size a ≤ S16x1x256.size a := fun v148 v326 v328 v354 k1_hw8 k1_h1 k1_h3 => k1_hw8.1 k1_h1 k1_h3
theorem k1_off21_inb : ∀ (v148 : BitVec 32) (v326 : BitVec 32) (v328 : BitVec 32) (v354 : BitVec 32) (k1_hw8 : k1_chk8 v148 v326 v328 v354), ∀ (k1_h1 : k1_cond1 v148 = 1#1), ∀ (k1_h3 : k1_cond3 v326 v328 = 1#1), ∀ a, (k1_off21 v354) a + S1.size a ≤ S16.size a := fun v148 v326 v328 v354 k1_hw8 k1_h1 k1_h3 => k1_hw8.2.1 k1_h1 k1_h3
theorem k1_off22_inb : ∀ (v148 : BitVec 32) (v326 : BitVec 32) (v328 : BitVec 32) (v354 : BitVec 32) (k1_hw8 : k1_chk8 v148 v326 v328 v354), ∀ (k1_h1 : k1_cond1 v148 = 1#1), ∀ (k1_h3 : k1_cond3 v326 v328 = 1#1), ∀ a, (k1_off22 v354) a + S1.size a ≤ S16.size a := fun v148 v326 v328 v354 k1_hw8 k1_h1 k1_h3 => k1_hw8.2.2.1 k1_h1 k1_h3
theorem k1_off24_inb : ∀ (v148 : BitVec 32) (v326 : BitVec 32) (v328 : BitVec 32) (v354 : BitVec 32) (k1_hw8 : k1_chk8 v148 v326 v328 v354) (k1_t10 : Fin k1_t10_loop.trips), ∀ (k1_h1 : k1_cond1 v148 = 1#1), ∀ (k1_h3 : k1_cond3 v326 v328 = 1#1), ∀ a, (k1_off24 v354 k1_t10) a + S1x1x16.size a ≤ S16x1x256.size a := fun v148 v326 v328 v354 k1_hw8 k1_t10 k1_h1 k1_h3 => k1_hw8.2.2.2 k1_t10 k1_h1 k1_h3

def k1_off25 (v334 : BitVec 32) : Fin 1 → Nat :=
  let c16_i32_130 : BitVec 32 := 16#32
  let v335 : BitVec 32 := Scalar.remsi v334 c16_i32_130
  let v336 : Index := Scalar.indexCast v335
  ![v336.toNat]

def k1_off26 (v334 : BitVec 32) : Fin 3 → Nat :=
  let c16_i32_130 : BitVec 32 := 16#32
  let v335 : BitVec 32 := Scalar.remsi v334 c16_i32_130
  let c0_i32_131 : BitVec 32 := 0#32
  let c0_i32_132 : BitVec 32 := 0#32
  ![v335.toNat, 0, 0]
def k1_off27 (k1_t4 : Fin k1_t4_loop.trips) (k1_t5 : Fin k1_t5_loop.trips) (v188 : BitVec 32) (v302 : BitVec 32) : Fin 2 → Nat :=
  let c0_i32_38 : BitVec 32 := 0#32
  let c1_i32_39 : BitVec 32 := 1#32
  let arg17 : BitVec 32 := Scf.iv c0_i32_38 c1_i32_39 k1_t4
  let c1024_i32_116 : BitVec 32 := 1024#32
  let v304 : BitVec 32 := Scalar.muli arg17 c1024_i32_116
  let c0_i32_60 : BitVec 32 := 0#32
  let c1_i32_62 : BitVec 32 := 1#32
  let arg19 : BitVec 32 := Scf.iv c0_i32_60 c1_i32_62 k1_t5
  let c16_i32_90 : BitVec 32 := 16#32
  let v189 : BitVec 32 := Scalar.muli arg19 c16_i32_90
  let v190 : BitVec 32 := Scalar.addi v189 v188
  let c16_i32_117 : BitVec 32 := 16#32
  let v305 : BitVec 32 := Scalar.muli v190 c16_i32_117
  let v306 : BitVec 32 := Scalar.addi v304 v305
  let c16_i32_115 : BitVec 32 := 16#32
  let v303 : BitVec 32 := Scalar.remsi v302 c16_i32_115
  let v307 : BitVec 32 := Scalar.addi v306 v303
  let c0_i32_133 : BitVec 32 := 0#32
  ![v307.toNat, 0]

def k1_chk11 (k1_t4 : Fin k1_t4_loop.trips) (k1_t5 : Fin k1_t5_loop.trips) (v148 : BitVec 32) (v188 : BitVec 32) (v302 : BitVec 32) : Prop :=
  (∀ (k1_h1 : k1_cond1 v148 = 1#1), ∀ a, (k1_off27 k1_t4 k1_t5 v188 v302) a + S1x256.size a ≤ S200704x256.size a)
theorem k1_off27_inb : ∀ (k1_t4 : Fin k1_t4_loop.trips) (k1_t5 : Fin k1_t5_loop.trips) (v148 : BitVec 32) (v188 : BitVec 32) (v302 : BitVec 32) (k1_hw11 : k1_chk11 k1_t4 k1_t5 v148 v188 v302), ∀ (k1_h1 : k1_cond1 v148 = 1#1), ∀ a, (k1_off27 k1_t4 k1_t5 v188 v302) a + S1x256.size a ≤ S200704x256.size a := fun k1_t4 k1_t5 v148 v188 v302 k1_hw11 k1_h1 => k1_hw11 k1_h1

def k1_off28 (v334 : BitVec 32) : Fin 1 → Nat :=
  let c16_i32_130 : BitVec 32 := 16#32
  let v335 : BitVec 32 := Scalar.remsi v334 c16_i32_130
  ![v335.toNat]
def k1_off29 (v334 : BitVec 32) : Fin 3 → Nat :=
  let c16_i32_130 : BitVec 32 := 16#32
  let v335 : BitVec 32 := Scalar.remsi v334 c16_i32_130
  let c0_i32_134 : BitVec 32 := 0#32
  let c0_i32_135 : BitVec 32 := 0#32
  ![v335.toNat, 0, 0]

def k1_chk10 (v148 : BitVec 32) (v334 : BitVec 32) : Prop :=
  (∀ (k1_h1 : k1_cond1 v148 = 1#1), ∀ a, (k1_off25 v334) a + S1.size a ≤ S16.size a) ∧
  (∀ (k1_h1 : k1_cond1 v148 = 1#1), ∀ a, (k1_off26 v334) a + S1x1x256.size a ≤ S16x1x256.size a) ∧
  (∀ (k1_h1 : k1_cond1 v148 = 1#1), ∀ a, (k1_off28 v334) a + S1.size a ≤ S16.size a) ∧
  (∀ (k1_h1 : k1_cond1 v148 = 1#1), ∀ a, (k1_off29 v334) a + S1x1x256.size a ≤ S16x1x256.size a)
theorem k1_off25_inb : ∀ (v148 : BitVec 32) (v334 : BitVec 32) (k1_hw10 : k1_chk10 v148 v334), ∀ (k1_h1 : k1_cond1 v148 = 1#1), ∀ a, (k1_off25 v334) a + S1.size a ≤ S16.size a := fun v148 v334 k1_hw10 k1_h1 => k1_hw10.1 k1_h1
theorem k1_off26_inb : ∀ (v148 : BitVec 32) (v334 : BitVec 32) (k1_hw10 : k1_chk10 v148 v334), ∀ (k1_h1 : k1_cond1 v148 = 1#1), ∀ a, (k1_off26 v334) a + S1x1x256.size a ≤ S16x1x256.size a := fun v148 v334 k1_hw10 k1_h1 => k1_hw10.2.1 k1_h1
theorem k1_off28_inb : ∀ (v148 : BitVec 32) (v334 : BitVec 32) (k1_hw10 : k1_chk10 v148 v334), ∀ (k1_h1 : k1_cond1 v148 = 1#1), ∀ a, (k1_off28 v334) a + S1.size a ≤ S16.size a := fun v148 v334 k1_hw10 k1_h1 => k1_hw10.2.2.1 k1_h1
theorem k1_off29_inb : ∀ (v148 : BitVec 32) (v334 : BitVec 32) (k1_hw10 : k1_chk10 v148 v334), ∀ (k1_h1 : k1_cond1 v148 = 1#1), ∀ a, (k1_off29 v334) a + S1x1x256.size a ≤ S16x1x256.size a := fun v148 v334 k1_hw10 k1_h1 => k1_hw10.2.2.2 k1_h1

@[reducible] def k1_t11_loop (v148 : BitVec 32) : Scf.Loop 32 :=
  let c0_i32_85 : BitVec 32 := 0#32
  let v152 : BitVec 32 := Scalar.subi v148 c0_i32_85
  let c1_i32_86 : BitVec 32 := 1#32
  let v154 : BitVec 32 := Scalar.divsi v152 c1_i32_86
  let v155 : BitVec 32 := Scalar.muli v154 c1_i32_86
  let v156 : BitVec 32 := Scalar.addi c0_i32_85 v155
  let v153 : BitVec 32 := Scalar.addi c0_i32_85 v152
  let c1_i32_88 : BitVec 32 := 1#32
  ⟨v156, v153, c1_i32_88⟩

def k1_chk1 (v148 : BitVec 32) : Prop :=
  (∀ (k1_h1 : k1_cond1 v148 = 1#1), (k1_t6_loop v148).OK) ∧
  (∀ (k1_h1 : k1_cond1 v148 = 1#1), (k1_t11_loop v148).OK)
theorem k1_t6_ok : ∀ (v148 : BitVec 32) (k1_hw1 : k1_chk1 v148), ∀ (k1_h1 : k1_cond1 v148 = 1#1), (k1_t6_loop v148).OK := fun v148 k1_hw1 k1_h1 => k1_hw1.1 k1_h1
theorem k1_t11_ok : ∀ (v148 : BitVec 32) (k1_hw1 : k1_chk1 v148), ∀ (k1_h1 : k1_cond1 v148 = 1#1), (k1_t11_loop v148).OK := fun v148 k1_hw1 k1_h1 => k1_hw1.2 k1_h1

def k1_off30 (k1_t4 : Fin k1_t4_loop.trips) (k1_t5 : Fin k1_t5_loop.trips) (v188 : BitVec 32) : Fin 2 → Nat :=
  let c0_i32_38 : BitVec 32 := 0#32
  let c1_i32_39 : BitVec 32 := 1#32
  let arg17 : BitVec 32 := Scf.iv c0_i32_38 c1_i32_39 k1_t4
  let c2_i32_49 : BitVec 32 := 2#32
  let v64 : BitVec 32 := Scalar.remsi arg17 c2_i32_49
  let v192 : Index := Scalar.indexCast v64
  let c0_i32_60 : BitVec 32 := 0#32
  let c1_i32_62 : BitVec 32 := 1#32
  let arg19 : BitVec 32 := Scf.iv c0_i32_60 c1_i32_62 k1_t5
  let c16_i32_90 : BitVec 32 := 16#32
  let v189 : BitVec 32 := Scalar.muli arg19 c16_i32_90
  let v190 : BitVec 32 := Scalar.addi v189 v188
  let c16_i32_91 : BitVec 32 := 16#32
  let v191 : BitVec 32 := Scalar.muli v190 c16_i32_91
  let v193 : Index := Scalar.indexCast v191
  ![v192.toNat, v193.toNat]

def k1_chk12 (k1_t4 : Fin k1_t4_loop.trips) (k1_t5 : Fin k1_t5_loop.trips) (v148 : BitVec 32) (v188 : BitVec 32) : Prop :=
  (∀ (k1_h1 : k1_cond1 v148 = 1#1), ∀ a, (k1_off30 k1_t4 k1_t5 v188) a + S1x16.size a ≤ S2x1024.size a)
theorem k1_off30_inb : ∀ (k1_t4 : Fin k1_t4_loop.trips) (k1_t5 : Fin k1_t5_loop.trips) (v148 : BitVec 32) (v188 : BitVec 32) (k1_hw12 : k1_chk12 k1_t4 k1_t5 v148 v188), ∀ (k1_h1 : k1_cond1 v148 = 1#1), ∀ a, (k1_off30 k1_t4 k1_t5 v188) a + S1x16.size a ≤ S2x1024.size a := fun k1_t4 k1_t5 v148 v188 k1_hw12 k1_h1 => k1_hw12 k1_h1

@[reducible] def k1_t12_loop (v253 : BitVec 32) : Scf.Loop 32 :=
  let c0_i32_108 : BitVec 32 := 0#32
  let v257 : BitVec 32 := Scalar.subi v253 c0_i32_108
  let c1_i32_109 : BitVec 32 := 1#32
  let v259 : BitVec 32 := Scalar.divsi v257 c1_i32_109
  let v260 : BitVec 32 := Scalar.muli v259 c1_i32_109
  let v261 : BitVec 32 := Scalar.addi c0_i32_108 v260
  let c1_i32_110 : BitVec 32 := 1#32
  ⟨c0_i32_108, v261, c1_i32_110⟩

def k1_off31 (v354 : BitVec 32) : Fin 3 → Nat :=
  let c16_i32_141 : BitVec 32 := 16#32
  let v355 : BitVec 32 := Scalar.remsi v354 c16_i32_141
  let c0_i32_142 : BitVec 32 := 0#32
  let c0_i32_143 : BitVec 32 := 0#32
  ![v355.toNat, 0, 0]
def k1_cond4 (v326 : BitVec 32) (v328 : BitVec 32) : BitVec 1 :=
  let v329 : BitVec 32 := Scalar.subi v326 v328
  let c16_i32_127 : BitVec 32 := 16#32
  let v330 : BitVec 1 := Scalar.cmpi .sge v329 c16_i32_127
  let v331 : BitVec 32 := Scalar.extui v330
  let c0_i32_128 : BitVec 32 := 0#32
  let v332 : BitVec 1 := Scalar.cmpi .ne v331 c0_i32_128
  v332

def k1_off32 (v354 : BitVec 32) : Fin 1 → Nat :=
  let c16_i32_141 : BitVec 32 := 16#32
  let v355 : BitVec 32 := Scalar.remsi v354 c16_i32_141
  ![v355.toNat]
def k1_off33 (v354 : BitVec 32) : Fin 1 → Nat :=
  let c16_i32_141 : BitVec 32 := 16#32
  let v355 : BitVec 32 := Scalar.remsi v354 c16_i32_141
  let v364 : Index := Scalar.indexCast v355
  ![v364.toNat]
@[reducible] def k1_t13_loop : Scf.Loop 32 :=
  let c0_i32_151 : BitVec 32 := 0#32
  let c16_i32_152 : BitVec 32 := 16#32
  let v366 : BitVec 32 := Scalar.addi c0_i32_151 c16_i32_152
  let c1_i32_153 : BitVec 32 := 1#32
  ⟨c0_i32_151, v366, c1_i32_153⟩
def k1_off34 (v365 : BitVec 32) (k1_t13 : Fin k1_t13_loop.trips) : Fin 2 → Nat :=
  let v372 : Index := Scalar.indexCast v365
  let c0_i32_151 : BitVec 32 := 0#32
  let c1_i32_153 : BitVec 32 := 1#32
  let arg25 : BitVec 32 := Scf.iv c0_i32_151 c1_i32_153 k1_t13
  let c16_i32_157 : BitVec 32 := 16#32
  let v371 : BitVec 32 := Scalar.muli arg25 c16_i32_157
  let v373 : Index := Scalar.indexCast v371
  ![v372.toNat, v373.toNat]

def k1_chk15 (v148 : BitVec 32) (v326 : BitVec 32) (v328 : BitVec 32) (v365 : BitVec 32) : Prop :=
  (∀ k1_t13 : Fin k1_t13_loop.trips, ∀ (k1_h1 : k1_cond1 v148 = 1#1), ∀ (k1_h4 : k1_cond4 v326 v328 = 1#1), ∀ a, (k1_off34 v365 k1_t13) a + S1x16.size a ≤ S256x256.size a)
theorem k1_off34_inb : ∀ (v148 : BitVec 32) (v326 : BitVec 32) (v328 : BitVec 32) (v365 : BitVec 32) (k1_hw15 : k1_chk15 v148 v326 v328 v365) (k1_t13 : Fin k1_t13_loop.trips), ∀ (k1_h1 : k1_cond1 v148 = 1#1), ∀ (k1_h4 : k1_cond4 v326 v328 = 1#1), ∀ a, (k1_off34 v365 k1_t13) a + S1x16.size a ≤ S256x256.size a := fun v148 v326 v328 v365 k1_hw15 k1_t13 k1_h1 k1_h4 => k1_hw15 k1_t13 k1_h1 k1_h4

def k1_off35 (v354 : BitVec 32) (k1_t13 : Fin k1_t13_loop.trips) : Fin 3 → Nat :=
  let c16_i32_141 : BitVec 32 := 16#32
  let v355 : BitVec 32 := Scalar.remsi v354 c16_i32_141
  let v377 : Index := Scalar.indexCast v355
  let c0_i32_159 : BitVec 32 := 0#32
  let v378 : Index := Scalar.indexCast c0_i32_159
  let c0_i32_151 : BitVec 32 := 0#32
  let c1_i32_153 : BitVec 32 := 1#32
  let arg25 : BitVec 32 := Scf.iv c0_i32_151 c1_i32_153 k1_t13
  let c16_i32_158 : BitVec 32 := 16#32
  let v376 : BitVec 32 := Scalar.muli arg25 c16_i32_158
  let v379 : Index := Scalar.indexCast v376
  ![v377.toNat, 0, v379.toNat]

def k1_chk14 (v148 : BitVec 32) (v326 : BitVec 32) (v328 : BitVec 32) (v354 : BitVec 32) : Prop :=
  (∀ (k1_h1 : k1_cond1 v148 = 1#1), ∀ (k1_h4 : k1_cond4 v326 v328 = 1#1), ∀ a, (k1_off31 v354) a + S1x1x256.size a ≤ S16x1x256.size a) ∧
  (∀ (k1_h1 : k1_cond1 v148 = 1#1), ∀ (k1_h4 : k1_cond4 v326 v328 = 1#1), ∀ a, (k1_off32 v354) a + S1.size a ≤ S16.size a) ∧
  (∀ (k1_h1 : k1_cond1 v148 = 1#1), ∀ (k1_h4 : k1_cond4 v326 v328 = 1#1), ∀ a, (k1_off33 v354) a + S1.size a ≤ S16.size a) ∧
  (∀ k1_t13 : Fin k1_t13_loop.trips, ∀ (k1_h1 : k1_cond1 v148 = 1#1), ∀ (k1_h4 : k1_cond4 v326 v328 = 1#1), ∀ a, (k1_off35 v354 k1_t13) a + S1x1x16.size a ≤ S16x1x256.size a)
theorem k1_off31_inb : ∀ (v148 : BitVec 32) (v326 : BitVec 32) (v328 : BitVec 32) (v354 : BitVec 32) (k1_hw14 : k1_chk14 v148 v326 v328 v354), ∀ (k1_h1 : k1_cond1 v148 = 1#1), ∀ (k1_h4 : k1_cond4 v326 v328 = 1#1), ∀ a, (k1_off31 v354) a + S1x1x256.size a ≤ S16x1x256.size a := fun v148 v326 v328 v354 k1_hw14 k1_h1 k1_h4 => k1_hw14.1 k1_h1 k1_h4
theorem k1_off32_inb : ∀ (v148 : BitVec 32) (v326 : BitVec 32) (v328 : BitVec 32) (v354 : BitVec 32) (k1_hw14 : k1_chk14 v148 v326 v328 v354), ∀ (k1_h1 : k1_cond1 v148 = 1#1), ∀ (k1_h4 : k1_cond4 v326 v328 = 1#1), ∀ a, (k1_off32 v354) a + S1.size a ≤ S16.size a := fun v148 v326 v328 v354 k1_hw14 k1_h1 k1_h4 => k1_hw14.2.1 k1_h1 k1_h4
theorem k1_off33_inb : ∀ (v148 : BitVec 32) (v326 : BitVec 32) (v328 : BitVec 32) (v354 : BitVec 32) (k1_hw14 : k1_chk14 v148 v326 v328 v354), ∀ (k1_h1 : k1_cond1 v148 = 1#1), ∀ (k1_h4 : k1_cond4 v326 v328 = 1#1), ∀ a, (k1_off33 v354) a + S1.size a ≤ S16.size a := fun v148 v326 v328 v354 k1_hw14 k1_h1 k1_h4 => k1_hw14.2.2.1 k1_h1 k1_h4
theorem k1_off35_inb : ∀ (v148 : BitVec 32) (v326 : BitVec 32) (v328 : BitVec 32) (v354 : BitVec 32) (k1_hw14 : k1_chk14 v148 v326 v328 v354) (k1_t13 : Fin k1_t13_loop.trips), ∀ (k1_h1 : k1_cond1 v148 = 1#1), ∀ (k1_h4 : k1_cond4 v326 v328 = 1#1), ∀ a, (k1_off35 v354 k1_t13) a + S1x1x16.size a ≤ S16x1x256.size a := fun v148 v326 v328 v354 k1_hw14 k1_t13 k1_h1 k1_h4 => k1_hw14.2.2.2 k1_t13 k1_h1 k1_h4

def k1_off36 (v334 : BitVec 32) : Fin 1 → Nat :=
  let c16_i32_130 : BitVec 32 := 16#32
  let v335 : BitVec 32 := Scalar.remsi v334 c16_i32_130
  let v336 : Index := Scalar.indexCast v335
  ![v336.toNat]

def k1_off37 (v334 : BitVec 32) : Fin 3 → Nat :=
  let c16_i32_130 : BitVec 32 := 16#32
  let v335 : BitVec 32 := Scalar.remsi v334 c16_i32_130
  let c0_i32_131 : BitVec 32 := 0#32
  let c0_i32_132 : BitVec 32 := 0#32
  ![v335.toNat, 0, 0]
def k1_off38 (k1_t4 : Fin k1_t4_loop.trips) (k1_t5 : Fin k1_t5_loop.trips) (v188 : BitVec 32) (v302 : BitVec 32) : Fin 2 → Nat :=
  let c0_i32_38 : BitVec 32 := 0#32
  let c1_i32_39 : BitVec 32 := 1#32
  let arg17 : BitVec 32 := Scf.iv c0_i32_38 c1_i32_39 k1_t4
  let c1024_i32_116 : BitVec 32 := 1024#32
  let v304 : BitVec 32 := Scalar.muli arg17 c1024_i32_116
  let c0_i32_60 : BitVec 32 := 0#32
  let c1_i32_62 : BitVec 32 := 1#32
  let arg19 : BitVec 32 := Scf.iv c0_i32_60 c1_i32_62 k1_t5
  let c16_i32_90 : BitVec 32 := 16#32
  let v189 : BitVec 32 := Scalar.muli arg19 c16_i32_90
  let v190 : BitVec 32 := Scalar.addi v189 v188
  let c16_i32_117 : BitVec 32 := 16#32
  let v305 : BitVec 32 := Scalar.muli v190 c16_i32_117
  let v306 : BitVec 32 := Scalar.addi v304 v305
  let c16_i32_115 : BitVec 32 := 16#32
  let v303 : BitVec 32 := Scalar.remsi v302 c16_i32_115
  let v307 : BitVec 32 := Scalar.addi v306 v303
  let c0_i32_133 : BitVec 32 := 0#32
  ![v307.toNat, 0]

def k1_chk17 (k1_t4 : Fin k1_t4_loop.trips) (k1_t5 : Fin k1_t5_loop.trips) (v148 : BitVec 32) (v188 : BitVec 32) (v302 : BitVec 32) : Prop :=
  (∀ (k1_h1 : k1_cond1 v148 = 1#1), ∀ a, (k1_off38 k1_t4 k1_t5 v188 v302) a + S1x256.size a ≤ S200704x256.size a)
theorem k1_off38_inb : ∀ (k1_t4 : Fin k1_t4_loop.trips) (k1_t5 : Fin k1_t5_loop.trips) (v148 : BitVec 32) (v188 : BitVec 32) (v302 : BitVec 32) (k1_hw17 : k1_chk17 k1_t4 k1_t5 v148 v188 v302), ∀ (k1_h1 : k1_cond1 v148 = 1#1), ∀ a, (k1_off38 k1_t4 k1_t5 v188 v302) a + S1x256.size a ≤ S200704x256.size a := fun k1_t4 k1_t5 v148 v188 v302 k1_hw17 k1_h1 => k1_hw17 k1_h1

def k1_off39 (v334 : BitVec 32) : Fin 1 → Nat :=
  let c16_i32_130 : BitVec 32 := 16#32
  let v335 : BitVec 32 := Scalar.remsi v334 c16_i32_130
  ![v335.toNat]
def k1_off40 (v334 : BitVec 32) : Fin 3 → Nat :=
  let c16_i32_130 : BitVec 32 := 16#32
  let v335 : BitVec 32 := Scalar.remsi v334 c16_i32_130
  let c0_i32_134 : BitVec 32 := 0#32
  let c0_i32_135 : BitVec 32 := 0#32
  ![v335.toNat, 0, 0]

def k1_chk16 (v148 : BitVec 32) (v334 : BitVec 32) : Prop :=
  (∀ (k1_h1 : k1_cond1 v148 = 1#1), ∀ a, (k1_off36 v334) a + S1.size a ≤ S16.size a) ∧
  (∀ (k1_h1 : k1_cond1 v148 = 1#1), ∀ a, (k1_off37 v334) a + S1x1x256.size a ≤ S16x1x256.size a) ∧
  (∀ (k1_h1 : k1_cond1 v148 = 1#1), ∀ a, (k1_off39 v334) a + S1.size a ≤ S16.size a) ∧
  (∀ (k1_h1 : k1_cond1 v148 = 1#1), ∀ a, (k1_off40 v334) a + S1x1x256.size a ≤ S16x1x256.size a)
theorem k1_off36_inb : ∀ (v148 : BitVec 32) (v334 : BitVec 32) (k1_hw16 : k1_chk16 v148 v334), ∀ (k1_h1 : k1_cond1 v148 = 1#1), ∀ a, (k1_off36 v334) a + S1.size a ≤ S16.size a := fun v148 v334 k1_hw16 k1_h1 => k1_hw16.1 k1_h1
theorem k1_off37_inb : ∀ (v148 : BitVec 32) (v334 : BitVec 32) (k1_hw16 : k1_chk16 v148 v334), ∀ (k1_h1 : k1_cond1 v148 = 1#1), ∀ a, (k1_off37 v334) a + S1x1x256.size a ≤ S16x1x256.size a := fun v148 v334 k1_hw16 k1_h1 => k1_hw16.2.1 k1_h1
theorem k1_off39_inb : ∀ (v148 : BitVec 32) (v334 : BitVec 32) (k1_hw16 : k1_chk16 v148 v334), ∀ (k1_h1 : k1_cond1 v148 = 1#1), ∀ a, (k1_off39 v334) a + S1.size a ≤ S16.size a := fun v148 v334 k1_hw16 k1_h1 => k1_hw16.2.2.1 k1_h1
theorem k1_off40_inb : ∀ (v148 : BitVec 32) (v334 : BitVec 32) (k1_hw16 : k1_chk16 v148 v334), ∀ (k1_h1 : k1_cond1 v148 = 1#1), ∀ a, (k1_off40 v334) a + S1x1x256.size a ≤ S16x1x256.size a := fun v148 v334 k1_hw16 k1_h1 => k1_hw16.2.2.2 k1_h1

@[reducible] def k1_t14_loop (v253 : BitVec 32) : Scf.Loop 32 :=
  let c0_i32_108 : BitVec 32 := 0#32
  let v257 : BitVec 32 := Scalar.subi v253 c0_i32_108
  let c1_i32_109 : BitVec 32 := 1#32
  let v259 : BitVec 32 := Scalar.divsi v257 c1_i32_109
  let v260 : BitVec 32 := Scalar.muli v259 c1_i32_109
  let v261 : BitVec 32 := Scalar.addi c0_i32_108 v260
  let v258 : BitVec 32 := Scalar.addi c0_i32_108 v257
  let c1_i32_111 : BitVec 32 := 1#32
  ⟨v261, v258, c1_i32_111⟩

def k1_chk13 (v148 : BitVec 32) (v253 : BitVec 32) : Prop :=
  (∀ (k1_h1 : k1_cond1 v148 = 1#1), (k1_t12_loop v253).OK) ∧
  (∀ (k1_h1 : k1_cond1 v148 = 1#1), (k1_t14_loop v253).OK)
theorem k1_t12_ok : ∀ (v148 : BitVec 32) (v253 : BitVec 32) (k1_hw13 : k1_chk13 v148 v253), ∀ (k1_h1 : k1_cond1 v148 = 1#1), (k1_t12_loop v253).OK := fun v148 v253 k1_hw13 k1_h1 => k1_hw13.1 k1_h1
theorem k1_t14_ok : ∀ (v148 : BitVec 32) (v253 : BitVec 32) (k1_hw13 : k1_chk13 v148 v253), ∀ (k1_h1 : k1_cond1 v148 = 1#1), (k1_t14_loop v253).OK := fun v148 v253 k1_hw13 k1_h1 => k1_hw13.2 k1_h1

def k1_off41 (v354 : BitVec 32) : Fin 3 → Nat :=
  let c16_i32_141 : BitVec 32 := 16#32
  let v355 : BitVec 32 := Scalar.remsi v354 c16_i32_141
  let c0_i32_142 : BitVec 32 := 0#32
  let c0_i32_143 : BitVec 32 := 0#32
  ![v355.toNat, 0, 0]
def k1_cond5 (v326 : BitVec 32) (v328 : BitVec 32) : BitVec 1 :=
  let v329 : BitVec 32 := Scalar.subi v326 v328
  let c16_i32_127 : BitVec 32 := 16#32
  let v330 : BitVec 1 := Scalar.cmpi .sge v329 c16_i32_127
  let v331 : BitVec 32 := Scalar.extui v330
  let c0_i32_128 : BitVec 32 := 0#32
  let v332 : BitVec 1 := Scalar.cmpi .ne v331 c0_i32_128
  v332

def k1_off42 (v354 : BitVec 32) : Fin 1 → Nat :=
  let c16_i32_141 : BitVec 32 := 16#32
  let v355 : BitVec 32 := Scalar.remsi v354 c16_i32_141
  ![v355.toNat]
def k1_off43 (v354 : BitVec 32) : Fin 1 → Nat :=
  let c16_i32_141 : BitVec 32 := 16#32
  let v355 : BitVec 32 := Scalar.remsi v354 c16_i32_141
  let v364 : Index := Scalar.indexCast v355
  ![v364.toNat]
@[reducible] def k1_t15_loop : Scf.Loop 32 :=
  let c0_i32_151 : BitVec 32 := 0#32
  let c16_i32_152 : BitVec 32 := 16#32
  let v366 : BitVec 32 := Scalar.addi c0_i32_151 c16_i32_152
  let c1_i32_153 : BitVec 32 := 1#32
  ⟨c0_i32_151, v366, c1_i32_153⟩
def k1_off44 (v365 : BitVec 32) (k1_t15 : Fin k1_t15_loop.trips) : Fin 2 → Nat :=
  let v372 : Index := Scalar.indexCast v365
  let c0_i32_151 : BitVec 32 := 0#32
  let c1_i32_153 : BitVec 32 := 1#32
  let arg25 : BitVec 32 := Scf.iv c0_i32_151 c1_i32_153 k1_t15
  let c16_i32_157 : BitVec 32 := 16#32
  let v371 : BitVec 32 := Scalar.muli arg25 c16_i32_157
  let v373 : Index := Scalar.indexCast v371
  ![v372.toNat, v373.toNat]

def k1_chk19 (v148 : BitVec 32) (v326 : BitVec 32) (v328 : BitVec 32) (v365 : BitVec 32) : Prop :=
  (∀ k1_t15 : Fin k1_t15_loop.trips, ∀ (k1_h1 : k1_cond1 v148 = 1#1), ∀ (k1_h5 : k1_cond5 v326 v328 = 1#1), ∀ a, (k1_off44 v365 k1_t15) a + S1x16.size a ≤ S256x256.size a)
theorem k1_off44_inb : ∀ (v148 : BitVec 32) (v326 : BitVec 32) (v328 : BitVec 32) (v365 : BitVec 32) (k1_hw19 : k1_chk19 v148 v326 v328 v365) (k1_t15 : Fin k1_t15_loop.trips), ∀ (k1_h1 : k1_cond1 v148 = 1#1), ∀ (k1_h5 : k1_cond5 v326 v328 = 1#1), ∀ a, (k1_off44 v365 k1_t15) a + S1x16.size a ≤ S256x256.size a := fun v148 v326 v328 v365 k1_hw19 k1_t15 k1_h1 k1_h5 => k1_hw19 k1_t15 k1_h1 k1_h5

def k1_off45 (v354 : BitVec 32) (k1_t15 : Fin k1_t15_loop.trips) : Fin 3 → Nat :=
  let c16_i32_141 : BitVec 32 := 16#32
  let v355 : BitVec 32 := Scalar.remsi v354 c16_i32_141
  let v377 : Index := Scalar.indexCast v355
  let c0_i32_159 : BitVec 32 := 0#32
  let v378 : Index := Scalar.indexCast c0_i32_159
  let c0_i32_151 : BitVec 32 := 0#32
  let c1_i32_153 : BitVec 32 := 1#32
  let arg25 : BitVec 32 := Scf.iv c0_i32_151 c1_i32_153 k1_t15
  let c16_i32_158 : BitVec 32 := 16#32
  let v376 : BitVec 32 := Scalar.muli arg25 c16_i32_158
  let v379 : Index := Scalar.indexCast v376
  ![v377.toNat, 0, v379.toNat]

def k1_chk18 (v148 : BitVec 32) (v326 : BitVec 32) (v328 : BitVec 32) (v354 : BitVec 32) : Prop :=
  (∀ (k1_h1 : k1_cond1 v148 = 1#1), ∀ (k1_h5 : k1_cond5 v326 v328 = 1#1), ∀ a, (k1_off41 v354) a + S1x1x256.size a ≤ S16x1x256.size a) ∧
  (∀ (k1_h1 : k1_cond1 v148 = 1#1), ∀ (k1_h5 : k1_cond5 v326 v328 = 1#1), ∀ a, (k1_off42 v354) a + S1.size a ≤ S16.size a) ∧
  (∀ (k1_h1 : k1_cond1 v148 = 1#1), ∀ (k1_h5 : k1_cond5 v326 v328 = 1#1), ∀ a, (k1_off43 v354) a + S1.size a ≤ S16.size a) ∧
  (∀ k1_t15 : Fin k1_t15_loop.trips, ∀ (k1_h1 : k1_cond1 v148 = 1#1), ∀ (k1_h5 : k1_cond5 v326 v328 = 1#1), ∀ a, (k1_off45 v354 k1_t15) a + S1x1x16.size a ≤ S16x1x256.size a)
theorem k1_off41_inb : ∀ (v148 : BitVec 32) (v326 : BitVec 32) (v328 : BitVec 32) (v354 : BitVec 32) (k1_hw18 : k1_chk18 v148 v326 v328 v354), ∀ (k1_h1 : k1_cond1 v148 = 1#1), ∀ (k1_h5 : k1_cond5 v326 v328 = 1#1), ∀ a, (k1_off41 v354) a + S1x1x256.size a ≤ S16x1x256.size a := fun v148 v326 v328 v354 k1_hw18 k1_h1 k1_h5 => k1_hw18.1 k1_h1 k1_h5
theorem k1_off42_inb : ∀ (v148 : BitVec 32) (v326 : BitVec 32) (v328 : BitVec 32) (v354 : BitVec 32) (k1_hw18 : k1_chk18 v148 v326 v328 v354), ∀ (k1_h1 : k1_cond1 v148 = 1#1), ∀ (k1_h5 : k1_cond5 v326 v328 = 1#1), ∀ a, (k1_off42 v354) a + S1.size a ≤ S16.size a := fun v148 v326 v328 v354 k1_hw18 k1_h1 k1_h5 => k1_hw18.2.1 k1_h1 k1_h5
theorem k1_off43_inb : ∀ (v148 : BitVec 32) (v326 : BitVec 32) (v328 : BitVec 32) (v354 : BitVec 32) (k1_hw18 : k1_chk18 v148 v326 v328 v354), ∀ (k1_h1 : k1_cond1 v148 = 1#1), ∀ (k1_h5 : k1_cond5 v326 v328 = 1#1), ∀ a, (k1_off43 v354) a + S1.size a ≤ S16.size a := fun v148 v326 v328 v354 k1_hw18 k1_h1 k1_h5 => k1_hw18.2.2.1 k1_h1 k1_h5
theorem k1_off45_inb : ∀ (v148 : BitVec 32) (v326 : BitVec 32) (v328 : BitVec 32) (v354 : BitVec 32) (k1_hw18 : k1_chk18 v148 v326 v328 v354) (k1_t15 : Fin k1_t15_loop.trips), ∀ (k1_h1 : k1_cond1 v148 = 1#1), ∀ (k1_h5 : k1_cond5 v326 v328 = 1#1), ∀ a, (k1_off45 v354 k1_t15) a + S1x1x16.size a ≤ S16x1x256.size a := fun v148 v326 v328 v354 k1_hw18 k1_t15 k1_h1 k1_h5 => k1_hw18.2.2.2 k1_t15 k1_h1 k1_h5

def k1_off46 (v334 : BitVec 32) : Fin 1 → Nat :=
  let c16_i32_130 : BitVec 32 := 16#32
  let v335 : BitVec 32 := Scalar.remsi v334 c16_i32_130
  let v336 : Index := Scalar.indexCast v335
  ![v336.toNat]

def k1_off47 (v334 : BitVec 32) : Fin 3 → Nat :=
  let c16_i32_130 : BitVec 32 := 16#32
  let v335 : BitVec 32 := Scalar.remsi v334 c16_i32_130
  let c0_i32_131 : BitVec 32 := 0#32
  let c0_i32_132 : BitVec 32 := 0#32
  ![v335.toNat, 0, 0]
def k1_off48 (k1_t4 : Fin k1_t4_loop.trips) (k1_t5 : Fin k1_t5_loop.trips) (v188 : BitVec 32) (v302 : BitVec 32) : Fin 2 → Nat :=
  let c0_i32_38 : BitVec 32 := 0#32
  let c1_i32_39 : BitVec 32 := 1#32
  let arg17 : BitVec 32 := Scf.iv c0_i32_38 c1_i32_39 k1_t4
  let c1024_i32_116 : BitVec 32 := 1024#32
  let v304 : BitVec 32 := Scalar.muli arg17 c1024_i32_116
  let c0_i32_60 : BitVec 32 := 0#32
  let c1_i32_62 : BitVec 32 := 1#32
  let arg19 : BitVec 32 := Scf.iv c0_i32_60 c1_i32_62 k1_t5
  let c16_i32_90 : BitVec 32 := 16#32
  let v189 : BitVec 32 := Scalar.muli arg19 c16_i32_90
  let v190 : BitVec 32 := Scalar.addi v189 v188
  let c16_i32_117 : BitVec 32 := 16#32
  let v305 : BitVec 32 := Scalar.muli v190 c16_i32_117
  let v306 : BitVec 32 := Scalar.addi v304 v305
  let c16_i32_115 : BitVec 32 := 16#32
  let v303 : BitVec 32 := Scalar.remsi v302 c16_i32_115
  let v307 : BitVec 32 := Scalar.addi v306 v303
  let c0_i32_133 : BitVec 32 := 0#32
  ![v307.toNat, 0]

def k1_chk21 (k1_t4 : Fin k1_t4_loop.trips) (k1_t5 : Fin k1_t5_loop.trips) (v148 : BitVec 32) (v188 : BitVec 32) (v302 : BitVec 32) : Prop :=
  (∀ (k1_h1 : k1_cond1 v148 = 1#1), ∀ a, (k1_off48 k1_t4 k1_t5 v188 v302) a + S1x256.size a ≤ S200704x256.size a)
theorem k1_off48_inb : ∀ (k1_t4 : Fin k1_t4_loop.trips) (k1_t5 : Fin k1_t5_loop.trips) (v148 : BitVec 32) (v188 : BitVec 32) (v302 : BitVec 32) (k1_hw21 : k1_chk21 k1_t4 k1_t5 v148 v188 v302), ∀ (k1_h1 : k1_cond1 v148 = 1#1), ∀ a, (k1_off48 k1_t4 k1_t5 v188 v302) a + S1x256.size a ≤ S200704x256.size a := fun k1_t4 k1_t5 v148 v188 v302 k1_hw21 k1_h1 => k1_hw21 k1_h1

def k1_off49 (v334 : BitVec 32) : Fin 1 → Nat :=
  let c16_i32_130 : BitVec 32 := 16#32
  let v335 : BitVec 32 := Scalar.remsi v334 c16_i32_130
  ![v335.toNat]
def k1_off50 (v334 : BitVec 32) : Fin 3 → Nat :=
  let c16_i32_130 : BitVec 32 := 16#32
  let v335 : BitVec 32 := Scalar.remsi v334 c16_i32_130
  let c0_i32_134 : BitVec 32 := 0#32
  let c0_i32_135 : BitVec 32 := 0#32
  ![v335.toNat, 0, 0]

def k1_chk20 (v148 : BitVec 32) (v334 : BitVec 32) : Prop :=
  (∀ (k1_h1 : k1_cond1 v148 = 1#1), ∀ a, (k1_off46 v334) a + S1.size a ≤ S16.size a) ∧
  (∀ (k1_h1 : k1_cond1 v148 = 1#1), ∀ a, (k1_off47 v334) a + S1x1x256.size a ≤ S16x1x256.size a) ∧
  (∀ (k1_h1 : k1_cond1 v148 = 1#1), ∀ a, (k1_off49 v334) a + S1.size a ≤ S16.size a) ∧
  (∀ (k1_h1 : k1_cond1 v148 = 1#1), ∀ a, (k1_off50 v334) a + S1x1x256.size a ≤ S16x1x256.size a)
theorem k1_off46_inb : ∀ (v148 : BitVec 32) (v334 : BitVec 32) (k1_hw20 : k1_chk20 v148 v334), ∀ (k1_h1 : k1_cond1 v148 = 1#1), ∀ a, (k1_off46 v334) a + S1.size a ≤ S16.size a := fun v148 v334 k1_hw20 k1_h1 => k1_hw20.1 k1_h1
theorem k1_off47_inb : ∀ (v148 : BitVec 32) (v334 : BitVec 32) (k1_hw20 : k1_chk20 v148 v334), ∀ (k1_h1 : k1_cond1 v148 = 1#1), ∀ a, (k1_off47 v334) a + S1x1x256.size a ≤ S16x1x256.size a := fun v148 v334 k1_hw20 k1_h1 => k1_hw20.2.1 k1_h1
theorem k1_off49_inb : ∀ (v148 : BitVec 32) (v334 : BitVec 32) (k1_hw20 : k1_chk20 v148 v334), ∀ (k1_h1 : k1_cond1 v148 = 1#1), ∀ a, (k1_off49 v334) a + S1.size a ≤ S16.size a := fun v148 v334 k1_hw20 k1_h1 => k1_hw20.2.2.1 k1_h1
theorem k1_off50_inb : ∀ (v148 : BitVec 32) (v334 : BitVec 32) (k1_hw20 : k1_chk20 v148 v334), ∀ (k1_h1 : k1_cond1 v148 = 1#1), ∀ a, (k1_off50 v334) a + S1x1x256.size a ≤ S16x1x256.size a := fun v148 v334 k1_hw20 k1_h1 => k1_hw20.2.2.2 k1_h1

def k1_cond6 (k1_t4 : Fin k1_t4_loop.trips) : BitVec 1 :=
  let c0_i32_38 : BitVec 32 := 0#32
  let c1_i32_39 : BitVec 32 := 1#32
  let arg17 : BitVec 32 := Scf.iv c0_i32_38 c1_i32_39 k1_t4
  let c2_i32_64 : BitVec 32 := 2#32
  let v85 : BitVec 32 := Scalar.addi arg17 c2_i32_64
  let c196_i32_65 : BitVec 32 := 196#32
  let v86 : BitVec 1 := Scalar.cmpi .slt v85 c196_i32_65
  let v87 : BitVec 32 := Scalar.extui v86
  let c0_i32_66 : BitVec 32 := 0#32
  let v88 : BitVec 1 := Scalar.cmpi .ne v87 c0_i32_66
  v88

def k1_off51 (k1_t4 : Fin k1_t4_loop.trips) : Fin 2 → Nat :=
  let c0_i32_38 : BitVec 32 := 0#32
  let c1_i32_39 : BitVec 32 := 1#32
  let arg17 : BitVec 32 := Scf.iv c0_i32_38 c1_i32_39 k1_t4
  let c2_i32_49 : BitVec 32 := 2#32
  let v64 : BitVec 32 := Scalar.remsi arg17 c2_i32_49
  let c0_i32_70 : BitVec 32 := 0#32
  ![v64.toNat, 0]
def k1_off52 (k1_t4 : Fin k1_t4_loop.trips) : Fin 1 → Nat :=
  let c0_i32_38 : BitVec 32 := 0#32
  let c1_i32_39 : BitVec 32 := 1#32
  let arg17 : BitVec 32 := Scf.iv c0_i32_38 c1_i32_39 k1_t4
  let c2_i32_68 : BitVec 32 := 2#32
  let v89 : BitVec 32 := Scalar.addi arg17 c2_i32_68
  let c1024_i32_69 : BitVec 32 := 1024#32
  let v90 : BitVec 32 := Scalar.muli v89 c1024_i32_69
  ![v90.toNat]
def k1_off53 (k1_t4 : Fin k1_t4_loop.trips) : Fin 1 → Nat :=
  let c0_i32_38 : BitVec 32 := 0#32
  let c1_i32_39 : BitVec 32 := 1#32
  let arg17 : BitVec 32 := Scf.iv c0_i32_38 c1_i32_39 k1_t4
  let c2_i32_49 : BitVec 32 := 2#32
  let v64 : BitVec 32 := Scalar.remsi arg17 c2_i32_49
  ![v64.toNat]
def k1_off54 (k1_t4 : Fin k1_t4_loop.trips) : Fin 2 → Nat :=
  let c0_i32_38 : BitVec 32 := 0#32
  let c1_i32_39 : BitVec 32 := 1#32
  let arg17 : BitVec 32 := Scf.iv c0_i32_38 c1_i32_39 k1_t4
  let c2_i32_49 : BitVec 32 := 2#32
  let v64 : BitVec 32 := Scalar.remsi arg17 c2_i32_49
  let c0_i32_73 : BitVec 32 := 0#32
  ![v64.toNat, 0]
def k1_off55 (i : grid1.Coords) (k1_t1 : Fin k1_t1_loop.trips) (k1_t4 : Fin k1_t4_loop.trips) : Fin 3 → Nat :=
  let c0_i32_38 : BitVec 32 := 0#32
  let c1_i32_39 : BitVec 32 := 1#32
  let arg17 : BitVec 32 := Scf.iv c0_i32_38 c1_i32_39 k1_t4
  let c2_i32_72 : BitVec 32 := 2#32
  let v99 : BitVec 32 := Scalar.addi arg17 c2_i32_72
  let c0_i32_0 : BitVec 32 := 0#32
  let c1_i32 : BitVec 32 := 1#32
  let arg15 : BitVec 32 := Scf.iv c0_i32_0 c1_i32 k1_t1
  let c32_i32 : BitVec 32 := 32#32
  let v5 : BitVec 32 := Scalar.muli arg15 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c0_i32_74 : BitVec 32 := 0#32
  ![v99.toNat, v6.toNat, 0]
@[reducible] def k1_t16_loop (v55 : BitVec 32) (v57 : BitVec 32) : Scf.Loop 32 :=
  let c0_i32_44 : BitVec 32 := 0#32
  let v58 : BitVec 32 := Scalar.subi v55 v57
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_46 : BitVec 32 := 1#32
  ⟨c0_i32_44, v63, c1_i32_46⟩

def k1_off56 (v65 : BitVec 32) : Fin 3 → Nat :=
  let c16_i32 : BitVec 32 := 16#32
  let v66 : BitVec 32 := Scalar.remsi v65 c16_i32
  let c0_i32_50 : BitVec 32 := 0#32
  let c0_i32_51 : BitVec 32 := 0#32
  ![v66.toNat, 0, 0]

def k1_off57 (v65 : BitVec 32) : Fin 1 → Nat :=
  let c16_i32 : BitVec 32 := 16#32
  let v66 : BitVec 32 := Scalar.remsi v65 c16_i32
  ![v66.toNat]
def k1_off58 (v65 : BitVec 32) : Fin 1 → Nat :=
  let c16_i32 : BitVec 32 := 16#32
  let v66 : BitVec 32 := Scalar.remsi v65 c16_i32
  let v75 : Index := Scalar.indexCast v66
  ![v75.toNat]
@[reducible] def k1_t17_loop : Scf.Loop 32 :=
  let c0_i32_59 : BitVec 32 := 0#32
  let c16_i32_60 : BitVec 32 := 16#32
  let v77 : BitVec 32 := Scalar.addi c0_i32_59 c16_i32_60
  let c1_i32_61 : BitVec 32 := 1#32
  ⟨c0_i32_59, v77, c1_i32_61⟩
def k1_off59 (v76 : BitVec 32) (k1_t17 : Fin k1_t17_loop.trips) : Fin 2 → Nat :=
  let v83 : Index := Scalar.indexCast v76
  let c0_i32_59 : BitVec 32 := 0#32
  let c1_i32_61 : BitVec 32 := 1#32
  let arg18 : BitVec 32 := Scf.iv c0_i32_59 c1_i32_61 k1_t17
  let c16_i32_65 : BitVec 32 := 16#32
  let v82 : BitVec 32 := Scalar.muli arg18 c16_i32_65
  let v84 : Index := Scalar.indexCast v82
  ![v83.toNat, v84.toNat]

def k1_chk24 (v76 : BitVec 32) : Prop :=
  (∀ k1_t17 : Fin k1_t17_loop.trips, ∀ a, (k1_off59 v76 k1_t17) a + S1x16.size a ≤ S256x256.size a)
theorem k1_off59_inb : ∀ (v76 : BitVec 32) (k1_hw24 : k1_chk24 v76) (k1_t17 : Fin k1_t17_loop.trips), ∀ a, (k1_off59 v76 k1_t17) a + S1x16.size a ≤ S256x256.size a := fun v76 k1_hw24 k1_t17 => k1_hw24 k1_t17

def k1_off60 (v65 : BitVec 32) (k1_t17 : Fin k1_t17_loop.trips) : Fin 3 → Nat :=
  let c16_i32 : BitVec 32 := 16#32
  let v66 : BitVec 32 := Scalar.remsi v65 c16_i32
  let v88 : Index := Scalar.indexCast v66
  let c0_i32_67 : BitVec 32 := 0#32
  let v89 : Index := Scalar.indexCast c0_i32_67
  let c0_i32_59 : BitVec 32 := 0#32
  let c1_i32_61 : BitVec 32 := 1#32
  let arg18 : BitVec 32 := Scf.iv c0_i32_59 c1_i32_61 k1_t17
  let c16_i32_66 : BitVec 32 := 16#32
  let v87 : BitVec 32 := Scalar.muli arg18 c16_i32_66
  let v90 : Index := Scalar.indexCast v87
  ![v88.toNat, 0, v90.toNat]

def k1_chk23 (v65 : BitVec 32) : Prop :=
  (∀ a, (k1_off56 v65) a + S1x1x256.size a ≤ S16x1x256.size a) ∧
  (∀ a, (k1_off57 v65) a + S1.size a ≤ S16.size a) ∧
  (∀ a, (k1_off58 v65) a + S1.size a ≤ S16.size a) ∧
  (∀ k1_t17 : Fin k1_t17_loop.trips, ∀ a, (k1_off60 v65 k1_t17) a + S1x1x16.size a ≤ S16x1x256.size a)
theorem k1_off56_inb : ∀ (v65 : BitVec 32) (k1_hw23 : k1_chk23 v65), ∀ a, (k1_off56 v65) a + S1x1x256.size a ≤ S16x1x256.size a := fun v65 k1_hw23 => k1_hw23.1
theorem k1_off57_inb : ∀ (v65 : BitVec 32) (k1_hw23 : k1_chk23 v65), ∀ a, (k1_off57 v65) a + S1.size a ≤ S16.size a := fun v65 k1_hw23 => k1_hw23.2.1
theorem k1_off58_inb : ∀ (v65 : BitVec 32) (k1_hw23 : k1_chk23 v65), ∀ a, (k1_off58 v65) a + S1.size a ≤ S16.size a := fun v65 k1_hw23 => k1_hw23.2.2.1
theorem k1_off60_inb : ∀ (v65 : BitVec 32) (k1_hw23 : k1_chk23 v65) (k1_t17 : Fin k1_t17_loop.trips), ∀ a, (k1_off60 v65 k1_t17) a + S1x1x16.size a ≤ S16x1x256.size a := fun v65 k1_hw23 k1_t17 => k1_hw23.2.2.2 k1_t17

@[reducible] def k1_t18_loop (v55 : BitVec 32) (v57 : BitVec 32) : Scf.Loop 32 :=
  let c0_i32_44 : BitVec 32 := 0#32
  let v58 : BitVec 32 := Scalar.subi v55 v57
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let v60 : BitVec 32 := Scalar.addi c0_i32_44 v59
  let c1_i32_47 : BitVec 32 := 1#32
  ⟨v63, v60, c1_i32_47⟩

def k1_chk22 (v55 : BitVec 32) (v57 : BitVec 32) : Prop :=
  ((k1_t16_loop v55 v57).OK) ∧
  ((k1_t18_loop v55 v57).OK)
theorem k1_t16_ok : ∀ (v55 : BitVec 32) (v57 : BitVec 32) (k1_hw22 : k1_chk22 v55 v57), (k1_t16_loop v55 v57).OK := fun v55 v57 k1_hw22 => k1_hw22.1
theorem k1_t18_ok : ∀ (v55 : BitVec 32) (v57 : BitVec 32) (k1_hw22 : k1_chk22 v55 v57), (k1_t18_loop v55 v57).OK := fun v55 v57 k1_hw22 => k1_hw22.2

def k1_off61 (v65 : BitVec 32) : Fin 3 → Nat :=
  let c16_i32 : BitVec 32 := 16#32
  let v66 : BitVec 32 := Scalar.remsi v65 c16_i32
  let c0_i32_50 : BitVec 32 := 0#32
  let c0_i32_51 : BitVec 32 := 0#32
  ![v66.toNat, 0, 0]

def k1_off62 (v65 : BitVec 32) : Fin 1 → Nat :=
  let c16_i32 : BitVec 32 := 16#32
  let v66 : BitVec 32 := Scalar.remsi v65 c16_i32
  ![v66.toNat]
def k1_off63 (v65 : BitVec 32) : Fin 1 → Nat :=
  let c16_i32 : BitVec 32 := 16#32
  let v66 : BitVec 32 := Scalar.remsi v65 c16_i32
  let v75 : Index := Scalar.indexCast v66
  ![v75.toNat]
@[reducible] def k1_t19_loop : Scf.Loop 32 :=
  let c0_i32_59 : BitVec 32 := 0#32
  let c16_i32_60 : BitVec 32 := 16#32
  let v77 : BitVec 32 := Scalar.addi c0_i32_59 c16_i32_60
  let c1_i32_61 : BitVec 32 := 1#32
  ⟨c0_i32_59, v77, c1_i32_61⟩
def k1_off64 (v76 : BitVec 32) (k1_t19 : Fin k1_t19_loop.trips) : Fin 2 → Nat :=
  let v83 : Index := Scalar.indexCast v76
  let c0_i32_59 : BitVec 32 := 0#32
  let c1_i32_61 : BitVec 32 := 1#32
  let arg18 : BitVec 32 := Scf.iv c0_i32_59 c1_i32_61 k1_t19
  let c16_i32_65 : BitVec 32 := 16#32
  let v82 : BitVec 32 := Scalar.muli arg18 c16_i32_65
  let v84 : Index := Scalar.indexCast v82
  ![v83.toNat, v84.toNat]

def k1_chk26 (v76 : BitVec 32) : Prop :=
  (∀ k1_t19 : Fin k1_t19_loop.trips, ∀ a, (k1_off64 v76 k1_t19) a + S1x16.size a ≤ S256x256.size a)
theorem k1_off64_inb : ∀ (v76 : BitVec 32) (k1_hw26 : k1_chk26 v76) (k1_t19 : Fin k1_t19_loop.trips), ∀ a, (k1_off64 v76 k1_t19) a + S1x16.size a ≤ S256x256.size a := fun v76 k1_hw26 k1_t19 => k1_hw26 k1_t19

def k1_off65 (v65 : BitVec 32) (k1_t19 : Fin k1_t19_loop.trips) : Fin 3 → Nat :=
  let c16_i32 : BitVec 32 := 16#32
  let v66 : BitVec 32 := Scalar.remsi v65 c16_i32
  let v88 : Index := Scalar.indexCast v66
  let c0_i32_67 : BitVec 32 := 0#32
  let v89 : Index := Scalar.indexCast c0_i32_67
  let c0_i32_59 : BitVec 32 := 0#32
  let c1_i32_61 : BitVec 32 := 1#32
  let arg18 : BitVec 32 := Scf.iv c0_i32_59 c1_i32_61 k1_t19
  let c16_i32_66 : BitVec 32 := 16#32
  let v87 : BitVec 32 := Scalar.muli arg18 c16_i32_66
  let v90 : Index := Scalar.indexCast v87
  ![v88.toNat, 0, v90.toNat]

def k1_chk25 (v65 : BitVec 32) : Prop :=
  (∀ a, (k1_off61 v65) a + S1x1x256.size a ≤ S16x1x256.size a) ∧
  (∀ a, (k1_off62 v65) a + S1.size a ≤ S16.size a) ∧
  (∀ a, (k1_off63 v65) a + S1.size a ≤ S16.size a) ∧
  (∀ k1_t19 : Fin k1_t19_loop.trips, ∀ a, (k1_off65 v65 k1_t19) a + S1x1x16.size a ≤ S16x1x256.size a)
theorem k1_off61_inb : ∀ (v65 : BitVec 32) (k1_hw25 : k1_chk25 v65), ∀ a, (k1_off61 v65) a + S1x1x256.size a ≤ S16x1x256.size a := fun v65 k1_hw25 => k1_hw25.1
theorem k1_off62_inb : ∀ (v65 : BitVec 32) (k1_hw25 : k1_chk25 v65), ∀ a, (k1_off62 v65) a + S1.size a ≤ S16.size a := fun v65 k1_hw25 => k1_hw25.2.1
theorem k1_off63_inb : ∀ (v65 : BitVec 32) (k1_hw25 : k1_chk25 v65), ∀ a, (k1_off63 v65) a + S1.size a ≤ S16.size a := fun v65 k1_hw25 => k1_hw25.2.2.1
theorem k1_off65_inb : ∀ (v65 : BitVec 32) (k1_hw25 : k1_chk25 v65) (k1_t19 : Fin k1_t19_loop.trips), ∀ a, (k1_off65 v65 k1_t19) a + S1x1x16.size a ≤ S16x1x256.size a := fun v65 k1_hw25 k1_t19 => k1_hw25.2.2.2 k1_t19

def k1_off66 (i : grid1.Coords) (k1_t1 : Fin k1_t1_loop.trips) : Fin 2 → Nat :=
  let c0_i32_0 : BitVec 32 := 0#32
  let c1_i32 : BitVec 32 := 1#32
  let arg15 : BitVec 32 := Scf.iv c0_i32_0 c1_i32 k1_t1
  let c32_i32 : BitVec 32 := 32#32
  let v5 : BitVec 32 := Scalar.muli arg15 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c256_i32 : BitVec 32 := 256#32
  let v7 : BitVec 32 := Scalar.muli v6 c256_i32
  let c0_i32_49_r0 : BitVec 32 := 0#32
  ![v7.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S200000x3 : Shape := ⟨2, ![200000, 3]⟩
abbrev S2 : Shape := ⟨1, ![2]⟩
abbrev S200000x64 : Shape := ⟨2, ![200000, 64]⟩
abbrev S128x67 : Shape := ⟨2, ![128, 67]⟩
abbrev S128 : Shape := ⟨1, ![128]⟩
abbrev S256x128 : Shape := ⟨2, ![256, 128]⟩
abbrev S256 : Shape := ⟨1, ![256]⟩
abbrev S200000 : Shape := ⟨1, ![200000]⟩
abbrev S1 : Shape := ⟨1, ![1]⟩
abbrev S_ : Shape := ⟨0, ![]⟩
abbrev S200000x1 : Shape := ⟨2, ![200000, 1]⟩
abbrev S200000x67 : Shape := ⟨2, ![200000, 67]⟩
abbrev S67x128 : Shape := ⟨2, ![67, 128]⟩
abbrev S200000x128 : Shape := ⟨2, ![200000, 128]⟩
abbrev S1x128 : Shape := ⟨2, ![1, 128]⟩
abbrev S128x256 : Shape := ⟨2, ![128, 256]⟩
abbrev S200000x256 : Shape := ⟨2, ![200000, 256]⟩
abbrev S1x256 : Shape := ⟨2, ![1, 256]⟩
abbrev S32768 : Shape := ⟨1, ![32768]⟩
abbrev S1x200000 : Shape := ⟨2, ![1, 200000]⟩
abbrev S32768x1 : Shape := ⟨2, ![32768, 1]⟩
abbrev S32768x200000 : Shape := ⟨2, ![32768, 200000]⟩
abbrev S32768x200000x1 : Shape := ⟨3, ![32768, 200000, 1]⟩
abbrev S1x200000x256 : Shape := ⟨3, ![1, 200000, 256]⟩
abbrev S32768x200000x256 : Shape := ⟨3, ![32768, 200000, 256]⟩
abbrev S32768x256 : Shape := ⟨2, ![32768, 256]⟩
abbrev S2x128x128x256 : Shape := ⟨4, ![2, 128, 128, 256]⟩
abbrev S2x256x128x128 : Shape := ⟨4, ![2, 256, 128, 128]⟩

abbrev nBuf : Space → Nat
  | .hbm => 155
  | .vmem => 0
  | .smem => 0
  | _ => 0

abbrev hbmTy0_0 (i : Nat) : BufTy := match i % 128 with
  | 0 => ⟨S200000x3, .f32⟩
  | 1 => ⟨S2, .i32⟩
  | 2 => ⟨S200000x64, .f32⟩
  | 3 => ⟨S128x67, .f32⟩
  | 4 => ⟨S128, .f32⟩
  | 5 => ⟨S128, .f32⟩
  | 6 => ⟨S256x128, .f32⟩
  | 7 => ⟨S256, .f32⟩
  | 8 => ⟨S256, .f32⟩
  | 9 => ⟨S200000, .i32⟩
  | 10 => ⟨S1, .i32⟩
  | 11 => ⟨S_, .i32⟩
  | 12 => ⟨S1, .i32⟩
  | 13 => ⟨S_, .i32⟩
  | 14 => ⟨S1, .i32⟩
  | 15 => ⟨S_, .i32⟩
  | 16 => ⟨S_, .i32⟩
  | 17 => ⟨S200000, .i32⟩
  | 18 => ⟨S200000, .i1⟩
  | 19 => ⟨S200000, .i32⟩
  | 20 => ⟨S200000, .i32⟩
  | 21 => ⟨S200000, .i1⟩
  | 22 => ⟨S200000, .i32⟩
  | 23 => ⟨S200000, .i32⟩
  | 24 => ⟨S200000x1, .f32⟩
  | 25 => ⟨S200000, .f32⟩
  | 26 => ⟨S_, .f32⟩
  | 27 => ⟨S200000, .f32⟩
  | 28 => ⟨S200000, .f32⟩
  | 29 => ⟨S_, .f32⟩
  | 30 => ⟨S200000, .f32⟩
  | 31 => ⟨S200000, .f32⟩
  | 32 => ⟨S200000, .f32⟩
  | 33 => ⟨S200000, .i32⟩
  | 34 => ⟨S_, .i32⟩
  | 35 => ⟨S_, .i32⟩
  | 36 => ⟨S_, .i32⟩
  | 37 => ⟨S200000, .i32⟩
  | 38 => ⟨S200000, .i32⟩
  | 39 => ⟨S_, .i32⟩
  | 40 => ⟨S200000, .i32⟩
  | 41 => ⟨S200000, .i32⟩
  | 42 => ⟨S200000x1, .f32⟩
  | 43 => ⟨S200000, .f32⟩
  | 44 => ⟨S_, .f32⟩
  | 45 => ⟨S200000, .f32⟩
  | 46 => ⟨S200000, .f32⟩
  | 47 => ⟨S_, .f32⟩
  | 48 => ⟨S200000, .f32⟩
  | 49 => ⟨S200000, .f32⟩
  | 50 => ⟨S200000, .f32⟩
  | 51 => ⟨S200000, .i32⟩
  | 52 => ⟨S_, .i32⟩
  | 53 => ⟨S_, .i32⟩
  | 54 => ⟨S_, .i32⟩
  | 55 => ⟨S200000, .i32⟩
  | 56 => ⟨S200000, .i32⟩
  | 57 => ⟨S_, .i32⟩
  | 58 => ⟨S200000, .i32⟩
  | 59 => ⟨S200000, .i32⟩
  | 60 => ⟨S200000, .f32⟩
  | 61 => ⟨S_, .f32⟩
  | 62 => ⟨S200000, .f32⟩
  | 63 => ⟨S200000, .f32⟩
  | 64 => ⟨S_, .f32⟩
  | 65 => ⟨S200000, .f32⟩
  | 66 => ⟨S200000, .f32⟩
  | 67 => ⟨S_, .f32⟩
  | 68 => ⟨S200000, .f32⟩
  | 69 => ⟨S200000, .f32⟩
  | 70 => ⟨S200000, .f32⟩
  | 71 => ⟨S_, .f32⟩
  | 72 => ⟨S200000, .f32⟩
  | 73 => ⟨S200000, .f32⟩
  | 74 => ⟨S_, .f32⟩
  | 75 => ⟨S200000, .f32⟩
  | 76 => ⟨S200000, .f32⟩
  | 77 => ⟨S_, .f32⟩
  | 78 => ⟨S200000, .f32⟩
  | 79 => ⟨S200000, .f32⟩
  | 80 => ⟨S200000x1, .f32⟩
  | 81 => ⟨S200000, .f32⟩
  | 82 => ⟨S200000, .f32⟩
  | 83 => ⟨S200000x1, .f32⟩
  | 84 => ⟨S200000, .f32⟩
  | 85 => ⟨S200000, .f32⟩
  | 86 => ⟨S200000x1, .f32⟩
  | 87 => ⟨S200000, .f32⟩
  | 88 => ⟨S_, .f32⟩
  | 89 => ⟨S200000, .f32⟩
  | 90 => ⟨S200000, .f32⟩
  | 91 => ⟨S200000x1, .f32⟩
  | 92 => ⟨S200000x1, .f32⟩
  | 93 => ⟨S200000x1, .f32⟩
  | 94 => ⟨S200000x3, .f32⟩
  | 95 => ⟨S200000x67, .f32⟩
  | 96 => ⟨S_, .f32⟩
  | 97 => ⟨S_, .f32⟩
  | 98 => ⟨S_, .f32⟩
  | 99 => ⟨S_, .f32⟩
  | 100 => ⟨S67x128, .f32⟩
  | 101 => ⟨S200000x128, .f32⟩
  | 102 => ⟨S200000x128, .f32⟩
  | 103 => ⟨S200000x128, .f32⟩
  | 104 => ⟨S1x128, .f32⟩
  | 105 => ⟨S200000x128, .f32⟩
  | 106 => ⟨S200000x128, .f32⟩
  | 107 => ⟨S1x128, .f32⟩
  | 108 => ⟨S200000x128, .f32⟩
  | 109 => ⟨S200000x128, .f32⟩
  | 110 => ⟨S_, .f32⟩
  | 111 => ⟨S200000x128, .f32⟩
  | 112 => ⟨S200000x128, .f32⟩
  | 113 => ⟨S128x256, .f32⟩
  | 114 => ⟨S200000x256, .f32⟩
  | 115 => ⟨S200000x256, .f32⟩
  | 116 => ⟨S200000x256, .f32⟩
  | 117 => ⟨S1x256, .f32⟩
  | 118 => ⟨S200000x256, .f32⟩
  | 119 => ⟨S200000x256, .f32⟩
  | 120 => ⟨S1x256, .f32⟩
  | 121 => ⟨S200000x256, .f32⟩
  | 122 => ⟨S200000x256, .f32⟩
  | 123 => ⟨S_, .f32⟩
  | 124 => ⟨S200000x256, .f32⟩
  | 125 => ⟨S200000x256, .f32⟩
  | 126 => ⟨S_, .i32⟩
  | 127 => ⟨S200000, .i32⟩
  | _ => ⟨S200000x3, .f32⟩

abbrev hbmTy0_1 (i : Nat) : BufTy := match i % 128 with
  | 0 => ⟨S200000, .i32⟩
  | 1 => ⟨S_, .i32⟩
  | 2 => ⟨S200000, .i32⟩
  | 3 => ⟨S200000, .i32⟩
  | 4 => ⟨S200000, .i32⟩
  | 5 => ⟨S200000, .i32⟩
  | 6 => ⟨S32768, .i32⟩
  | 7 => ⟨S1x200000, .i32⟩
  | 8 => ⟨S32768x1, .i32⟩
  | 9 => ⟨S32768x200000, .i32⟩
  | 10 => ⟨S32768x200000, .i32⟩
  | 11 => ⟨S32768x200000, .i1⟩
  | 12 => ⟨S32768x200000x1, .i1⟩
  | 13 => ⟨S1x200000x256, .f32⟩
  | 14 => ⟨S_, .f32⟩
  | 15 => ⟨S_, .f32⟩
  | 16 => ⟨S32768x200000x256, .i1⟩
  | 17 => ⟨S32768x200000x256, .f32⟩
  | 18 => ⟨S32768x200000x256, .f32⟩
  | 19 => ⟨S32768x200000x256, .f32⟩
  | 20 => ⟨S_, .f32⟩
  | 21 => ⟨S32768x256, .f32⟩
  | 22 => ⟨S_, .f32⟩
  | 23 => ⟨S32768x256, .f32⟩
  | 24 => ⟨S32768x256, .f32⟩
  | 25 => ⟨S2x128x128x256, .f32⟩
  | 26 => ⟨S2x256x128x128, .f32⟩
  | _ => ⟨S200000x3, .f32⟩

abbrev hbmTy (i : Nat) : BufTy := match i / 128 with
  | 0 => hbmTy0_0 i
  | 1 => hbmTy0_1 i
  | _ => ⟨S200000x3, .f32⟩

abbrev bufTy : (tb : Table) → Fin (tcTables nBuf tb) → BufTy
  | .hbm, ⟨i, _⟩ => hbmTy i
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_c_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_c_5 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_v44 : Ref sig .tc := ⟨.hbm, 76, rfl⟩
abbrev main_cst_11 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_13 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_c_17 : Ref sig .tc := ⟨.hbm, 126, rfl⟩
abbrev main_v88 : Ref sig .tc := ⟨.hbm, 127, rfl⟩
abbrev main_v89 : Ref sig .tc := ⟨.hbm, 128, rfl⟩
abbrev main_c_18 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_19 : Ref sig .tc := ⟨.hbm, 142, rfl⟩
abbrev main_call2_v0 : Ref sig .tc := ⟨.hbm, 143, rfl⟩
abbrev main_call2_v1 : Ref sig .tc := ⟨.hbm, 144, rfl⟩
abbrev main_call2_v2 : Ref sig .tc := ⟨.hbm, 145, rfl⟩
abbrev main_call2_v3 : Ref sig .tc := ⟨.hbm, 146, rfl⟩
abbrev main_v102 : Ref sig .tc := ⟨.hbm, 147, rfl⟩
abbrev main_cst_20 : Ref sig .tc := ⟨.hbm, 148, rfl⟩
abbrev main_v103 : Ref sig .tc := ⟨.hbm, 149, rfl⟩
abbrev main_cst_21 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩

abbrev nD : Nat := 1
abbrev τ : Topo := Topo.v7x

variable {F : FTy → Type} [FloatOps F]
-- ==== Proof.RefCanvas.lean ====
/- The reference's canvas: a cell's upper bounds are those of zero and of the points that name its row. -/
module

public import Idealize.ShloMosaic.Lib.Pipeline.Value
public import Idealize.ShloMosaic.Lib.Pointwise.Index
public import Idealize.ShloMosaic.PureOps.Reduce
public import Idealize.ShloMosaic.PureOps.Ideal
public import proofs.«01_k».proof.Proof.Gen.ReferenceIdeal

@[expose] public section

noncomputable section

namespace Cert.RefCanvas

open Idealize.ShloMosaic Cert.ReferenceIdeal Cert.ReferenceIdeal.Gen

theorem ideal_zero : (Ideal.ofBits .f32 0x00000000#32 : Ideal .f32) = (0 : EReal) := by simp [Ideal.ofBits, Ideal.ieee]
theorem ideal_least : (Ideal.ofBits .f32 0xFF800000#32 : Ideal .f32) = (⊥ : EReal) := by simp [Ideal.ofBits, Ideal.ieee]

/-- Point `n` names row `r`, in the reference's words. -/
def hereAt (idx : IVec S200000 32) : IVec S32768x200000x256 1 :=
  broadcastInDim S32768x200000x256 ![0, 1, 2] bcast_S32768x200000x1_S32768x200000x256_0_1_2 (broadcastInDim S32768x200000x1 ![0, 1] bcast_S32768x200000_S32768x200000x1_0_1 (cmpi .eq (broadcastInDim S32768x200000 ![0, 1] bcast_S1x200000_S32768x200000_0_1 (broadcastInDim S1x200000 ![1] bcast_S200000_S1x200000_1 idx)) (broadcastInDim S32768x200000 ![0, 1] bcast_S32768x1_S32768x200000_0_1 (broadcastInDim S32768x1 ![0] bcast_S32768_S32768x1_0 (iotaInDim S32768 32 0)))))

/-- The points' rows, over every row of the canvas. -/
def pointsAt (h : FVec Ideal S200000x256 .f32) : FVec Ideal S32768x200000x256 .f32 :=
  broadcastInDim S32768x200000x256 ![0, 1, 2] bcast_S1x200000x256_S32768x200000x256_0_1_2 (broadcastInDim S1x200000x256 ![1, 2] bcast_S200000x256_S1x200000x256_1_2 h)

def zerosAt : FVec Ideal S32768x200000x256 .f32 := broadcastInDim S32768x200000x256 ![] bcast_S_S32768x200000x256 (id (constant S_ .f32 0x00000000#32))

/-- The reference's canvas. -/
def refCanvas (idx : IVec S200000 32) (h : FVec Ideal S200000x256 .f32) : FVec Ideal S32768x256 .f32 :=
  maximumf (Host.reduce FloatOps.maximumf (select (hereAt idx) (pointsAt h) zerosAt) (constant S_ .f32 0xFF800000#32) reducesTo_S32768x200000x256_S32768x256_d1 h_S_) (broadcastInDim S32768x256 ![] bcast_S_S32768x256 (constant S_ .f32 0x00000000#32))

theorem hereAt_apply (idx : IVec S200000 32) (r : Fin 32768) (n : Fin 200000) (c : Fin 256) :
    hereAt idx (ix3 r n c) = IntOp.cmpi .eq (idx (ix1 n)) (BitVec.ofNat 32 r.val) := by
  unfold hereAt
  rw [broadcastInDim_apply (k := ix3 r n (0 : Fin 1)) (hk := fun a => match a with | ⟨0, _⟩ => rfl | ⟨1, _⟩ => rfl | ⟨2, _⟩ => rfl),
    broadcastInDim_apply (k := ix2 r n) (hk := fun a => match a with | ⟨0, _⟩ => rfl | ⟨1, _⟩ => rfl)]
  refine congrArg₂ (IntOp.cmpi .eq) ?_ ?_
  · rw [broadcastInDim_apply (k := ix2 (0 : Fin 1) n) (hk := fun a => match a with | ⟨0, _⟩ => rfl | ⟨1, _⟩ => rfl),
      broadcastInDim_apply (k := ix1 n) (hk := fun a => match a with | ⟨0, _⟩ => rfl)]
  · rw [broadcastInDim_apply (k := ix2 r (0 : Fin 1)) (hk := fun a => match a with | ⟨0, _⟩ => rfl | ⟨1, _⟩ => rfl),
      broadcastInDim_apply (k := ix1 r) (hk := fun a => match a with | ⟨0, _⟩ => rfl)]
    rfl

theorem pointsAt_apply (h : FVec Ideal S200000x256 .f32) (r : Fin 32768) (n : Fin 200000) (c : Fin 256) : pointsAt h (ix3 r n c) = h (ix2 n c) := by
  unfold pointsAt
  rw [broadcastInDim_apply (k := ix3 (0 : Fin 1) n c) (hk := fun a => match a with | ⟨0, _⟩ => rfl | ⟨1, _⟩ => rfl | ⟨2, _⟩ => rfl),
    broadcastInDim_apply (k := ix2 n c) (hk := fun a => match a with | ⟨0, _⟩ => rfl | ⟨1, _⟩ => rfl)]

theorem zerosAt_apply (i : S32768x200000x256.Idx) : zerosAt i = (0 : EReal) := by
  unfold zerosAt
  rw [broadcastInDim_apply (k := fun a => a.elim0) (hk := fun a => a.elim0)]
  exact ideal_zero

theorem refReduces : S32768x200000x256.Reduces [1] S32768x256 := by decide

theorem lift_eq (r : Fin 32768) (n : Fin (S32768x200000x256.size 1)) (c : Fin 256) : refReduces.lift (ix2 r c) n = ix3 r n c :=
  funext fun a => Fin.ext (match a with
    | ⟨0, _⟩ => rfl
    | ⟨1, _⟩ => rfl
    | ⟨2, _⟩ => rfl)

theorem max_le_at {s : Shape} (a b : FVec Ideal s .f32) (i : s.Idx) (y : EReal) : (maximumf a b i : EReal) ≤ y ↔ (a i : EReal) ≤ y ∧ (b i : EReal) ≤ y :=
  max_le_iff (α := EReal)

instance : Std.Commutative (FloatOps.maximumf (F := Ideal) (φ := .f32)) := ⟨max_comm (α := EReal)⟩
instance : Std.Associative (FloatOps.maximumf (F := Ideal) (φ := .f32)) := ⟨max_assoc (α := EReal)⟩

/-- The upper bounds of a fold of maxima. -/
theorem fold_le {α : Type} (S : Finset α) (b : Ideal .f32) (f : α → Ideal .f32) (y : EReal) :
    ((S.fold (FloatOps.maximumf (F := Ideal) (φ := .f32)) b f : Ideal .f32) : EReal) ≤ y ↔ (b : EReal) ≤ y ∧ ∀ n ∈ S, (f n : EReal) ≤ y := by
  induction S using Finset.cons_induction with
  | empty => rw [Finset.fold_empty]; exact ⟨fun h => ⟨h, fun n hn => absurd hn (Finset.notMem_empty n)⟩, fun h => h.1⟩
  | cons a S ha ih =>
    rw [Finset.fold_cons]
    refine (max_le_iff (α := EReal)).trans ((and_congr_right' ih).trans ?_)
    rw [Finset.forall_mem_cons]
    exact ⟨fun h => ⟨h.2.1, h.1, h.2.2⟩, fun h => ⟨h.2.1, h.1, h.2.2⟩⟩

/-- The upper bounds of a maximum over the points. -/
theorem reduce_le (x : FVec Ideal S32768x200000x256 .f32) (v : FVec Ideal S_ .f32) (hv : ∀ i, (v i : EReal) = ⊥) (r : Fin 32768) (c : Fin 256) (y : EReal) :
    ((Host.reduce (FloatOps.maximumf (F := Ideal) (φ := .f32)) x v reducesTo_S32768x200000x256_S32768x256_d1 h_S_ (ix2 r c) : Ideal .f32) : EReal) ≤ y ↔ ∀ n : Fin 200000, (x (ix3 r n c) : EReal) ≤ y := by
  rw [Host.reduce_eq_fold_single FloatOps.maximumf x v reducesTo_S32768x200000x256_S32768x256_d1 refReduces h_S_ (ix2 r c), fold_le, hv]
  constructor
  · rintro ⟨-, h⟩ n
    exact le_of_eq_of_le (congrArg x (lift_eq r n c)).symm (h n (Finset.mem_univ (α := Fin (S32768x200000x256.size 1)) n))
  · intro h
    refine ⟨bot_le, fun n _ => ?_⟩
    exact le_of_eq_of_le (congrArg x (lift_eq r n c)) (h n)

/-- The upper bounds of one choice of the reference. -/
theorem choice_le (idx : IVec S200000 32) (h : FVec Ideal S200000x256 .f32) (r : Fin 32768) (n : Fin 200000) (c : Fin 256) {y : EReal} (h0 : 0 ≤ y) :
    (select (hereAt idx) (pointsAt h) zerosAt (ix3 r n c) : EReal) ≤ y ↔ ((idx (ix1 n)).toNat = r.val → (h (ix2 n c) : EReal) ≤ y) := by
  show (Scalar.select (hereAt idx (ix3 r n c)) (pointsAt h (ix3 r n c)) (zerosAt (ix3 r n c)) : EReal) ≤ y ↔ _
  rw [hereAt_apply, pointsAt_apply, zerosAt_apply]
  by_cases e : idx (ix1 n) = BitVec.ofNat 32 r.val
  · have e' : (idx (ix1 n)).toNat = r.val := by rw [e, BitVec.toNat_ofNat]; omega
    rw [show IntOp.cmpi .eq (idx (ix1 n)) (BitVec.ofNat 32 r.val) = 1#1 from by rw [e]; show BitVec.ofBool (_ == _) = _; rw [beq_self_eq_true]; rfl]
    exact ⟨fun hy _ => hy, fun hy => hy e'⟩
  · have e' : ¬ (idx (ix1 n)).toNat = r.val := fun h => e (BitVec.eq_of_toNat_eq (by rw [h, BitVec.toNat_ofNat]; omega))
    rw [show IntOp.cmpi .eq (idx (ix1 n)) (BitVec.ofNat 32 r.val) = 0#1 from by show BitVec.ofBool (_ == _) = _; rw [beq_eq_false_iff_ne.2 e]; rfl]
    exact ⟨fun _ hy => absurd hy e', fun _ => h0⟩

/-- The upper bounds of a cell of the reference. -/
theorem ref_le (idx : IVec S200000 32) (h : FVec Ideal S200000x256 .f32) (r : Fin 32768) (c : Fin 256) (y : EReal) :
    (refCanvas idx h (ix2 r c) : EReal) ≤ y ↔ 0 ≤ y ∧ ∀ n : Fin 200000, (idx (ix1 n)).toNat = r.val → (h (ix2 n c) : EReal) ≤ y := by
  unfold refCanvas
  rw [max_le_at, reduce_le _ (constant S_ .f32 0xFF800000#32) (fun _ => ideal_least), broadcastInDim_apply (k := fun a => a.elim0) (hk := fun a => a.elim0), and_comm]
  refine (and_congr_left' (iff_of_eq (congrArg (· ≤ y) ideal_zero))).trans ?_
  exact and_congr_right fun h0 => forall_congr' fun n => choice_le idx h r n c h0

end Cert.RefCanvas
-- ==== Proof.Offsets.lean ====
/- The word computations of the scatter body in closed form: the offsets its side conditions bound, the trip
   counts of its counted loops, and the side conditions themselves. -/
module

public import proofs.«01_k».proof.Proof.Gen.KernelIdeal.Skeleton
public import Idealize.ShloMosaic.Lib.LoopRemainder
public import Idealize.ShloMosaic.Lib.WordArith

@[expose] public section

namespace Cert.Pillar

open Idealize.ShloMosaic Cert.KernelIdeal Cert.KernelIdeal.Gen

theorem isInt_nat {n : ℕ} (h : n < 2 ^ 31) : Affine.IsInt (BitVec.ofNat 32 n) (n : ℤ) := Affine.ofNat n ⟨rfl, h⟩

theorem isInt_rem16 {n : ℕ} (h : n < 2 ^ 31) : Affine.IsInt (Scalar.remsi (BitVec.ofNat 32 n) 16#32) ((n % 16 : ℕ) : ℤ) :=
  Affine.remsi (isInt_nat h) (Affine.ofNat 16 ⟨rfl, by omega⟩) (by omega)

theorem isInt_iv {t : ℕ} (h : t < 2 ^ 31) : Affine.IsInt (Scf.iv 0#32 1#32 t) (t : ℤ) :=
  Affine.iv (Affine.ofNat 0 ⟨rfl, by omega⟩) (Affine.ofNat 1 ⟨rfl, by omega⟩) t (by omega)

theorem isInt_iv16 {t : ℕ} (h : t < 16) : Affine.IsInt (Scalar.muli (Scf.iv 0#32 1#32 t) 16#32) ((16 * t : ℕ) : ℤ) :=
  Affine.muli (isInt_iv (by omega)) (Affine.ofNat 16 ⟨rfl, by omega⟩) (by omega)

section Ring

variable {n : ℕ} (hn : n < 2 ^ 31)
include hn

theorem off10_eq : k1_off10 (BitVec.ofNat 32 n) = ![n % 16, 0, 0] := Affine.vec_cons (isInt_rem16 hn) rfl rfl
theorem off11_eq : k1_off11 (BitVec.ofNat 32 n) = ![n % 16] := Affine.vec_cons (isInt_rem16 hn) rfl rfl
theorem off12_eq : k1_off12 (BitVec.ofNat 32 n) = ![n % 16] := Affine.vec_cons (isInt_rem16 hn) rfl rfl
theorem off14_eq (t : Fin k1_t8_loop.trips) : k1_off14 (BitVec.ofNat 32 n) t = ![n % 16, 0, 16 * t.val] := by
  have ht : t.val < 16 := lt_of_lt_of_le t.isLt k1_t8_abs.2.1
  exact Affine.vec_cons (isInt_rem16 hn) rfl (congrArg _ (Affine.vec_cons (isInt_iv16 ht) rfl rfl))
theorem off15_eq : k1_off15 (BitVec.ofNat 32 n) = ![n % 16] := Affine.vec_cons (isInt_rem16 hn) rfl rfl
theorem off16_eq : k1_off16 (BitVec.ofNat 32 n) = ![n % 16, 0, 0] := Affine.vec_cons (isInt_rem16 hn) rfl rfl
theorem off18_eq : k1_off18 (BitVec.ofNat 32 n) = ![n % 16] := Affine.vec_cons (isInt_rem16 hn) rfl rfl
theorem off19_eq : k1_off19 (BitVec.ofNat 32 n) = ![n % 16, 0, 0] := Affine.vec_cons (isInt_rem16 hn) rfl rfl
theorem off56_eq : k1_off56 (BitVec.ofNat 32 n) = ![n % 16, 0, 0] := Affine.vec_cons (isInt_rem16 hn) rfl rfl
theorem off57_eq : k1_off57 (BitVec.ofNat 32 n) = ![n % 16] := Affine.vec_cons (isInt_rem16 hn) rfl rfl
theorem off58_eq : k1_off58 (BitVec.ofNat 32 n) = ![n % 16] := Affine.vec_cons (isInt_rem16 hn) rfl rfl
theorem off60_eq (t : Fin k1_t17_loop.trips) : k1_off60 (BitVec.ofNat 32 n) t = ![n % 16, 0, 16 * t.val] := by
  have ht : t.val < 16 := lt_of_lt_of_le t.isLt k1_t17_abs.2.1
  exact Affine.vec_cons (isInt_rem16 hn) rfl (congrArg _ (Affine.vec_cons (isInt_iv16 ht) rfl rfl))
theorem off13_eq (t : Fin k1_t8_loop.trips) : k1_off13 (BitVec.ofNat 32 n) t = ![n, 16 * t.val] := by
  have ht : t.val < 16 := lt_of_lt_of_le t.isLt k1_t8_abs.2.1
  exact Affine.vec_cons (isInt_nat hn) rfl (Affine.vec_cons (isInt_iv16 ht) rfl rfl)
theorem off59_eq (t : Fin k1_t17_loop.trips) : k1_off59 (BitVec.ofNat 32 n) t = ![n, 16 * t.val] := by
  have ht : t.val < 16 := lt_of_lt_of_le t.isLt k1_t17_abs.2.1
  exact Affine.vec_cons (isInt_nat hn) rfl (Affine.vec_cons (isInt_iv16 ht) rfl rfl)

theorem chk6_ok (v148 : BitVec 32) : k1_chk6 v148 (BitVec.ofNat 32 n) := by
  have h : n % 16 < 16 := Nat.mod_lt _ (by omega)
  refine ⟨fun _ => ?_, fun _ => ?_, fun _ => ?_, fun _ => ?_⟩
  · rw [off15_eq hn]; intro a; fin_cases a; show n % 16 + 1 ≤ 16; omega
  · rw [off16_eq hn]; intro a; fin_cases a
    · show n % 16 + 1 ≤ 16; omega
    · show 0 + _ ≤ _; decide
    · show 0 + _ ≤ _; decide
  · rw [off18_eq hn]; intro a; fin_cases a; show n % 16 + 1 ≤ 16; omega
  · rw [off19_eq hn]; intro a; fin_cases a
    · show n % 16 + 1 ≤ 16; omega
    · show 0 + _ ≤ _; decide
    · show 0 + _ ≤ _; decide

theorem chk4_ok (v148 v326 v328 : BitVec 32) : k1_chk4 v148 v326 v328 (BitVec.ofNat 32 n) := by
  have h : n % 16 < 16 := Nat.mod_lt _ (by omega)
  refine ⟨fun _ _ => ?_, fun _ _ => ?_, fun _ _ => ?_, fun t _ _ => ?_⟩
  · rw [off10_eq hn]; intro a; fin_cases a
    · show n % 16 + 1 ≤ 16; omega
    · show 0 + _ ≤ _; decide
    · show 0 + _ ≤ _; decide
  · rw [off11_eq hn]; intro a; fin_cases a; show n % 16 + 1 ≤ 16; omega
  · rw [off12_eq hn]; intro a; fin_cases a; show n % 16 + 1 ≤ 16; omega
  · have ht : t.val < 16 := lt_of_lt_of_le t.isLt k1_t8_abs.2.1
    rw [off14_eq hn]; intro a; fin_cases a
    · show n % 16 + 1 ≤ 16; omega
    · show 0 + _ ≤ _; decide
    · show 16 * t.val + 16 ≤ 256; omega

theorem chk23_ok : k1_chk23 (BitVec.ofNat 32 n) := by
  have h : n % 16 < 16 := Nat.mod_lt _ (by omega)
  refine ⟨?_, ?_, ?_, fun t => ?_⟩
  · rw [off56_eq hn]; intro a; fin_cases a
    · show n % 16 + 1 ≤ 16; omega
    · show 0 + _ ≤ _; decide
    · show 0 + _ ≤ _; decide
  · rw [off57_eq hn]; intro a; fin_cases a; show n % 16 + 1 ≤ 16; omega
  · rw [off58_eq hn]; intro a; fin_cases a; show n % 16 + 1 ≤ 16; omega
  · have ht : t.val < 16 := lt_of_lt_of_le t.isLt k1_t17_abs.2.1
    rw [off60_eq hn]; intro a; fin_cases a
    · show n % 16 + 1 ≤ 16; omega
    · show 0 + _ ≤ _; decide
    · show 16 * t.val + 16 ≤ 256; omega

end Ring

theorem chk5_ok (v148 v326 v328 : BitVec 32) (r : Fin 256) : k1_chk5 v148 v326 v328 (BitVec.ofNat 32 r.val) := by
  intro t _ _
  have ht : t.val < 16 := lt_of_lt_of_le t.isLt k1_t8_abs.2.1
  rw [off13_eq (by omega)]; intro a; fin_cases a
  · show r.val + 1 ≤ 256; omega
  · show 16 * t.val + 16 ≤ 256; omega

theorem chk24_ok (r : Fin 256) : k1_chk24 (BitVec.ofNat 32 r.val) := by
  intro t
  have ht : t.val < 16 := lt_of_lt_of_le t.isLt k1_t17_abs.2.1
  rw [off59_eq (by omega)]; intro a; fin_cases a
  · show r.val + 1 ≤ 256; omega
  · show 16 * t.val + 16 ≤ 256; omega

/-- The ring is full exactly when sixteen copies are fired and not drained. -/
theorem cond2_iff {g d : ℕ} (hd : d ≤ g) (hg : g < 2 ^ 31) : k1_cond2 (BitVec.ofNat 32 g) (BitVec.ofNat 32 d) = 1#1 ↔ d + 16 ≤ g := by
  have h : Affine.IsInt (Scalar.subi (BitVec.ofNat 32 g) (BitVec.ofNat 32 d)) ((g - d : ℕ) : ℤ) :=
    Affine.subi (isInt_nat hg) (isInt_nat (by omega)) (by omega)
  have h16 : Affine.IsInt 16#32 16 := Affine.ofNat 16 ⟨rfl, by omega⟩
  unfold k1_cond2
  refine (Scalar.guard_iff _).trans ((IntOp.cmpi_sge).trans ?_)
  rw [Affine.unique (Affine.word _) h, Affine.unique (Affine.word _) h16]
  omega

theorem cond1_iff (v : BitVec 32) : k1_cond1 v = 1#1 ↔ 0 < v.toInt := by
  unfold k1_cond1
  exact (Scalar.guard_iff _).trans (IntOp.cmpi_sgt)

section Word

variable (t4 : Fin k1_t4_loop.trips) (t5 : Fin k1_t5_loop.trips)

theorem off9_eq (w : Fin 16) : k1_off9 t4 t5 (BitVec.ofNat 32 w.val) = ![t4.val % 2, (16 * t5.val + w.val) * 16] := by
  have h4 : t4.val < 196 := lt_of_lt_of_le t4.isLt k1_t4_abs.2.1
  have h5 : t5.val < 4 := lt_of_lt_of_le t5.isLt k1_t5_abs.2.1
  have hw := isInt_nat (n := w.val) (by omega)
  have h2 : Affine.IsInt (Scalar.remsi (Scf.iv 0#32 1#32 t4.val) 2#32) ((t4.val % 2 : ℕ) : ℤ) :=
    Affine.remsi (isInt_iv (by omega)) (Affine.ofNat 2 ⟨rfl, by omega⟩) (by omega)
  have ha : Affine.IsInt (Scalar.addi (Scalar.muli (Scf.iv 0#32 1#32 t5.val) 16#32) (BitVec.ofNat 32 w.val)) ((16 * t5.val + w.val : ℕ) : ℤ) :=
    Affine.addi (isInt_iv16 (by omega)) hw (by omega)
  have hm : Affine.IsInt (Scalar.muli (Scalar.addi (Scalar.muli (Scf.iv 0#32 1#32 t5.val) 16#32) (BitVec.ofNat 32 w.val)) 16#32)
      (((16 * t5.val + w.val) * 16 : ℕ) : ℤ) :=
    Affine.muli ha (Affine.ofNat 16 ⟨rfl, by omega⟩) (by omega)
  exact Affine.vec_cons h2 rfl (Affine.vec_cons hm rfl rfl)

theorem chk2_ok (v148 : BitVec 32) (w : Fin 16) : k1_chk2 t4 t5 v148 (BitVec.ofNat 32 w.val) := by
  intro _
  have h5 : t5.val < 4 := lt_of_lt_of_le t5.isLt k1_t5_abs.2.1
  rw [off9_eq]; intro a; fin_cases a
  · show t4.val % 2 + 1 ≤ 2; omega
  · show (16 * t5.val + w.val) * 16 + 16 ≤ 1024; omega

theorem off17_eq (w l : Fin 16) {key : ℕ} (hk : key < 2 ^ 31) (hl : key % 16 = l.val) :
    k1_off17 t4 t5 (BitVec.ofNat 32 w.val) (BitVec.ofNat 32 key) = ![1024 * t4.val + (16 * t5.val + w.val) * 16 + l.val, 0] := by
  have h4 : t4.val < 196 := lt_of_lt_of_le t4.isLt k1_t4_abs.2.1
  have h5 : t5.val < 4 := lt_of_lt_of_le t5.isLt k1_t5_abs.2.1
  have hw := isInt_nat (n := w.val) (by omega)
  have h2 : Affine.IsInt (Scalar.muli (Scf.iv 0#32 1#32 t4.val) 1024#32) ((1024 * t4.val : ℕ) : ℤ) :=
    Affine.muli (isInt_iv (by omega)) (Affine.ofNat 1024 ⟨rfl, by omega⟩) (by omega)
  have ha : Affine.IsInt (Scalar.addi (Scalar.muli (Scf.iv 0#32 1#32 t5.val) 16#32) (BitVec.ofNat 32 w.val)) ((16 * t5.val + w.val : ℕ) : ℤ) :=
    Affine.addi (isInt_iv16 (by omega)) hw (by omega)
  have hm : Affine.IsInt (Scalar.muli (Scalar.addi (Scalar.muli (Scf.iv 0#32 1#32 t5.val) 16#32) (BitVec.ofNat 32 w.val)) 16#32)
      (((16 * t5.val + w.val) * 16 : ℕ) : ℤ) :=
    Affine.muli ha (Affine.ofNat 16 ⟨rfl, by omega⟩) (by omega)
  have hs := Affine.addi (e := ((1024 * t4.val + (16 * t5.val + w.val) * 16 : ℕ) : ℤ)) h2 hm (by omega)
  have hs2 := Affine.addi (e := ((1024 * t4.val + (16 * t5.val + w.val) * 16 + l.val : ℕ) : ℤ)) hs (isInt_rem16 hk) (by omega)
  exact Affine.vec_cons hs2 rfl rfl

theorem chk7_ok (v148 : BitVec 32) (w l : Fin 16) {key : ℕ} (hk : key < 2 ^ 31) (hl : key % 16 = l.val) :
    k1_chk7 t4 t5 v148 (BitVec.ofNat 32 w.val) (BitVec.ofNat 32 key) := by
  intro _
  have h4 : t4.val < 196 := lt_of_lt_of_le t4.isLt k1_t4_abs.2.1
  have h5 : t5.val < 4 := lt_of_lt_of_le t5.isLt k1_t5_abs.2.1
  rw [off17_eq t4 t5 w l hk hl]; intro a; fin_cases a
  · show 1024 * t4.val + (16 * t5.val + w.val) * 16 + l.val + 1 ≤ 200704; omega
  · show 0 + _ ≤ _; decide

end Word

/-! ### The loops over a counted word, each followed by a remainder of no trips -/

theorem sub_zero32 (v : BitVec 32) : Scalar.subi v 0#32 = v := by
  show v - 0#32 = v
  simp

theorem add_zero32 (v : BitVec 32) : Scalar.addi 0#32 v = v := by
  show 0#32 + v = v
  simp

theorem t6_loop_eq (v : BitVec 32) : k1_t6_loop v = ⟨0#32, v, 1#32⟩ := by
  unfold k1_t6_loop
  simp only [sub_zero32, add_zero32, Scalar.muli_divsi_one]

theorem t7_loop_eq (v : BitVec 32) : k1_t7_loop v = ⟨0#32, v, 1#32⟩ := by
  unfold k1_t7_loop
  simp only [sub_zero32, add_zero32, Scalar.muli_divsi_one]

theorem t9_loop_eq (v : BitVec 32) : k1_t9_loop v = ⟨v, v, 1#32⟩ := by
  unfold k1_t9_loop
  simp only [sub_zero32, add_zero32, Scalar.muli_divsi_one]

theorem t11_loop_eq (v : BitVec 32) : k1_t11_loop v = ⟨v, v, 1#32⟩ := by
  unfold k1_t11_loop
  simp only [sub_zero32, add_zero32, Scalar.muli_divsi_one]

theorem t16_loop_eq (v w : BitVec 32) : k1_t16_loop v w = ⟨0#32, Scalar.subi v w, 1#32⟩ := by
  unfold k1_t16_loop
  simp only [sub_zero32, add_zero32, Scalar.muli_divsi_one]

theorem t18_loop_eq (v w : BitVec 32) : k1_t18_loop v w = ⟨Scalar.subi v w, Scalar.subi v w, 1#32⟩ := by
  unfold k1_t18_loop
  simp only [sub_zero32, add_zero32, Scalar.muli_divsi_one]

theorem count_ok {n : ℕ} (h : n < 2 ^ 31) : (⟨0#32, BitVec.ofNat 32 n, 1#32⟩ : Scf.Loop 32).OK :=
  Affine.ok (Affine.ofNat 0 ⟨rfl, by omega⟩) (isInt_nat h) (Affine.ofNat 1 ⟨rfl, by omega⟩) (by omega)

theorem count_trips {n : ℕ} (h : n < 2 ^ 31) : (⟨0#32, BitVec.ofNat 32 n, 1#32⟩ : Scf.Loop 32).trips = n :=
  Affine.trips_eq (Affine.ofNat 0 ⟨rfl, by omega⟩) (isInt_nat h) (Affine.ofNat 1 ⟨rfl, by omega⟩) n (by omega)

theorem rest_ok {n : ℕ} (h : n < 2 ^ 31) : (⟨BitVec.ofNat 32 n, BitVec.ofNat 32 n, 1#32⟩ : Scf.Loop 32).OK :=
  Affine.ok (isInt_nat h) (isInt_nat h) (Affine.ofNat 1 ⟨rfl, by omega⟩) (by omega)

theorem rest_trips {n : ℕ} (h : n < 2 ^ 31) : (⟨BitVec.ofNat 32 n, BitVec.ofNat 32 n, 1#32⟩ : Scf.Loop 32).trips = 0 :=
  Affine.trips_eq (isInt_nat h) (isInt_nat h) (Affine.ofNat 1 ⟨rfl, by omega⟩) 0 (by omega)

theorem t8_trips : k1_t8_loop.trips = 16 := by decide
theorem t17_trips : k1_t17_loop.trips = 16 := by decide
theorem t6_trips {n : ℕ} (h : n < 2 ^ 31) : (k1_t6_loop (BitVec.ofNat 32 n)).trips = n := by rw [t6_loop_eq, count_trips h]
theorem t7_trips {n : ℕ} (h : n < 2 ^ 31) : (k1_t7_loop (BitVec.ofNat 32 n)).trips = n := by rw [t7_loop_eq, count_trips h]
theorem t9_trips {n : ℕ} (h : n < 2 ^ 31) : (k1_t9_loop (BitVec.ofNat 32 n)).trips = 0 := by rw [t9_loop_eq, rest_trips h]
theorem t11_trips {n : ℕ} (h : n < 2 ^ 31) : (k1_t11_loop (BitVec.ofNat 32 n)).trips = 0 := by rw [t11_loop_eq, rest_trips h]

theorem subi_nat {g d : ℕ} (hd : d ≤ g) (hg : g < 2 ^ 31) : Scalar.subi (BitVec.ofNat 32 g) (BitVec.ofNat 32 d) = BitVec.ofNat 32 (g - d) :=
  Affine.eq_of (Affine.subi (e := ((g - d : ℕ) : ℤ)) (isInt_nat hg) (isInt_nat (by omega)) (by omega)) _ rfl

theorem addi_one {g : ℕ} (hg : g + 1 < 2 ^ 31) : Scalar.addi (BitVec.ofNat 32 g) 1#32 = BitVec.ofNat 32 (g + 1) :=
  Affine.eq_of (Affine.addi (e := ((g + 1 : ℕ) : ℤ)) (isInt_nat (by omega)) (Affine.ofNat 1 ⟨rfl, by omega⟩) (by omega)) _ rfl

theorem t16_trips {g d : ℕ} (hd : d ≤ g) (hg : g < 2 ^ 31) : (k1_t16_loop (BitVec.ofNat 32 g) (BitVec.ofNat 32 d)).trips = g - d := by
  rw [t16_loop_eq, subi_nat hd hg, count_trips (by omega)]
theorem t18_trips {g d : ℕ} (hd : d ≤ g) (hg : g < 2 ^ 31) : (k1_t18_loop (BitVec.ofNat 32 g) (BitVec.ofNat 32 d)).trips = 0 := by
  rw [t18_loop_eq, subi_nat hd hg, rest_trips (by omega)]

theorem chk0_ok {n : ℕ} (h : n < 2 ^ 31) : k1_chk1 (BitVec.ofNat 32 n) :=
  ⟨fun _ => by rw [t6_loop_eq]; exact count_ok h, fun _ => by rw [t11_loop_eq]; exact rest_ok h⟩
theorem chk3_ok (v148 : BitVec 32) {n : ℕ} (h : n < 2 ^ 31) : k1_chk3 v148 (BitVec.ofNat 32 n) :=
  ⟨fun _ => by rw [t7_loop_eq]; exact count_ok h, fun _ => by rw [t9_loop_eq]; exact rest_ok h⟩
theorem chk22_ok {g d : ℕ} (hd : d ≤ g) (hg : g < 2 ^ 31) : k1_chk22 (BitVec.ofNat 32 g) (BitVec.ofNat 32 d) :=
  ⟨by rw [t16_loop_eq, subi_nat hd hg]; exact count_ok (by omega), by rw [t18_loop_eq, subi_nat hd hg]; exact rest_ok (by omega)⟩

end Cert.Pillar
-- ==== Proof.Own.lean ====
/- Steps of a core's program on memrefs it owns: the contents are named by what the memref reads, so
   a load answers a function of them, a store and a copy update them. -/
module

public import Idealize.ShloMosaic.Lib.Tactic
public import Idealize.ShloMosaic.Lib.Transfers
public import Idealize.ShloMosaic.Lib.MemrefSat
public import Idealize.ShloMosaic.Lib.Ring

@[expose] public section

noncomputable section

namespace Cert.Pillar

open Idealize.ShloMosaic Idealize.ShloMosaic.Transfers
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type} [Preorder Lvl]
variable {Λ : Labels} {defs : Defs nD τ sig Val Λ} (𝒱 : Variants) (c : Thread nD τ) (bd : Option 𝒱.V)

local notation "𝕄" => MT nD τ sig Ix Val Name U Lvl

variable {cs : Space} {s : Shape} {e : EltTy}

/-- A load through a rectangle of an owned memref answers its contents there. -/
theorem own_load {cs : CoreSpace} {m : Memref sig c.2.kind cs s e} {r : Rect s} {hl : m.view.LoadsAt r.toLoadRect} {q : PosShare TreeShare}
    {X : s.Idx → Val e} {Q : (r.shape.Idx → Val e) → sProp 𝕄} :
    (owns c m q X : sProp 𝕄) ⊢ iprop((owns c m q X -∗ Q (fun j => X (r.emb j)))
      -∗ wp frame (wpE defs 𝒱 c bd) Set.univ (Prog.lift (.load m r.toLoadRect hl)) Q) := by
  unfold owns
  iintro ⟨%f, %hf, H⟩ HQ
  subst hf
  iapply (wp_load_rect 𝒱 c bd Set.univ (m := m) (r := r) (S := m.view.set) (View.set_slice_subset _ _)) $$ H
  iintro H
  rw [wp_ret, show (m.access r).read Val f = fun j => m.view.read Val f (r.emb j) from rfl]
  imodintro
  iapply HQ
  iexists f
  isplitr; · ipureintro; rfl
  iexact H

/-- A load through a rectangle of which a slice is owned, the rectangle's elements being the slice's along `g`. -/
theorem own_load_slice {cs : CoreSpace} {m : Memref sig c.2.kind cs s e} {r r0 : Rect s} {hr0 : ∀ a, r0.stride a = 1}
    {hl : m.view.LoadsAt r.toLoadRect} {q : PosShare TreeShare} (g : r.shape.Idx → r0.shape.Idx) (hg : ∀ j, r.emb j = r0.emb (g j))
    {X : r0.shape.Idx → Val e} {Q : (r.shape.Idx → Val e) → sProp 𝕄} :
    (owns c (m.slice r0 hr0) q X : sProp 𝕄) ⊢ iprop((owns c (m.slice r0 hr0) q X -∗ Q (fun j => X (g j)))
      -∗ wp frame (wpE defs 𝒱 c bd) Set.univ (Prog.lift (.load m r.toLoadRect hl)) Q) := by
  unfold owns
  iintro ⟨%f, %hf, H⟩ HQ
  subst hf
  have hS : (m.access r).set ⊆ (m.slice r0 hr0).view.set := by
    intro x hx
    obtain ⟨j, -, rfl⟩ := Finset.mem_map.mp hx
    refine Finset.mem_map.mpr ⟨g j, Finset.mem_univ _, ?_⟩
    show m.view.emb (r0.emb (g j)) = m.view.emb (r.emb j)
    rw [hg]
  iapply (wp_load_rect 𝒱 c bd Set.univ (m := m) (r := r) (S := (m.slice r0 hr0).view.set) hS) $$ H
  iintro H
  rw [wp_ret]
  imodintro
  have hv : (m.access r).read Val f = fun j => (m.slice r0 hr0).view.read Val f (g j) := by
    funext j
    show m.view.read Val f (r.emb j) = m.view.read Val f (r0.emb (g j))
    rw [hg]
  rw [hv]
  iapply HQ
  iexists f
  isplitr; · ipureintro; rfl
  iexact H

/-- A word of scalar memory. -/
theorem own_smemLoad {m : Memref sig c.2.kind .smem s e} {r : Rect s} {h1 : r.shape.numel = 1} {hp : e.packing = 1} {q : PosShare TreeShare}
    {X : s.Idx → Val e} {Q : Val e → sProp 𝕄} :
    (owns c m q X : sProp 𝕄) ⊢ iprop((owns c m q X -∗ Q (X (r.emb (Shape.Idx.first (h1.symm ▸ Nat.one_pos)))))
      -∗ wp frame (wpE defs 𝒱 c bd) Set.univ (smemLoad m r h1 hp) Q) := by
  unfold owns smemLoad smemLoadElt
  iintro ⟨%f, %hf, H⟩ HQ
  subst hf
  iapply (wp_load_rect 𝒱 c bd Set.univ (m := m) (r := r) (S := m.view.set) (View.set_slice_subset _ _)) $$ H
  iintro H
  rw [wp_ret, show (m.access r).read Val f = fun j => m.view.read Val f (r.emb j) from rfl]
  imodintro
  iapply HQ
  iexists f
  isplitr; · ipureintro; rfl
  iexact H

/-- A store through a rectangle of an owned memref: the contents there are what was stored, elsewhere what they were. -/
theorem own_store {cs : CoreSpace} {m : Memref sig c.2.kind cs s e} {r : Rect s} {w : r.shape.Idx → Val e} {hx : (m.access r).Stores Finset.univ}
    {hm : Finset.univ = Finset.univ ∨ ∀ a, r.stride a = 1} {X : s.Idx → Val e} {Q : PUnit → sProp 𝕄} :
    (owns c m fullShare X : sProp 𝕄) ⊢ iprop((∀ X' : s.Idx → Val e, ⌜(∀ j, X' (r.emb j) = w j) ∧ ∀ y, (∀ j, r.emb j ≠ y) → X' y = X y⌝
        -∗ owns c m fullShare X' -∗ Q ⟨⟩)
      -∗ wp frame (wpE defs 𝒱 c bd) Set.univ (Prog.lift (.store m r w Finset.univ hx hm)) Q) := by
  unfold owns
  iintro ⟨%f, %hf, H⟩ HQ
  subst hf
  iapply (wp_store 𝒱 c bd Set.univ (m := m) (r := r) (S := m.view.set)
    (show (m.access r).setOn Finset.univ ⊆ m.view.set from View.set_slice_subset _ _)) $$ H
  iintro H
  rw [wp_ret]
  imodintro
  iapply HQ $$ %(m.view.read Val ((m.access r).write Val f w Finset.univ)) []
  · ipureintro
    refine ⟨fun j => View.read_slice_write_emb r f w (Finset.mem_univ j), fun y hy => ?_⟩
    refine View.read_slice_write_of_not_mem r f w Finset.univ fun hmem => ?_
    obtain ⟨j, -, hj⟩ := Finset.mem_map.mp hmem
    exact hy j hj
  iexists _
  isplitr; · ipureintro; rfl
  iexact H

/-- A checked fact. -/
theorem own_assume {P : Prop} {d : Decidable P} {Q : PLift P → sProp 𝕄} (h : P) :
    Q ⟨h⟩ ⊢ wp frame (wpE defs 𝒱 c bd) Set.univ (Prog.lift (TpuEff.assume P d)) Q := by
  refine Entails.trans ?_ (wp_assume 𝒱 c bd Set.univ (k := Prog.ret) h)
  rw [wp_ret]
  iintro H
  imodintro
  iexact H

variable (EC : UEmb Counters (MT nD τ sig Ix Val Name U Lvl))

/-- A copy between two owned memrefs on a cell at zero: its flight delivers the destination at the source's contents, and the source. -/
theorem own_dma [Infinite Name] [EC.LandsIn (upEmb : UEmb _ 𝕄)] {sp sp' : Space} {src : Memref sig c.2.kind sp s e} {dst dst' : Memref sig c.2.kind sp' s e}
    {sm sm' : DmaSem sig} {hsrc : src.view.WordExact} {hdst : dst'.view.WordExact} {hsem : DmaTarget.Typed (nD := nD) sp (.dma sm') (.here dst')}
    {q : PosShare TreeShare} {X Y : s.Idx → Val e} {Q : PUnit → sProp 𝕄}
    (ι : Ix) (hd : dst' = dst) (hsm : sm' = sm) (N : ℕ) (hN : dst.view.amount (.dma sm) = N) (hN0 : 0 < N) :
    iprop(owns c src q X ∗ owns c dst fullShare Y ∗ semVal (c, .dma sm) 0)
      ⊢ iprop((Flight EC c (.dma sm) ι N iprop(owns c dst fullShare X ∗ owns c src q X) -∗ Q ⟨⟩)
        -∗ wp frame (wpE defs 𝒱 c bd) Set.univ (Prog.lift (.enqueueDma src (.here dst') (.dma sm') hsrc hdst hsem)) Q) := by
  subst hd; subst hsm
  unfold owns
  iintro ⟨⟨%fs, %hfs, Hs⟩, ⟨%fd, %hfd, Hd⟩, Hv⟩ HQ
  subst hfs
  iapply (wp_dmaLocal EC 𝒱 c bd ι N hN hN0 (Finset.Subset.refl _)) $$ [Hs Hd Hv]
  · isplitl [Hs]; · iexact Hs
    isplitl [Hd]; · iexact Hd
    iexact Hv
  iintro HF
  rw [wp_ret]
  imodintro
  iapply HQ
  iapply (Flight_mono EC c ?_) $$ HF
  iintro ⟨Hd, Hs⟩
  isplitl [Hd]
  · iexists _
    isplitr
    rotate_left
    · iexact Hd
    ipureintro
    rw [View.read_write_univ]
  · iexists fs
    isplitr; · ipureintro; rfl
    iexact Hs

/-- What a thread owes, and the waits recorded when it was last looked at. -/
structure Debt (nD : ℕ) (τ : Topo) (sig : RefSig) (Ix : Type) [DecidableEq Ix] where
  t : CellTallies nD τ sig Ix
  w : Waits sig Ix

/-- A thread's debt, the recorded waits having grown only by waits of the index `ι`. -/
def owing (c : Thread nD τ) (ι : Ix) (O : Debt nD τ sig Ix) (W : Waits sig Ix) : sProp 𝕄 :=
  iprop(⌜∀ p ∈ W, p ∈ O.w ∨ p.2 = ι⌝ ∗ owes c O.t W)

/-- The wait of such a copy. -/
theorem own_wait [EC.LandsIn (upEmb : UEmb _ 𝕄)] {sp sp' : Space} {s' : Shape} {e' : EltTy} {κ' : Kind} {sem sem' : DmaSem sig}
    {srcw : Memref sig c.2.kind sp' s' e'} {dstw : Memref sig κ' sp s e} {hsrc : srcw.view.WordExact} {hdst : dstw.view.WordExact}
    {Q : PUnit → sProp 𝕄} (ι : Ix) (hsm : sem' = sem) {N : ℕ} (hN : dstw.view.dmaCredit = N) {D : sProp 𝕄}
    {O : Debt nD τ sig Ix} {W : Waits sig Ix} :
    iprop(Flight EC c (.dma sem) ι N D ∗ owing c ι O W ∗ MayWaits c ι O.t)
      ⊢ iprop((iprop(D ∗ semVal (c, .dma sem) 0 ∗ owing c ι O (insert (SemLoc.dma sem, ι) W)) -∗ Q ⟨⟩)
          -∗ wp frame (wpE defs 𝒱 c bd) Set.univ (Prog.lift (.waitDma2 sem' srcw dstw hsrc hdst)) Q) := by
  subst hsm
  iintro ⟨HF, HO, Hm⟩ HQ
  unfold owing
  icases HO with ⟨%hW, HO⟩
  ihave Hm' := (MayWaits.elim (SemLoc.dma sem')) $$ Hm
  iapply (wp_waitLocalO EC 𝒱 c bd ι hN) $$ [HF HO Hm']
  · isplitl [HF]; · iexact HF
    isplitl [HO]; · iexact HO
    iexact Hm'
  iintro ⟨HD, Hv, HO⟩
  rw [wp_ret]
  imodintro
  iapply HQ
  isplitl [HD]; · iexact HD
  isplitl [Hv]; · iexact Hv
  isplitr
  · ipureintro
    intro p hp
    rcases Finset.mem_insert.mp hp with hp | hp
    · exact .inr (hp ▸ rfl)
    · exact hW p hp
  iexact HO

omit [Preorder Lvl] in
/-- A slice of an owned memref lent: what was lent, given back, makes the memref whole again. -/
theorem own_lend {m : Memref sig c.2.kind cs s e} {q : PosShare TreeShare} (r : Rect s) (hr : ∀ a, r.stride a = 1) {X : s.Idx → Val e} :
    (owns c m q X : sProp 𝕄) ⊢ iprop(owns c (m.slice r hr) q (fun j => X (r.emb j))
      ∗ (owns c (m.slice r hr) q (fun j => X (r.emb j)) -∗ owns c m q X)) := by
  conv => lhs; unfold owns
  iintro ⟨%f, %hf, H⟩
  subst hf
  rw [owns_slice_read c m q r hr f]
  have hsub : (m.view.slice r).set ⊆ m.view.set := View.set_slice_subset _ _
  ihave H' := (pointsTo_split_subset hsub).1 $$ H
  icases H' with ⟨H1, H2⟩
  isplitl [H1]; · iexact H1
  iintro H1
  iapply (owns_intro c m q f)
  iapply (pointsTo_split_subset hsub).2
  isplitl [H1] <;> iassumption

omit [Preorder Lvl] in
/-- A squeezed memref is owned at the contents reindexed. -/
theorem owns_squeeze {m : Memref sig c.2.kind cs s e} {q : PosShare TreeShare} {s' : Shape} (h : s.Squeezes s') (X : s'.Idx → Val e) :
    (owns c (m.squeeze s' h) q X : sProp 𝕄) = owns c m q (fun j => X ((Shape.reshapeEquiv h.numel_eq).symm j)) := by
  have hset : (m.squeeze s' h).view.set = m.view.set := View.set_reshape _ _
  have hread (f : m.view.ty.Contents Val) : (m.squeeze s' h).view.read Val f = X ↔ m.view.read Val f = fun j => X ((Shape.reshapeEquiv h.numel_eq).symm j) := by
    have h1 : (m.squeeze s' h).view.read Val f = fun j => m.view.read Val f (Shape.reshapeEquiv h.numel_eq j) := rfl
    rw [h1]
    constructor
    · intro hX; funext j; rw [← hX]; simp
    · intro hX; funext j; rw [hX]; simp
  unfold owns
  rw [show (m.squeeze s' h).view.set = m.view.set from hset]
  simp only [hread]

end Cert.Pillar
-- ==== Proof.Row.lean ====
/- The row step of the scatter body: a slab row becomes the maximum of itself and a staged row, sixteen lanes a
   trip. -/
module

public import proofs.«01_k».proof.Proof.Offsets
public import proofs.«01_k».proof.Proof.Own
public import Idealize.ShloMosaic.Lib.Pointwise.Index
public import Idealize.ShloMosaic.Lib.Pipeline.Value

@[expose] public section

noncomputable section

namespace Cert.Pillar

open Idealize.ShloMosaic Idealize.ShloMosaic.Transfers
open Idealize.SL
open Idealize.SL.BI (sProp)
open scoped Idealize.SL.BI
open Idealize.SL.BI.BIBase Idealize.SL.BI.Laws Idealize.SL.Sem Idealize.SL.ProofMode
open Idealize.SL.RA Cert.KernelIdeal Cert.KernelIdeal.Gen

variable {F : FTy → Type} [FloatOps F]

/-- The vector subcore that grid point `i` runs on. -/
abbrev tile (d : Fin nD) (i : grid1.Coords) : Thread nD τ := (d, .scVector ((i 0).castLE hcore1) ((i 1).castLE hsub1))

/-- The offset of an index of a unit rectangle. -/
theorem emb_unit_val {s : Shape} {off size : Fin s.rank → ℕ} (h : ∀ a, off a + size a ≤ s.size a) (j : (Rect.unit off size h).shape.Idx)
    (a : Fin s.rank) : ((Rect.unit off size h).emb j a).val = off a + (j a).val := by
  show off a + 1 * (j a).val = _
  rw [Nat.one_mul]

/-- A staged row as the stage slot's window lays it. -/
theorem row_symm (h : S1x1x256.numel = S1x256.numel) (l : Fin 256) :
    (Shape.reshapeEquiv h.symm).symm (ix3 (0 : Fin 1) (0 : Fin 1) l : S1x1x256.Idx) = (ix2 (0 : Fin 1) l : S1x256.Idx) := by
  rw [Equiv.symm_apply_eq]
  exact (Shape.reshapeEquiv_eq_of_rowMajor h.symm (x := ix2 0 l) (y := ix3 0 0 l) (by
    rw [Shape.rowMajor_val_three, Shape.rowMajor_val_two]; show (0 * 1 + 0) * 256 + l.val = 0 * 256 + l.val; omega)).symm

theorem max_lane (v : S1x16.Idx → F .f32) (u : S1x1x16.Idx → F .f32) (l : Fin 16) :
    k1_pay2 (F := F) v u (ix2 0 l) = FloatOps.maximumf (v (ix2 0 l)) (u (ix3 0 0 l)) := by
  unfold k1_pay2
  show shapeCast S1x16 _ _ (ix2 0 l) = _
  rw [shapeCast_apply _ _ (ix2 0 l) (ix1 l) (by
    rw [Shape.rowMajor_val_two, Shape.rowMajor_val_one]; show l.val = 0 * 16 + l.val; omega)]
  show FloatOps.maximumf (shapeCast S16 v _ (ix1 l)) (shapeCast S16 u _ (ix1 l)) = _
  rw [shapeCast_apply v _ (ix1 l) (ix2 0 l) (by
    rw [Shape.rowMajor_val_two, Shape.rowMajor_val_one]; show 0 * 16 + l.val = l.val; omega), shapeCast_apply u _ (ix1 l) (ix3 0 0 l) (by
    rw [Shape.rowMajor_val_three, Shape.rowMajor_val_one]; show (0 * 1 + 0) * 16 + l.val = l.val; omega)]

theorem max_lane' (v : S1x16.Idx → F .f32) (u : S1x1x16.Idx → F .f32) : k1_pay39 (F := F) v u = k1_pay2 (F := F) v u := rfl

/-- The slab with the first `16 * k` lanes of row `r` maximised with the row `Z`. -/
def rowMax (r : Fin 256) (Z : S1x256.Idx → F .f32) (X : S256x256.Idx → F .f32) (k : ℕ) : S256x256.Idx → F .f32 := fun y =>
  if (y 0).val = r.val ∧ (y 1).val < 16 * k then FloatOps.maximumf (X y) (Z (ix2 0 (y 1))) else X y

theorem rowMax_zero (r : Fin 256) (Z : S1x256.Idx → F .f32) (X : S256x256.Idx → F .f32) : rowMax r Z X 0 = X := by
  funext y; simp [rowMax]

theorem rowMax_all (r : Fin 256) (Z : S1x256.Idx → F .f32) (X : S256x256.Idx → F .f32) :
    rowMax r Z X 16 = fun y => if (y 0).val = r.val then FloatOps.maximumf (X y) (Z (ix2 0 (y 1))) else X y := by
  funext y
  have h : (y 1).val < 16 * 16 := (y 1).isLt
  simp [rowMax, h]

/-- One trip's store carries the row maximum sixteen lanes on. -/
theorem rowMax_step (r : Fin 256) (Z : S1x256.Idx → F .f32) (X X' : S256x256.Idx → F .f32) (k : ℕ) (hk : k < 16)
    (h : ∀ a, ![r.val, 16 * k] a + S1x16.size a ≤ S256x256.size a)
    (hw : ∀ j, X' ((Rect.unit (s := S256x256) ![r.val, 16 * k] S1x16.size h).emb j)
      = FloatOps.maximumf (rowMax r Z X k ((Rect.unit (s := S256x256) ![r.val, 16 * k] S1x16.size h).emb j))
          (Z (ix2 0 ⟨16 * k + (j 1).val, by have : (j 1).val < 16 := (j 1).isLt; omega⟩)))
    (ho : ∀ y, (∀ j, (Rect.unit (s := S256x256) ![r.val, 16 * k] S1x16.size h).emb j ≠ y) → X' y = rowMax r Z X k y) :
    X' = rowMax r Z X (k + 1) := by
  funext y
  by_cases hy : (y 0).val = r.val ∧ 16 * k ≤ (y 1).val ∧ (y 1).val < 16 * (k + 1)
  · obtain ⟨h0, h1, h2⟩ := hy
    have hlt : (y 1).val - 16 * k < 16 := by omega
    have he : (Rect.unit (s := S256x256) ![r.val, 16 * k] S1x16.size h).emb (ix2 (0 : Fin 1) (⟨(y 1).val - 16 * k, hlt⟩ : Fin 16)) = y := by
      funext a; apply Fin.ext; rw [emb_unit_val]
      fin_cases a
      · show r.val + 0 = (y 0).val; rw [h0]; omega
      · show 16 * k + ((y 1).val - 16 * k) = (y 1).val; omega
    have := hw (ix2 (0 : Fin 1) (⟨(y 1).val - 16 * k, hlt⟩ : Fin 16))
    rw [he] at this
    rw [this]
    have hi : (⟨16 * k + ((y 1).val - 16 * k), by have : (y 1).val < 256 := (y 1).isLt; omega⟩ : Fin 256) = y 1 := Fin.ext (by show 16 * k + ((y 1).val - 16 * k) = (y 1).val; omega)
    have e1 : rowMax r Z X k y = X y := if_neg (fun hh => by omega)
    have e2 : rowMax r Z X (k + 1) y = FloatOps.maximumf (X y) (Z (ix2 0 (y 1))) := if_pos ⟨h0, h2⟩
    rw [e1, e2]
    exact congrArg (fun t => FloatOps.maximumf (X y) (Z (ix2 0 t))) hi
  · rw [ho y]
    · unfold rowMax
      congr 1
      exact propext ⟨fun ⟨a, b⟩ => ⟨a, by omega⟩, fun ⟨a, b⟩ => ⟨a, by by_contra hc; exact hy ⟨a, by omega, b⟩⟩⟩
    · rintro j rfl
      apply hy
      have e0 : ((Rect.unit (s := S256x256) ![r.val, 16 * k] S1x16.size h).emb j 0).val = r.val + (j 0).val := emb_unit_val h j 0
      have e1 : ((Rect.unit (s := S256x256) ![r.val, 16 * k] S1x16.size h).emb j 1).val = 16 * k + (j 1).val := emb_unit_val h j 1
      have hj0 : (j 0).val < 1 := (j 0).isLt
      have hj1 : (j 1).val < 16 := (j 1).isLt
      exact ⟨by omega, by omega, by omega⟩

section Body

variable {Ix : Type} [DecidableEq Ix] {Name : Type} [DecidableEq Name] {U : Type} [URA U] {Lvl : Type} [Preorder Lvl]
variable {defs : Defs nD τ sig (Elt F) Λ₀} (𝒱 : Variants) (d : Fin nD) (i : grid1.Coords) (bd : Option 𝒱.V)

local notation "𝕄" => MT nD τ sig Ix (Elt F) Name U Lvl

variable (arg8 : Memref sig .scVector .vmem S16x1x256 .f32) (arg9 : Memref sig .scVector .vmem S256x256 .f32)

theorem slot_inb (j : Fin 16) : ∀ a, ![j.val, 0, 0] a + S1x1x256.size a ≤ S16x1x256.size a := by
  intro a; fin_cases a
  · show j.val + 1 ≤ 16; omega
  · show 0 + _ ≤ _; decide
  · show 0 + _ ≤ _; decide

/-- Slot `j` of the staging ring, as the copies name it. -/
abbrev slotM (j : Fin 16) : Memref sig .scVector .vmem S1x256 .f32 :=
  (arg8.slice (Rect.unit (s := S16x1x256) ![j.val, 0, 0] S1x1x256.size (slot_inb j)) (fun _ => rfl)).squeeze S1x256 squeezes_S1x1x256_S1x256

/-- One trip of the row step. -/
theorem row_trip (r : Fin 256) (j : Fin 16) (Z : S1x256.Idx → F .f32) (X : S256x256.Idx → F .f32) (k : ℕ) (hk : k < 16)
    {o9 : Fin 2 → ℕ} {o8 : Fin 3 → ℕ} (h9 : ∀ a, o9 a + S1x16.size a ≤ S256x256.size a) (h8 : ∀ a, o8 a + S1x1x16.size a ≤ S16x1x256.size a)
    (e9 : o9 = ![r.val, 16 * k]) (e8 : o8 = ![j.val, 0, 16 * k])
    {l9 l9' : arg9.view.LoadsAt (Rect.unit (s := S256x256) o9 S1x16.size h9).toLoadRect}
    {l8 : arg8.view.LoadsAt (Rect.unit (s := S16x1x256) o8 S1x1x16.size h8).toLoadRect}
    {hx : (arg9.access (Rect.unit (s := S256x256) o9 S1x16.size h9)).Stores Finset.univ}
    {hm : Finset.univ = Finset.univ ∨ ∀ a, (Rect.unit (s := S256x256) o9 S1x16.size h9).stride a = 1} {w0 : BitVec 32} {Q : BitVec 32 → sProp 𝕄} :
    iprop(owns (tile d i) arg9 fullShare (rowMax r Z X k) ∗ owns (tile d i) (slotM arg8 j) fullShare Z)
      ⊢ iprop((iprop(owns (tile d i) arg9 fullShare (rowMax r Z X (k + 1)) ∗ owns (tile d i) (slotM arg8 j) fullShare Z) -∗ Q w0)
        -∗ wp frame (wpE defs 𝒱 (tile d i) bd) Set.univ (do
            let v : Vec F S1x16 .f32 ← Prog.lift (TpuEff.load arg9 (Rect.unit (s := S256x256) o9 S1x16.size h9).toLoadRect l9)
            let u : Vec F S1x1x16 .f32 ← Prog.lift (TpuEff.load arg8 (Rect.unit (s := S16x1x256) o8 S1x1x16.size h8).toLoadRect l8)
            let _v' : Vec F S1x16 .f32 ← Prog.lift (TpuEff.load arg9 (Rect.unit (s := S256x256) o9 S1x16.size h9).toLoadRect l9')
            Prog.lift (TpuEff.store arg9 (Rect.unit (s := S256x256) o9 S1x16.size h9) (k1_pay2 (F := F) v u) Finset.univ hx hm)
            pure w0 : Prog (TpuEff nD τ sig (Elt F) Λ₀ (tile d i).2) (BitVec 32)) Q) := by
  subst e9; subst e8
  rw [owns_squeeze]
  iintro ⟨H9, H8⟩ HQ
  rw [wp_bind]
  iapply (own_load 𝒱 (tile d i) bd) $$ H9
  iintro H9
  rw [wp_bind]
  iapply (own_load_slice 𝒱 (tile d i) bd (fun y => ix3 (0 : Fin 1) (0 : Fin 1) (⟨16 * k + (y 2).val, by have : (y 2).val < 16 := (y 2).isLt; omega⟩ : Fin 256)) (fun y => by
    funext a; apply Fin.ext; rw [emb_unit_val, emb_unit_val]
    have h0 : (y 0).val < 1 := (y 0).isLt
    have h1 : (y 1).val < 1 := (y 1).isLt
    fin_cases a
    · show j.val + (y 0).val = j.val + 0; omega
    · show 0 + (y 1).val = 0 + 0; omega
    · show 16 * k + (y 2).val = 0 + (16 * k + (y 2).val); omega)) $$ H8
  iintro H8
  rw [wp_bind]
  iapply (own_load 𝒱 (tile d i) bd) $$ H9
  iintro H9
  rw [wp_bind]
  iapply (own_store 𝒱 (tile d i) bd) $$ H9
  iintro %X' %hX H9
  rw [show (pure w0 : Prog (TpuEff nD τ sig (Elt F) Λ₀ (tile d i).2) (BitVec 32)) = Prog.ret w0 from rfl, wp_ret]
  imodintro
  iapply HQ
  rw [rowMax_step r Z X X' k hk h9 (fun y => by
    rw [hX.1 y]
    have hy : y = ix2 (0 : Fin 1) (y 1) := by
      rw [eq_ix2 y]; congr 1; exact Fin.ext (by have : (y 0).val < 1 := (y 0).isLt; show (y 0).val = 0; omega)
    rw [hy]
    refine (max_lane _ _ (y 1)).trans ?_
    congr 1
    rw [row_symm (by decide)]
    rfl) hX.2]
  isplitl [H9] <;> iassumption

end Body

end Cert.Pillar
-- ==== Proof.Ring.lean ====
/- The staging ring of the scatter body: which points are copied and drained, which are in flight, and what the
   slab's cells hold. -/
module

public import proofs.«01_k».proof.Proof.Row

@[expose] public section

noncomputable section

namespace Cert.Pillar

open Idealize.ShloMosaic Cert.KernelIdeal Cert.KernelIdeal.Gen

variable {F : FTy → Type} [FloatOps F]

/-- A cell of the canvas as some order of maxima from zero over a set of points. -/
inductive Acc (h : Fin 200704 → F .f32) : Finset (Fin 200704) → F .f32 → Prop
  | zero : Acc h ∅ (Scalar.ofBits .f32 0x00000000#32)
  | step {S x} (n : Fin 200704) : Acc h S x → Acc h (insert n S) (FloatOps.maximumf x (h n))

theorem Acc.cast {h : Fin 200704 → F .f32} {S : Finset (Fin 200704)} {x y : F .f32} (ha : Acc h S x) (e : x = y) : Acc h S y := e ▸ ha

/-- Point `n` falls in the 256 rows from `lo`. -/
def Hit (I : S200704.Idx → BitVec 32) (lo : ℕ) (n : Fin 200704) : Prop := lo ≤ (I (ix1 n)).toNat ∧ (I (ix1 n)).toNat < lo + 256

/-- The ring's bookkeeping: `g` copies fired and `d` drained, `D` the points drained, `St j` the point in flight into
    slot `j`, `Fd` all points fired; the row of each flight and the two counters in memory; the slab's cells. -/
structure RingOK (I : S200704.Idx → BitVec 32) (H : S200704x256.Idx → F .f32) (lo : ℕ) (Fd : Finset (Fin 200704)) (g d : ℕ)
    (D : Finset (Fin 200704)) (St : Fin 16 → Option (Fin 200704)) (X : S256x256.Idx → F .f32) (M : S16.Idx → BitVec 32)
    (G : S2.Idx → BitVec 32) : Prop where
  le : d ≤ g
  ge : g ≤ d + 16
  card : g = Fd.card
  fired : G (ix1 0) = BitVec.ofNat 32 g
  drained : G (ix1 1) = BitVec.ofNat 32 d
  busy : ∀ j, (∃ n, St j = Option.some n) ↔ ∃ k, d ≤ k ∧ k < g ∧ k % 16 = j.val
  split : ∀ n, n ∈ Fd ↔ n ∈ D ∨ ∃ j, St j = Option.some n
  row : ∀ j n, St j = Option.some n → Hit I lo n ∧ M (ix1 j) = BitVec.ofNat 32 ((I (ix1 n)).toNat - lo)
  acc : ∀ (r c : Fin 256), Acc (fun n => H (ix2 n c)) (D.filter fun n => (I (ix1 n)).toNat = lo + r.val) (X (ix2 r c))

namespace RingOK

variable {I : S200704.Idx → BitVec 32} {H : S200704x256.Idx → F .f32} {lo : ℕ} {Fd : Finset (Fin 200704)} {g d : ℕ}
  {D : Finset (Fin 200704)} {St : Fin 16 → Option (Fin 200704)} {X : S256x256.Idx → F .f32} {M : S16.Idx → BitVec 32}
  {G : S2.Idx → BitVec 32}

theorem bound (h : RingOK I H lo Fd g d D St X M G) : g ≤ 200704 := by
  rw [h.card]
  exact (Finset.card_le_univ _).trans (by simp)

/-- At a pass's start nothing is fired. -/
theorem start (hG0 : G (ix1 0) = 0#32) (hG1 : G (ix1 1) = 0#32) (hX : ∀ y, X y = Scalar.ofBits .f32 0x00000000#32) :
    RingOK I H lo ∅ 0 0 ∅ (fun _ => none) X M G where
  le := le_refl _
  ge := by omega
  card := rfl
  fired := hG0
  drained := hG1
  busy := fun j => ⟨fun ⟨n, h⟩ => by simp at h, fun ⟨k, _, h, _⟩ => by omega⟩
  split := fun n => by simp
  row := fun j n h => by simp at h
  acc := fun r c => by rw [hX]; exact Acc.zero

/-- The slot the next drain takes is in flight. -/
theorem next (h : RingOK I H lo Fd g d D St X M G) (hlt : d < g) : ∃ n, St ⟨d % 16, Nat.mod_lt _ (by omega)⟩ = Option.some n :=
  (h.busy ⟨d % 16, Nat.mod_lt _ (by omega)⟩).mpr ⟨d, le_refl _, hlt, rfl⟩

/-- The slot the next copy takes is free. -/
theorem free (h : RingOK I H lo Fd g d D St X M G) (hlt : g < d + 16) : St ⟨g % 16, Nat.mod_lt _ (by omega)⟩ = none := by
  cases hs : St ⟨g % 16, Nat.mod_lt _ (by omega)⟩ with
  | none => rfl
  | some n =>
    exfalso
    obtain ⟨k, h1, h2, h3⟩ := (h.busy _).mp ⟨n, hs⟩
    have h3' : k % 16 = g % 16 := h3
    omega

/-- One drain. -/
theorem drain (h : RingOK I H lo Fd g d D St X M G) (hlt : d < g) {n : Fin 200704}
    (hs : St ⟨d % 16, Nat.mod_lt _ (by omega)⟩ = Option.some n) {r : Fin 256} (hr : (I (ix1 n)).toNat = lo + r.val)
    {X' : S256x256.Idx → F .f32}
    (hX : X' = fun y => if (y 0).val = r.val then FloatOps.maximumf (X y) (H (ix2 n (y 1))) else X y)
    {G' : S2.Idx → BitVec 32} (hG0 : G' (ix1 0) = G (ix1 0)) (hG1 : G' (ix1 1) = BitVec.ofNat 32 (d + 1)) :
    RingOK I H lo Fd g (d + 1) (insert n D) (Function.update St ⟨d % 16, Nat.mod_lt _ (by omega)⟩ none) X' M G' where
  le := hlt
  ge := by have := h.ge; omega
  card := h.card
  fired := hG0.trans h.fired
  drained := hG1
  busy := fun j => by
    have hg := h.ge
    by_cases hj : j = ⟨d % 16, Nat.mod_lt _ (by omega)⟩
    · subst hj
      rw [Function.update_self]
      constructor
      · rintro ⟨n, hn⟩; simp at hn
      · rintro ⟨k, h1, h2, h3⟩
        have h3' : k % 16 = d % 16 := h3
        omega
    · rw [Function.update_of_ne hj, h.busy j]
      constructor
      · rintro ⟨k, h1, h2, h3⟩
        refine ⟨k, ?_, h2, h3⟩
        rcases Nat.eq_or_lt_of_le h1 with he | hl
        · exact absurd (Fin.ext (by rw [← h3, ← he])) hj
        · exact hl
      · rintro ⟨k, h1, h2, h3⟩; exact ⟨k, by omega, h2, h3⟩
  split := fun m => by
    rw [h.split m, Finset.mem_insert]
    constructor
    · rintro (hD | ⟨j, hj⟩)
      · exact .inl (.inr hD)
      · by_cases hjd : j = ⟨d % 16, Nat.mod_lt _ (by omega)⟩
        · subst hjd; rw [hs] at hj; exact .inl (.inl (Option.some.inj hj).symm)
        · exact .inr ⟨j, by rw [Function.update_of_ne hjd]; exact hj⟩
    · rintro ((rfl | hD) | ⟨j, hj⟩)
      · exact .inr ⟨_, hs⟩
      · exact .inl hD
      · by_cases hjd : j = ⟨d % 16, Nat.mod_lt _ (by omega)⟩
        · subst hjd; rw [Function.update_self] at hj; simp at hj
        · rw [Function.update_of_ne hjd] at hj; exact .inr ⟨j, hj⟩
  row := fun j m hj => by
    by_cases hjd : j = ⟨d % 16, Nat.mod_lt _ (by omega)⟩
    · subst hjd; rw [Function.update_self] at hj; simp at hj
    · rw [Function.update_of_ne hjd] at hj; exact h.row j m hj
  acc := fun r' c => by
    have ha := h.acc r' c
    rw [Finset.filter_insert]
    by_cases hrr : r' = r
    · subst hrr
      rw [if_pos hr, hX]
      simp only [ix2_0, ix2_1, if_true]
      exact Acc.step n ha
    · have hv : r'.val ≠ r.val := fun e => hrr (Fin.ext e)
      rw [if_neg (by omega), hX]
      refine ha.cast ?_
      exact (if_neg hv).symm

/-- One copy fired. -/
theorem fire (h : RingOK I H lo Fd g d D St X M G) (hlt : g < d + 16) {n : Fin 200704} (hn : n ∉ Fd) (hit : Hit I lo n)
    {M' : S16.Idx → BitVec 32} (hM : M' (ix1 ⟨g % 16, Nat.mod_lt _ (by omega)⟩) = BitVec.ofNat 32 ((I (ix1 n)).toNat - lo))
    (hMo : ∀ j : Fin 16, j ≠ ⟨g % 16, Nat.mod_lt _ (by omega)⟩ → M' (ix1 j) = M (ix1 j))
    {G' : S2.Idx → BitVec 32} (hG1 : G' (ix1 1) = G (ix1 1)) (hG0 : G' (ix1 0) = BitVec.ofNat 32 (g + 1)) :
    RingOK I H lo (insert n Fd) (g + 1) d D (Function.update St ⟨g % 16, Nat.mod_lt _ (by omega)⟩ (Option.some n)) X M' G' where
  le := by have := h.le; omega
  ge := by omega
  card := by rw [Finset.card_insert_of_notMem hn, h.card]
  fired := hG0
  drained := hG1.trans h.drained
  busy := fun j => by
    have hd := h.le
    by_cases hj : j = ⟨g % 16, Nat.mod_lt _ (by omega)⟩
    · subst hj
      rw [Function.update_self]
      exact ⟨fun _ => ⟨g, hd, by omega, rfl⟩, fun _ => ⟨n, rfl⟩⟩
    · rw [Function.update_of_ne hj, h.busy j]
      constructor
      · rintro ⟨k, h1, h2, h3⟩; exact ⟨k, h1, by omega, h3⟩
      · rintro ⟨k, h1, h2, h3⟩
        refine ⟨k, h1, ?_, h3⟩
        rcases Nat.lt_succ_iff_lt_or_eq.mp h2 with hl | he
        · exact hl
        · exact absurd (Fin.ext (by rw [← h3, he])) hj
  split := fun m => by
    rw [Finset.mem_insert, h.split m]
    constructor
    · rintro (rfl | hD | ⟨j, hj⟩)
      · exact .inr ⟨_, Function.update_self ..⟩
      · exact .inl hD
      · refine .inr ⟨j, ?_⟩
        rw [Function.update_of_ne]
        · exact hj
        · rintro rfl; rw [h.free hlt] at hj; simp at hj
    · rintro (hD | ⟨j, hj⟩)
      · exact .inr (.inl hD)
      · by_cases hjg : j = ⟨g % 16, Nat.mod_lt _ (by omega)⟩
        · subst hjg; rw [Function.update_self] at hj; exact .inl (Option.some.inj hj).symm
        · rw [Function.update_of_ne hjg] at hj; exact .inr (.inr ⟨j, hj⟩)
  row := fun j m hj => by
    by_cases hjg : j = ⟨g % 16, Nat.mod_lt _ (by omega)⟩
    · subst hjg; rw [Function.update_self] at hj; obtain rfl := Option.some.inj hj; exact ⟨hit, hM⟩
    · rw [Function.update_of_ne hjg] at hj; rw [hMo j hjg]; exact h.row j m hj
  acc := h.acc

/-- When every fired copy is drained the slab's cells are over all the points fired. -/
theorem finish (h : RingOK I H lo Fd g g D St X M G) (r c : Fin 256) :
    Acc (fun n => H (ix2 n c)) (Fd.filter fun n => (I (ix1 n)).toNat = lo + r.val) (X (ix2 r c)) := by
  have e : Fd = D := by
    ext n
    rw [h.split n]
    constructor
    · rintro (hD | ⟨j, hj⟩)
      · exact hD
      · obtain ⟨k, h1, h2, -⟩ := (h.busy j).mp ⟨n, hj⟩; omega
    · exact .inl
  rw [e]
  exact h.acc r c

theorem finish_free (h : RingOK I H lo Fd g g D St X M G) (j : Fin 16) : St j = none := by
  cases hs : St j with
  | none => rfl
  | some n => obtain ⟨k, h1, h2, -⟩ := (h.busy j).mp ⟨n, hs⟩; omega

end RingOK

end Cert.Pillar
-- ==== Proof.Cells.lean ====
/- Words of scalar memory, loaded and stored at a known place. -/
module

public import proofs.«01_k».proof.Proof.Row

@[expose] public section

noncomputable section

namespace Cert.Pillar

open Idealize.ShloMosaic Idealize.ShloMosaic.Transfers
open Idealize.SL
open Idealize.SL.BI (sProp bigSep bigSep_univ_update bigSep_univ_at)
open scoped Idealize.SL.BI
open Idealize.SL.BI.BIBase Idealize.SL.BI.Laws Idealize.SL.Sem Idealize.SL.ProofMode
open Idealize.SL.RA Cert.KernelIdeal Cert.KernelIdeal.Gen

variable {F : FTy → Type} [FloatOps F]

section Cells

variable {nD : Nat} {τ : Topo} {sig : RefSig} {Ix : Type} [DecidableEq Ix] {Val : EltTy → Type} {Name : Type} [DecidableEq Name]
variable {U : Type} [URA U] {Lvl : Type} [Preorder Lvl]
variable {Λ : Labels} {defs : Defs nD τ sig Val Λ} (𝒱 : Variants) (c : Thread nD τ) (bd : Option 𝒱.V)

local notation "𝕄" => MT nD τ sig Ix Val Name U Lvl

variable {s : Shape} {e : EltTy}

/-- The word at `y0` of scalar memory. -/
theorem own_cellLoad {m : Memref sig c.2.kind .smem s e} {r : Rect s} {h1 : r.shape.numel = 1} {hp : e.packing = 1} {q : PosShare TreeShare}
    (y0 : s.Idx) (he : ∀ y, r.emb y = y0) {X : s.Idx → Val e} {Q : Val e → sProp 𝕄} :
    (owns c m q X : sProp 𝕄) ⊢ iprop((owns c m q X -∗ Q (X y0)) -∗ wp frame (wpE defs 𝒱 c bd) Set.univ (smemLoad m r h1 hp) Q) := by
  iintro H HQ
  iapply (own_smemLoad 𝒱 c bd) $$ H
  iintro H
  rw [he]
  iapply HQ
  iexact H

/-- A store of the word at `y0`. -/
theorem own_cellStore {cs : CoreSpace} {m : Memref sig c.2.kind cs s e} {r : Rect s} {w : r.shape.Idx → Val e} {hx : (m.access r).Stores Finset.univ}
    {hm : Finset.univ = Finset.univ ∨ ∀ a, r.stride a = 1} (y0 : s.Idx) (he : ∀ y, r.emb y = y0) (y1 : r.shape.Idx)
    {X : s.Idx → Val e} {Q : PUnit → sProp 𝕄} :
    (owns c m fullShare X : sProp 𝕄) ⊢ iprop((∀ X' : s.Idx → Val e, ⌜X' y0 = w y1 ∧ ∀ y, y ≠ y0 → X' y = X y⌝ -∗ owns c m fullShare X' -∗ Q ⟨⟩)
      -∗ wp frame (wpE defs 𝒱 c bd) Set.univ (Prog.lift (.store m r w Finset.univ hx hm)) Q) := by
  iintro H HQ
  iapply (own_store 𝒱 c bd) $$ H
  iintro %X' %hX H
  iapply HQ $$ %X' [] H
  ipureintro
  exact ⟨by rw [← he y1]; exact hX.1 y1, fun y hy => hX.2 y fun j hj => hy (hj.symm.trans (he j))⟩

end Cells

theorem emb16 {off : Fin 1 → ℕ} (h : ∀ a, off a + S1.size a ≤ S16.size a) (j : Fin 16) (e : off = ![j.val]) (y : (Rect.unit (s := S16) off S1.size h).shape.Idx) :
    (Rect.unit (s := S16) off S1.size h).emb y = ix1 j := by
  subst e
  funext a; apply Fin.ext; rw [emb_unit_val]
  fin_cases a
  have h0 : (y 0).val < 1 := (y 0).isLt
  show j.val + (y 0).val = j.val
  omega

theorem emb2 {off : Fin 1 → ℕ} (h : ∀ a, off a + S1.size a ≤ S2.size a) (j : Fin 2) (e : off = ![j.val]) (y : (Rect.unit (s := S2) off S1.size h).shape.Idx) :
    (Rect.unit (s := S2) off S1.size h).emb y = ix1 j := by
  subst e
  funext a; apply Fin.ext; rw [emb_unit_val]
  fin_cases a
  have h0 : (y 0).val < 1 := (y 0).isLt
  show j.val + (y 0).val = j.val
  omega

end Cert.Pillar
-- ==== Proof.Slots.lean ====
/- The ring's resources on the tile, and one drain. -/
module

public import proofs.«01_k».proof.Proof.Ring
public import proofs.«01_k».proof.Proof.Cells

@[expose] public section

noncomputable section

namespace Cert.Pillar

open Idealize.ShloMosaic Idealize.ShloMosaic.Transfers
open Idealize.SL
open Idealize.SL.BI (sProp bigSep bigSep_univ_update bigSep_univ_at)
open scoped Idealize.SL.BI
open Idealize.SL.BI.BIBase Idealize.SL.BI.Laws Idealize.SL.Sem Idealize.SL.ProofMode
open Idealize.SL.RA Cert.KernelIdeal Cert.KernelIdeal.Gen

variable {F : FTy → Type} [FloatOps F]

section Body

variable {Ix : Type} [DecidableEq Ix] {Name : Type} [DecidableEq Name] [Infinite Name] {U : Type} [URA U] {Lvl : Type} [Preorder Lvl]
variable {defs : Defs nD τ sig (Elt F) Λ₀} (𝒱 : Variants) (d : Fin nD) (i : grid1.Coords) (bd : Option 𝒱.V)

local notation "𝕄" => MT nD τ sig Ix (Elt F) Name U Lvl

variable (arg3 : Memref sig .scVector .hbm S200704x256 .f32) (arg8 : Memref sig .scVector .vmem S16x1x256 .f32)
  (arg9 : Memref sig .scVector .vmem S256x256 .f32) (arg10 : Memref sig .scVector .smem S16 .i32) (arg11 : Memref sig .scVector .smem S2 .i32)
  (arg14 : DmaSems sig S16)

theorem sem_inb (j : Fin 16) : ∀ a, ![j.val] a + S1.size a ≤ S16.size a := by
  intro a; fin_cases a; show j.val + 1 ≤ 16; omega

/-- The semaphore of slot `j`. -/
abbrev semG (j : Fin 16) : DmaSem sig := ((arg14.slice (Rect.unit (s := S16) ![j.val] S1.size (sem_inb j))).squeeze S_ squeezes_S1_S_).sem

variable (EC : UEmb Counters (MT nD τ sig Ix (Elt F) Name U Lvl)) (ι : Ix) (H : S200704x256.Idx → F .f32)

/-- A free slot: its window, its semaphore at zero, and a read share of the rows. -/
def freeSlot (j : Fin 16) : sProp 𝕄 :=
  iprop(∃ Y : S1x256.Idx → F .f32, ∃ q : PosShare TreeShare, owns (tile d i) (slotM arg8 j) fullShare Y
    ∗ semVal (tile d i, SemLoc.dma (semG arg14 j)) 0 ∗ owns (tile d i) arg3 q H)

/-- A slot with point `n`'s row in flight into it. -/
def busySlot (j : Fin 16) (n : Fin 200704) : sProp 𝕄 :=
  iprop(∃ S : sProp 𝕄, Flight EC (tile d i) (SemLoc.dma (semG arg14 j)) ι (slotM arg8 j).view.dmaCredit
    iprop(owns (tile d i) (slotM arg8 j) fullShare (fun k : S1x256.Idx => H (ix2 n (k 1))) ∗ S)
      ∗ (S -∗ ∃ q : PosShare TreeShare, owns (tile d i) arg3 q H))

/-- A slot's resources. -/
def slotRes (j : Fin 16) (o : Option (Fin 200704)) : sProp 𝕄 :=
  match o with
  | none => freeSlot d i arg3 arg8 arg14 H j
  | some n => busySlot d i arg3 arg8 arg14 EC ι H j n

theorem slotRes_some (j : Fin 16) (n : Fin 200704) : (slotRes d i arg3 arg8 arg14 EC ι H j (some n) : sProp 𝕄)
    ⊢ iprop(∃ S : sProp 𝕄, Flight EC (tile d i) (SemLoc.dma (semG arg14 j)) ι (slotM arg8 j).view.dmaCredit
      iprop(owns (tile d i) (slotM arg8 j) fullShare (fun k : S1x256.Idx => H (ix2 n (k 1))) ∗ S)
        ∗ (S -∗ ∃ q : PosShare TreeShare, owns (tile d i) arg3 q H)) := by
  unfold slotRes busySlot
  iintro H
  iexact H

theorem slotRes_some' (j : Fin 16) (n : Fin 200704) :
    iprop(∃ S : sProp 𝕄, Flight EC (tile d i) (SemLoc.dma (semG arg14 j)) ι (slotM arg8 j).view.dmaCredit
      iprop(owns (tile d i) (slotM arg8 j) fullShare (fun k : S1x256.Idx => H (ix2 n (k 1))) ∗ S)
        ∗ (S -∗ ∃ q : PosShare TreeShare, owns (tile d i) arg3 q H)) ⊢ (slotRes d i arg3 arg8 arg14 EC ι H j (some n) : sProp 𝕄) := by
  unfold slotRes busySlot
  iintro H
  iexact H

theorem slotRes_none (j : Fin 16) : (slotRes d i arg3 arg8 arg14 EC ι H j none : sProp 𝕄)
    ⊢ iprop(∃ Y : S1x256.Idx → F .f32, ∃ q : PosShare TreeShare, owns (tile d i) (slotM arg8 j) fullShare Y
      ∗ semVal (tile d i, SemLoc.dma (semG arg14 j)) 0 ∗ owns (tile d i) arg3 q H) := by
  unfold slotRes freeSlot
  iintro H
  iexact H

variable (O : Debt nD τ sig Ix) (I : S200704.Idx → BitVec 32) (lo : ℕ)

/-- The ring with `g` copies fired and `e` drained. -/
def ringAt (Fd : Finset (Fin 200704)) (g e : ℕ) : sProp 𝕄 :=
  iprop(∃ D St X M G W, ⌜RingOK I H lo Fd g e D St X M G⌝ ∗ owns (tile d i) arg9 fullShare X ∗ owns (tile d i) arg10 fullShare M
    ∗ owns (tile d i) arg11 fullShare G ∗ bigSep Finset.univ (fun j => slotRes d i arg3 arg8 arg14 EC ι H j (St j)) ∗ owing (tile d i) ι O W)

/-- One drain, over the offsets and side conditions its copy in the program has, and then the rest. -/
def drainG (A B : BitVec 32 → Prop) (dA : ∀ v, Decidable (A v)) (dB : ∀ v, Decidable (B v)) (L : Scf.Loop 32) (hL : L.OK)
    (o10 : BitVec 32 → Fin 3 → ℕ) (i10 : ∀ v, A v → ∀ a, o10 v a + S1x1x256.size a ≤ S16x1x256.size a)
    (o11 : BitVec 32 → Fin 1 → ℕ) (i11 : ∀ v, A v → ∀ a, o11 v a + S1.size a ≤ S16.size a)
    (o12 : BitVec 32 → Fin 1 → ℕ) (i12 : ∀ v, A v → ∀ a, o12 v a + S1.size a ≤ S16.size a)
    (o13 : BitVec 32 → Fin L.trips → Fin 2 → ℕ) (i13 : ∀ v, B v → ∀ t a, o13 v t a + S1x16.size a ≤ S256x256.size a)
    (o14 : BitVec 32 → Fin L.trips → Fin 3 → ℕ) (i14 : ∀ v, A v → ∀ t a, o14 v t a + S1x1x16.size a ≤ S16x1x256.size a)
    {α : Type} (rest : Prog (TpuEff nD τ sig (Elt F) Λ₀ (.scVector ((i 0).castLE hcore1) ((i 1).castLE hsub1))) α) :
    Prog (TpuEff nD τ sig (Elt F) Λ₀ (.scVector ((i 0).castLE hcore1) ((i 1).castLE hsub1))) α := do
  let v : Elt F .i32 ← smemLoad arg11 (Rect.unit (s := S2) ![1] S1.size inb_S2_S1_1) numel1_S1 rfl
  have hA : A v := (← Prog.lift (TpuEff.assume (A v) (dA v))).down
  Prog.lift (.waitDma2 ((arg14.slice (Rect.unit (s := S16) (o11 v) S1.size (i11 v hA))).squeeze S_ squeezes_S1_S_).sem
    (arg3.slice (Rect.unit (s := S200704x256) ![0, 0] S1x256.size inb_S200704x256_S1x256_0_0) (fun _ => rfl))
    ((arg8.slice (Rect.unit (s := S16x1x256) (o10 v) S1x1x256.size (i10 v hA)) (fun _ => rfl)).squeeze S1x256 squeezes_S1x1x256_S1x256)
    (View.wordExact_bits rfl) ((View.wordExact_bits rfl).reshape _ _))
  let w : Elt F .i32 ← smemLoad arg10 (Rect.unit (s := S16) (o12 v) S1.size (i12 v hA)) numel1_S1 rfl
  have hB : B w := (← Prog.lift (TpuEff.assume (B w) (dB w))).down
  let _ : BitVec 32 ← Scf.Loop.for L hL 0#32 fun t _ => do
    let x : Vec F S1x16 .f32 ← Prog.lift (.load arg9 (Rect.unit (s := S256x256) (o13 w t) S1x16.size (i13 w hB t)).toLoadRect (View.loadsAt_vmem h_S1x16))
    let u : Vec F S1x1x16 .f32 ← Prog.lift (.load arg8 (Rect.unit (s := S16x1x256) (o14 v t) S1x1x16.size (i14 v hA t)).toLoadRect (View.loadsAt_vmem h_S1x1x16))
    let _x : Vec F S1x16 .f32 ← Prog.lift (.load arg9 (Rect.unit (s := S256x256) (o13 w t) S1x16.size (i13 w hB t)).toLoadRect (View.loadsAt_vmem h_S1x16))
    Prog.lift (.store arg9 (Rect.unit (s := S256x256) (o13 w t) S1x16.size (i13 w hB t)) (k1_pay2 x u) Finset.univ (View.stores_vmem_bits_univ h_S1x16 rfl) (.inl rfl))
    pure 0#32
  let _v : Elt F .i32 ← smemLoad arg11 (Rect.unit (s := S2) ![1] S1.size inb_S2_S1_1) numel1_S1 rfl
  Prog.lift (.store arg11 (Rect.unit (s := S2) ![1] S1.size inb_S2_S1_1) (fun _ => Scalar.addi v 1#32) Finset.univ (View.stores_smem_one rfl numel1_S1) (.inl rfl))
  rest

theorem drain_wp [EC.LandsIn (upEmb : UEmb _ 𝕄)] {A B : BitVec 32 → Prop} {dA : ∀ v, Decidable (A v)} {dB : ∀ v, Decidable (B v)} {L : Scf.Loop 32} {hL : L.OK}
    {o10 : BitVec 32 → Fin 3 → ℕ} {i10 : ∀ v, A v → ∀ a, o10 v a + S1x1x256.size a ≤ S16x1x256.size a}
    {o11 : BitVec 32 → Fin 1 → ℕ} {i11 : ∀ v, A v → ∀ a, o11 v a + S1.size a ≤ S16.size a}
    {o12 : BitVec 32 → Fin 1 → ℕ} {i12 : ∀ v, A v → ∀ a, o12 v a + S1.size a ≤ S16.size a}
    {o13 : BitVec 32 → Fin L.trips → Fin 2 → ℕ} {i13 : ∀ v, B v → ∀ t a, o13 v t a + S1x16.size a ≤ S256x256.size a}
    {o14 : BitVec 32 → Fin L.trips → Fin 3 → ℕ} {i14 : ∀ v, A v → ∀ t a, o14 v t a + S1x1x16.size a ≤ S16x1x256.size a}
    (hT : L.trips = 16) (hA : ∀ n, n < 2 ^ 31 → A (BitVec.ofNat 32 n)) (hB : ∀ r : Fin 256, B (BitVec.ofNat 32 r.val))
    (h10 : ∀ n, n < 2 ^ 31 → o10 (BitVec.ofNat 32 n) = ![n % 16, 0, 0]) (h11 : ∀ n, n < 2 ^ 31 → o11 (BitVec.ofNat 32 n) = ![n % 16])
    (h12 : ∀ n, n < 2 ^ 31 → o12 (BitVec.ofNat 32 n) = ![n % 16])
    (h13 : ∀ (n : ℕ) (t : Fin L.trips), n < 2 ^ 31 → o13 (BitVec.ofNat 32 n) t = ![n, 16 * t.val])
    (h14 : ∀ (n : ℕ) (t : Fin L.trips), n < 2 ^ 31 → o14 (BitVec.ofNat 32 n) t = ![n % 16, 0, 16 * t.val])
    (Fd : Finset (Fin 200704)) (g e : ℕ) (hlt : e < g) {α : Type}
    {rest : Prog (TpuEff nD τ sig (Elt F) Λ₀ (.scVector ((i 0).castLE hcore1) ((i 1).castLE hsub1))) α} {Q : α → sProp 𝕄} :
    iprop(ringAt d i arg3 arg8 arg9 arg10 arg11 arg14 EC ι H O I lo Fd g e ∗ MayWaits (tile d i) ι O.t)
      ⊢ iprop((ringAt d i arg3 arg8 arg9 arg10 arg11 arg14 EC ι H O I lo Fd g (e + 1) -∗ wp frame (wpE defs 𝒱 (tile d i) bd) Set.univ rest Q)
        -∗ wp frame (wpE defs 𝒱 (tile d i) bd) Set.univ (drainG i arg3 arg8 arg9 arg10 arg11 arg14 A B dA dB L hL o10 i10 o11 i11 o12 i12 o13 i13 o14 i14 rest) Q) := by
  conv => lhs; unfold ringAt
  iintro ⟨⟨%D, %St, %X, %M, %G, %W, %ok, H9, H10, H11, HS, HO⟩, Hm⟩ HQ
  have hb := ok.bound
  have he31 : e < 2 ^ 31 := by omega
  obtain ⟨n, hn⟩ := ok.next hlt
  obtain ⟨⟨hit1, hit2⟩, hM⟩ := ok.row _ _ hn
  unfold drainG
  rw [wp_bind]
  iapply (own_cellLoad 𝒱 (tile d i) bd (ix1 (1 : Fin 2)) (emb2 _ 1 rfl)) $$ H11
  iintro H11
  rw [ok.drained, wp_bind]
  iapply (own_assume 𝒱 (tile d i) bd (hA e he31))
  rw [wp_bind]
  ihave HS' := (bigSep_univ_update (Φ := fun j => slotRes d i arg3 arg8 arg14 EC ι H j (St j))
    (Ψ := fun j => slotRes d i arg3 arg8 arg14 EC ι H j (Function.update St ⟨e % 16, Nat.mod_lt _ (by omega)⟩ none j))
    ⟨e % 16, Nat.mod_lt _ (by omega)⟩ (fun j hj => by rw [Function.update_of_ne hj])) $$ HS
  icases HS' with ⟨Hj, HS⟩
  rw [hn, Function.update_self]
  ihave Hj := (slotRes_some d i arg3 arg8 arg14 EC ι H _ n) $$ Hj
  icases Hj with ⟨%S, HF, Hback⟩
  iapply (own_wait 𝒱 (tile d i) bd EC ι (congrArg (fun a => (SemArray.squeeze a S_ squeezes_S1_S_).sem) (SemArray.slice_unit_congr arg14 (h11 e he31) _ (sem_inb ⟨e % 16, Nat.mod_lt _ (by omega)⟩)))
    (congrArg (fun a => (Memref.squeeze a S1x256 squeezes_S1x1x256_S1x256).view.dmaCredit) (Memref.slice_unit_congr arg8 (h10 e he31) _ (slot_inb ⟨e % 16, Nat.mod_lt _ (by omega)⟩) _ _))) $$ [HF HO Hm]
  · isplitl [HF]; · iexact HF
    isplitl [HO]; · iexact HO
    iexact Hm
  iintro ⟨⟨Hslot, HSS⟩, Hv, HO⟩
  ihave Hq := Hback $$ HSS
  icases Hq with ⟨%q, H3⟩
  rw [wp_bind]
  iapply (own_cellLoad 𝒱 (tile d i) bd (ix1 ⟨e % 16, Nat.mod_lt _ (by omega)⟩) (emb16 _ ⟨e % 16, Nat.mod_lt _ (by omega)⟩ (h12 e he31))) $$ H10
  iintro H10
  rw [hM, wp_bind]
  have hr : (I (ix1 n)).toNat - lo < 256 := by omega
  iapply (own_assume 𝒱 (tile d i) bd (hB ⟨(I (ix1 n)).toNat - lo, hr⟩))
  ihave HL : iprop(owns (tile d i) arg9 fullShare (rowMax ⟨(I (ix1 n)).toNat - lo, hr⟩ (fun k : S1x256.Idx => H (ix2 n (k 1))) X 0)
    ∗ owns (tile d i) (slotM arg8 ⟨e % 16, Nat.mod_lt _ (by omega)⟩) fullShare (fun k : S1x256.Idx => H (ix2 n (k 1)))) $$ [H9 Hslot]
  · rw [rowMax_zero]
    isplitl [H9] <;> iassumption
  iapply (Scf.wp_for_bind frame (wpE defs 𝒱 (tile d i) bd) Set.univ _ _ _ hL _ _
    (fun k _ => iprop(owns (tile d i) arg9 fullShare (rowMax ⟨(I (ix1 n)).toNat - lo, hr⟩ (fun k : S1x256.Idx => H (ix2 n (k 1))) X k)
      ∗ owns (tile d i) (slotM arg8 ⟨e % 16, Nat.mod_lt _ (by omega)⟩) fullShare (fun k : S1x256.Idx => H (ix2 n (k 1)))))
    (fun k acc => by
      iintro HI
      iapply (row_trip 𝒱 d i bd arg8 arg9 ⟨(I (ix1 n)).toNat - lo, hr⟩ ⟨e % 16, Nat.mod_lt _ (by omega)⟩ _ X k.val (by have := k.isLt; have : k.val < L.trips := this; omega)
        _ _ (h13 _ k (by omega)) (h14 e k he31)) $$ HI
      iintro HI
      iexact HI)) $$ HL
  iintro %acc HL
  rw [show Scf.trips L.lb L.ub L.st = 16 from hT, rowMax_all]
  icases HL with ⟨H9, Hslot⟩
  rw [wp_bind]
  iapply (own_cellLoad 𝒱 (tile d i) bd (ix1 (1 : Fin 2)) (emb2 _ 1 rfl)) $$ H11
  iintro H11
  rw [wp_bind]
  iapply (own_cellStore 𝒱 (tile d i) bd (ix1 (1 : Fin 2)) (emb2 _ 1 rfl) (ix1 (0 : Fin 1))) $$ H11
  iintro %G' %hG H11
  iapply HQ
  unfold ringAt
  have ok' := ok.drain hlt hn (r := ⟨(I (ix1 n)).toNat - lo, hr⟩) (by show _ = lo + ((I (ix1 n)).toNat - lo); omega) (rfl)
    (hG.2 (ix1 0) (by intro h; exact absurd (congrFun h 0) (by decide))) (hG.1.trans (addi_one (by omega)))
  iexists _, _, _, M, G', _
  isplitr; · ipureintro; exact ok'
  isplitl [H9]; · iexact H9
  isplitl [H10]; · iexact H10
  isplitl [H11]; · iexact H11
  isplitl [HS Hslot Hv H3]
  · iapply HS
    unfold slotRes freeSlot
    iexists _, q
    isplitl [Hslot]; · iexact Hslot
    isplitl [Hv] <;> iassumption
  iexact HO

end Body

end Cert.Pillar
-- ==== Proof.Lanes.lean ====
/- The sixteen-lane scans of the scatter body: the smallest lane, the smallest key, and the number of lanes that
   hold. -/
module

public import proofs.«01_k».proof.Proof.Gen.KernelIdeal.Skeleton
public import Idealize.ShloMosaic.Lib.Pointwise.Index
public import Idealize.ShloMosaic.Lib.Pipeline.Value

@[expose] public section

noncomputable section

namespace Cert.Pillar

open Idealize.ShloMosaic Idealize.SL.Sem Cert.KernelIdeal Cert.KernelIdeal.Gen

/-- A two-piece vector at a lane of its first piece, that piece a slice of `w` at `d`. -/
theorem cat_left {n1 n2 d : ℕ} (w : IVec S16 32) (y : (⟨1, ![n2]⟩ : Shape).Idx → BitVec 32) (hs : S16.Slices ![d] ⟨1, ![n1]⟩)
    (hc : Shape.Concatenates [(⟨1, ![n1]⟩ : Shape), ⟨1, ![n2]⟩] S16 0) (k l : Fin 16) (hk : k.val < n1) (hl : l.val = d + k.val) :
    concatenate S16 0 [⟨⟨1, ![n1]⟩, extractStridedSlice ⟨1, ![n1]⟩ ![d] w hs⟩, ⟨⟨1, ![n2]⟩, y⟩] hc (ix1 k) = w (ix1 l) := by
  rw [concatenate_pair_apply_left (s₁ := ⟨1, ![n1]⟩) (s₂ := ⟨1, ![n2]⟩) (t := S16) 0 _ y hc (ix1 k) rfl (ix1 ⟨k.val, hk⟩) (fun b => by fin_cases b; rfl)]
  unfold extractStridedSlice
  congr 1
  funext a
  fin_cases a
  exact Fin.ext hl.symm

/-- A two-piece vector at a lane of its second piece, that piece the first lanes of `w`. -/
theorem cat_right {n1 n2 : ℕ} (w : IVec S16 32) (y : (⟨1, ![n1]⟩ : Shape).Idx → BitVec 32) (hs : S16.Slices ![0] ⟨1, ![n2]⟩)
    (hc : Shape.Concatenates [(⟨1, ![n1]⟩ : Shape), ⟨1, ![n2]⟩] S16 0) (k l : Fin 16) (hk : k.val = l.val + n1) (hl : l.val < n2) :
    concatenate S16 0 [⟨⟨1, ![n1]⟩, y⟩, ⟨⟨1, ![n2]⟩, extractStridedSlice ⟨1, ![n2]⟩ ![0] w hs⟩] hc (ix1 k) = w (ix1 l) := by
  rw [concatenate_pair_apply_right (s₁ := ⟨1, ![n1]⟩) (s₂ := ⟨1, ![n2]⟩) (t := S16) 0 y _ hc (ix1 k) rfl rfl (ix1 ⟨l.val, hl⟩)
    (fun b hb => by fin_cases b; exact absurd rfl hb) (by show l.val + n1 = k.val; omega)]
  unfold extractStridedSlice
  congr 1
  funext a
  fin_cases a
  exact Fin.ext (by show 0 + l.val = l.val; omega)

/-- One step of the halving scan: the words and the words `d` lanes on. -/
theorem minsi_at {w u : IVec S16 32} {k l : Fin 16} (h : u (ix1 k) = w (ix1 l)) :
    minsi w u (ix1 k) = IntOp.minsi (w (ix1 k)) (w (ix1 l)) := by
  show IntOp.minsi (w (ix1 k)) (u (ix1 k)) = _
  rw [h]

/-- The halving scan of sixteen words, as the tree it is. -/
def minTree (w : IVec S16 32) : BitVec 32 :=
  let p (k : Fin 16) (l : Fin 16) := IntOp.minsi (w (ix1 k)) (w (ix1 l))
  let q (a b c d : Fin 16) := IntOp.minsi (p a b) (p c d)
  IntOp.minsi (IntOp.minsi (q 0 1 2 3) (q 4 5 6 7)) (IntOp.minsi (q 8 9 10 11) (q 12 13 14 15))

/-- Lane 0 of four halving steps is the tree. -/
theorem scan_tree (w u1 w1 u2 w2 u3 w3 u4 : IVec S16 32)
    (h1 : ∀ k l : Fin 16, k.val < 15 → l.val = 1 + k.val → u1 (ix1 k) = w (ix1 l)) (e1 : w1 = minsi w u1)
    (h2 : ∀ k l : Fin 16, k.val < 14 → l.val = 2 + k.val → u2 (ix1 k) = w1 (ix1 l)) (e2 : w2 = minsi w1 u2)
    (h3 : ∀ k l : Fin 16, k.val < 12 → l.val = 4 + k.val → u3 (ix1 k) = w2 (ix1 l)) (e3 : w3 = minsi w2 u3)
    (h4 : ∀ k l : Fin 16, k.val < 8 → l.val = 8 + k.val → u4 (ix1 k) = w3 (ix1 l)) :
    minsi w3 u4 (ix1 0) = minTree w := by
  rw [minsi_at (h4 0 8 (by decide) rfl), e3, minsi_at (h3 0 4 (by decide) rfl), minsi_at (h3 8 12 (by decide) rfl), e2,
    minsi_at (h2 0 2 (by decide) rfl), minsi_at (h2 4 6 (by decide) rfl), minsi_at (h2 8 10 (by decide) rfl), minsi_at (h2 12 14 (by decide) rfl), e1,
    minsi_at (h1 0 1 (by decide) rfl), minsi_at (h1 2 3 (by decide) rfl), minsi_at (h1 4 5 (by decide) rfl), minsi_at (h1 6 7 (by decide) rfl),
    minsi_at (h1 8 9 (by decide) rfl), minsi_at (h1 10 11 (by decide) rfl), minsi_at (h1 12 13 (by decide) rfl), minsi_at (h1 14 15 (by decide) rfl)]
  rfl

theorem pos0_ix1 (x : IVec S16 32) (h) (hp) : extractAt ![0] (extractStridedSlice S1 ![0] x h) hp = x (ix1 (0 : Fin 16)) := by
  unfold extractAt extractStridedSlice
  congr 1
  funext a; fin_cases a; rfl

theorem pos15_ix1 (x : IVec S16 32) (h) (hp) : extractAt ![0] (extractStridedSlice S1 ![15] x h) hp = x (ix1 (15 : Fin 16)) := by
  unfold extractAt extractStridedSlice
  congr 1
  funext a; fin_cases a; rfl

/-- The smallest lane that holds: the scan over lane numbers, 99 where a lane does not hold. -/
theorem pay7_tree (v2 arg22 : IVec S16 32) : extractAt ![0] (k1_pay7 v2 arg22) inpos_S1_p0
    = minTree (select (cmpi .sgt arg22 (broadcast S16 0#32)) v2 (broadcast S16 99#32)) := by
  unfold k1_pay7
  rw [pos0_ix1]
  exact scan_tree _ _ _ _ _ _ _ _ (fun k l hk hl => cat_left _ _ _ _ k l hk hl) rfl (fun k l hk hl => cat_left _ _ _ _ k l hk hl) rfl
    (fun k l hk hl => cat_left _ _ _ _ k l hk hl) rfl (fun k l hk hl => cat_left _ _ _ _ k l hk hl)

/-- The smallest key of the lanes that hold: the scan over the keys, 99999 where a lane does not hold. -/
theorem pay1_tree (v2 : IVec S16 32) (v7 : BitVec 32) (v195 arg24 : IVec S16 32) : extractAt ![0] (k1_pay1 v2 v7 v195 arg24) inpos_S1_p0
    = minTree (select (cmpi .sgt arg24 (broadcast S16 0#32))
        (addi (muli (subi v195 (broadcast S16 v7)) (broadcast S16 16#32)) v2) (broadcast S16 99999#32)) := by
  unfold k1_pay1
  rw [pos0_ix1]
  exact scan_tree _ _ _ _ _ _ _ _ (fun k l hk hl => cat_left _ _ _ _ k l hk hl) rfl (fun k l hk hl => cat_left _ _ _ _ k l hk hl) rfl
    (fun k l hk hl => cat_left _ _ _ _ k l hk hl) rfl (fun k l hk hl => cat_left _ _ _ _ k l hk hl)

theorem minsi_toInt (x y : BitVec 32) : (IntOp.minsi x y).toInt = min x.toInt y.toInt := by
  unfold IntOp.minsi
  split
  · rename_i h; rw [BitVec.slt_iff_toInt_lt] at h; omega
  · rename_i h; rw [BitVec.slt_iff_toInt_lt] at h; omega

/-- The tree is below every lane. -/
theorem minTree_le (w : IVec S16 32) (k : Fin 16) : (minTree w).toInt ≤ (w (ix1 k)).toInt := by
  have hl {x y : BitVec 32} {z : ℤ} (h : x.toInt ≤ z ∨ y.toInt ≤ z) : (IntOp.minsi x y).toInt ≤ z := by rw [minsi_toInt]; omega
  have hq (a b c d : Fin 16) (h : k = a ∨ k = b ∨ k = c ∨ k = d) :
      (IntOp.minsi (IntOp.minsi (w (ix1 a)) (w (ix1 b))) (IntOp.minsi (w (ix1 c)) (w (ix1 d)))).toInt ≤ (w (ix1 k)).toInt := by
    rcases h with rfl | rfl | rfl | rfl
    · exact hl (.inl (hl (.inl le_rfl)))
    · exact hl (.inl (hl (.inr le_rfl)))
    · exact hl (.inr (hl (.inl le_rfl)))
    · exact hl (.inr (hl (.inr le_rfl)))
  have hc : ((k = 0 ∨ k = 1 ∨ k = 2 ∨ k = 3) ∨ (k = 4 ∨ k = 5 ∨ k = 6 ∨ k = 7))
      ∨ ((k = 8 ∨ k = 9 ∨ k = 10 ∨ k = 11) ∨ (k = 12 ∨ k = 13 ∨ k = 14 ∨ k = 15)) := by omega
  unfold minTree
  rcases hc with (h | h) | (h | h)
  · exact hl (.inl (hl (.inl (hq _ _ _ _ h))))
  · exact hl (.inl (hl (.inr (hq _ _ _ _ h))))
  · exact hl (.inr (hl (.inl (hq _ _ _ _ h))))
  · exact hl (.inr (hl (.inr (hq _ _ _ _ h))))

/-- The tree is one of the lanes. -/
theorem minTree_mem (w : IVec S16 32) : ∃ k : Fin 16, minTree w = w (ix1 k) := by
  have h2 {x y : BitVec 32} (hx : ∃ l : Fin 16, x = w (ix1 l)) (hy : ∃ l : Fin 16, y = w (ix1 l)) : ∃ l : Fin 16, IntOp.minsi x y = w (ix1 l) := by
    unfold IntOp.minsi; split <;> assumption
  have hk (k : Fin 16) : ∃ l : Fin 16, w (ix1 k) = w (ix1 l) := ⟨k, rfl⟩
  have hq (a b c d : Fin 16) : ∃ l : Fin 16, IntOp.minsi (IntOp.minsi (w (ix1 a)) (w (ix1 b))) (IntOp.minsi (w (ix1 c)) (w (ix1 d))) = w (ix1 l) :=
    h2 (h2 (hk a) (hk b)) (h2 (hk c) (hk d))
  unfold minTree
  exact h2 (h2 (hq _ _ _ _) (hq _ _ _ _)) (h2 (hq _ _ _ _) (hq _ _ _ _))

/-- The sixteen words added, as the doubling scan adds them. -/
def sumTree (w : IVec S16 32) : BitVec 32 :=
  let p (k : Fin 16) (l : Fin 16) := w (ix1 k) + w (ix1 l)
  let q (a b c d : Fin 16) := p a b + p c d
  (q 15 14 13 12 + q 11 10 9 8) + (q 7 6 5 4 + q 3 2 1 0)

/-- One step of the doubling scan at a lane past the shift: the word and the word `d` lanes back. -/
theorem step_at {v2 w u m : IVec S16 32} {k l : Fin 16} (d : BitVec 32) (h : u (ix1 k) = w (ix1 l)) (hd : IntOp.cmpi .sge (v2 (ix1 k)) d = 1#1)
    (hm : m = select (cmpi .sge v2 (broadcast S16 d)) (broadcast S16 1#32) (broadcast S16 0#32)) :
    addi w (muli u m) (ix1 k) = w (ix1 k) + w (ix1 l) := by
  subst hm
  show w (ix1 k) + u (ix1 k) * (Scalar.select (IntOp.cmpi .sge (v2 (ix1 k)) d) 1#32 0#32) = _
  rw [h, hd]
  simp [Scalar.select]

/-- Lane 15 of four doubling steps is the sum. -/
theorem scan_sum (v2 w u1 w1 u2 w2 u3 w3 u4 m1 m2 m3 m4 : IVec S16 32) (hv : ∀ k : Fin 16, v2 (ix1 k) = BitVec.ofNat 32 k.val)
    (hm1 : m1 = select (cmpi .sge v2 (broadcast S16 1#32)) (broadcast S16 1#32) (broadcast S16 0#32))
    (hm2 : m2 = select (cmpi .sge v2 (broadcast S16 2#32)) (broadcast S16 1#32) (broadcast S16 0#32))
    (hm3 : m3 = select (cmpi .sge v2 (broadcast S16 4#32)) (broadcast S16 1#32) (broadcast S16 0#32))
    (hm4 : m4 = select (cmpi .sge v2 (broadcast S16 8#32)) (broadcast S16 1#32) (broadcast S16 0#32))
    (h1 : ∀ k l : Fin 16, k.val = l.val + 1 → l.val < 15 → u1 (ix1 k) = w (ix1 l)) (e1 : w1 = addi w (muli u1 m1))
    (h2 : ∀ k l : Fin 16, k.val = l.val + 2 → l.val < 14 → u2 (ix1 k) = w1 (ix1 l)) (e2 : w2 = addi w1 (muli u2 m2))
    (h3 : ∀ k l : Fin 16, k.val = l.val + 4 → l.val < 12 → u3 (ix1 k) = w2 (ix1 l)) (e3 : w3 = addi w2 (muli u3 m3))
    (h4 : ∀ k l : Fin 16, k.val = l.val + 8 → l.val < 8 → u4 (ix1 k) = w3 (ix1 l)) :
    addi w3 (muli u4 m4) (ix1 15) = sumTree w := by
  have g (k : Fin 16) (d : BitVec 32) (hd : IntOp.cmpi .sge (BitVec.ofNat 32 k.val) d = 1#1) : IntOp.cmpi .sge (v2 (ix1 k)) d = 1#1 := by
    rw [hv]; exact hd
  rw [step_at 8#32 (h4 15 7 rfl (by decide)) (g _ _ (by decide)) hm4, e3,
    step_at 4#32 (h3 15 11 rfl (by decide)) (g _ _ (by decide)) hm3, step_at 4#32 (h3 7 3 rfl (by decide)) (g _ _ (by decide)) hm3, e2,
    step_at 2#32 (h2 15 13 rfl (by decide)) (g _ _ (by decide)) hm2, step_at 2#32 (h2 11 9 rfl (by decide)) (g _ _ (by decide)) hm2,
    step_at 2#32 (h2 7 5 rfl (by decide)) (g _ _ (by decide)) hm2, step_at 2#32 (h2 3 1 rfl (by decide)) (g _ _ (by decide)) hm2, e1,
    step_at 1#32 (h1 15 14 rfl (by decide)) (g _ _ (by decide)) hm1, step_at 1#32 (h1 13 12 rfl (by decide)) (g _ _ (by decide)) hm1,
    step_at 1#32 (h1 11 10 rfl (by decide)) (g _ _ (by decide)) hm1, step_at 1#32 (h1 9 8 rfl (by decide)) (g _ _ (by decide)) hm1,
    step_at 1#32 (h1 7 6 rfl (by decide)) (g _ _ (by decide)) hm1, step_at 1#32 (h1 5 4 rfl (by decide)) (g _ _ (by decide)) hm1,
    step_at 1#32 (h1 3 2 rfl (by decide)) (g _ _ (by decide)) hm1, step_at 1#32 (h1 1 0 rfl (by decide)) (g _ _ (by decide)) hm1]
  rfl

/-- Words that are one where a lane holds and zero elsewhere add up to the number of lanes that hold. -/
theorem sumTree_count (w : IVec S16 32) (p : Fin 16 → Bool) (hw : ∀ k, w (ix1 k) = if p k then 1#32 else 0#32) :
    sumTree w = BitVec.ofNat 32 (Finset.univ.filter fun k => p k = true).card := by
  have e : (Finset.univ.filter fun k => p k = true).card = ∑ k : Fin 16, if p k = true then 1 else 0 := Finset.card_filter _ _
  rw [e]
  have hw' (k) : w (ix1 k) = BitVec.ofNat 32 (if p k = true then 1 else 0) := by rw [hw]; split <;> rfl
  simp only [sumTree, hw', ← BitVec.ofNat_add]
  congr 1
  simp only [Fin.sum_univ_succ, Fin.sum_univ_zero]
  generalize hp : (fun k : Fin 16 => if p k = true then 1 else 0) = f
  have hf (k) : (if p k = true then 1 else 0) = f k := by rw [← hp]
  simp only [hf]
  show _ = f 0 + (f 1 + (f 2 + (f 3 + (f 4 + (f 5 + (f 6 + (f 7 + (f 8 + (f 9 + (f 10 + (f 11 + (f 12 + (f 13 + (f 14 + (f 15 + 0)))))))))))))))
  omega

theorem scalar_one_of_sgt (x : BitVec 32) : (IntOp.cmpi .sgt x 0#32 = 1#1) ↔ 0 < x.toInt := by
  have hb (b : Bool) : BitVec.ofBool b = 1#1 ↔ b = true := by cases b <;> decide
  refine (hb _).trans ?_
  rw [BitVec.slt_iff_toInt_lt]
  rfl

/-- The number of lanes of a vector that are positive. -/
theorem pay34_count {F : FTy → Type} [FloatOps F] (v2 : IVec S16 32) (hv : ∀ k : Fin 16, v2 (ix1 k) = BitVec.ofNat 32 k.val) (v92 : Vec F S1x16 .i32) :
    extractAt ![0] (k1_pay34 v2 (k1_pay32 v2 v92)) inpos_S1_p0
      = BitVec.ofNat 32 (Finset.univ.filter fun k : Fin 16 => 0 < (k1_pay31 (F := F) v92 (ix1 k)).toInt).card := by
  have h : extractAt ![0] (k1_pay34 v2 (k1_pay32 v2 v92)) inpos_S1_p0
      = sumTree (select (cmpi .sgt (k1_pay31 (F := F) v92) (broadcast S16 0#32)) (broadcast S16 1#32) (broadcast S16 0#32)) := by
    unfold k1_pay34 k1_pay32
    rw [pos15_ix1]
    exact scan_sum v2 _ _ _ _ _ _ _ _ _ _ _ _ hv rfl rfl rfl rfl (fun k l hk hl => cat_right _ _ _ _ k l hk hl) rfl
      (fun k l hk hl => cat_right _ _ _ _ k l hk hl) rfl
      (fun k l hk hl => cat_right _ _ _ _ k l hk hl) rfl (fun k l hk hl => cat_right _ _ _ _ k l hk hl)
  rw [h, sumTree_count _ (fun k => decide (0 < (k1_pay31 (F := F) v92 (ix1 k)).toInt))]
  · simp
  · intro k
    show Scalar.select (IntOp.cmpi .sgt (k1_pay31 (F := F) v92 (ix1 k)) 0#32) 1#32 0#32 = _
    by_cases hp : 0 < (k1_pay31 (F := F) v92 (ix1 k)).toInt
    · rw [(scalar_one_of_sgt _).2 hp]; simp [hp, Scalar.select]
    · have := fun h => hp ((scalar_one_of_sgt _).1 h)
      rw [show Scalar.select (IntOp.cmpi .sgt (k1_pay31 (F := F) v92 (ix1 k)) 0#32) 1#32 0#32 = 0#32 from if_neg this]
      simp [hp]

/-- The number of lanes whose word lies in the window. -/
theorem pay13_count {F : FTy → Type} [FloatOps F] (v2 : IVec S16 32) (hv : ∀ k : Fin 16, v2 (ix1 k) = BitVec.ofNat 32 k.val) (v7 v8 : BitVec 32) (v194 : Vec F S1x16 .i32) :
    extractAt ![0] (k1_pay13 v2 (k1_pay10 (F := F) v7 v8 v194) (k1_pay11 (F := F) v7 v8 v194) k1_pay12) inpos_S1_p0
      = BitVec.ofNat 32 (Finset.univ.filter fun k : Fin 16 => k1_pay9 (F := F) v7 v8 v194 (ix1 k) = 1#1).card := by
  have h : extractAt ![0] (k1_pay13 v2 (k1_pay10 (F := F) v7 v8 v194) (k1_pay11 (F := F) v7 v8 v194) k1_pay12) inpos_S1_p0
      = sumTree (k1_pay10 (F := F) v7 v8 v194) := by
    unfold k1_pay13 k1_pay11 k1_pay12
    rw [pos15_ix1]
    exact scan_sum v2 _ _ _ _ _ _ _ _ _ _ _ _ hv rfl rfl rfl rfl (fun k l hk hl => cat_right _ _ _ _ k l hk hl) rfl
      (fun k l hk hl => cat_right _ _ _ _ k l hk hl) rfl
      (fun k l hk hl => cat_right _ _ _ _ k l hk hl) rfl (fun k l hk hl => cat_right _ _ _ _ k l hk hl)
  rw [h, sumTree_count _ (fun k => decide (k1_pay9 (F := F) v7 v8 v194 (ix1 k) = 1#1))]
  · simp
  · intro k
    show Scalar.select (k1_pay9 (F := F) v7 v8 v194 (ix1 k)) 1#32 0#32 = _
    by_cases hp : k1_pay9 (F := F) v7 v8 v194 (ix1 k) = 1#1
    · simp [hp, Scalar.select]
    · simp [hp, Scalar.select]

end Cert.Pillar
-- ==== Proof.Keys.lean ====
/- The lanes still to be taken, and the lane the smallest key names. -/
module

public import proofs.«01_k».proof.Proof.Lanes
public import proofs.«01_k».proof.Proof.Offsets
public import Idealize.ShloMosaic.Lib.Pointwise.Index
public import Idealize.ShloMosaic.Lib.Pipeline.Value

@[expose] public section

noncomputable section

namespace Cert.Pillar

open Idealize.ShloMosaic Cert.KernelIdeal Cert.KernelIdeal.Gen

variable {F : FTy → Type} [FloatOps F]

/-- The lanes of `a` that are positive are those of `R`. -/
def LaneSet (a : IVec S16 32) (R : Finset (Fin 16)) : Prop := ∀ k, 0 < (a (ix1 k)).toInt ↔ k ∈ R

theorem toInt_ofNat {n : ℕ} (h : n < 2 ^ 31) : (BitVec.ofNat 32 n).toInt = n := Affine.unique (Affine.word _) (isInt_nat h)

/-- The smallest of keys, lanes outside `R` holding a larger word: the key of a lane of `R`. -/
theorem minTree_key (w : IVec S16 32) (R : Finset (Fin 16)) (f : Fin 16 → ℕ) (big : ℕ) (hb : big < 2 ^ 31) (hf : ∀ k ∈ R, f k < big)
    (hR : R.Nonempty) (hw : ∀ k, w (ix1 k) = BitVec.ofNat 32 (if k ∈ R then f k else big)) :
    ∃ l ∈ R, minTree w = BitVec.ofNat 32 (f l) := by
  obtain ⟨l, hl⟩ := minTree_mem w
  by_cases h : l ∈ R
  · exact ⟨l, h, by rw [hl, hw, if_pos h]⟩
  · exfalso
    obtain ⟨r, hr⟩ := hR
    have h1 := minTree_le w r
    have h2 := hf r hr
    rw [hl, hw, hw, if_neg h, if_pos hr, toInt_ofNat hb, toInt_ofNat (by omega)] at h1
    omega

theorem select_at {w : ℕ} (c : IVec S16 1) (x y : IVec S16 w) (j : S16.Idx) : select c x y j = if c j = 1#1 then x j else y j := by
  show Scalar.select (c j) (x j) (y j) = _
  unfold Scalar.select
  rfl

theorem sgt_at (a : IVec S16 32) (k : Fin 16) : (cmpi .sgt a (broadcast S16 0#32) (ix1 k) = 1#1) ↔ 0 < (a (ix1 k)).toInt := scalar_one_of_sgt _

/-- The smallest positive lane. -/
theorem pay7_lane (v2 : IVec S16 32) (hv : ∀ k : Fin 16, v2 (ix1 k) = BitVec.ofNat 32 k.val) (a : IVec S16 32) (R : Finset (Fin 16)) (ha : LaneSet a R)
    (hR : R.Nonempty) : ∃ l ∈ R, extractAt ![0] (k1_pay7 v2 a) inpos_S1_p0 = BitVec.ofNat 32 l.val := by
  rw [pay7_tree]
  refine minTree_key _ R (fun k => k.val) 99 (by omega) (fun k _ => by omega) hR (fun k => ?_)
  rw [select_at]
  by_cases h : k ∈ R
  · rw [if_pos ((sgt_at a k).mpr ((ha k).mpr h)), if_pos h, hv]
  · rw [if_neg (fun hc => h ((ha k).mp ((sgt_at a k).mp hc))), if_neg h]; rfl

/-- The word of a key: its row and its lane. -/
theorem key_word {x : BitVec 32} {lo : ℕ} (h1 : lo ≤ x.toNat) (h2 : x.toNat < lo + 256) (k : Fin 16) :
    (x - BitVec.ofNat 32 lo) * 16#32 + BitVec.ofNat 32 k.val = BitVec.ofNat 32 ((x.toNat - lo) * 16 + k.val) := by
  have hx := x.isLt
  apply BitVec.eq_of_toNat_eq
  simp only [BitVec.toNat_add, BitVec.toNat_mul, BitVec.toNat_sub, BitVec.toNat_ofNat]
  omega

/-- The smallest key. -/
theorem pay1_key (v2 : IVec S16 32) (hv : ∀ k : Fin 16, v2 (ix1 k) = BitVec.ofNat 32 k.val) (lo : ℕ) (x a : IVec S16 32) (R : Finset (Fin 16)) (ha : LaneSet a R)
    (hx : ∀ k ∈ R, lo ≤ (x (ix1 k)).toNat ∧ (x (ix1 k)).toNat < lo + 256) (hR : R.Nonempty) :
    ∃ l ∈ R, extractAt ![0] (k1_pay1 v2 (BitVec.ofNat 32 lo) x a) inpos_S1_p0 = BitVec.ofNat 32 (((x (ix1 l)).toNat - lo) * 16 + l.val) := by
  rw [pay1_tree]
  refine minTree_key _ R (fun k => ((x (ix1 k)).toNat - lo) * 16 + k.val) 99999 (by omega) (fun k hk => by have := hx k hk; omega) hR (fun k => ?_)
  rw [select_at]
  by_cases h : k ∈ R
  · rw [if_pos ((sgt_at a k).mpr ((ha k).mpr h)), if_pos h]
    show (x (ix1 k) - BitVec.ofNat 32 lo) * 16#32 + v2 (ix1 k) = _
    rw [hv]
    exact key_word (hx k h).1 (hx k h).2 k
  · rw [if_neg (fun hc => h ((ha k).mp ((sgt_at a k).mp hc))), if_neg h]; rfl

/-- Clearing a lane. -/
theorem LaneSet.erase {a : IVec S16 32} {R : Finset (Fin 16)} (ha : LaneSet a R) (v2 : IVec S16 32) (hv : ∀ k : Fin 16, v2 (ix1 k) = BitVec.ofNat 32 k.val)
    (l : Fin 16) : LaneSet (select (cmpi .eq v2 (broadcast S16 (BitVec.ofNat 32 l.val))) (broadcast S16 0#32) a) (R.erase l) := by
  intro k
  rw [select_at, Finset.mem_erase]
  have he : (cmpi .eq v2 (broadcast S16 (BitVec.ofNat 32 l.val)) (ix1 k) = 1#1) ↔ k = l := by
    show IntOp.cmpi .eq (v2 (ix1 k)) (BitVec.ofNat 32 l.val) = 1#1 ↔ _
    rw [hv]
    have hb (b : Bool) : BitVec.ofBool b = 1#1 ↔ b = true := by cases b <;> decide
    refine (hb _).trans ?_
    rw [beq_iff_eq]
    constructor
    · intro h
      have := congrArg BitVec.toNat h
      simp only [BitVec.toNat_ofNat] at this
      exact Fin.ext (by omega)
    · rintro rfl; rfl
  by_cases h : k = l
  · rw [if_pos (he.mpr h)]
    constructor
    · intro hc; exact absurd (show 0 < (0#32).toInt from hc) (by decide)
    · rintro ⟨h1, -⟩; exact absurd h h1
  · rw [if_neg (fun hc => h (he.mp hc)), ha k]
    exact ⟨fun h2 => ⟨h, h2⟩, fun h2 => h2.2⟩

theorem pay3_erase {a : IVec S16 32} {R : Finset (Fin 16)} (ha : LaneSet a R) (v2 : IVec S16 32) (hv : ∀ k : Fin 16, v2 (ix1 k) = BitVec.ofNat 32 k.val)
    (l : Fin 16) : LaneSet (k1_pay3 v2 a (BitVec.ofNat 32 l.val)) (R.erase l) := ha.erase v2 hv l

theorem pay36_erase {a : IVec S16 32} {R : Finset (Fin 16)} (ha : LaneSet a R) (v2 : IVec S16 32) (hv : ∀ k : Fin 16, v2 (ix1 k) = BitVec.ofNat 32 k.val)
    (l : Fin 16) : LaneSet (k1_pay36 v2 a (BitVec.ofNat 32 l.val)) (R.erase l) := ha.erase v2 hv l

/-- The lanes a word's scan starts from. -/
theorem pay35_lanes (c : IVec S16 1) : LaneSet (k1_pay35 c k1_pay14 k1_pay15) (Finset.univ.filter fun k => c (ix1 k) = 1#1) := by
  intro k
  unfold k1_pay35
  show 0 < (select c k1_pay14 k1_pay15 (ix1 k)).toInt ↔ _
  rw [select_at, Finset.mem_filter]
  by_cases h : c (ix1 k) = 1#1
  · rw [if_pos h]; exact ⟨fun _ => ⟨Finset.mem_univ _, h⟩, fun _ => by show 0 < (1#32).toInt; decide⟩
  · rw [if_neg h]
    constructor
    · intro hc; exact absurd (show 0 < (0#32).toInt from hc) (by decide)
    · rintro ⟨-, h2⟩; exact absurd h2 h

/-- A lane's comparison with the bounds of the pass. -/
theorem pay9_iff (lo : ℕ) (hlo : lo + 256 < 2 ^ 31) (v194 : Vec F S1x16 .i32) (k : Fin 16) :
    k1_pay9 (F := F) (BitVec.ofNat 32 lo) (BitVec.ofNat 32 (lo + 256)) v194 (ix1 k) = 1#1
      ↔ lo ≤ (k1_pay8 (F := F) v194 (ix1 k)).toNat ∧ (k1_pay8 (F := F) v194 (ix1 k)).toNat < lo + 256 := by
  unfold k1_pay9
  show IntOp.andi (IntOp.cmpi .sge (k1_pay8 (F := F) v194 (ix1 k)) (BitVec.ofNat 32 lo)) (IntOp.cmpi .slt (k1_pay8 (F := F) v194 (ix1 k)) (BitVec.ofNat 32 (lo + 256))) = 1#1 ↔ _
  generalize k1_pay8 (F := F) v194 (ix1 k) = x
  rw [IntOp.andi_eq_one, IntOp.cmpi_sge, IntOp.cmpi_slt, toInt_ofNat (by omega), toInt_ofNat (by omega)]
  have hx := x.isLt
  rw [BitVec.toInt_eq_toNat_cond]
  split <;> omega

theorem pay8_at (v194 : Vec F S1x16 .i32) (k : Fin 16) : k1_pay8 (F := F) v194 (ix1 k) = v194 (ix2 0 k) := by
  unfold k1_pay8
  exact shapeCast_apply _ _ (ix1 k) (ix2 0 k) (by
    rw [Shape.rowMajor_val_two, Shape.rowMajor_val_one]; show 0 * 16 + k.val = k.val; omega)

theorem pay31_at (v92 : Vec F S1x16 .i32) (k : Fin 16) : k1_pay31 (F := F) v92 (ix1 k) = v92 (ix2 0 k) := by
  unfold k1_pay31
  exact shapeCast_apply _ _ (ix1 k) (ix2 0 k) (by
    rw [Shape.rowMajor_val_two, Shape.rowMajor_val_one]; show 0 * 16 + k.val = k.val; omega)

/-- The lane and the row of a key. -/
theorem key_lane (r : ℕ) (hr : r < 256) (l : Fin 16) : Scalar.remsi (BitVec.ofNat 32 (r * 16 + l.val)) 16#32 = BitVec.ofNat 32 l.val := by
  have h := isInt_rem16 (n := r * 16 + l.val) (by omega)
  rw [show (r * 16 + l.val) % 16 = l.val by omega] at h
  exact Affine.eq_of h _ rfl

theorem key_row (r : ℕ) (hr : r < 256) (l : Fin 16) : Scalar.divsi (BitVec.ofNat 32 (r * 16 + l.val)) 16#32 = BitVec.ofNat 32 r := by
  have h : Affine.IsInt (Scalar.divsi (BitVec.ofNat 32 (r * 16 + l.val)) 16#32) ((r : ℕ) : ℤ) :=
    Affine.divsi (isInt_nat (by omega)) (Affine.ofNat 16 ⟨rfl, by omega⟩) (by omega)
  exact Affine.eq_of h _ rfl

theorem sel_row (r : ℕ) (hr : r < 256) (l : Fin 16) :
    (Scalar.select (Scalar.andi (Scalar.cmpi .ne (Scalar.subi (Scalar.extui (Scalar.cmpi .sgt (BitVec.ofNat 32 (r * 16 + l.val)) 0#32)) (Scalar.extui (Scalar.cmpi .slt (BitVec.ofNat 32 (r * 16 + l.val)) 0#32)))
      (Scalar.subi (Scalar.extui (Scalar.cmpi .sgt 16#32 0#32)) (Scalar.extui (Scalar.cmpi .slt 16#32 0#32))))
      (Scalar.cmpi .ne (Scalar.remsi (BitVec.ofNat 32 (r * 16 + l.val)) 16#32) 0#32))
      (Scalar.subi (Scalar.divsi (BitVec.ofNat 32 (r * 16 + l.val)) 16#32) 1#32) (Scalar.divsi (BitVec.ofNat 32 (r * 16 + l.val)) 16#32) : BitVec 32) = BitVec.ofNat 32 r := by
  rw [key_lane r hr l, key_row r hr l]
  have hs (c : BitVec 1) (x y : BitVec 32) (h : c = 0#1) : Scalar.select c x y = y := by subst h; rfl
  apply hs
  have ha (c e : BitVec 1) (h : c = 0#1 ∨ e = 0#1) : Scalar.andi c e = 0#1 := by
    rcases h with rfl | rfl
    · revert e; decide
    · revert c; decide
  apply ha
  by_cases h : l.val = 0
  · right; rw [h]; decide
  · left
    have h0 := toInt_ofNat (n := r * 16 + l.val) (by omega)
    have h1 : Scalar.cmpi .sgt (BitVec.ofNat 32 (r * 16 + l.val)) 0#32 = 1#1 := (scalar_one_of_sgt _).mpr (by rw [h0]; omega)
    have h2 : Scalar.cmpi .slt (BitVec.ofNat 32 (r * 16 + l.val)) 0#32 = 0#1 := by
      have hb (c : BitVec 1) (hc : ¬ c = 1#1) : c = 0#1 := by revert c; decide
      exact hb _ (fun hc => by rw [show Scalar.cmpi .slt (BitVec.ofNat 32 (r * 16 + l.val)) 0#32 = IntOp.cmpi .slt (BitVec.ofNat 32 (r * 16 + l.val)) 0#32 from rfl, IntOp.cmpi_slt, h0] at hc; simp at hc; omega)
    rw [h1, h2]; decide

end Cert.Pillar
-- ==== Proof.Fired.lean ====
/- The points fired so far, as the words of the bitmap scanned so far. -/
module

public import proofs.«01_k».proof.Proof.Ring

@[expose] public section

noncomputable section

namespace Cert.Pillar

open Idealize.ShloMosaic Cert.KernelIdeal Cert.KernelIdeal.Gen

/-- Point `l` of word `w` of group `t5` of chunk `t4`. -/
def pt (t4 : Fin k1_t4_loop.trips) (t5 : Fin k1_t5_loop.trips) (w l : Fin 16) : Fin 200704 :=
  ⟨1024 * t4.val + (16 * t5.val + w.val) * 16 + l.val, by
    have h4 : t4.val < 196 := lt_of_lt_of_le t4.isLt k1_t4_abs.2.1
    have h5 : t5.val < 4 := lt_of_lt_of_le t5.isLt k1_t5_abs.2.1
    omega⟩

instance (I : S200704.Idx → BitVec 32) (lo : ℕ) : DecidablePred (Hit I lo) := fun _ => inferInstanceAs (Decidable (_ ∧ _))

/-- The points of the words of `W` that hit. -/
def fs (I : S200704.Idx → BitVec 32) (lo : ℕ) (W : Finset ℕ) : Finset (Fin 200704) :=
  Finset.univ.filter fun n => n.val / 16 ∈ W ∧ Hit I lo n

/-- The lanes of a word that hit. -/
def hits (I : S200704.Idx → BitVec 32) (lo : ℕ) (t4 : Fin k1_t4_loop.trips) (t5 : Fin k1_t5_loop.trips) (w : Fin 16) : Finset (Fin 16) :=
  Finset.univ.filter fun l => Hit I lo (pt t4 t5 w l)

/-- The first `m` words that are positive. -/
def pw (Bw : ℕ → BitVec 32) (m : ℕ) : Finset ℕ := (Finset.range m).filter fun ω => 0 < (Bw ω).toInt

/-- The positive words of a group of sixteen. -/
def posw (Bw : ℕ → BitVec 32) (m : ℕ) : Finset (Fin 16) := Finset.univ.filter fun w => 0 < (Bw (m + w.val)).toInt

theorem image_start {α β : Type} [DecidableEq α] [DecidableEq β] (f : α → β) (A : Finset β) (P : Finset α) : A ∪ (P \ P).image f = A := by
  rw [Finset.sdiff_self, Finset.image_empty, Finset.union_empty]

theorem image_step {α β : Type} [DecidableEq α] [DecidableEq β] (f : α → β) (A : Finset β) {P R : Finset α} (hR : R ⊆ P) {l : α} (hl : l ∈ R) :
    insert (f l) (A ∪ (P \ R).image f) = A ∪ (P \ R.erase l).image f := by
  rw [Finset.sdiff_erase (hR hl), Finset.image_insert, Finset.union_insert]

theorem image_notMem {α β : Type} [DecidableEq α] [DecidableEq β] {f : α → β} (hf : Function.Injective f) {A : Finset β} {P R : Finset α} {l : α} (hl : l ∈ R)
    (hA : f l ∉ A) : f l ∉ A ∪ (P \ R).image f := by
  rw [Finset.mem_union, not_or]
  refine ⟨hA, fun h => ?_⟩
  obtain ⟨k, hk, e⟩ := Finset.mem_image.mp h
  rw [hf e] at hk
  exact (Finset.mem_sdiff.mp hk).2 hl

section Pt
variable (t4 : Fin k1_t4_loop.trips) (t5 : Fin k1_t5_loop.trips) (w : Fin 16)

theorem pt_inj : Function.Injective (pt t4 t5 w) := fun a b h => by
  have h' := congrArg Fin.val h
  have h2 : 1024 * t4.val + (16 * t5.val + w.val) * 16 + a.val = 1024 * t4.val + (16 * t5.val + w.val) * 16 + b.val := h'
  exact Fin.ext (by omega)

theorem pt_div (l : Fin 16) : (pt t4 t5 w l).val / 16 = 64 * t4.val + 16 * t5.val + w.val := by
  show (1024 * t4.val + (16 * t5.val + w.val) * 16 + l.val) / 16 = _
  omega

theorem pt_fresh (I : S200704.Idx → BitVec 32) (lo : ℕ) {W : Finset ℕ} (hW : 64 * t4.val + 16 * t5.val + w.val ∉ W) (l : Fin 16) : pt t4 t5 w l ∉ fs I lo W := by
  intro h
  have h1 := (Finset.mem_filter.mp h).2.1
  rw [pt_div] at h1
  exact hW h1

theorem fs_insert (I : S200704.Idx → BitVec 32) (lo : ℕ) (W : Finset ℕ) :
    fs I lo W ∪ (hits I lo t4 t5 w \ ∅).image (pt t4 t5 w) = fs I lo (insert (64 * t4.val + 16 * t5.val + w.val) W) := by
  ext n
  rw [Finset.sdiff_empty, Finset.mem_union, Finset.mem_image]
  constructor
  · rintro (h | ⟨l, hl, rfl⟩)
    · have h1 := (Finset.mem_filter.mp h).2
      exact Finset.mem_filter.mpr ⟨Finset.mem_univ _, Finset.mem_insert_of_mem h1.1, h1.2⟩
    · refine Finset.mem_filter.mpr ⟨Finset.mem_univ _, ?_, (Finset.mem_filter.mp hl).2⟩
      rw [pt_div]
      exact Finset.mem_insert_self _ _
  · intro h
    obtain ⟨h1, h2⟩ := (Finset.mem_filter.mp h).2
    rcases Finset.mem_insert.mp h1 with e | h1
    · right
      have he : pt t4 t5 w ⟨n.val % 16, Nat.mod_lt _ (by omega)⟩ = n := Fin.ext (by
        show 1024 * t4.val + (16 * t5.val + w.val) * 16 + n.val % 16 = n.val
        omega)
      exact ⟨_, Finset.mem_filter.mpr ⟨Finset.mem_univ _, by rw [he]; exact h2⟩, he⟩
    · exact .inl (Finset.mem_filter.mpr ⟨Finset.mem_univ _, h1, h2⟩)

end Pt

theorem add_inj (m : ℕ) : Function.Injective fun w : Fin 16 => m + w.val := fun a b h => by
  have h2 : m + a.val = m + b.val := h
  exact Fin.ext (by omega)

theorem pw_fresh (Bw : ℕ → BitVec 32) (m : ℕ) (w : Fin 16) : m + w.val ∉ pw Bw m := fun h => by
  have := Finset.mem_range.mp (Finset.mem_filter.mp h).1
  omega

theorem pw_add (Bw : ℕ → BitVec 32) (m : ℕ) : pw Bw m ∪ (posw Bw m \ ∅).image (fun w : Fin 16 => m + w.val) = pw Bw (m + 16) := by
  ext n
  rw [Finset.sdiff_empty, Finset.mem_union, Finset.mem_image]
  constructor
  · rintro (h | ⟨l, hl, rfl⟩)
    · have h1 := Finset.mem_filter.mp h
      exact Finset.mem_filter.mpr ⟨Finset.mem_range.mpr (by have := Finset.mem_range.mp h1.1; omega), h1.2⟩
    · exact Finset.mem_filter.mpr ⟨Finset.mem_range.mpr (by omega), (Finset.mem_filter.mp hl).2⟩
  · intro h
    obtain ⟨h1, h2⟩ := Finset.mem_filter.mp h
    have h1 := Finset.mem_range.mp h1
    by_cases hn : n < m
    · exact .inl (Finset.mem_filter.mpr ⟨Finset.mem_range.mpr hn, h2⟩)
    · refine .inr ⟨⟨n - m, by omega⟩, Finset.mem_filter.mpr ⟨Finset.mem_univ _, ?_⟩, ?_⟩
      · show 0 < (Bw (m + (n - m))).toInt
        rw [show m + (n - m) = n by omega]; exact h2
      · show m + (n - m) = n; omega

end Cert.Pillar
-- ==== Proof.Lane.lean ====
/- One lane of a word: its row's copy is fired, after a drain when the ring is full. -/
module

public import proofs.«01_k».proof.Proof.Slots
public import proofs.«01_k».proof.Proof.Keys
public import proofs.«01_k».proof.Proof.Fired

@[expose] public section

noncomputable section

namespace Cert.Pillar

open Idealize.ShloMosaic Idealize.ShloMosaic.Transfers
open Idealize.SL
open Idealize.SL.BI (sProp bigSep bigSep_univ_update bigSep_univ_at)
open scoped Idealize.SL.BI
open Idealize.SL.BI.BIBase Idealize.SL.BI.Laws Idealize.SL.Sem Idealize.SL.ProofMode
open Idealize.SL.RA Cert.KernelIdeal Cert.KernelIdeal.Gen

variable {F : FTy → Type} [FloatOps F]

section Body

variable {Ix : Type} [DecidableEq Ix] {Name : Type} [DecidableEq Name] [Infinite Name] {U : Type} [URA U] {Lvl : Type} [Preorder Lvl]
variable {defs : Defs nD τ sig (Elt F) Λ₀} (𝒱 : Variants) (d : Fin nD) (i : grid1.Coords) (bd : Option 𝒱.V)

local notation "𝕄" => MT nD τ sig Ix (Elt F) Name U Lvl

variable (arg2 : Memref sig .scVector .hbm S200704 .i32) (harg2 : arg2.IsWhole) (arg3 : Memref sig .scVector .hbm S200704x256 .f32) (harg3 : arg3.IsWhole) (arg4 : Memref sig .scVector .hbm S196x128x64 .i32) (harg4 : arg4.IsWhole) (arg5 : Memref sig .scVector .hbm S32768x256 .f32) (harg5 : arg5.IsWhole) (arg6 : Memref sig .scVector .vmem S2x1024 .i32) (harg6 : arg6.IsWhole) (arg7 : Memref sig .scVector .vmem S2x64 .i32) (harg7 : arg7.IsWhole) (arg8 : Memref sig .scVector .vmem S16x1x256 .f32) (harg8 : arg8.IsWhole) (arg9 : Memref sig .scVector .vmem S256x256 .f32) (harg9 : arg9.IsWhole) (arg10 : Memref sig .scVector .smem S16 .i32) (harg10 : arg10.IsWhole) (arg11 : Memref sig .scVector .smem S2 .i32) (harg11 : arg11.IsWhole) (arg12 : DmaSems sig S2) (arg13 : DmaSems sig S2) (arg14 : DmaSems sig S16) (v64_r0 : DmaSems sig S_)
variable (EC : UEmb Counters (MT nD τ sig Ix (Elt F) Name U Lvl)) (ι : Ix) (H : S200704x256.Idx → F .f32) (O : Debt nD τ sig Ix) (I : S200704.Idx → BitVec 32) (lo : ℕ)

theorem ringAt_ok (Fd : Finset (Fin 200704)) (g e : ℕ) :
    ringAt d i arg3 arg8 arg9 arg10 arg11 arg14 EC ι H O I lo Fd g e
      ⊢ iprop(⌜e ≤ g⌝ ∗ ⌜g ≤ e + 16⌝ ∗ ⌜g ≤ 200704⌝ ∗ ringAt d i arg3 arg8 arg9 arg10 arg11 arg14 EC ι H O I lo Fd g e) := by
  unfold ringAt
  iintro ⟨%D, %St, %X, %M, %G, %W, %ok, H⟩
  isplitr; · ipureintro; exact ok.le
  isplitr; · ipureintro; exact ok.ge
  isplitr; · ipureintro; exact ok.bound
  iexists D, St, X, M, G, W
  isplitr; · ipureintro; exact ok
  iexact H

/-- The ring with the points of `Fd` fired. -/
def ringSome (Fd : Finset (Fin 200704)) : sProp 𝕄 :=
  iprop(∃ g e, ringAt d i arg3 arg8 arg9 arg10 arg11 arg14 EC ι H O I lo Fd g e)

theorem part1_wp (v2 : IVec S16 32) (v7 : BitVec 32) (k1_t4 : Fin k1_t4_loop.trips) (arg17 : BitVec 32) (k1_t5 : Fin k1_t5_loop.trips)
    (v148 v188 v190 : BitVec 32) (v195 : IVec S16 32) (v253 : BitVec 32) (k1_t7 : Fin (k1_t7_loop v253).trips) (a : IVec S16 32)
    (v302 : BitVec 32) (hk : extractAt ![0] (k1_pay1 v2 v7 v195 a) inpos_S1_p0 = v302) (hc : k1_chk7 k1_t4 k1_t5 v148 v188 v302)
    {Q : _ → sProp 𝕄} :
    Q ⟨v302, hc, Scalar.remsi v302 16#32, 16#32, Scalar.divsi v302 16#32,
        Scalar.subi (Scalar.extui (Scalar.cmpi .sgt v302 0#32)) (Scalar.extui (Scalar.cmpi .slt v302 0#32)), Scalar.extui (Scalar.cmpi .sgt 16#32 0#32)⟩
      ⊢ wp frame (wpE defs 𝒱 (tile d i) bd) Set.univ (k1_part1 i arg2 harg2 arg3 harg3 arg4 harg4 arg5 harg5 arg6 harg6 arg7 harg7 arg8 harg8 arg9 harg9 arg10 harg10 arg11 harg11 arg12 arg13 arg14 v64_r0 v2 v7 k1_t4 arg17 k1_t5 v148 v188 v190 v195 v253 0#32 1#32 k1_t7 a) Q := by
  subst hk
  rw [k1_part1_eq_skeleton]
  unfold k1_part1_skel
  dsimp only
  rw [wp_bind]
  iintro H
  iapply (own_assume 𝒱 (tile d i) bd hc)
  rw [show ∀ x, (pure x : Prog (TpuEff nD τ sig (Elt F) Λ₀ (tile d i).2) _) = Prog.ret x from fun _ => rfl, wp_ret]
  imodintro
  iexact H

/-- The row's copy is fired into the next slot. -/
def fireG (v148 : BitVec 32) (k1_h1 : k1_cond1 v148 = 1#1) (k1_t4 : Fin k1_t4_loop.trips) (k1_t5 : Fin k1_t5_loop.trips) (v188 v302 : BitVec 32)
    (k1_hw7 : k1_chk7 k1_t4 k1_t5 v148 v188 v302) (v324 : BitVec 32) (b : IVec S16 32) :
    Prog (TpuEff nD τ sig (Elt F) Λ₀ (.scVector ((i 0).castLE hcore1) ((i 1).castLE hsub1))) (IVec S16 32) := do
  let v334 : Elt F .i32 ← smemLoad arg11 (Rect.unit (s := S2) ![0] S1.size inb_S2_S1_0) numel1_S1 rfl
  have k1_hw6 : k1_chk6 v148 v334 := (← Prog.lift (TpuEff.assume (k1_chk6 v148 v334) (k1_chk6.dec v148 v334))).down
  let _v : Elt F .i32 ← smemLoad arg10 (Rect.unit (s := S16) (k1_off15 v334) S1.size (k1_off15_inb v148 v334 k1_hw6 k1_h1)) numel1_S1 rfl
  Prog.lift (.store arg10 (Rect.unit (s := S16) (k1_off15 v334) S1.size (k1_off15_inb v148 v334 k1_hw6 k1_h1)) (fun _ => v324) Finset.univ (View.stores_smem_one rfl numel1_S1) (.inl rfl))
  Prog.lift (.enqueueDma (arg3.slice (Rect.unit (s := S200704x256) (k1_off17 k1_t4 k1_t5 v188 v302) S1x256.size (k1_off17_inb k1_t4 k1_t5 v148 v188 v302 k1_hw7 k1_h1)) (fun _ => rfl))
    (.here ((arg8.slice (Rect.unit (s := S16x1x256) (k1_off19 v334) S1x1x256.size (k1_off19_inb v148 v334 k1_hw6 k1_h1)) (fun _ => rfl)).squeeze S1x256 squeezes_S1x1x256_S1x256))
    (.dma ((arg14.slice (Rect.unit (s := S16) (k1_off18 v334) S1.size (k1_off18_inb v148 v334 k1_hw6 k1_h1))).squeeze S_ squeezes_S1_S_).sem)
    (View.wordExact_bits rfl) ((View.wordExact_bits rfl).reshape _ _) ⟨Or.inl rfl, trivial⟩)
  let _w : Elt F .i32 ← smemLoad arg11 (Rect.unit (s := S2) ![0] S1.size inb_S2_S1_0) numel1_S1 rfl
  Prog.lift (.store arg11 (Rect.unit (s := S2) ![0] S1.size inb_S2_S1_0) (fun _ => Scalar.addi v334 1#32) Finset.univ (View.stores_smem_one rfl numel1_S1) (.inl rfl))
  pure b

theorem row_emb {off : Fin 2 → ℕ} (h : ∀ a, off a + S1x256.size a ≤ S200704x256.size a) (n : Fin 200704) (e : off = ![n.val, 0]) (y : S1x256.Idx) :
    (Rect.unit (s := S200704x256) off S1x256.size h).emb y = ix2 n (y 1) := by
  subst e
  funext a; apply Fin.ext; rw [emb_unit_val]
  have h0 : (y 0).val < 1 := (y 0).isLt
  fin_cases a
  · show n.val + (y 0).val = n.val; omega
  · show 0 + (y 1).val = (y 1).val; omega

theorem fire_wp [EC.LandsIn (upEmb : UEmb _ 𝕄)] (v148 : BitVec 32) (k1_h1 : k1_cond1 v148 = 1#1) (k1_t4 : Fin k1_t4_loop.trips) (k1_t5 : Fin k1_t5_loop.trips)
    (w l : Fin 16) (r : ℕ) (hr : r < 256) (k1_hw7 : k1_chk7 k1_t4 k1_t5 v148 (BitVec.ofNat 32 w.val) (BitVec.ofNat 32 (r * 16 + l.val)))
    (b : IVec S16 32) (Fd : Finset (Fin 200704)) (hit : Hit I lo (pt k1_t4 k1_t5 w l)) (hrr : (I (ix1 (pt k1_t4 k1_t5 w l))).toNat - lo = r)
    (hn : pt k1_t4 k1_t5 w l ∉ Fd) (g e : ℕ) (hlt : g < e + 16) {Q : IVec S16 32 → sProp 𝕄} :
    ringAt d i arg3 arg8 arg9 arg10 arg11 arg14 EC ι H O I lo Fd g e
      ⊢ iprop((ringAt d i arg3 arg8 arg9 arg10 arg11 arg14 EC ι H O I lo (insert (pt k1_t4 k1_t5 w l) Fd) (g + 1) e -∗ Q b)
        -∗ wp frame (wpE defs 𝒱 (tile d i) bd) Set.univ (fireG i arg3 arg8 arg10 arg11 arg14 v148 k1_h1 k1_t4 k1_t5 (BitVec.ofNat 32 w.val)
          (BitVec.ofNat 32 (r * 16 + l.val)) k1_hw7 (BitVec.ofNat 32 r) b) Q) := by
  conv => lhs; unfold ringAt
  iintro ⟨%D, %St, %X, %M, %G, %W, %ok, H9, H10, H11, HS, HO⟩ HQ
  have hb := ok.bound
  have hg31 : g < 2 ^ 31 := by omega
  unfold fireG
  rw [wp_bind]
  iapply (own_cellLoad 𝒱 (tile d i) bd (ix1 (0 : Fin 2)) (emb2 _ 0 rfl)) $$ H11
  iintro H11
  rw [ok.fired, wp_bind]
  iapply (own_assume 𝒱 (tile d i) bd (chk6_ok hg31 v148))
  rw [wp_bind]
  iapply (own_cellLoad 𝒱 (tile d i) bd (ix1 ⟨g % 16, Nat.mod_lt _ (by omega)⟩) (emb16 _ ⟨g % 16, Nat.mod_lt _ (by omega)⟩ (off15_eq hg31))) $$ H10
  iintro H10
  rw [wp_bind]
  iapply (own_cellStore 𝒱 (tile d i) bd (ix1 ⟨g % 16, Nat.mod_lt _ (by omega)⟩) (emb16 _ ⟨g % 16, Nat.mod_lt _ (by omega)⟩ (off15_eq hg31)) (ix1 (0 : Fin 1))) $$ H10
  iintro %M' %hM' H10
  ihave HS' := (bigSep_univ_update (Φ := fun j => slotRes d i arg3 arg8 arg14 EC ι H j (St j))
    (Ψ := fun j => slotRes d i arg3 arg8 arg14 EC ι H j (Function.update St ⟨g % 16, Nat.mod_lt _ (by omega)⟩ (some (pt k1_t4 k1_t5 w l)) j))
    ⟨g % 16, Nat.mod_lt _ (by omega)⟩ (fun j hj => by rw [Function.update_of_ne hj])) $$ HS
  icases HS' with ⟨Hj, HS⟩
  rw [ok.free hlt, Function.update_self]
  ihave Hj := (slotRes_none d i arg3 arg8 arg14 EC ι H _) $$ Hj
  icases Hj with ⟨%Y, %q, Hslot, Hv, H3⟩
  ihave H3 := (own_lend (tile d i) (Rect.unit (s := S200704x256) (k1_off17 k1_t4 k1_t5 (BitVec.ofNat 32 w.val) (BitVec.ofNat 32 (r * 16 + l.val))) S1x256.size
    (k1_off17_inb k1_t4 k1_t5 v148 _ _ k1_hw7 k1_h1)) (fun _ => rfl)) $$ H3
  icases H3 with ⟨H3, Hback⟩
  rw [wp_bind]
  iapply (own_dma 𝒱 (tile d i) bd EC ι
    (congrArg (fun a => Memref.squeeze a S1x256 squeezes_S1x1x256_S1x256) (Memref.slice_unit_congr arg8 (off19_eq hg31) _ (slot_inb ⟨g % 16, Nat.mod_lt _ (by omega)⟩) _ _))
    (congrArg (fun a => (SemArray.squeeze a S_ squeezes_S1_S_).sem) (SemArray.slice_unit_congr arg14 (off18_eq hg31) _ (sem_inb ⟨g % 16, Nat.mod_lt _ (by omega)⟩)))
    (slotM arg8 ⟨g % 16, Nat.mod_lt _ (by omega)⟩).view.dmaCredit rfl (View.dmaCredit_pos _ (by decide))) $$ [H3 Hslot Hv]
  · isplitl [H3]; · iexact H3
    isplitl [Hslot] <;> iassumption
  iintro HF
  rw [wp_bind]
  iapply (own_cellLoad 𝒱 (tile d i) bd (ix1 (0 : Fin 2)) (emb2 _ 0 rfl)) $$ H11
  iintro H11
  rw [wp_bind]
  iapply (own_cellStore 𝒱 (tile d i) bd (ix1 (0 : Fin 2)) (emb2 _ 0 rfl) (ix1 (0 : Fin 1))) $$ H11
  iintro %G' %hG H11
  rw [show (pure b : Prog (TpuEff nD τ sig (Elt F) Λ₀ (tile d i).2) _) = Prog.ret b from rfl, wp_ret]
  imodintro
  iapply HQ
  unfold ringAt
  have ok' := ok.fire hlt hn hit (M' := M') (hM'.1.trans (by rw [hrr]))
    (fun j hj => hM'.2 (ix1 j) (fun h => hj (congrFun h 0)))
    (hG.2 (ix1 1) (by intro h; exact absurd (congrFun h 0) (by decide))) (hG.1.trans (addi_one (by omega)))
  iexists _, _, X, M', G', W
  isplitr; · ipureintro; exact ok'
  isplitl [H9]; · iexact H9
  isplitl [H10]; · iexact H10
  isplitl [H11]; · iexact H11
  isplitl [HS HF Hback]
  · iapply HS
    iapply (slotRes_some' d i arg3 arg8 arg14 EC ι H ⟨g % 16, Nat.mod_lt _ (by omega)⟩ (pt k1_t4 k1_t5 w l))
    iexists _
    have hrow : (fun j : S1x256.Idx => H ((Rect.unit (s := S200704x256) (k1_off17 k1_t4 k1_t5 (BitVec.ofNat 32 w.val) (BitVec.ofNat 32 (r * 16 + l.val))) S1x256.size
        (k1_off17_inb k1_t4 k1_t5 v148 _ _ k1_hw7 k1_h1)).emb j)) = fun k => H (ix2 (pt k1_t4 k1_t5 w l) (k 1)) :=
      funext fun j => congrArg H (row_emb _ _ (off17_eq k1_t4 k1_t5 w l (by omega) (by omega)) j)
    isplitl [HF]
    · rw [← hrow]; iexact HF
    iintro H3
    iexists q
    iapply Hback
    iexact H3
  iexact HO

theorem lane_step [EC.LandsIn (upEmb : UEmb _ 𝕄)] (v2 : IVec S16 32) (hv : ∀ k : Fin 16, v2 (ix1 k) = BitVec.ofNat 32 k.val)
    (k1_t1 : Fin k1_t1_loop.trips) (v8 : BitVec 32) (k1_t4 : Fin k1_t4_loop.trips) (arg17 : BitVec 32) (k1_t5 : Fin k1_t5_loop.trips)
    (v148 : BitVec 32) (k1_h1 : k1_cond1 v148 = 1#1) (w : Fin 16) (v190 : BitVec 32) (v195 : IVec S16 32) (v253 : BitVec 32) (k1_hw3 : k1_chk3 v148 v253)
    (k1_t7 : Fin (k1_t7_loop v253).trips) (a : IVec S16 32) (R : Finset (Fin 16)) (ha : LaneSet a R) (hR : R.Nonempty)
    (hx : ∀ k, v195 (ix1 k) = I (ix1 (pt k1_t4 k1_t5 w k))) (Fd : Finset (Fin 200704))
    (hit : ∀ k ∈ R, Hit I lo (pt k1_t4 k1_t5 w k)) (hn : ∀ k ∈ R, pt k1_t4 k1_t5 w k ∉ Fd) {Q : IVec S16 32 → sProp 𝕄} :
    iprop(ringSome d i arg3 arg8 arg9 arg10 arg11 arg14 EC ι H O I lo Fd ∗ MayWaits (tile d i) ι O.t)
      ⊢ iprop((∀ l a', ⌜l ∈ R ∧ LaneSet a' (R.erase l)⌝ -∗ ringSome d i arg3 arg8 arg9 arg10 arg11 arg14 EC ι H O I lo (insert (pt k1_t4 k1_t5 w l) Fd) -∗ Q a')
        -∗ wp frame (wpE defs 𝒱 (tile d i) bd) Set.univ (k1_t7_body i arg2 harg2 arg3 harg3 arg4 harg4 arg5 harg5 arg6 harg6 arg7 harg7 arg8 harg8 arg9 harg9 arg10 harg10 arg11 harg11 arg12 arg13 arg14 v64_r0 v2 k1_t1 (BitVec.ofNat 32 lo) v8 k1_t4 arg17 k1_t5 v148 k1_h1
          (BitVec.ofNat 32 w.val) v190 v195 v253 k1_hw3 k1_t7 a) Q) := by
  conv => lhs; unfold ringSome
  iintro ⟨⟨%g, %e, HR⟩, #Hm⟩ HQ
  ihave HR := (ringAt_ok d i arg3 arg8 arg9 arg10 arg11 arg14 EC ι H O I lo Fd g e) $$ HR
  icases HR with ⟨%hle, %hge, %hb, HR⟩
  obtain ⟨l, hl, hk⟩ := pay1_key v2 hv lo v195 a R ha (fun k hk => by rw [hx]; exact hit k hk) hR
  have hitl := hit l hl
  obtain ⟨hit1, hit2⟩ := hitl
  unfold k1_t7_body
  rw [wp_bind]
  iapply (part1_wp (v302 := BitVec.ofNat 32 (((I (ix1 (pt k1_t4 k1_t5 w l))).toNat - lo) * 16 + l.val)) (hk := by rw [← hx]; exact hk)
    (hc := chk7_ok k1_t4 k1_t5 v148 w l (by omega) (by omega)))
  dsimp only
  rw [k1_part2_eq_skeleton]
  unfold k1_part2_skel
  dsimp only
  rw [sel_row _ (by omega) l, key_lane _ (by omega) l]
  unfold ringAt
  icases HR with ⟨%D, %St, %X, %M, %G, %W, %ok, H9, H10, H11, HS, HO⟩
  rw [wp_bind]
  iapply (own_cellLoad 𝒱 (tile d i) bd (ix1 (0 : Fin 2)) (emb2 _ 0 rfl)) $$ H11
  iintro H11
  rw [ok.fired, wp_bind]
  iapply (own_cellLoad 𝒱 (tile d i) bd (ix1 (1 : Fin 2)) (emb2 _ 1 rfl)) $$ H11
  iintro H11
  rw [ok.drained]
  ihave HR : ringAt d i arg3 arg8 arg9 arg10 arg11 arg14 EC ι H O I lo Fd g e $$ [H9 H10 H11 HS HO]
  · unfold ringAt
    iexists D, St, X, M, G, W
    isplitr; · ipureintro; exact ok
    isplitl [H9]; · iexact H9
    isplitl [H10]; · iexact H10
    isplitl [H11]; · iexact H11
    isplitl [HS] <;> iassumption
  by_cases h2 : e + 16 ≤ g
  · have hc := (cond2_iff hle (by omega)).2 h2
    rw [dif_pos hc]
    iapply (drain_wp 𝒱 d i bd arg3 arg8 arg9 arg10 arg11 arg14 EC ι H O I lo (A := k1_chk4 v148 (BitVec.ofNat 32 g) (BitVec.ofNat 32 e)) (B := k1_chk5 v148 (BitVec.ofNat 32 g) (BitVec.ofNat 32 e))
      (dA := k1_chk4.dec v148 (BitVec.ofNat 32 g) (BitVec.ofNat 32 e)) (dB := k1_chk5.dec v148 (BitVec.ofNat 32 g) (BitVec.ofNat 32 e)) (L := k1_t8_loop) (hL := k1_t8_ok)
      (o10 := k1_off10) (o11 := k1_off11) (o12 := k1_off12) (o13 := k1_off13) (o14 := k1_off14)
      (i10 := fun v hv => k1_off10_inb v148 _ _ v hv k1_h1 hc) (i11 := fun v hv => k1_off11_inb v148 _ _ v hv k1_h1 hc)
      (i12 := fun v hv => k1_off12_inb v148 _ _ v hv k1_h1 hc) (i13 := fun v hv t => k1_off13_inb v148 _ _ v hv t k1_h1 hc)
      (i14 := fun v hv t => k1_off14_inb v148 _ _ v hv t k1_h1 hc)
      (hT := t8_trips) (hA := fun n hn => chk4_ok hn _ _ _) (hB := chk5_ok _ _ _) (h10 := fun n hn => off10_eq hn) (h11 := fun n hn => off11_eq hn)
      (h12 := fun n hn => off12_eq hn) (h13 := fun n t hn => off13_eq hn t) (h14 := fun n t hn => off14_eq hn t) (Fd := Fd) (g := g) (e := e) (hlt := by omega)) $$ [HR Hm]
    · isplitl [HR]; · iexact HR
      iexact Hm
    iintro HR
    iapply (fire_wp 𝒱 d i bd arg3 arg8 arg9 arg10 arg11 arg14 EC ι H O I lo v148 k1_h1 k1_t4 k1_t5 w l _ (by omega) (chk7_ok k1_t4 k1_t5 v148 w l (by omega) (by omega)) _ Fd ⟨hit1, hit2⟩ rfl (hn l hl) g (e + 1) (by omega)) $$ HR
    iintro HR
    iapply HQ $$ %l %_ [] [HR]
    · ipureintro; exact ⟨hl, pay3_erase ha v2 hv l⟩
    · unfold ringSome; iexists _, _; iexact HR
  · rw [dif_neg (fun h => h2 ((cond2_iff hle (by omega)).1 h))]
    iapply (fire_wp 𝒱 d i bd arg3 arg8 arg9 arg10 arg11 arg14 EC ι H O I lo v148 k1_h1 k1_t4 k1_t5 w l _ (by omega) (chk7_ok k1_t4 k1_t5 v148 w l (by omega) (by omega)) _ Fd ⟨hit1, hit2⟩ rfl (hn l hl) g e (by omega)) $$ HR
    iintro HR
    iapply HQ $$ %l %_ [] [HR]
    · ipureintro; exact ⟨hl, pay3_erase ha v2 hv l⟩
    · unfold ringSome; iexists _, _; iexact HR

end Body

end Cert.Pillar
-- ==== Proof.Words.lean ====
/- One positive word: its points are loaded, compared with the tile's rows, and each hit is fired. -/
module

public import proofs.«01_k».proof.Proof.Lane

@[expose] public section

noncomputable section

namespace Cert.Pillar

open Idealize.ShloMosaic Idealize.ShloMosaic.Transfers
open Idealize.SL
open Idealize.SL.BI (sProp bigSep bigSep_univ_update bigSep_univ_at)
open scoped Idealize.SL.BI
open Idealize.SL.BI.BIBase Idealize.SL.BI.Laws Idealize.SL.Sem Idealize.SL.ProofMode
open Idealize.SL.RA Cert.KernelIdeal Cert.KernelIdeal.Gen

variable {F : FTy → Type} [FloatOps F]

theorem idx_inb (s : Fin 2) : ∀ a, (![s.val, 0] : Fin 2 → ℕ) a + S1x1024.size a ≤ S2x1024.size a := by
  intro a; fin_cases a
  · show s.val + 1 ≤ 2; omega
  · show 0 + 1024 ≤ 1024; omega

/-- Slot `s` of the index buffer. -/
def idxM (arg6 : Memref sig .scVector .vmem S2x1024 .i32) (s : Fin 2) : Memref sig .scVector .vmem S1024 .i32 :=
  (arg6.slice (Rect.unit (s := S2x1024) ![s.val, 0] S1x1024.size (idx_inb s)) (fun _ => rfl)).squeeze S1024 squeezes_S1x1024_S1024

/-- Chunk `t` of the indices. -/
def idxChunk (I : S200704.Idx → BitVec 32) (t : ℕ) (ht : t < 196) : S1024.Idx → BitVec 32 :=
  fun k => I (ix1 (⟨1024 * t + (k 0).val, by have h : (k 0).val < 1024 := (k 0).isLt; omega⟩ : Fin 200704))

theorem chunk_symm (h : S1x1024.numel = S1024.numel) (l : Fin 1024) :
    (Shape.reshapeEquiv h.symm).symm (ix2 (0 : Fin 1) l : S1x1024.Idx) = (ix1 l : S1024.Idx) := by
  rw [Equiv.symm_apply_eq]
  exact (Shape.reshapeEquiv_eq_of_rowMajor h.symm (x := ix1 l) (y := ix2 0 l) (by
    rw [Shape.rowMajor_val_two, Shape.rowMajor_val_one]; show 0 * 1024 + l.val = l.val; omega)).symm

theorem chunk_symm' (h : S1x1024.numel = S1024.numel) (j : S1x1024.Idx) :
    (Shape.reshapeEquiv h.symm).symm j = (ix1 (j 1) : S1024.Idx) := by
  have hj : j = ix2 (0 : Fin 1) (j 1) := by
    funext a
    have h0 : (j 0).val < 1 := (j 0).isLt
    fin_cases a
    · exact Fin.ext (by show (j 0).val = 0; omega)
    · rfl
  rw [hj]
  exact chunk_symm h (j 1)

section Body

variable {Ix : Type} [DecidableEq Ix] {Name : Type} [DecidableEq Name] [Infinite Name] {U : Type} [URA U] {Lvl : Type} [Preorder Lvl]
variable {defs : Defs nD τ sig (Elt F) Λ₀} (𝒱 : Variants) (d : Fin nD) (i : grid1.Coords) (bd : Option 𝒱.V)

local notation "𝕄" => MT nD τ sig Ix (Elt F) Name U Lvl

variable (arg2 : Memref sig .scVector .hbm S200704 .i32) (harg2 : arg2.IsWhole) (arg3 : Memref sig .scVector .hbm S200704x256 .f32) (harg3 : arg3.IsWhole) (arg4 : Memref sig .scVector .hbm S196x128x64 .i32) (harg4 : arg4.IsWhole) (arg5 : Memref sig .scVector .hbm S32768x256 .f32) (harg5 : arg5.IsWhole) (arg6 : Memref sig .scVector .vmem S2x1024 .i32) (harg6 : arg6.IsWhole) (arg7 : Memref sig .scVector .vmem S2x64 .i32) (harg7 : arg7.IsWhole) (arg8 : Memref sig .scVector .vmem S16x1x256 .f32) (harg8 : arg8.IsWhole) (arg9 : Memref sig .scVector .vmem S256x256 .f32) (harg9 : arg9.IsWhole) (arg10 : Memref sig .scVector .smem S16 .i32) (harg10 : arg10.IsWhole) (arg11 : Memref sig .scVector .smem S2 .i32) (harg11 : arg11.IsWhole) (arg12 : DmaSems sig S2) (arg13 : DmaSems sig S2) (arg14 : DmaSems sig S16) (v64_r0 : DmaSems sig S_)
variable (EC : UEmb Counters (MT nD τ sig Ix (Elt F) Name U Lvl)) (ι : Ix) (H : S200704x256.Idx → F .f32) (O : Debt nD τ sig Ix) (I : S200704.Idx → BitVec 32) (lo : ℕ)

omit [Infinite Name] in
theorem idx_owns (s : Fin 2) (q : PosShare TreeShare) (X : S1024.Idx → BitVec 32) :
    (owns (tile d i) (idxM arg6 s) q (X : S1024.Idx → Elt F .i32) : sProp 𝕄)
      = owns (tile d i) (arg6.slice (Rect.unit (s := S2x1024) ![s.val, 0] S1x1024.size (idx_inb s)) (fun _ => rfl)) q (fun j : S1x1024.Idx => X (ix1 (j 1))) := by
  unfold idxM
  rw [owns_squeeze]
  exact congrArg (owns (tile d i) _ q) (funext fun j => congrArg X (chunk_symm' (by decide) j))

omit [Infinite Name] in
theorem idx_load {off : Fin 2 → ℕ} {h : ∀ a, off a + S1x16.size a ≤ S2x1024.size a} (s : Fin 2) (o : ℕ) (ho : o + 16 ≤ 1024) (e : off = ![s.val, o])
    {hl : arg6.view.LoadsAt (Rect.unit (s := S2x1024) off S1x16.size h).toLoadRect} {X : S1024.Idx → BitVec 32} {Q : Vec F S1x16 .i32 → sProp 𝕄} :
    (owns (tile d i) (idxM arg6 s) fullShare (X : S1024.Idx → Elt F .i32) : sProp 𝕄)
      ⊢ iprop((∀ v : Vec F S1x16 .i32, ⌜∀ k : Fin 16, v (ix2 0 k) = X (ix1 (⟨o + k.val, by omega⟩ : Fin 1024))⌝
          -∗ owns (tile d i) (idxM arg6 s) fullShare (X : S1024.Idx → Elt F .i32) -∗ Q v)
        -∗ wp frame (wpE defs 𝒱 (tile d i) bd) Set.univ (Prog.lift (.load arg6 (Rect.unit (s := S2x1024) off S1x16.size h).toLoadRect hl)) Q) := by
  subst e
  rw [idx_owns]
  iintro H HQ
  iapply (own_load_slice 𝒱 (tile d i) bd (fun y : S1x16.Idx => (ix2 (0 : Fin 1) (⟨o + (y 1).val, by have h : (y 1).val < 16 := (y 1).isLt; omega⟩ : Fin 1024) : S1x1024.Idx))
    (fun y => by
      funext a; apply Fin.ext; rw [emb_unit_val, emb_unit_val]
      have h0 : (y 0).val < 1 := (y 0).isLt
      fin_cases a
      · show s.val + (y 0).val = s.val + 0; omega
      · show o + (y 1).val = 0 + (o + (y 1).val); omega)) $$ H
  iintro H
  iapply HQ $$ %_ [] H
  ipureintro
  intro k
  rfl

/-- A loop of no trips is passed over. -/
theorem skip_loop {α β : Type} {L : Scf.Loop 32} {hL : L.OK} (hT : L.trips = 0) {a : α}
    {body : Fin L.trips → α → Prog (TpuEff nD τ sig (Elt F) Λ₀ (.scVector ((i 0).castLE hcore1) ((i 1).castLE hsub1))) α}
    {kk : α → Prog (TpuEff nD τ sig (Elt F) Λ₀ (.scVector ((i 0).castLE hcore1) ((i 1).castLE hsub1))) β} {Q : β → sProp 𝕄} :
    (wp frame (wpE defs 𝒱 (tile d i) bd) Set.univ (kk a) Q : sProp 𝕄) ⊢ wp frame (wpE defs 𝒱 (tile d i) bd) Set.univ (Scf.Loop.for L hL a body >>= kk) Q := by
  rw [show Scf.Loop.for L hL a body = Prog.ret a from Scf.for_eq_ret _ _ _ hL a body hT]
  exact Entails.rfl

theorem part5_wp (v2 : IVec S16 32) (v7 v8 : BitVec 32) (k1_t4 : Fin k1_t4_loop.trips) (v64 : BitVec 32) (k1_t5 : Fin k1_t5_loop.trips)
    (arg19 v148 : BitVec 32) (k1_h1 : k1_cond1 v148 = 1#1) (k1_t6 : Fin (k1_t6_loop v148).trips) (a : IVec S16 32)
    (w : Fin 16) (hk : extractAt ![0] (k1_pay7 v2 a) inpos_S1_p0 = BitVec.ofNat 32 w.val) (X : S1024.Idx → BitVec 32) {Q : _ → sProp 𝕄} :
    owns (tile d i) (idxM arg6 ⟨k1_t4.val % 2, Nat.mod_lt _ (by omega)⟩) fullShare (X : S1024.Idx → Elt F .i32)
      ⊢ iprop((∀ v194 : Vec F S1x16 .i32, ⌜∀ k : Fin 16, v194 (ix2 0 k) = X (ix1 (⟨(16 * k1_t5.val + w.val) * 16 + k.val, by
            have h5 : k1_t5.val < 4 := lt_of_lt_of_le k1_t5.isLt k1_t5_abs.2.1
            omega⟩ : Fin 1024))⌝
          -∗ owns (tile d i) (idxM arg6 ⟨k1_t4.val % 2, Nat.mod_lt _ (by omega)⟩) fullShare (X : S1024.Idx → Elt F .i32)
          -∗ Q ⟨BitVec.ofNat 32 w.val, Scalar.addi (Scalar.muli arg19 16#32) (BitVec.ofNat 32 w.val), k1_pay8 (F := F) v194, k1_pay9 (F := F) v7 v8 v194,
            k1_pay10 (F := F) v7 v8 v194, k1_pay11 (F := F) v7 v8 v194, k1_pay12⟩)
        -∗ wp frame (wpE defs 𝒱 (tile d i) bd) Set.univ (k1_part5 i arg2 harg2 arg3 harg3 arg4 harg4 arg5 harg5 arg6 harg6 arg7 harg7 arg8 harg8 arg9 harg9 arg10 harg10 arg11 harg11 arg12 arg13 arg14 v64_r0 v2 v7 v8 k1_t4 v64 k1_t5 arg19 v148 k1_h1 0#32 1#32 k1_t6 a) Q) := by
  have h5 : k1_t5.val < 4 := lt_of_lt_of_le k1_t5.isLt k1_t5_abs.2.1
  have hc : k1_chk2 k1_t4 k1_t5 v148 (extractAt ![0] (k1_pay7 v2 a) inpos_S1_p0) := by rw [hk]; exact chk2_ok k1_t4 k1_t5 v148 w
  have ho : k1_off9 k1_t4 k1_t5 (extractAt ![0] (k1_pay7 v2 a) inpos_S1_p0) = ![k1_t4.val % 2, (16 * k1_t5.val + w.val) * 16] := by
    rw [hk]; exact off9_eq k1_t4 k1_t5 w
  rw [k1_part5_eq_skeleton]
  unfold k1_part5_skel
  dsimp only
  rw [← hk, wp_bind]
  iintro H HQ
  iapply (own_assume 𝒱 (tile d i) bd hc)
  rw [wp_bind]
  iapply (idx_load 𝒱 d i bd arg6 ⟨k1_t4.val % 2, Nat.mod_lt _ (by omega)⟩ ((16 * k1_t5.val + w.val) * 16) (by omega) ho) $$ H
  iintro %v194 %hv194 H
  rw [show ∀ x, (pure x : Prog (TpuEff nD τ sig (Elt F) Λ₀ (tile d i).2) _) = Prog.ret x from fun _ => rfl, wp_ret]
  imodintro
  iapply HQ $$ %v194 [] H
  ipureintro
  exact hv194

theorem part6_wp (v2 : IVec S16 32) (v148 : BitVec 32) (v203 v208 v209 : IVec S16 32) (v253 : BitVec 32)
    (hk : extractAt ![0] (k1_pay13 v2 v203 v208 v209) inpos_S1_p0 = v253) (hc : k1_chk3 v148 v253) {Q : _ → sProp 𝕄} :
    Q ⟨v253, hc, k1_pay14, k1_pay15⟩
      ⊢ wp frame (wpE defs 𝒱 (tile d i) bd) Set.univ (k1_part6 i arg2 harg2 arg3 harg3 arg4 harg4 arg5 harg5 arg6 harg6 arg7 harg7 arg8 harg8 arg9 harg9 arg10 harg10 arg11 harg11 arg12 arg13 arg14 v64_r0 v2 v148 v203 v208 v209) Q := by
  subst hk
  rw [k1_part6_eq_skeleton]
  unfold k1_part6_skel
  dsimp only
  rw [wp_bind]
  iintro H
  iapply (own_assume 𝒱 (tile d i) bd hc)
  rw [show ∀ x, (pure x : Prog (TpuEff nD τ sig (Elt F) Λ₀ (tile d i).2) _) = Prog.ret x from fun _ => rfl, wp_ret]
  imodintro
  iexact H

theorem word_step [EC.LandsIn (upEmb : UEmb _ 𝕄)] (hlo : lo + 256 < 2 ^ 31) (v2 : IVec S16 32) (hv : ∀ k : Fin 16, v2 (ix1 k) = BitVec.ofNat 32 k.val)
    (k1_t1 : Fin k1_t1_loop.trips) (k1_t4 : Fin k1_t4_loop.trips) (arg17 v64 : BitVec 32) (k1_t5 : Fin k1_t5_loop.trips) (arg19 v148 : BitVec 32)
    (k1_hw1 : k1_chk1 v148) (k1_h1 : k1_cond1 v148 = 1#1) (k1_t6 : Fin (k1_t6_loop v148).trips) (a : IVec S16 32) (R : Finset (Fin 16)) (ha : LaneSet a R)
    (hR : R.Nonempty) (W : Finset ℕ) (hW : ∀ w ∈ R, 64 * k1_t4.val + 16 * k1_t5.val + w.val ∉ W) {Q : IVec S16 32 → sProp 𝕄} :
    iprop(ringSome d i arg3 arg8 arg9 arg10 arg11 arg14 EC ι H O I lo (fs I lo W) ∗ MayWaits (tile d i) ι O.t
      ∗ owns (tile d i) (idxM arg6 ⟨k1_t4.val % 2, Nat.mod_lt _ (by omega)⟩) fullShare (idxChunk I k1_t4.val (lt_of_lt_of_le k1_t4.isLt k1_t4_abs.2.1) : S1024.Idx → Elt F .i32))
      ⊢ iprop((∀ w a', ⌜w ∈ R ∧ LaneSet a' (R.erase w)⌝
          -∗ ringSome d i arg3 arg8 arg9 arg10 arg11 arg14 EC ι H O I lo (fs I lo (insert (64 * k1_t4.val + 16 * k1_t5.val + w.val) W))
          -∗ owns (tile d i) (idxM arg6 ⟨k1_t4.val % 2, Nat.mod_lt _ (by omega)⟩) fullShare (idxChunk I k1_t4.val (lt_of_lt_of_le k1_t4.isLt k1_t4_abs.2.1) : S1024.Idx → Elt F .i32)
          -∗ Q a')
        -∗ wp frame (wpE defs 𝒱 (tile d i) bd) Set.univ (k1_t6_body i arg2 harg2 arg3 harg3 arg4 harg4 arg5 harg5 arg6 harg6 arg7 harg7 arg8 harg8 arg9 harg9 arg10 harg10 arg11 harg11 arg12 arg13 arg14 v64_r0 v2 k1_t1 (BitVec.ofNat 32 lo) (BitVec.ofNat 32 (lo + 256)) k1_t4 arg17 v64 k1_t5 arg19 v148
          k1_hw1 k1_h1 k1_t6 a) Q) := by
  iintro ⟨HR, #Hm, H6⟩ HQ
  obtain ⟨w, hw, hk⟩ := pay7_lane v2 hv a R ha hR
  unfold k1_t6_body
  rw [wp_bind]
  iapply (part5_wp (hk := hk) (X := idxChunk I k1_t4.val (lt_of_lt_of_le k1_t4.isLt k1_t4_abs.2.1))) $$ H6
  iintro %v194 %hv194 H6
  have h8 : ∀ k : Fin 16, k1_pay8 (F := F) v194 (ix1 k) = I (ix1 (pt k1_t4 k1_t5 w k)) := fun k => by
    rw [pay8_at, hv194]
    exact congrArg (fun n => I (ix1 n)) (Fin.ext (by
      show 1024 * k1_t4.val + ((16 * k1_t5.val + w.val) * 16 + k.val) = 1024 * k1_t4.val + (16 * k1_t5.val + w.val) * 16 + k.val
      omega))
  have h9 : (Finset.univ.filter fun k : Fin 16 => k1_pay9 (F := F) (BitVec.ofNat 32 lo) (BitVec.ofNat 32 (lo + 256)) v194 (ix1 k) = 1#1) = hits I lo k1_t4 k1_t5 w := by
    ext k
    rw [Finset.mem_filter, hits, Finset.mem_filter, pay9_iff lo hlo, h8]
    exact Iff.rfl
  dsimp only
  rw [wp_bind]
  have hN : (hits I lo k1_t4 k1_t5 w).card < 2 ^ 31 := lt_of_le_of_lt (Finset.card_le_univ _) (by decide)
  iapply (part6_wp (v253 := BitVec.ofNat 32 (hits I lo k1_t4 k1_t5 w).card) (hk := by rw [pay13_count v2 hv, h9]) (hc := chk3_ok v148 hN))
  dsimp only
  ihave HL : iprop(∃ R' : Finset (Fin 16), ⌜R' ⊆ hits I lo k1_t4 k1_t5 w ∧ LaneSet (k1_pay35 (k1_pay9 (F := F) (BitVec.ofNat 32 lo) (BitVec.ofNat 32 (lo + 256)) v194) k1_pay14 k1_pay15) R'
      ∧ R'.card + 0 = (hits I lo k1_t4 k1_t5 w).card⌝
    ∗ ringSome d i arg3 arg8 arg9 arg10 arg11 arg14 EC ι H O I lo (fs I lo W ∪ (hits I lo k1_t4 k1_t5 w \ R').image (pt k1_t4 k1_t5 w)) ∗ MayWaits (tile d i) ι O.t) $$ [HR]
  · iexists hits I lo k1_t4 k1_t5 w
    isplitr
    · ipureintro
      refine ⟨Finset.Subset.refl _, ?_, rfl⟩
      rw [← h9]; exact pay35_lanes _
    rw [image_start]
    isplitl [HR]; · iexact HR
    iexact Hm
  iapply (Scf.wp_for_bind frame (wpE defs 𝒱 (tile d i) bd) Set.univ _ _ _ (k1_t7_ok v148 _ (chk3_ok v148 hN) k1_h1) _ _
    (fun k acc => iprop(∃ R' : Finset (Fin 16), ⌜R' ⊆ hits I lo k1_t4 k1_t5 w ∧ LaneSet acc R' ∧ R'.card + k = (hits I lo k1_t4 k1_t5 w).card⌝
      ∗ ringSome d i arg3 arg8 arg9 arg10 arg11 arg14 EC ι H O I lo (fs I lo W ∪ (hits I lo k1_t4 k1_t5 w \ R').image (pt k1_t4 k1_t5 w)) ∗ MayWaits (tile d i) ι O.t))
    (fun k acc => by
      iintro ⟨%R', %hR', HR, #Hm⟩
      obtain ⟨hsub, hacc, hcard⟩ := hR'
      have hkt : k.val < (hits I lo k1_t4 k1_t5 w).card := by
        have h1 : k.val < (k1_t7_loop (BitVec.ofNat 32 (hits I lo k1_t4 k1_t5 w).card)).trips := k.isLt
        rwa [t7_trips hN] at h1
      have hne : R'.Nonempty := Finset.card_pos.mp (by omega)
      iapply (lane_step 𝒱 d i bd (EC := EC) (ι := ι) (H := H) (O := O) (I := I) (lo := lo) (v2 := v2) (hv := hv) (w := w) (ha := hacc) (hR := hne) (hx := h8)
        (hit := fun l hl => (Finset.mem_filter.mp (hsub hl)).2)
        (hn := fun l hl => image_notMem (pt_inj k1_t4 k1_t5 w) hl (pt_fresh k1_t4 k1_t5 w I lo (hW w hw) l))) $$ [HR]
      · isplitl [HR]; · iexact HR
        iexact Hm
      iintro %l %a' %hl HR
      iexists R'.erase l
      isplitr
      · ipureintro
        exact ⟨(Finset.erase_subset _ _).trans hsub, hl.2, by rw [Finset.card_erase_of_mem hl.1]; omega⟩
      rw [image_step _ _ hsub hl.1]
      isplitl [HR]; · iexact HR
      iexact Hm)) $$ HL
  iintro %acc HL
  icases HL with ⟨%R', %hR', HR, -⟩
  obtain ⟨hsub, hacc, hcard⟩ := hR'
  have hT : Scf.trips (k1_t7_loop (BitVec.ofNat 32 (hits I lo k1_t4 k1_t5 w).card)).lb (k1_t7_loop (BitVec.ofNat 32 (hits I lo k1_t4 k1_t5 w).card)).ub
    (k1_t7_loop (BitVec.ofNat 32 (hits I lo k1_t4 k1_t5 w).card)).st = (hits I lo k1_t4 k1_t5 w).card := t7_trips hN
  have he : R' = ∅ := Finset.card_eq_zero.mp (by omega)
  subst he
  rw [fs_insert]
  iapply (skip_loop 𝒱 d i bd (t9_trips hN))
  rw [show ∀ x, (pure x : Prog (TpuEff nD τ sig (Elt F) Λ₀ (tile d i).2) (IVec S16 32)) = Prog.ret x from fun _ => rfl, wp_ret]
  imodintro
  iapply HQ $$ %w %_ [] HR H6
  ipureintro
  exact ⟨hw, pay36_erase ha v2 hv w⟩

end Body

end Cert.Pillar
-- ==== Proof.Groups.lean ====
/- One group of sixteen words: the positive ones are scanned in order. -/
module

public import proofs.«01_k».proof.Proof.Words

@[expose] public section

noncomputable section

namespace Cert.Pillar

open Idealize.ShloMosaic Idealize.ShloMosaic.Transfers
open Idealize.SL
open Idealize.SL.BI (sProp bigSep bigSep_univ_update bigSep_univ_at)
open scoped Idealize.SL.BI
open Idealize.SL.BI.BIBase Idealize.SL.BI.Laws Idealize.SL.Sem Idealize.SL.ProofMode
open Idealize.SL.RA Cert.KernelIdeal Cert.KernelIdeal.Gen

variable {F : FTy → Type} [FloatOps F]

theorem bm_inb (s : Fin 2) : ∀ a, (![s.val, 0] : Fin 2 → ℕ) a + S1x64.size a ≤ S2x64.size a := by
  intro a; fin_cases a
  · show s.val + 1 ≤ 2; omega
  · show 0 + 64 ≤ 64; omega

/-- Slot `s` of the bitmap buffer. -/
def bmM (arg7 : Memref sig .scVector .vmem S2x64 .i32) (s : Fin 2) : Memref sig .scVector .vmem S64 .i32 :=
  (arg7.slice (Rect.unit (s := S2x64) ![s.val, 0] S1x64.size (bm_inb s)) (fun _ => rfl)).squeeze S64 squeezes_S1x64_S64

/-- The words of chunk `t`. -/
def bmChunk (Bw : ℕ → BitVec 32) (t : ℕ) : S64.Idx → BitVec 32 := fun k => Bw (64 * t + (k 0).val)

theorem words_symm_at (h : S1x64.numel = S64.numel) (l : Fin 64) :
    (Shape.reshapeEquiv h.symm).symm (ix2 (0 : Fin 1) l : S1x64.Idx) = (ix1 l : S64.Idx) := by
  rw [Equiv.symm_apply_eq]
  exact (Shape.reshapeEquiv_eq_of_rowMajor h.symm (x := ix1 l) (y := ix2 0 l) (by
    rw [Shape.rowMajor_val_two, Shape.rowMajor_val_one]; show 0 * 64 + l.val = l.val; omega)).symm

theorem words_symm (h : S1x64.numel = S64.numel) (j : S1x64.Idx) :
    (Shape.reshapeEquiv h.symm).symm j = (ix1 (j 1) : S64.Idx) := by
  have hj : j = ix2 (0 : Fin 1) (j 1) := by
    funext a
    have h0 : (j 0).val < 1 := (j 0).isLt
    fin_cases a
    · exact Fin.ext (by show (j 0).val = 0; omega)
    · rfl
  rw [hj]
  exact words_symm_at h (j 1)

section Body

variable {Ix : Type} [DecidableEq Ix] {Name : Type} [DecidableEq Name] [Infinite Name] {U : Type} [URA U] {Lvl : Type} [Preorder Lvl]
variable {defs : Defs nD τ sig (Elt F) Λ₀} (𝒱 : Variants) (d : Fin nD) (i : grid1.Coords) (bd : Option 𝒱.V)

local notation "𝕄" => MT nD τ sig Ix (Elt F) Name U Lvl

variable (arg2 : Memref sig .scVector .hbm S200704 .i32) (harg2 : arg2.IsWhole) (arg3 : Memref sig .scVector .hbm S200704x256 .f32) (harg3 : arg3.IsWhole) (arg4 : Memref sig .scVector .hbm S196x128x64 .i32) (harg4 : arg4.IsWhole) (arg5 : Memref sig .scVector .hbm S32768x256 .f32) (harg5 : arg5.IsWhole) (arg6 : Memref sig .scVector .vmem S2x1024 .i32) (harg6 : arg6.IsWhole) (arg7 : Memref sig .scVector .vmem S2x64 .i32) (harg7 : arg7.IsWhole) (arg8 : Memref sig .scVector .vmem S16x1x256 .f32) (harg8 : arg8.IsWhole) (arg9 : Memref sig .scVector .vmem S256x256 .f32) (harg9 : arg9.IsWhole) (arg10 : Memref sig .scVector .smem S16 .i32) (harg10 : arg10.IsWhole) (arg11 : Memref sig .scVector .smem S2 .i32) (harg11 : arg11.IsWhole) (arg12 : DmaSems sig S2) (arg13 : DmaSems sig S2) (arg14 : DmaSems sig S16) (v64_r0 : DmaSems sig S_)
variable (EC : UEmb Counters (MT nD τ sig Ix (Elt F) Name U Lvl)) (ι : Ix) (H : S200704x256.Idx → F .f32) (O : Debt nD τ sig Ix) (I : S200704.Idx → BitVec 32) (lo : ℕ) (Bw : ℕ → BitVec 32)

omit [Infinite Name] in
theorem bm_owns (s : Fin 2) (q : PosShare TreeShare) (X : S64.Idx → BitVec 32) :
    (owns (tile d i) (bmM arg7 s) q (X : S64.Idx → Elt F .i32) : sProp 𝕄)
      = owns (tile d i) (arg7.slice (Rect.unit (s := S2x64) ![s.val, 0] S1x64.size (bm_inb s)) (fun _ => rfl)) q (fun j : S1x64.Idx => X (ix1 (j 1))) := by
  unfold bmM
  rw [owns_squeeze]
  exact congrArg (owns (tile d i) _ q) (funext fun j => congrArg X (words_symm (by decide) j))

omit [Infinite Name] in
theorem bm_load {off : Fin 2 → ℕ} {h : ∀ a, off a + S1x16.size a ≤ S2x64.size a} (s : Fin 2) (o : ℕ) (ho : o + 16 ≤ 64) (e : off = ![s.val, o])
    {hl : arg7.view.LoadsAt (Rect.unit (s := S2x64) off S1x16.size h).toLoadRect} {X : S64.Idx → BitVec 32} {Q : Vec F S1x16 .i32 → sProp 𝕄} :
    (owns (tile d i) (bmM arg7 s) fullShare (X : S64.Idx → Elt F .i32) : sProp 𝕄)
      ⊢ iprop((∀ v : Vec F S1x16 .i32, ⌜∀ k : Fin 16, v (ix2 0 k) = X (ix1 (⟨o + k.val, by omega⟩ : Fin 64))⌝
          -∗ owns (tile d i) (bmM arg7 s) fullShare (X : S64.Idx → Elt F .i32) -∗ Q v)
        -∗ wp frame (wpE defs 𝒱 (tile d i) bd) Set.univ (Prog.lift (.load arg7 (Rect.unit (s := S2x64) off S1x16.size h).toLoadRect hl)) Q) := by
  subst e
  rw [bm_owns]
  iintro H HQ
  iapply (own_load_slice 𝒱 (tile d i) bd (fun y : S1x16.Idx => (ix2 (0 : Fin 1) (⟨o + (y 1).val, by have h : (y 1).val < 16 := (y 1).isLt; omega⟩ : Fin 64) : S1x64.Idx))
    (fun y => by
      funext a; apply Fin.ext; rw [emb_unit_val, emb_unit_val]
      have h0 : (y 0).val < 1 := (y 0).isLt
      fin_cases a
      · show s.val + (y 0).val = s.val + 0; omega
      · show o + (y 1).val = 0 + (o + (y 1).val); omega)) $$ H
  iintro H
  iapply HQ $$ %_ [] H
  ipureintro
  intro k
  rfl

theorem group_step [EC.LandsIn (upEmb : UEmb _ 𝕄)] (hlo : lo + 256 < 2 ^ 31) (v2 : IVec S16 32) (hv : ∀ k : Fin 16, v2 (ix1 k) = BitVec.ofNat 32 k.val)
    (k1_t1 : Fin k1_t1_loop.trips) (k1_t4 : Fin k1_t4_loop.trips) (arg17 v64 : BitVec 32) (k1_t5 : Fin k1_t5_loop.trips) (arg20 : BitVec 32)
    {Q : BitVec 32 → sProp 𝕄} :
    iprop(ringSome d i arg3 arg8 arg9 arg10 arg11 arg14 EC ι H O I lo (fs I lo (pw Bw (64 * k1_t4.val + 16 * k1_t5.val))) ∗ MayWaits (tile d i) ι O.t
      ∗ owns (tile d i) (idxM arg6 ⟨k1_t4.val % 2, Nat.mod_lt _ (by omega)⟩) fullShare (idxChunk I k1_t4.val (lt_of_lt_of_le k1_t4.isLt k1_t4_abs.2.1) : S1024.Idx → Elt F .i32)
      ∗ owns (tile d i) (bmM arg7 ⟨k1_t4.val % 2, Nat.mod_lt _ (by omega)⟩) fullShare (bmChunk Bw k1_t4.val : S64.Idx → Elt F .i32))
      ⊢ iprop((∀ r, ringSome d i arg3 arg8 arg9 arg10 arg11 arg14 EC ι H O I lo (fs I lo (pw Bw (64 * k1_t4.val + 16 * k1_t5.val + 16)))
          -∗ owns (tile d i) (idxM arg6 ⟨k1_t4.val % 2, Nat.mod_lt _ (by omega)⟩) fullShare (idxChunk I k1_t4.val (lt_of_lt_of_le k1_t4.isLt k1_t4_abs.2.1) : S1024.Idx → Elt F .i32)
          -∗ owns (tile d i) (bmM arg7 ⟨k1_t4.val % 2, Nat.mod_lt _ (by omega)⟩) fullShare (bmChunk Bw k1_t4.val : S64.Idx → Elt F .i32)
          -∗ Q r)
        -∗ wp frame (wpE defs 𝒱 (tile d i) bd) Set.univ (k1_t5_body i arg2 harg2 arg3 harg3 arg4 harg4 arg5 harg5 arg6 harg6 arg7 harg7 arg8 harg8 arg9 harg9 arg10 harg10 arg11 harg11 arg12 arg13 arg14 v64_r0 v2 k1_t1 (BitVec.ofNat 32 lo) (BitVec.ofNat 32 (lo + 256)) k1_t4 arg17 v64 k1_t5 arg20) Q) := by
  iintro ⟨HR, #Hm, H6, H7⟩ HQ
  have h5 : k1_t5.val < 4 := lt_of_lt_of_le k1_t5.isLt k1_t5_abs.2.1
  unfold k1_t5_body
  rw [k1_part13_eq_skeleton]
  unfold k1_part13_skel
  dsimp only
  rw [wp_bind, wp_bind]
  iapply (bm_load 𝒱 d i bd arg7 ⟨k1_t4.val % 2, Nat.mod_lt _ (by omega)⟩ (16 * k1_t5.val) (by omega) (k1_off8_eq k1_t4 k1_t5)) $$ H7
  iintro %v92 %hv92 H7
  rw [show ∀ x, (pure x : Prog (TpuEff nD τ sig (Elt F) Λ₀ (tile d i).2) (Σ' (_ : BitVec 32) (_ : IVec S16 32), IVec S16 32)) = Prog.ret x from fun _ => rfl, wp_ret]
  imodintro
  dsimp only
  have h31 : ∀ k : Fin 16, k1_pay31 (F := F) v92 (ix1 k) = Bw (64 * k1_t4.val + 16 * k1_t5.val + k.val) := fun k => by
    rw [pay31_at, hv92]
    show Bw (64 * k1_t4.val + (16 * k1_t5.val + k.val)) = _
    rw [Nat.add_assoc]
  have hf : (Finset.univ.filter fun k : Fin 16 => 0 < (k1_pay31 (F := F) v92 (ix1 k)).toInt) = posw Bw (64 * k1_t4.val + 16 * k1_t5.val) := by
    ext k
    rw [Finset.mem_filter, posw, Finset.mem_filter, h31]
  have hL : LaneSet (k1_pay31 (F := F) v92) (posw Bw (64 * k1_t4.val + 16 * k1_t5.val)) := by
    intro k
    rw [h31, posw, Finset.mem_filter]
    exact ⟨fun h => ⟨Finset.mem_univ _, h⟩, fun h => h.2⟩
  have hk : extractAt ![0] (k1_pay34 v2 (k1_pay32 v2 v92)) inpos_S1_p0 = BitVec.ofNat 32 (posw Bw (64 * k1_t4.val + 16 * k1_t5.val)).card := by
    rw [pay34_count v2 hv, hf]
  have hN : (posw Bw (64 * k1_t4.val + 16 * k1_t5.val)).card < 2 ^ 31 := lt_of_le_of_lt (Finset.card_le_univ _) (by decide)
  have hc : k1_chk1 (extractAt ![0] (k1_pay34 v2 (k1_pay32 v2 v92)) inpos_S1_p0) := by rw [hk]; exact chk0_ok hN
  have hT6 : (k1_t6_loop (extractAt ![0] (k1_pay34 v2 (k1_pay32 v2 v92)) inpos_S1_p0)).trips = (posw Bw (64 * k1_t4.val + 16 * k1_t5.val)).card := by
    rw [hk]; exact t6_trips hN
  have hT11 : (k1_t11_loop (extractAt ![0] (k1_pay34 v2 (k1_pay32 v2 v92)) inpos_S1_p0)).trips = 0 := by
    rw [hk]; exact t11_trips hN
  rw [wp_bind]
  iapply (own_assume 𝒱 (tile d i) bd hc)
  by_cases h1 : k1_cond1 (extractAt ![0] (k1_pay34 v2 (k1_pay32 v2 v92)) inpos_S1_p0) = 1#1
  · rw [dif_pos h1]
    ihave HL : iprop(∃ R' : Finset (Fin 16), ⌜R' ⊆ posw Bw (64 * k1_t4.val + 16 * k1_t5.val) ∧ LaneSet (k1_pay31 (F := F) v92) R'
        ∧ R'.card + 0 = (posw Bw (64 * k1_t4.val + 16 * k1_t5.val)).card⌝
      ∗ ringSome d i arg3 arg8 arg9 arg10 arg11 arg14 EC ι H O I lo (fs I lo (pw Bw (64 * k1_t4.val + 16 * k1_t5.val)
          ∪ (posw Bw (64 * k1_t4.val + 16 * k1_t5.val) \ R').image (fun w : Fin 16 => 64 * k1_t4.val + 16 * k1_t5.val + w.val)))
      ∗ MayWaits (tile d i) ι O.t
      ∗ owns (tile d i) (idxM arg6 ⟨k1_t4.val % 2, Nat.mod_lt _ (by omega)⟩) fullShare (idxChunk I k1_t4.val (lt_of_lt_of_le k1_t4.isLt k1_t4_abs.2.1) : S1024.Idx → Elt F .i32)) $$ [HR H6]
    · iexists posw Bw (64 * k1_t4.val + 16 * k1_t5.val)
      isplitr
      · ipureintro; exact ⟨Finset.Subset.refl _, hL, rfl⟩
      rw [image_start]
      isplitl [HR]; · iexact HR
      isplitr; · iexact Hm
      iexact H6
    iapply (Scf.wp_for_bind frame (wpE defs 𝒱 (tile d i) bd) Set.univ _ _ _ (k1_t6_ok _ hc h1) _ _
      (fun k acc => iprop(∃ R' : Finset (Fin 16), ⌜R' ⊆ posw Bw (64 * k1_t4.val + 16 * k1_t5.val) ∧ LaneSet acc R'
          ∧ R'.card + k = (posw Bw (64 * k1_t4.val + 16 * k1_t5.val)).card⌝
        ∗ ringSome d i arg3 arg8 arg9 arg10 arg11 arg14 EC ι H O I lo (fs I lo (pw Bw (64 * k1_t4.val + 16 * k1_t5.val)
            ∪ (posw Bw (64 * k1_t4.val + 16 * k1_t5.val) \ R').image (fun w : Fin 16 => 64 * k1_t4.val + 16 * k1_t5.val + w.val)))
        ∗ MayWaits (tile d i) ι O.t
        ∗ owns (tile d i) (idxM arg6 ⟨k1_t4.val % 2, Nat.mod_lt _ (by omega)⟩) fullShare (idxChunk I k1_t4.val (lt_of_lt_of_le k1_t4.isLt k1_t4_abs.2.1) : S1024.Idx → Elt F .i32)))
      (fun k acc => by
        iintro ⟨%R', %hR', HR, #Hm, H6⟩
        obtain ⟨hsub, hacc, hcard⟩ := hR'
        have hkt : k.val < (posw Bw (64 * k1_t4.val + 16 * k1_t5.val)).card := by
          have h : k.val < (k1_t6_loop (extractAt ![0] (k1_pay34 v2 (k1_pay32 v2 v92)) inpos_S1_p0)).trips := k.isLt
          rwa [hT6] at h
        have hne : R'.Nonempty := Finset.card_pos.mp (by omega)
        iapply (word_step 𝒱 d i bd (EC := EC) (ι := ι) (H := H) (O := O) (I := I) (lo := lo) (hlo := hlo) (v2 := v2) (hv := hv) (ha := hacc) (hR := hne)
          (W := pw Bw (64 * k1_t4.val + 16 * k1_t5.val) ∪ (posw Bw (64 * k1_t4.val + 16 * k1_t5.val) \ R').image (fun w : Fin 16 => 64 * k1_t4.val + 16 * k1_t5.val + w.val))
          (hW := fun w hw => image_notMem (add_inj _) hw (pw_fresh Bw _ w))) $$ [HR H6]
        · isplitl [HR]; · iexact HR
          isplitr; · iexact Hm
          iexact H6
        iintro %w %a' %hw HR H6
        iexists R'.erase w
        isplitr
        · ipureintro
          exact ⟨(Finset.erase_subset _ _).trans hsub, hw.2, by rw [Finset.card_erase_of_mem hw.1]; omega⟩
        rw [← image_step (fun w : Fin 16 => 64 * k1_t4.val + 16 * k1_t5.val + w.val) _ hsub hw.1]
        isplitl [HR]; · iexact HR
        isplitr; · iexact Hm
        iexact H6)) $$ HL
    iintro %acc HL
    icases HL with ⟨%R', %hR', HR, -, H6⟩
    obtain ⟨hsub, hacc, hcard⟩ := hR'
    have hT : Scf.trips (k1_t6_loop (extractAt ![0] (k1_pay34 v2 (k1_pay32 v2 v92)) inpos_S1_p0)).lb (k1_t6_loop (extractAt ![0] (k1_pay34 v2 (k1_pay32 v2 v92)) inpos_S1_p0)).ub
      (k1_t6_loop (extractAt ![0] (k1_pay34 v2 (k1_pay32 v2 v92)) inpos_S1_p0)).st = (posw Bw (64 * k1_t4.val + 16 * k1_t5.val)).card := hT6
    have he : R' = ∅ := Finset.card_eq_zero.mp (by omega)
    subst he
    rw [pw_add]
    iapply (skip_loop 𝒱 d i bd hT11)
    rw [show ∀ x, (pure x : Prog (TpuEff nD τ sig (Elt F) Λ₀ (tile d i).2) (BitVec 32)) = Prog.ret x from fun _ => rfl, wp_ret]
    imodintro
    iapply HQ $$ %_ HR H6 H7
  · rw [dif_neg h1]
    have he : posw Bw (64 * k1_t4.val + 16 * k1_t5.val) = ∅ := by
      rw [cond1_iff, hk, toInt_ofNat hN] at h1
      exact Finset.card_eq_zero.mp (by omega)
    have hpw := pw_add Bw (64 * k1_t4.val + 16 * k1_t5.val)
    rw [he, image_start] at hpw
    rw [← hpw]
    rw [show ∀ x, (pure x : Prog (TpuEff nD τ sig (Elt F) Λ₀ (tile d i).2) (BitVec 32)) = Prog.ret x from fun _ => rfl, wp_ret]
    imodintro
    iapply HQ $$ %_ HR H6 H7

end Body

end Cert.Pillar
-- ==== Proof.Chunks.lean ====
/- One chunk: its indices and words arrive, its four groups are scanned, and the next chunk but one is fetched into its slot. -/
module

public import proofs.«01_k».proof.Proof.Groups

@[expose] public section

noncomputable section

namespace Cert.Pillar

open Idealize.ShloMosaic Idealize.ShloMosaic.Transfers
open Idealize.SL
open Idealize.SL.BI (sProp bigSep bigSep_univ_update bigSep_univ_at)
open scoped Idealize.SL.BI
open Idealize.SL.BI.BIBase Idealize.SL.BI.Laws Idealize.SL.Sem Idealize.SL.ProofMode
open Idealize.SL.RA Cert.KernelIdeal Cert.KernelIdeal.Gen

variable {F : FTy → Type} [FloatOps F]

theorem sem2_inb (s : Fin 2) : ∀ a, (![s.val] : Fin 1 → ℕ) a + S1.size a ≤ S2.size a := by
  intro a; fin_cases a; show s.val + 1 ≤ 2; omega

/-- Semaphore `s` of a pair. -/
def semS (a : DmaSems sig S2) (s : Fin 2) : DmaSem sig :=
  ((a.slice (Rect.unit (s := S2) ![s.val] S1.size (sem2_inb s))).squeeze S_ squeezes_S1_S_).sem

theorem chunk_emb {off : Fin 1 → ℕ} (h : ∀ a, off a + S1024.size a ≤ S200704.size a) (t : ℕ) (ht : t < 196) (e : off = ![1024 * t]) (y : S1024.Idx) :
    (Rect.unit (s := S200704) off S1024.size h).emb y = ix1 (⟨1024 * t + (y 0).val, by have h : (y 0).val < 1024 := (y 0).isLt; omega⟩ : Fin 200704) := by
  subst e
  funext a; apply Fin.ext; rw [emb_unit_val]
  fin_cases a
  rfl

theorem line_reshape (h : S64.numel = S1x1x64.numel) (y : S64.Idx) : Shape.reshapeEquiv h y = (ix3 (0 : Fin 1) (0 : Fin 1) (y 0) : S1x1x64.Idx) :=
  Shape.reshapeEquiv_eq_of_rowMajor h (x := y) (y := ix3 0 0 (y 0)) (by
    rw [Shape.rowMajor_val_three, Shape.rowMajor_val_one]; show (0 * 1 + 0) * 64 + (y 0).val = (y 0).val; omega)

theorem line_emb {off : Fin 3 → ℕ} (h : ∀ a, off a + S1x1x64.size a ≤ S196x128x64.size a) (h' : S64.numel = S1x1x64.numel) (t : Fin 196) (P : Fin 128)
    (e : off = ![t.val, P.val, 0]) (y : S64.Idx) :
    (Rect.unit (s := S196x128x64) off S1x1x64.size h).emb (Shape.reshapeEquiv h' y) = ix3 t P (y 0) := by
  subst e
  rw [line_reshape]
  funext a; apply Fin.ext; rw [emb_unit_val]
  fin_cases a
  · rfl
  · rfl
  · show 0 + (y 0).val = (y 0).val; omega

theorem cond6_iff : ∀ t : Fin k1_t4_loop.trips, k1_cond6 t = 1#1 ↔ t.val + 2 < 196 := by decide +kernel

theorem t5_trips : k1_t5_loop.trips = 4 := by decide +kernel
theorem t4_trips : k1_t4_loop.trips = 196 := by decide +kernel

section Body

variable {Ix : Type} [DecidableEq Ix] {Name : Type} [DecidableEq Name] [Infinite Name] {U : Type} [URA U] {Lvl : Type} [Preorder Lvl]
variable {defs : Defs nD τ sig (Elt F) Λ₀} (𝒱 : Variants) (d : Fin nD) (i : grid1.Coords) (bd : Option 𝒱.V)

local notation "𝕄" => MT nD τ sig Ix (Elt F) Name U Lvl

variable (arg2 : Memref sig .scVector .hbm S200704 .i32) (harg2 : arg2.IsWhole) (arg3 : Memref sig .scVector .hbm S200704x256 .f32) (harg3 : arg3.IsWhole) (arg4 : Memref sig .scVector .hbm S196x128x64 .i32) (harg4 : arg4.IsWhole) (arg5 : Memref sig .scVector .hbm S32768x256 .f32) (harg5 : arg5.IsWhole) (arg6 : Memref sig .scVector .vmem S2x1024 .i32) (harg6 : arg6.IsWhole) (arg7 : Memref sig .scVector .vmem S2x64 .i32) (harg7 : arg7.IsWhole) (arg8 : Memref sig .scVector .vmem S16x1x256 .f32) (harg8 : arg8.IsWhole) (arg9 : Memref sig .scVector .vmem S256x256 .f32) (harg9 : arg9.IsWhole) (arg10 : Memref sig .scVector .smem S16 .i32) (harg10 : arg10.IsWhole) (arg11 : Memref sig .scVector .smem S2 .i32) (harg11 : arg11.IsWhole) (arg12 : DmaSems sig S2) (arg13 : DmaSems sig S2) (arg14 : DmaSems sig S16) (v64_r0 : DmaSems sig S_)
variable (EC : UEmb Counters (MT nD τ sig Ix (Elt F) Name U Lvl)) (ι : Ix) (H : S200704x256.Idx → F .f32) (O : Debt nD τ sig Ix) (I : S200704.Idx → BitVec 32) (lo : ℕ)
variable (Bm : S196x128x64.Idx → BitVec 32) (Bw : ℕ → BitVec 32)

/-- The slot of the indices at chunk `t`: in flight, or free past the last chunk. -/
def idxSlot (t : ℕ) : sProp 𝕄 :=
  if h : t < 196 then
    iprop(∃ S : sProp 𝕄, Flight EC (tile d i) (.dma (semS arg12 ⟨t % 2, Nat.mod_lt _ (by omega)⟩)) ι (idxM arg6 ⟨t % 2, Nat.mod_lt _ (by omega)⟩).view.dmaCredit
        iprop(owns (tile d i) (idxM arg6 ⟨t % 2, Nat.mod_lt _ (by omega)⟩) fullShare (idxChunk I t h : S1024.Idx → Elt F .i32) ∗ S)
      ∗ (S -∗ ∃ q : PosShare TreeShare, owns (tile d i) arg2 q (I : S200704.Idx → Elt F .i32)))
  else
    iprop(∃ Y : S1024.Idx → Elt F .i32, ∃ q : PosShare TreeShare, owns (tile d i) (idxM arg6 ⟨t % 2, Nat.mod_lt _ (by omega)⟩) fullShare Y
      ∗ semVal (tile d i, SemLoc.dma (semS arg12 ⟨t % 2, Nat.mod_lt _ (by omega)⟩)) 0 ∗ owns (tile d i) arg2 q (I : S200704.Idx → Elt F .i32))

/-- The slot of the bitmap words at chunk `t`. -/
def bmSlot (t : ℕ) : sProp 𝕄 :=
  if t < 196 then
    iprop(∃ S : sProp 𝕄, Flight EC (tile d i) (.dma (semS arg13 ⟨t % 2, Nat.mod_lt _ (by omega)⟩)) ι (bmM arg7 ⟨t % 2, Nat.mod_lt _ (by omega)⟩).view.dmaCredit
        iprop(owns (tile d i) (bmM arg7 ⟨t % 2, Nat.mod_lt _ (by omega)⟩) fullShare (bmChunk Bw t : S64.Idx → Elt F .i32) ∗ S)
      ∗ (S -∗ ∃ q : PosShare TreeShare, owns (tile d i) arg4 q (Bm : S196x128x64.Idx → Elt F .i32)))
  else
    iprop(∃ Y : S64.Idx → Elt F .i32, ∃ q : PosShare TreeShare, owns (tile d i) (bmM arg7 ⟨t % 2, Nat.mod_lt _ (by omega)⟩) fullShare Y
      ∗ semVal (tile d i, SemLoc.dma (semS arg13 ⟨t % 2, Nat.mod_lt _ (by omega)⟩)) 0 ∗ owns (tile d i) arg4 q (Bm : S196x128x64.Idx → Elt F .i32))

omit [Infinite Name] in
theorem eq_entails {P Q : sProp 𝕄} (h : P = Q) : P ⊢ Q := h ▸ Entails.rfl

theorem idxSlot_lt (t : ℕ) (h : t < 196) : (idxSlot d i arg2 arg6 arg12 EC ι I t : sProp 𝕄) =
    iprop(∃ S : sProp 𝕄, Flight EC (tile d i) (.dma (semS arg12 ⟨t % 2, Nat.mod_lt _ (by omega)⟩)) ι (idxM arg6 ⟨t % 2, Nat.mod_lt _ (by omega)⟩).view.dmaCredit
        iprop(owns (tile d i) (idxM arg6 ⟨t % 2, Nat.mod_lt _ (by omega)⟩) fullShare (idxChunk I t h : S1024.Idx → Elt F .i32) ∗ S)
      ∗ (S -∗ ∃ q : PosShare TreeShare, owns (tile d i) arg2 q (I : S200704.Idx → Elt F .i32))) := dif_pos h

theorem idxSlot_ge (t : ℕ) (h : ¬ t < 196) : (idxSlot d i arg2 arg6 arg12 EC ι I t : sProp 𝕄) =
    iprop(∃ Y : S1024.Idx → Elt F .i32, ∃ q : PosShare TreeShare, owns (tile d i) (idxM arg6 ⟨t % 2, Nat.mod_lt _ (by omega)⟩) fullShare Y
      ∗ semVal (tile d i, SemLoc.dma (semS arg12 ⟨t % 2, Nat.mod_lt _ (by omega)⟩)) 0 ∗ owns (tile d i) arg2 q (I : S200704.Idx → Elt F .i32)) := dif_neg h

theorem bmSlot_lt (t : ℕ) (h : t < 196) : (bmSlot d i arg4 arg7 arg13 EC ι Bm Bw t : sProp 𝕄) =
    iprop(∃ S : sProp 𝕄, Flight EC (tile d i) (.dma (semS arg13 ⟨t % 2, Nat.mod_lt _ (by omega)⟩)) ι (bmM arg7 ⟨t % 2, Nat.mod_lt _ (by omega)⟩).view.dmaCredit
        iprop(owns (tile d i) (bmM arg7 ⟨t % 2, Nat.mod_lt _ (by omega)⟩) fullShare (bmChunk Bw t : S64.Idx → Elt F .i32) ∗ S)
      ∗ (S -∗ ∃ q : PosShare TreeShare, owns (tile d i) arg4 q (Bm : S196x128x64.Idx → Elt F .i32))) := if_pos h

theorem bmSlot_ge (t : ℕ) (h : ¬ t < 196) : (bmSlot d i arg4 arg7 arg13 EC ι Bm Bw t : sProp 𝕄) =
    iprop(∃ Y : S64.Idx → Elt F .i32, ∃ q : PosShare TreeShare, owns (tile d i) (bmM arg7 ⟨t % 2, Nat.mod_lt _ (by omega)⟩) fullShare Y
      ∗ semVal (tile d i, SemLoc.dma (semS arg13 ⟨t % 2, Nat.mod_lt _ (by omega)⟩)) 0 ∗ owns (tile d i) arg4 q (Bm : S196x128x64.Idx → Elt F .i32)) := if_neg h

theorem idx_fetch [EC.LandsIn (upEmb : UEmb _ 𝕄)] (t : ℕ) (ht : t < 196) {o1 o6 : _} {o12 : _} {h1 : ∀ a, o1 a + S1024.size a ≤ S200704.size a}
    {h6 : ∀ a, o6 a + S1x1024.size a ≤ S2x1024.size a} {h12 : ∀ a, o12 a + S1.size a ≤ S2.size a}
    (e1 : o1 = ![1024 * t]) (e6 : o6 = ![t % 2, 0]) (e12 : o12 = ![t % 2])
    {hx hy hz} {Y : S1024.Idx → Elt F .i32} {q : PosShare TreeShare} {Q : PUnit → sProp 𝕄} :
    iprop(owns (tile d i) (idxM arg6 ⟨t % 2, Nat.mod_lt _ (by omega)⟩) fullShare Y
      ∗ semVal (tile d i, SemLoc.dma (semS arg12 ⟨t % 2, Nat.mod_lt _ (by omega)⟩)) 0 ∗ owns (tile d i) arg2 q (I : S200704.Idx → Elt F .i32))
      ⊢ iprop((idxSlot d i arg2 arg6 arg12 EC ι I t -∗ Q ⟨⟩)
        -∗ wp frame (wpE defs 𝒱 (tile d i) bd) Set.univ (Prog.lift (.enqueueDma (arg2.slice (Rect.unit (s := S200704) o1 S1024.size h1) (fun _ => rfl))
            (.here ((arg6.slice (Rect.unit (s := S2x1024) o6 S1x1024.size h6) (fun _ => rfl)).squeeze S1024 squeezes_S1x1024_S1024))
            (.dma ((arg12.slice (Rect.unit (s := S2) o12 S1.size h12)).squeeze S_ squeezes_S1_S_).sem) hx hy hz)) Q) := by
  iintro ⟨H6, Hv, H2⟩ HQ
  ihave H2 := (own_lend (tile d i) (Rect.unit (s := S200704) o1 S1024.size h1) (fun _ => rfl)) $$ H2
  icases H2 with ⟨H2, Hback⟩
  iapply (own_dma 𝒱 (tile d i) bd EC ι
    (congrArg (fun a => Memref.squeeze a S1024 squeezes_S1x1024_S1024) (Memref.slice_unit_congr arg6 e6 _ (idx_inb ⟨t % 2, Nat.mod_lt _ (by omega)⟩) _ _))
    (congrArg (fun a => (SemArray.squeeze a S_ squeezes_S1_S_).sem) (SemArray.slice_unit_congr arg12 e12 _ (sem2_inb ⟨t % 2, Nat.mod_lt _ (by omega)⟩)))
    (idxM arg6 ⟨t % 2, Nat.mod_lt _ (by omega)⟩).view.dmaCredit rfl (View.dmaCredit_pos _ (by decide))) $$ [H6 Hv H2]
  · isplitl [H2]; · iexact H2
    isplitl [H6]; · iexact H6
    iexact Hv
  iintro HF
  iapply HQ
  rw [idxSlot_lt _ _ _ _ _ _ _ _ t ht]
  iexists _
  have hrow : (fun j : S1024.Idx => (I : S200704.Idx → Elt F .i32) ((Rect.unit (s := S200704) o1 S1024.size h1).emb j)) = (idxChunk I t ht : S1024.Idx → Elt F .i32) :=
    funext fun j => congrArg I (chunk_emb h1 t ht e1 j)
  isplitl [HF]
  · rw [← hrow]; iexact HF
  iintro H2
  iexists q
  iapply Hback
  iexact H2

theorem bm_fetch [EC.LandsIn (upEmb : UEmb _ 𝕄)] (P : Fin 128) (hB : ∀ (t : Fin 196) (k : Fin 64), Bm (ix3 t P k) = Bw (64 * t.val + k.val))
    (t : ℕ) (ht : t < 196) {o4 : _} {o7 : _} {o13 : _} {h4 : ∀ a, o4 a + S1x1x64.size a ≤ S196x128x64.size a}
    {h7 : ∀ a, o7 a + S1x64.size a ≤ S2x64.size a} {h13 : ∀ a, o13 a + S1.size a ≤ S2.size a}
    (e4 : o4 = ![t, P.val, 0]) (e7 : o7 = ![t % 2, 0]) (e13 : o13 = ![t % 2])
    {hx hy hz} {Y : S64.Idx → Elt F .i32} {q : PosShare TreeShare} {Q : PUnit → sProp 𝕄} :
    iprop(owns (tile d i) (bmM arg7 ⟨t % 2, Nat.mod_lt _ (by omega)⟩) fullShare Y
      ∗ semVal (tile d i, SemLoc.dma (semS arg13 ⟨t % 2, Nat.mod_lt _ (by omega)⟩)) 0 ∗ owns (tile d i) arg4 q (Bm : S196x128x64.Idx → Elt F .i32))
      ⊢ iprop((bmSlot d i arg4 arg7 arg13 EC ι Bm Bw t -∗ Q ⟨⟩)
        -∗ wp frame (wpE defs 𝒱 (tile d i) bd) Set.univ (Prog.lift (.enqueueDma ((arg4.slice (Rect.unit (s := S196x128x64) o4 S1x1x64.size h4) (fun _ => rfl)).squeeze S64 squeezes_S1x1x64_S64)
            (.here ((arg7.slice (Rect.unit (s := S2x64) o7 S1x64.size h7) (fun _ => rfl)).squeeze S64 squeezes_S1x64_S64))
            (.dma ((arg13.slice (Rect.unit (s := S2) o13 S1.size h13)).squeeze S_ squeezes_S1_S_).sem) hx hy hz)) Q) := by
  have hrow : (owns (tile d i) (arg4.slice (Rect.unit (s := S196x128x64) o4 S1x1x64.size h4) (fun _ => rfl)) q
        (fun j => (Bm : S196x128x64.Idx → Elt F .i32) ((Rect.unit (s := S196x128x64) o4 S1x1x64.size h4).emb j)) : sProp 𝕄)
      = owns (tile d i) ((arg4.slice (Rect.unit (s := S196x128x64) o4 S1x1x64.size h4) (fun _ => rfl)).squeeze S64 squeezes_S1x1x64_S64) q (bmChunk Bw t : S64.Idx → Elt F .i32) := by
    rw [owns_squeeze]
    refine congrArg (owns (tile d i) _ q) (funext fun j => ?_)
    have h := line_emb h4 squeezes_S1x1x64_S64.numel_eq ⟨t, ht⟩ P e4 ((Shape.reshapeEquiv squeezes_S1x1x64_S64.numel_eq).symm j)
    rw [Equiv.apply_symm_apply] at h
    exact (congrArg Bm h).trans (hB ⟨t, ht⟩ _)
  iintro ⟨H7, Hv, H4⟩ HQ
  ihave H4 := (own_lend (tile d i) (Rect.unit (s := S196x128x64) o4 S1x1x64.size h4) (fun _ => rfl)) $$ H4
  rw [hrow]
  icases H4 with ⟨H4, Hback⟩
  iapply (own_dma 𝒱 (tile d i) bd EC ι
    (congrArg (fun a => Memref.squeeze a S64 squeezes_S1x64_S64) (Memref.slice_unit_congr arg7 e7 _ (bm_inb ⟨t % 2, Nat.mod_lt _ (by omega)⟩) _ _))
    (congrArg (fun a => (SemArray.squeeze a S_ squeezes_S1_S_).sem) (SemArray.slice_unit_congr arg13 e13 _ (sem2_inb ⟨t % 2, Nat.mod_lt _ (by omega)⟩)))
    (bmM arg7 ⟨t % 2, Nat.mod_lt _ (by omega)⟩).view.dmaCredit rfl (View.dmaCredit_pos _ (by decide))) $$ [H7 Hv H4]
  · isplitl [H4]; · iexact H4
    isplitl [H7]; · iexact H7
    iexact Hv
  iintro HF
  iapply HQ
  rw [bmSlot_lt _ _ _ _ _ _ _ _ _ t ht]
  iexists _
  isplitl [HF]; · iexact HF
  iintro H4
  iexists q
  iapply Hback
  iexact H4

theorem ring_owes (Fd : Finset (Fin 200704)) :
    (ringSome d i arg3 arg8 arg9 arg10 arg11 arg14 EC ι H O I lo Fd : sProp 𝕄)
      ⊢ iprop(∃ W, owing (tile d i) ι O W ∗ (∀ W', owing (tile d i) ι O W' -∗ ringSome d i arg3 arg8 arg9 arg10 arg11 arg14 EC ι H O I lo Fd)) := by
  unfold ringSome ringAt
  iintro ⟨%g, %e, %D, %St, %X, %M, %G, %W, %ok, H9, H10, H11, HS, HO⟩
  iexists W
  isplitl [HO]; · iexact HO
  iintro %W' HO
  iexists g, e, D, St, X, M, G, W'
  isplitr; · ipureintro; exact ok
  isplitl [H9]; · iexact H9
  isplitl [H10]; · iexact H10
  isplitl [H11]; · iexact H11
  isplitl [HS] <;> iassumption

theorem chunk_step [EC.LandsIn (upEmb : UEmb _ 𝕄)] (hlo : lo + 256 < 2 ^ 31) (v2 : IVec S16 32) (hv : ∀ k : Fin 16, v2 (ix1 k) = BitVec.ofNat 32 k.val)
    (k1_t1 : Fin k1_t1_loop.trips) (P : Fin 128) (hP : P.val = 32 * k1_t1.val + 2 * (i 1).val + (i 0).val)
    (hB : ∀ (t : Fin 196) (k : Fin 64), Bm (ix3 t P k) = Bw (64 * t.val + k.val)) (k1_t4 : Fin k1_t4_loop.trips) (arg18 : BitVec 32)
    {Q : BitVec 32 → sProp 𝕄} :
    iprop(ringSome d i arg3 arg8 arg9 arg10 arg11 arg14 EC ι H O I lo (fs I lo (pw Bw (64 * k1_t4.val))) ∗ MayWaits (tile d i) ι O.t
      ∗ idxSlot d i arg2 arg6 arg12 EC ι I k1_t4.val ∗ bmSlot d i arg4 arg7 arg13 EC ι Bm Bw k1_t4.val)
      ⊢ iprop((∀ r, ringSome d i arg3 arg8 arg9 arg10 arg11 arg14 EC ι H O I lo (fs I lo (pw Bw (64 * (k1_t4.val + 1))))
          -∗ idxSlot d i arg2 arg6 arg12 EC ι I (k1_t4.val + 2) -∗ bmSlot d i arg4 arg7 arg13 EC ι Bm Bw (k1_t4.val + 2)
          -∗ Q r)
        -∗ wp frame (wpE defs 𝒱 (tile d i) bd) Set.univ (k1_t4_body i arg2 harg2 arg3 harg3 arg4 harg4 arg5 harg5 arg6 harg6 arg7 harg7 arg8 harg8 arg9 harg9 arg10 harg10 arg11 harg11 arg12 arg13 arg14 v64_r0 v2 k1_t1 (BitVec.ofNat 32 lo) (BitVec.ofNat 32 (lo + 256)) k1_t4 arg18) Q) := by
  have ht : k1_t4.val < 196 := lt_of_lt_of_le k1_t4.isLt k1_t4_abs.2.1
  have hm : (k1_t4.val + 2) % 2 = k1_t4.val % 2 := by omega
  have hs : (⟨(k1_t4.val + 2) % 2, Nat.mod_lt _ (by omega)⟩ : Fin 2) = ⟨k1_t4.val % 2, Nat.mod_lt _ (by omega)⟩ := Fin.ext hm
  iintro ⟨HR, #Hm, HI, HB⟩ HQ
  ihave HI := (eq_entails (idxSlot_lt d i arg2 arg6 arg12 EC ι I k1_t4.val ht)) $$ HI
  ihave HB := (eq_entails (bmSlot_lt d i arg4 arg7 arg13 EC ι Bm Bw k1_t4.val ht)) $$ HB
  icases HI with ⟨%S2, HF2, HS2⟩
  icases HB with ⟨%S4, HF4, HS4⟩
  ihave HR := (ring_owes d i arg3 arg8 arg9 arg10 arg11 arg14 EC ι H O I lo _) $$ HR
  icases HR with ⟨%W, HO, HR⟩
  unfold k1_t4_body
  dsimp only
  rw [wp_bind]
  iapply (own_wait 𝒱 (tile d i) bd EC ι (congrArg (fun a => (SemArray.squeeze a S_ squeezes_S1_S_).sem) (SemArray.slice_unit_congr arg12 (k1_off5_eq k1_t4) _ (sem2_inb ⟨k1_t4.val % 2, Nat.mod_lt _ (by omega)⟩)))
    (congrArg (fun a => (Memref.squeeze a S1024 squeezes_S1x1024_S1024).view.dmaCredit) (Memref.slice_unit_congr arg6 (k1_off4_eq k1_t4) _ (idx_inb ⟨k1_t4.val % 2, Nat.mod_lt _ (by omega)⟩) _ _))) $$ [HF2 HO]
  · isplitl [HF2]; · iexact HF2
    isplitl [HO]; · iexact HO
    iexact Hm
  iintro ⟨⟨H6, HSS⟩, Hv2, HO⟩
  ihave H2 := HS2 $$ HSS
  icases H2 with ⟨%q2, H2⟩
  rw [wp_bind]
  iapply (own_wait 𝒱 (tile d i) bd EC ι (congrArg (fun a => (SemArray.squeeze a S_ squeezes_S1_S_).sem) (SemArray.slice_unit_congr arg13 (k1_off5_eq k1_t4) _ (sem2_inb ⟨k1_t4.val % 2, Nat.mod_lt _ (by omega)⟩)))
    (congrArg (fun a => (Memref.squeeze a S64 squeezes_S1x64_S64).view.dmaCredit) (Memref.slice_unit_congr arg7 (k1_off6_eq k1_t4) _ (bm_inb ⟨k1_t4.val % 2, Nat.mod_lt _ (by omega)⟩) _ _))) $$ [HF4 HO]
  · isplitl [HF4]; · iexact HF4
    isplitl [HO]; · iexact HO
    iexact Hm
  iintro ⟨⟨H7, HSS⟩, Hv4, HO⟩
  ihave H4 := HS4 $$ HSS
  icases H4 with ⟨%q4, H4⟩
  ihave HR := HR $$ %_ HO
  ihave HL : iprop(ringSome d i arg3 arg8 arg9 arg10 arg11 arg14 EC ι H O I lo (fs I lo (pw Bw (64 * k1_t4.val + 16 * 0))) ∗ MayWaits (tile d i) ι O.t
      ∗ owns (tile d i) (idxM arg6 ⟨k1_t4.val % 2, Nat.mod_lt _ (by omega)⟩) fullShare (idxChunk I k1_t4.val ht : S1024.Idx → Elt F .i32)
      ∗ owns (tile d i) (bmM arg7 ⟨k1_t4.val % 2, Nat.mod_lt _ (by omega)⟩) fullShare (bmChunk Bw k1_t4.val : S64.Idx → Elt F .i32)) $$ [HR H6 H7]
  · isplitl [HR]; · iexact HR
    isplitr; · iexact Hm
    isplitl [H6] <;> iassumption
  iapply (Scf.wp_for_bind frame (wpE defs 𝒱 (tile d i) bd) Set.univ _ _ _ k1_t5_ok _ _
    (fun k _ => iprop(ringSome d i arg3 arg8 arg9 arg10 arg11 arg14 EC ι H O I lo (fs I lo (pw Bw (64 * k1_t4.val + 16 * k))) ∗ MayWaits (tile d i) ι O.t
      ∗ owns (tile d i) (idxM arg6 ⟨k1_t4.val % 2, Nat.mod_lt _ (by omega)⟩) fullShare (idxChunk I k1_t4.val ht : S1024.Idx → Elt F .i32)
      ∗ owns (tile d i) (bmM arg7 ⟨k1_t4.val % 2, Nat.mod_lt _ (by omega)⟩) fullShare (bmChunk Bw k1_t4.val : S64.Idx → Elt F .i32)))
    (fun k acc => by
      iintro ⟨HR, #Hm, H6, H7⟩
      iapply (group_step 𝒱 d i bd (EC := EC) (ι := ι) (H := H) (O := O) (I := I) (lo := lo) (Bw := Bw) (hlo := hlo) (v2 := v2) (hv := hv)) $$ [HR H6 H7]
      · isplitl [HR]; · iexact HR
        isplitr; · iexact Hm
        isplitl [H6] <;> iassumption
      iintro %r HR H6 H7
      rw [Nat.mul_succ, ← Nat.add_assoc]
      isplitl [HR]; · iexact HR
      isplitr; · iexact Hm
      isplitl [H6] <;> iassumption)) $$ HL
  iintro %acc HL
  rw [show Scf.trips k1_t5_loop.lb k1_t5_loop.ub k1_t5_loop.st = 4 from t5_trips, show 64 * k1_t4.val + 16 * 4 = 64 * (k1_t4.val + 1) by omega]
  icases HL with ⟨HR, -, H6, H7⟩
  by_cases h6 : k1_cond6 k1_t4 = 1#1
  · have ht2 := (cond6_iff k1_t4).1 h6
    rw [dif_pos h6, wp_bind]
    iapply (idx_fetch 𝒱 d i bd arg2 arg6 arg12 EC ι I (k1_t4.val + 2) ht2 (by rw [k1_off52_eq]; congr 1) (by rw [k1_off51_eq, hm]) (by rw [k1_off53_eq, hm])) $$ [H6 Hv2 H2]
    · rw [hs]
      isplitl [H6]; · iexact H6
      isplitl [Hv2]; · iexact Hv2
      iexact H2
    iintro HI
    rw [wp_bind]
    iapply (bm_fetch 𝒱 d i bd arg4 arg7 arg13 EC ι Bm Bw P hB (k1_t4.val + 2) ht2 (by rw [k1_off55_eq, hP]) (by rw [k1_off54_eq, hm]) (by rw [k1_off53_eq, hm])) $$ [H7 Hv4 H4]
    · rw [hs]
      isplitl [H7]; · iexact H7
      isplitl [Hv4]; · iexact Hv4
      iexact H4
    iintro HB
    rw [show ∀ x, (pure x : Prog (TpuEff nD τ sig (Elt F) Λ₀ (tile d i).2) (BitVec 32)) = Prog.ret x from fun _ => rfl, wp_ret]
    imodintro
    iapply HQ $$ %_ HR HI HB
  · have ht2 : ¬ k1_t4.val + 2 < 196 := fun h => h6 ((cond6_iff k1_t4).2 h)
    rw [dif_neg h6, idxSlot_ge _ _ _ _ _ _ _ _ _ ht2, bmSlot_ge _ _ _ _ _ _ _ _ _ _ ht2]
    rw [show ∀ x, (pure x : Prog (TpuEff nD τ sig (Elt F) Λ₀ (tile d i).2) (BitVec 32)) = Prog.ret x from fun _ => rfl, wp_ret]
    imodintro
    iapply HQ $$ %_ HR [H6 Hv2 H2] [H7 Hv4 H4]
    · rw [hs]
      iexists _, q2
      isplitl [H6]; · iexact H6
      isplitl [Hv2]; · iexact Hv2
      iexact H2
    · rw [hs]
      iexists _, q4
      isplitl [H7]; · iexact H7
      isplitl [Hv4]; · iexact Hv4
      iexact H4

end Body

end Cert.Pillar
-- ==== Proof.Zero.lean ====
/- The slab zeroed, sixteen lanes at a time. -/
module

public import proofs.«01_k».proof.Proof.Words

@[expose] public section

noncomputable section

namespace Cert.Pillar

open Idealize.ShloMosaic Idealize.ShloMosaic.Transfers
open Idealize.SL
open Idealize.SL.BI (sProp bigSep bigSep_univ_update bigSep_univ_at)
open scoped Idealize.SL.BI
open Idealize.SL.BI.BIBase Idealize.SL.BI.Laws Idealize.SL.Sem Idealize.SL.ProofMode
open Idealize.SL.RA Cert.KernelIdeal Cert.KernelIdeal.Gen

variable {F : FTy → Type} [FloatOps F]

theorem t3_trips : k1_t3_loop.trips = 16 := by decide +kernel
theorem t2_trips : k1_t2_loop.trips = 256 := by decide +kernel
theorem t1_trips : k1_t1_loop.trips = 4 := by decide +kernel

theorem pay33_at (j : S1x16.Idx) : k1_pay33 (F := F) j = Scalar.ofBits .f32 0x00000000#32 := rfl

/-- The cells before row `k`, lane `16 m` are zero. -/
def Zeroed (k m : ℕ) (X : S256x256.Idx → F .f32) : Prop :=
  ∀ y, 256 * (y 0).val + (y 1).val < 256 * k + 16 * m → X y = Scalar.ofBits .f32 0x00000000#32

theorem Zeroed.next {k m : ℕ} {X X' : S256x256.Idx → F .f32} (hm : m < 16) (h : Zeroed k m X) {off : Fin 2 → ℕ}
    (ho : ∀ a, off a + S1x16.size a ≤ S256x256.size a) (e : off = ![k, 16 * m])
    (hw : ∀ j, X' ((Rect.unit (s := S256x256) off S1x16.size ho).emb j) = Scalar.ofBits .f32 0x00000000#32)
    (hx : ∀ y, (∀ j, (Rect.unit (s := S256x256) off S1x16.size ho).emb j ≠ y) → X' y = X y) : Zeroed k (m + 1) X' := by
  subst e
  intro y hy
  by_cases hj : ∃ j, (Rect.unit (s := S256x256) ![k, 16 * m] S1x16.size ho).emb j = y
  · obtain ⟨j, rfl⟩ := hj
    exact hw j
  · rw [hx y (fun j hj' => hj ⟨j, hj'⟩)]
    refine h y ?_
    by_contra hlt
    have h1 : (y 1).val < 256 := (y 1).isLt
    have hk : (y 0).val = k := by omega
    refine hj ⟨ix2 (0 : Fin 1) (⟨(y 1).val - 16 * m, by omega⟩ : Fin 16), ?_⟩
    funext a; apply Fin.ext; rw [emb_unit_val]
    fin_cases a
    · show k + 0 = (y 0).val; omega
    · show 16 * m + ((y 1).val - 16 * m) = (y 1).val; omega

section Body

variable {Ix : Type} [DecidableEq Ix] {Name : Type} [DecidableEq Name] [Infinite Name] {U : Type} [URA U] {Lvl : Type} [Preorder Lvl]
variable {defs : Defs nD τ sig (Elt F) Λ₀} (𝒱 : Variants) (d : Fin nD) (i : grid1.Coords) (bd : Option 𝒱.V)

local notation "𝕄" => MT nD τ sig Ix (Elt F) Name U Lvl

variable (arg2 : Memref sig .scVector .hbm S200704 .i32) (harg2 : arg2.IsWhole) (arg3 : Memref sig .scVector .hbm S200704x256 .f32) (harg3 : arg3.IsWhole) (arg4 : Memref sig .scVector .hbm S196x128x64 .i32) (harg4 : arg4.IsWhole) (arg5 : Memref sig .scVector .hbm S32768x256 .f32) (harg5 : arg5.IsWhole) (arg6 : Memref sig .scVector .vmem S2x1024 .i32) (harg6 : arg6.IsWhole) (arg7 : Memref sig .scVector .vmem S2x64 .i32) (harg7 : arg7.IsWhole) (arg8 : Memref sig .scVector .vmem S16x1x256 .f32) (harg8 : arg8.IsWhole) (arg9 : Memref sig .scVector .vmem S256x256 .f32) (harg9 : arg9.IsWhole) (arg10 : Memref sig .scVector .smem S16 .i32) (harg10 : arg10.IsWhole) (arg11 : Memref sig .scVector .smem S2 .i32) (harg11 : arg11.IsWhole) (arg12 : DmaSems sig S2) (arg13 : DmaSems sig S2) (arg14 : DmaSems sig S16) (v64_r0 : DmaSems sig S_)

theorem zero_wp (v1 c0 c1 : BitVec 32) (k1_t1 : Fin k1_t1_loop.trips) {α : Type}
    {kk : BitVec 32 → Prog (TpuEff nD τ sig (Elt F) Λ₀ (.scVector ((i 0).castLE hcore1) ((i 1).castLE hsub1))) α} {X : S256x256.Idx → F .f32} {Q : α → sProp 𝕄} :
    (owns (tile d i) arg9 fullShare X : sProp 𝕄)
      ⊢ iprop((∀ r X', ⌜∀ y, X' y = Scalar.ofBits .f32 0x00000000#32⌝ -∗ owns (tile d i) arg9 fullShare X' -∗ wp frame (wpE defs 𝒱 (tile d i) bd) Set.univ (kk r) Q)
        -∗ wp frame (wpE defs 𝒱 (tile d i) bd) Set.univ (Scf.Loop.for k1_t2_loop k1_t2_ok 0#32 (k1_t2_body i arg2 harg2 arg3 harg3 arg4 harg4 arg5 harg5 arg6 harg6 arg7 harg7 arg8 harg8 arg9 harg9 arg10 harg10 arg11 harg11 arg12 arg13 arg14 v64_r0 v1 c0 c1 k1_t1) >>= kk) Q) := by
  iintro H HQ
  ihave HL : iprop(∃ X : S256x256.Idx → F .f32, ⌜Zeroed 0 0 X⌝ ∗ owns (tile d i) arg9 fullShare X) $$ [H]
  · iexists X
    isplitr
    · ipureintro; intro y hy; omega
    iexact H
  iapply (Scf.wp_for_bind frame (wpE defs 𝒱 (tile d i) bd) Set.univ _ _ _ k1_t2_ok _ _
    (fun k _ => iprop(∃ X : S256x256.Idx → F .f32, ⌜Zeroed k 0 X⌝ ∗ owns (tile d i) arg9 fullShare X))
    (fun k acc => by
      iintro HL
      unfold k1_t2_body
      iapply (Scf.wp_for_bind frame (wpE defs 𝒱 (tile d i) bd) Set.univ _ _ _ k1_t3_ok _ _
        (fun m _ => iprop(∃ X : S256x256.Idx → F .f32, ⌜Zeroed k.val m X⌝ ∗ owns (tile d i) arg9 fullShare X))
        (fun m acc => by
          have hm : m.val < 16 := lt_of_lt_of_le m.isLt k1_t3_abs.2.1
          iintro ⟨%X, %hX, H⟩
          unfold k1_t3_body
          dsimp only
          rw [wp_bind]
          iapply (own_load 𝒱 (tile d i) bd) $$ H
          iintro H
          rw [wp_bind]
          iapply (own_store 𝒱 (tile d i) bd) $$ H
          iintro %X' %hX' H
          rw [show ∀ x, (pure x : Prog (TpuEff nD τ sig (Elt F) Λ₀ (tile d i).2) (BitVec 32)) = Prog.ret x from fun _ => rfl, wp_ret]
          imodintro
          iexists X'
          isplitr
          · ipureintro
            exact hX.next hm (k1_off1_inb k m) (k1_off1_eq k m) hX'.1 hX'.2
          iexact H)) $$ HL
      iintro %acc HL
      icases HL with ⟨%X, %hX, H⟩
      rw [show ∀ x, (pure x : Prog (TpuEff nD τ sig (Elt F) Λ₀ (tile d i).2) (BitVec 32)) = Prog.ret x from fun _ => rfl, wp_ret]
      imodintro
      iexists X
      isplitr
      · ipureintro
        intro y hy
        have hT : Scf.trips k1_t3_loop.lb k1_t3_loop.ub k1_t3_loop.st = 16 := t3_trips
        rw [hT] at hX
        exact hX y (by omega)
      iexact H)) $$ HL
  iintro %acc HL
  icases HL with ⟨%X, %hX, H⟩
  iapply HQ $$ %_ %X [] H
  ipureintro
  intro y
  have hT : Scf.trips k1_t2_loop.lb k1_t2_loop.ub k1_t2_loop.st = 256 := t2_trips
  rw [hT] at hX
  have h0 : (y 0).val < 256 := (y 0).isLt
  have h1 : (y 1).val < 256 := (y 1).isLt
  exact hX y (by omega)

end Body

end Cert.Pillar
-- ==== Proof.Pass.lean ====
/- One pass of a tile: its 256 rows are zeroed, every chunk is scanned, the ring is drained, and the rows are copied out. -/
module

public import proofs.«01_k».proof.Proof.Chunks
public import proofs.«01_k».proof.Proof.Zero

@[expose] public section

noncomputable section

namespace Cert.Pillar

open Idealize.ShloMosaic Idealize.ShloMosaic.Transfers
open Idealize.SL
open Idealize.SL.BI (sProp bigSep bigSep_univ_update bigSep_univ_at)
open scoped Idealize.SL.BI
open Idealize.SL.BI.BIBase Idealize.SL.BI.Laws Idealize.SL.Sem Idealize.SL.ProofMode
open Idealize.SL.RA Cert.KernelIdeal Cert.KernelIdeal.Gen

variable {F : FTy → Type} [FloatOps F]

/-- The tile's column of the bitmap in pass `p`. -/
def colP (i : grid1.Coords) (p : Fin k1_t1_loop.trips) : Fin 128 :=
  ⟨32 * p.val + 2 * (i 1).val + (i 0).val, by
    have hp : p.val < 4 := lt_of_lt_of_le p.isLt k1_t1_abs.2.1
    have h0 : (i 0).val < 2 := (i 0).isLt
    have h1 : (i 1).val < 16 := (i 1).isLt
    omega⟩

theorem lo_eq : ∀ (i : grid1.Coords) (p : Fin k1_t1_loop.trips),
    Scalar.muli (Scalar.addi (Scalar.muli (Scf.iv 0#32 1#32 p.val) 32#32) (Scalar.addi (Scalar.muli (BitVec.ofNat 32 (i 1).val) 2#32) (BitVec.ofNat 32 (i 0).val))) 256#32
      = BitVec.ofNat 32 (256 * (colP i p).val) := by decide +kernel

theorem hi_eq : ∀ P : Fin 128, Scalar.addi (BitVec.ofNat 32 (256 * P.val)) 256#32 = BitVec.ofNat 32 (256 * P.val + 256) := by decide +kernel

/-- The bitmap's words of column `P`, in order. -/
def colWords (Bm : S196x128x64.Idx → BitVec 32) (P : Fin 128) (ω : ℕ) : BitVec 32 :=
  Bm (ix3 (⟨ω / 64 % 196, Nat.mod_lt _ (by omega)⟩ : Fin 196) P (⟨ω % 64, Nat.mod_lt _ (by omega)⟩ : Fin 64))

theorem colWords_at (Bm : S196x128x64.Idx → BitVec 32) (P : Fin 128) (t : Fin 196) (k : Fin 64) : Bm (ix3 t P k) = colWords Bm P (64 * t.val + k.val) := by
  unfold colWords
  have h1 : (⟨(64 * t.val + k.val) / 64 % 196, Nat.mod_lt _ (by omega)⟩ : Fin 196) = t := Fin.ext (by show (64 * t.val + k.val) / 64 % 196 = t.val; omega)
  have h2 : (⟨(64 * t.val + k.val) % 64, Nat.mod_lt _ (by omega)⟩ : Fin 64) = k := Fin.ext (by show (64 * t.val + k.val) % 64 = k.val; omega)
  rw [h1, h2]

/-- The 256 rows of column `P` hold, cell by cell, a maximum from zero over the points of the row. -/
def RowsOK (I : S200704.Idx → BitVec 32) (H : S200704x256.Idx → F .f32) (Bm : S196x128x64.Idx → BitVec 32) (P : Fin 128) (Z : S256x256.Idx → F .f32) : Prop :=
  ∀ r c : Fin 256, Acc (fun n => H (ix2 n c)) ((fs I (256 * P.val) (pw (colWords Bm P) 12544)).filter fun n => (I (ix1 n)).toNat = 256 * P.val + r.val) (Z (ix2 r c))

section Body

variable {Ix : Type} [DecidableEq Ix] {Name : Type} [DecidableEq Name] [Infinite Name] {U : Type} [URA U] {Lvl : Type} [Preorder Lvl]
variable {defs : Defs nD τ sig (Elt F) Λ₀} (𝒱 : Variants) (d : Fin nD) (i : grid1.Coords) (bd : Option 𝒱.V)

local notation "𝕄" => MT nD τ sig Ix (Elt F) Name U Lvl

variable (arg2 : Memref sig .scVector .hbm S200704 .i32) (harg2 : arg2.IsWhole) (arg3 : Memref sig .scVector .hbm S200704x256 .f32) (harg3 : arg3.IsWhole) (arg4 : Memref sig .scVector .hbm S196x128x64 .i32) (harg4 : arg4.IsWhole) (arg5 : Memref sig .scVector .hbm S32768x256 .f32) (harg5 : arg5.IsWhole) (arg6 : Memref sig .scVector .vmem S2x1024 .i32) (harg6 : arg6.IsWhole) (arg7 : Memref sig .scVector .vmem S2x64 .i32) (harg7 : arg7.IsWhole) (arg8 : Memref sig .scVector .vmem S16x1x256 .f32) (harg8 : arg8.IsWhole) (arg9 : Memref sig .scVector .vmem S256x256 .f32) (harg9 : arg9.IsWhole) (arg10 : Memref sig .scVector .smem S16 .i32) (harg10 : arg10.IsWhole) (arg11 : Memref sig .scVector .smem S2 .i32) (harg11 : arg11.IsWhole) (arg12 : DmaSems sig S2) (arg13 : DmaSems sig S2) (arg14 : DmaSems sig S16) (v64_r0 : DmaSems sig S_)
variable (EC : UEmb Counters (MT nD τ sig Ix (Elt F) Name U Lvl)) (ι : Ix) (H : S200704x256.Idx → F .f32) (O : Debt nD τ sig Ix) (I : S200704.Idx → BitVec 32) (Bm : S196x128x64.Idx → BitVec 32)

/-- The rows of the canvas that the tile writes in pass `p`. -/
def canvM (p : Fin k1_t1_loop.trips) : Memref sig .scVector .hbm S256x256 .f32 :=
  arg5.slice (Rect.unit (s := S32768x256) (k1_off66 i p) S256x256.size (k1_off66_inb i p)) (fun _ => rfl)

/-- What the tile holds between passes. -/
def passRes : sProp 𝕄 :=
  iprop(∃ X M G W, owns (tile d i) arg9 fullShare X ∗ owns (tile d i) arg10 fullShare M ∗ owns (tile d i) arg11 fullShare G
    ∗ bigSep Finset.univ (fun j => slotRes d i arg3 arg8 arg14 EC ι H j none) ∗ owing (tile d i) ι O W
    ∗ idxSlot d i arg2 arg6 arg12 EC ι I 196 ∗ idxSlot d i arg2 arg6 arg12 EC ι I 197
    ∗ bmSlot d i arg4 arg7 arg13 EC ι Bm (fun _ => 0#32) 196 ∗ bmSlot d i arg4 arg7 arg13 EC ι Bm (fun _ => 0#32) 197
    ∗ semVal (tile d i, SemLoc.dma v64_r0.sem) 0)

theorem bmSlot_words (Bw Bw' : ℕ → BitVec 32) (t : ℕ) (h : ¬ t < 196) : (bmSlot d i arg4 arg7 arg13 EC ι Bm Bw t : sProp 𝕄) = bmSlot d i arg4 arg7 arg13 EC ι Bm Bw' t := by
  rw [bmSlot_ge _ _ _ _ _ _ _ _ _ _ h, bmSlot_ge _ _ _ _ _ _ _ _ _ _ h]

theorem part14_wp [EC.LandsIn (upEmb : UEmb _ 𝕄)] (v1 : BitVec 32) (hv1 : v1 = Scalar.addi (Scalar.muli (BitVec.ofNat 32 (i 1).val) 2#32) (BitVec.ofNat 32 (i 0).val))
    (k1_t1 : Fin k1_t1_loop.trips) {X : S256x256.Idx → F .f32} {G : S2.Idx → BitVec 32} {Q : _ → sProp 𝕄} :
    iprop(owns (tile d i) arg9 fullShare X ∗ owns (tile d i) arg11 fullShare (G : S2.Idx → Elt F .i32)
      ∗ idxSlot d i arg2 arg6 arg12 EC ι I 196 ∗ idxSlot d i arg2 arg6 arg12 EC ι I 197)
      ⊢ iprop((∀ (X' : S256x256.Idx → F .f32) (G' : S2.Idx → BitVec 32), ⌜(∀ y, X' y = Scalar.ofBits .f32 0x00000000#32) ∧ G' (ix1 0) = 0#32 ∧ G' (ix1 1) = 0#32⌝
          -∗ owns (tile d i) arg9 fullShare X' -∗ owns (tile d i) arg11 fullShare (G' : S2.Idx → Elt F .i32)
          -∗ idxSlot d i arg2 arg6 arg12 EC ι I 0 -∗ idxSlot d i arg2 arg6 arg12 EC ι I 1
          -∗ Q ⟨BitVec.ofNat 32 (256 * (colP i k1_t1).val), BitVec.ofNat 32 (256 * (colP i k1_t1).val + 256)⟩)
        -∗ wp frame (wpE defs 𝒱 (tile d i) bd) Set.univ (k1_part14 i arg2 harg2 arg3 harg3 arg4 harg4 arg5 harg5 arg6 harg6 arg7 harg7 arg8 harg8 arg9 harg9 arg10 harg10 arg11 harg11 arg12 arg13 arg14 v64_r0 v1 0#32 1#32 k1_t1) Q) := by
  subst hv1
  iintro ⟨H9, H11, HI0, HI1⟩ HQ
  ihave HI0 := (eq_entails (idxSlot_ge d i arg2 arg6 arg12 EC ι I 196 (by omega))) $$ HI0
  ihave HI1 := (eq_entails (idxSlot_ge d i arg2 arg6 arg12 EC ι I 197 (by omega))) $$ HI1
  icases HI0 with ⟨%Y0, %q0, HI0, HV0, HA0⟩
  icases HI1 with ⟨%Y1, %q1, HI1, HV1, HA1⟩
  rw [k1_part14_eq_skeleton]
  unfold k1_part14_skel
  dsimp only
  rw [lo_eq i k1_t1, hi_eq, wp_bind]
  iapply (own_cellLoad 𝒱 (tile d i) bd (ix1 (0 : Fin 2)) (emb2 _ 0 rfl)) $$ H11
  iintro H11
  rw [wp_bind]
  iapply (own_cellStore 𝒱 (tile d i) bd (ix1 (0 : Fin 2)) (emb2 _ 0 rfl) (ix1 (0 : Fin 1))) $$ H11
  iintro %G1 %hG1 H11
  rw [wp_bind]
  iapply (own_cellLoad 𝒱 (tile d i) bd (ix1 (1 : Fin 2)) (emb2 _ 1 rfl)) $$ H11
  iintro H11
  rw [wp_bind]
  iapply (own_cellStore 𝒱 (tile d i) bd (ix1 (1 : Fin 2)) (emb2 _ 1 rfl) (ix1 (0 : Fin 1))) $$ H11
  iintro %G2 %hG2 H11
  iapply (zero_wp 𝒱 d i bd) $$ H9
  iintro %r %X' %hX' H9
  rw [wp_bind]
  iapply (idx_fetch 𝒱 d i bd arg2 arg6 arg12 EC ι I 0 (by omega) rfl rfl rfl) $$ [HI0 HV0 HA0]
  · isplitl [HI0]; · iexact HI0
    isplitl [HV0]; · iexact HV0
    iexact HA0
  iintro HI0
  rw [wp_bind]
  iapply (idx_fetch 𝒱 d i bd arg2 arg6 arg12 EC ι I 1 (by omega) rfl rfl rfl) $$ [HI1 HV1 HA1]
  · isplitl [HI1]; · iexact HI1
    isplitl [HV1]; · iexact HV1
    iexact HA1
  iintro HI1
  rw [show ∀ x, (pure x : Prog (TpuEff nD τ sig (Elt F) Λ₀ (tile d i).2) (Σ' (_ : BitVec 32), BitVec 32)) = Prog.ret x from fun _ => rfl, wp_ret]
  imodintro
  iapply HQ $$ %X' %G2 [] H9 H11 HI0 HI1
  ipureintro
  exact ⟨hX', (hG2.2 (ix1 0) (by intro h; exact absurd (congrFun h 0) (by decide))).trans hG1.1, hG2.1⟩

theorem drainAll_wp [EC.LandsIn (upEmb : UEmb _ 𝕄)] (lo : ℕ) (v2 : IVec S16 32) (k1_t1 : Fin k1_t1_loop.trips) (v7 v8 : BitVec 32) (Fd : Finset (Fin 200704)) (g e : ℕ)
    (hle : e ≤ g) (hge : g ≤ e + 16) (hb : g ≤ 200704) (hc : k1_chk22 (BitVec.ofNat 32 g) (BitVec.ofNat 32 e)) {α : Type}
    {kk : PUnit → Prog (TpuEff nD τ sig (Elt F) Λ₀ (.scVector ((i 0).castLE hcore1) ((i 1).castLE hsub1))) α} {Q : α → sProp 𝕄} :
    iprop(ringAt d i arg3 arg8 arg9 arg10 arg11 arg14 EC ι H O I lo Fd g (e + 0) ∗ MayWaits (tile d i) ι O.t)
      ⊢ iprop((ringAt d i arg3 arg8 arg9 arg10 arg11 arg14 EC ι H O I lo Fd g g -∗ wp frame (wpE defs 𝒱 (tile d i) bd) Set.univ (kk ⟨⟩) Q)
        -∗ wp frame (wpE defs 𝒱 (tile d i) bd) Set.univ (Scf.Loop.for (k1_t16_loop (BitVec.ofNat 32 g) (BitVec.ofNat 32 e)) (k1_t16_ok _ _ hc) ⟨⟩
            (k1_t16_body i arg2 harg2 arg3 harg3 arg4 harg4 arg5 harg5 arg6 harg6 arg7 harg7 arg8 harg8 arg9 harg9 arg10 harg10 arg11 harg11 arg12 arg13 arg14 v64_r0 v2 k1_t1 v7 v8 (BitVec.ofNat 32 g) (BitVec.ofNat 32 e) hc) >>= kk) Q) := by
  iintro HL HQ
  iapply (Scf.wp_for_bind frame (wpE defs 𝒱 (tile d i) bd) Set.univ _ _ _ (k1_t16_ok _ _ hc) _ _
    (fun k _ => iprop(ringAt d i arg3 arg8 arg9 arg10 arg11 arg14 EC ι H O I lo
      Fd g (e + k) ∗ MayWaits (tile d i) ι O.t))
    (fun k acc => by
      have hk : k.val < g - e := by
        have h : k.val < (k1_t16_loop (BitVec.ofNat 32 g) (BitVec.ofNat 32 e)).trips := k.isLt
        rwa [t16_trips hle (by omega)] at h
      iintro ⟨HR, #Hm⟩
      unfold k1_t16_body k1_t17_body
      dsimp only
      iapply (drain_wp 𝒱 d i bd arg3 arg8 arg9 arg10 arg11 arg14 EC ι H O I lo (A := k1_chk23) (B := k1_chk24)
        (dA := k1_chk23.dec) (dB := k1_chk24.dec) (L := k1_t17_loop) (hL := k1_t17_ok)
        (o10 := k1_off56) (o11 := k1_off57) (o12 := k1_off58) (o13 := k1_off59) (o14 := k1_off60)
        (i10 := k1_off56_inb) (i11 := k1_off57_inb) (i12 := k1_off58_inb) (i13 := fun v hv t => k1_off59_inb v hv t)
        (i14 := fun v hv t => k1_off60_inb v hv t)
        (hT := t17_trips) (hA := fun n hn => chk23_ok hn) (hB := chk24_ok) (h10 := fun n hn => off56_eq hn) (h11 := fun n hn => off57_eq hn)
        (h12 := fun n hn => off58_eq hn) (h13 := fun n t hn => off59_eq hn t) (h14 := fun n t hn => off60_eq hn t)
        (Fd := Fd) (g := g) (e := e + k.val) (hlt := by omega)
        (rest := pure PUnit.unit)) $$ [HR]
      · isplitl [HR]; · iexact HR
        iexact Hm
      iintro HR
      rw [show ∀ x, (pure x : Prog (TpuEff nD τ sig (Elt F) Λ₀ (tile d i).2) PUnit) = Prog.ret x from fun _ => rfl, wp_ret]
      imodintro
      isplitl [HR]; · iexact HR
      iexact Hm)) $$ HL
  iintro %acc HL
  have hT : Scf.trips (k1_t16_loop (BitVec.ofNat 32 g) (BitVec.ofNat 32 e)).lb (k1_t16_loop (BitVec.ofNat 32 g) (BitVec.ofNat 32 e)).ub
    (k1_t16_loop (BitVec.ofNat 32 g) (BitVec.ofNat 32 e)).st = g - e := t16_trips hle (by omega)
  rw [hT, show e + (g - e) = g by omega]
  icases HL with ⟨HR, -⟩
  iapply HQ $$ HR

theorem part15_wp [EC.LandsIn (upEmb : UEmb _ 𝕄)] (v2 : IVec S16 32) (hv : ∀ k : Fin 16, v2 (ix1 k) = BitVec.ofNat 32 k.val)
    (k1_t1 : Fin k1_t1_loop.trips) {X : S256x256.Idx → F .f32} {M : S16.Idx → BitVec 32} {G : S2.Idx → BitVec 32} {W : _}
    (hX : ∀ y, X y = Scalar.ofBits .f32 0x00000000#32) (hG0 : G (ix1 0) = 0#32) (hG1 : G (ix1 1) = 0#32) {Q : PUnit → sProp 𝕄} :
    iprop(owns (tile d i) arg9 fullShare X ∗ owns (tile d i) arg10 fullShare (M : S16.Idx → Elt F .i32) ∗ owns (tile d i) arg11 fullShare (G : S2.Idx → Elt F .i32)
      ∗ bigSep Finset.univ (fun j => slotRes d i arg3 arg8 arg14 EC ι H j none) ∗ owing (tile d i) ι O W
      ∗ idxSlot d i arg2 arg6 arg12 EC ι I 0 ∗ idxSlot d i arg2 arg6 arg12 EC ι I 1
      ∗ bmSlot d i arg4 arg7 arg13 EC ι Bm (fun _ => 0#32) 196 ∗ bmSlot d i arg4 arg7 arg13 EC ι Bm (fun _ => 0#32) 197 ∗ MayWaits (tile d i) ι O.t)
      ⊢ iprop((∀ (X' : S256x256.Idx → F .f32) (M' : S16.Idx → BitVec 32) (G' : S2.Idx → BitVec 32) W', ⌜RowsOK I H Bm (colP i k1_t1) X'⌝
          -∗ owns (tile d i) arg9 fullShare X' -∗ owns (tile d i) arg10 fullShare (M' : S16.Idx → Elt F .i32) -∗ owns (tile d i) arg11 fullShare (G' : S2.Idx → Elt F .i32)
          -∗ bigSep Finset.univ (fun j => slotRes d i arg3 arg8 arg14 EC ι H j none) -∗ owing (tile d i) ι O W'
          -∗ idxSlot d i arg2 arg6 arg12 EC ι I 196 -∗ idxSlot d i arg2 arg6 arg12 EC ι I 197
          -∗ bmSlot d i arg4 arg7 arg13 EC ι Bm (fun _ => 0#32) 196 -∗ bmSlot d i arg4 arg7 arg13 EC ι Bm (fun _ => 0#32) 197 -∗ Q ⟨⟩)
        -∗ wp frame (wpE defs 𝒱 (tile d i) bd) Set.univ (k1_part15 i arg2 harg2 arg3 harg3 arg4 harg4 arg5 harg5 arg6 harg6 arg7 harg7 arg8 harg8 arg9 harg9 arg10 harg10 arg11 harg11 arg12 arg13 arg14 v64_r0 v2 k1_t1 (BitVec.ofNat 32 (256 * (colP i k1_t1).val)) (BitVec.ofNat 32 (256 * (colP i k1_t1).val + 256))) Q) := by
  have hlo : 256 * (colP i k1_t1).val + 256 < 2 ^ 31 := by have := (colP i k1_t1).isLt; omega
  iintro ⟨H9, H10, H11, HS, HO, HI0, HI1, HB0, HB1, #Hm⟩ HQ
  ihave HB0 := (eq_entails (bmSlot_ge d i arg4 arg7 arg13 EC ι Bm (fun _ => 0#32) 196 (by omega))) $$ HB0
  ihave HB1 := (eq_entails (bmSlot_ge d i arg4 arg7 arg13 EC ι Bm (fun _ => 0#32) 197 (by omega))) $$ HB1
  icases HB0 with ⟨%Y0, %q0, HB0, HV0, HA0⟩
  icases HB1 with ⟨%Y1, %q1, HB1, HV1, HA1⟩
  rw [k1_part15_eq_skeleton]
  unfold k1_part15_skel
  dsimp only
  rw [wp_bind]
  iapply (bm_fetch 𝒱 d i bd arg4 arg7 arg13 EC ι Bm (colWords Bm (colP i k1_t1)) (colP i k1_t1) (colWords_at Bm _) 0 (by omega) (k1_off2_eq i k1_t1) rfl rfl) $$ [HB0 HV0 HA0]
  · isplitl [HB0]; · iexact HB0
    isplitl [HV0]; · iexact HV0
    iexact HA0
  iintro HB0
  rw [wp_bind]
  iapply (bm_fetch 𝒱 d i bd arg4 arg7 arg13 EC ι Bm (colWords Bm (colP i k1_t1)) (colP i k1_t1) (colWords_at Bm _) 1 (by omega) (k1_off3_eq i k1_t1) rfl rfl) $$ [HB1 HV1 HA1]
  · isplitl [HB1]; · iexact HB1
    isplitl [HV1]; · iexact HV1
    iexact HA1
  iintro HB1
  ihave HL : iprop(ringSome d i arg3 arg8 arg9 arg10 arg11 arg14 EC ι H O I (256 * (colP i k1_t1).val) (fs I (256 * (colP i k1_t1).val) (pw (colWords Bm (colP i k1_t1)) (64 * 0)))
      ∗ MayWaits (tile d i) ι O.t
      ∗ idxSlot d i arg2 arg6 arg12 EC ι I 0 ∗ idxSlot d i arg2 arg6 arg12 EC ι I (0 + 1)
      ∗ bmSlot d i arg4 arg7 arg13 EC ι Bm (colWords Bm (colP i k1_t1)) 0 ∗ bmSlot d i arg4 arg7 arg13 EC ι Bm (colWords Bm (colP i k1_t1)) (0 + 1)) $$ [H9 H10 H11 HS HO HI0 HI1 HB0 HB1]
  · isplitl [H9 H10 H11 HS HO]
    · unfold ringSome ringAt
      iexists 0, 0, ∅, (fun _ => none), X, M, G, W
      isplitr
      · ipureintro
        have he : fs I (256 * (colP i k1_t1).val) (pw (colWords Bm (colP i k1_t1)) (64 * 0)) = ∅ := by
          ext n; simp [fs, pw]
        rw [he]
        exact RingOK.start hG0 hG1 hX
      isplitl [H9]; · iexact H9
      isplitl [H10]; · iexact H10
      isplitl [H11]; · iexact H11
      isplitl [HS]; · iexact HS
      iexact HO
    isplitr; · iexact Hm
    isplitl [HI0]; · iexact HI0
    isplitl [HI1]; · iexact HI1
    isplitl [HB0]; · iexact HB0
    iexact HB1
  iapply (Scf.wp_for_bind frame (wpE defs 𝒱 (tile d i) bd) Set.univ _ _ _ k1_t4_ok _ _
    (fun k _ => iprop(ringSome d i arg3 arg8 arg9 arg10 arg11 arg14 EC ι H O I (256 * (colP i k1_t1).val) (fs I (256 * (colP i k1_t1).val) (pw (colWords Bm (colP i k1_t1)) (64 * k)))
      ∗ MayWaits (tile d i) ι O.t
      ∗ idxSlot d i arg2 arg6 arg12 EC ι I k ∗ idxSlot d i arg2 arg6 arg12 EC ι I (k + 1)
      ∗ bmSlot d i arg4 arg7 arg13 EC ι Bm (colWords Bm (colP i k1_t1)) k ∗ bmSlot d i arg4 arg7 arg13 EC ι Bm (colWords Bm (colP i k1_t1)) (k + 1)))
    (fun k acc => by
      iintro ⟨HR, #Hm, HI0, HI1, HB0, HB1⟩
      iapply (chunk_step 𝒱 d i bd (EC := EC) (ι := ι) (H := H) (O := O) (I := I) (Bm := Bm) (Bw := colWords Bm (colP i k1_t1)) (hlo := hlo) (v2 := v2) (hv := hv)
        (P := colP i k1_t1) (hP := rfl) (hB := colWords_at Bm _)) $$ [HR HI0 HB0]
      · isplitl [HR]; · iexact HR
        isplitr; · iexact Hm
        isplitl [HI0]; · iexact HI0
        iexact HB0
      iintro %r HR HI0 HB0
      isplitl [HR]; · iexact HR
      isplitr; · iexact Hm
      isplitl [HI1]; · iexact HI1
      isplitl [HI0]; · iexact HI0
      isplitl [HB1]; · iexact HB1
      iexact HB0)) $$ HL
  iintro %acc HL
  rw [show Scf.trips k1_t4_loop.lb k1_t4_loop.ub k1_t4_loop.st = 196 from t4_trips, show 64 * 196 = 12544 from rfl]
  icases HL with ⟨HR, -, HI0, HI1, HB0, HB1⟩
  unfold ringSome
  icases HR with ⟨%g, %e, HR⟩
  ihave HR := (ringAt_ok d i arg3 arg8 arg9 arg10 arg11 arg14 EC ι H O I (256 * (colP i k1_t1).val) _ g e) $$ HR
  icases HR with ⟨%hle, %hge, %hb, HR⟩
  unfold ringAt
  icases HR with ⟨%D, %St, %X, %M, %G, %W, %ok, H9, H10, H11, HS, HO⟩
  rw [wp_bind]
  iapply (own_cellLoad 𝒱 (tile d i) bd (ix1 (0 : Fin 2)) (emb2 _ 0 rfl)) $$ H11
  iintro H11
  rw [ok.fired, wp_bind]
  iapply (own_cellLoad 𝒱 (tile d i) bd (ix1 (1 : Fin 2)) (emb2 _ 1 rfl)) $$ H11
  iintro H11
  rw [ok.drained, wp_bind]
  have hc : k1_chk22 (BitVec.ofNat 32 g) (BitVec.ofNat 32 e) := chk22_ok hle (by omega)
  iapply (own_assume 𝒱 (tile d i) bd hc)
  ihave HL : iprop(ringAt d i arg3 arg8 arg9 arg10 arg11 arg14 EC ι H O I (256 * (colP i k1_t1).val)
      (fs I (256 * (colP i k1_t1).val) (pw (colWords Bm (colP i k1_t1)) 12544)) g (e + 0) ∗ MayWaits (tile d i) ι O.t) $$ [H9 H10 H11 HS HO]
  · isplitl [H9 H10 H11 HS HO]
    · unfold ringAt
      iexists D, St, X, M, G, W
      isplitr; · ipureintro; exact ok
      isplitl [H9]; · iexact H9
      isplitl [H10]; · iexact H10
      isplitl [H11]; · iexact H11
      isplitl [HS]; · iexact HS
      iexact HO
    iexact Hm
  iapply (drainAll_wp 𝒱 d i bd (EC := EC) (ι := ι) (H := H) (O := O) (I := I) (lo := 256 * (colP i k1_t1).val) (hle := hle) (hge := hge) (hb := hb) (hc := hc)) $$ HL
  iintro HR
  iapply (skip_loop 𝒱 d i bd (t18_trips hle (by omega)))
  rw [show ∀ x, (pure x : Prog (TpuEff nD τ sig (Elt F) Λ₀ (tile d i).2) PUnit) = Prog.ret x from fun _ => rfl, wp_ret]
  imodintro
  unfold ringAt
  icases HR with ⟨%D', %St', %X', %M', %G', %W', %ok', H9, H10, H11, HS, HO⟩
  have hSt : St' = fun _ => none := funext fun j => ok'.finish_free j
  subst hSt
  ihave HB0 := (eq_entails (bmSlot_words d i arg4 arg7 arg13 EC ι Bm _ (fun _ => 0#32) 196 (by omega))) $$ HB0
  ihave HB1 := (eq_entails (bmSlot_words d i arg4 arg7 arg13 EC ι Bm _ (fun _ => 0#32) 197 (by omega))) $$ HB1
  iapply HQ $$ %X' %M' %G' %W' [] H9 H10 H11 HS HO HI0 HI1 HB0 HB1
  ipureintro
  exact fun r c => ok'.finish r c

theorem pass_step [EC.LandsIn (upEmb : UEmb _ 𝕄)] (v1 : BitVec 32) (hv1 : v1 = Scalar.addi (Scalar.muli (BitVec.ofNat 32 (i 1).val) 2#32) (BitVec.ofNat 32 (i 0).val))
    (v2 : IVec S16 32) (hv : ∀ k : Fin 16, v2 (ix1 k) = BitVec.ofNat 32 k.val)
    (k1_t1 : Fin k1_t1_loop.trips) (arg16 : BitVec 32) {Q : BitVec 32 → sProp 𝕄} :
    iprop(passRes d i arg2 arg3 arg4 arg6 arg7 arg8 arg9 arg10 arg11 arg12 arg13 arg14 v64_r0 EC ι H O I Bm ∗ MayWaits (tile d i) ι O.t
      ∗ ∃ Z, owns (tile d i) (canvM i arg5 k1_t1) fullShare Z)
      ⊢ iprop((∀ r, passRes d i arg2 arg3 arg4 arg6 arg7 arg8 arg9 arg10 arg11 arg12 arg13 arg14 v64_r0 EC ι H O I Bm
          -∗ (∃ Z, ⌜RowsOK I H Bm (colP i k1_t1) Z⌝ ∗ owns (tile d i) (canvM i arg5 k1_t1) fullShare Z) -∗ Q r)
        -∗ wp frame (wpE defs 𝒱 (tile d i) bd) Set.univ (k1_t1_body i arg2 harg2 arg3 harg3 arg4 harg4 arg5 harg5 arg6 harg6 arg7 harg7 arg8 harg8 arg9 harg9 arg10 harg10 arg11 harg11 arg12 arg13 arg14 v64_r0 v1 v2 k1_t1 arg16) Q) := by
  conv => lhs; unfold passRes
  iintro ⟨⟨%X, %M, %G, %W, H9, H10, H11, HS, HO, HI0, HI1, HB0, HB1, Hv⟩, #Hm, ⟨%Z, HZ⟩⟩ HQ
  unfold k1_t1_body
  rw [wp_bind]
  iapply (part14_wp 𝒱 d i bd (EC := EC) (ι := ι) (I := I) (hv1 := hv1)) $$ [H9 H11 HI0 HI1]
  · isplitl [H9]; · iexact H9
    isplitl [H11]; · iexact H11
    isplitl [HI0]; · iexact HI0
    iexact HI1
  iintro %X1 %G1 %h1 H9 H11 HI0 HI1
  obtain ⟨hX, hG0, hG1⟩ := h1
  dsimp only
  rw [wp_bind]
  iapply (part15_wp 𝒱 d i bd (EC := EC) (ι := ι) (H := H) (O := O) (I := I) (Bm := Bm) (v2 := v2) (hv := hv) (hX := hX) (hG0 := hG0) (hG1 := hG1)) $$ [H9 H10 H11 HS HO HI0 HI1 HB0 HB1]
  · isplitl [H9]; · iexact H9
    isplitl [H10]; · iexact H10
    isplitl [H11]; · iexact H11
    isplitl [HS]; · iexact HS
    isplitl [HO]; · iexact HO
    isplitl [HI0]; · iexact HI0
    isplitl [HI1]; · iexact HI1
    isplitl [HB0]; · iexact HB0
    isplitl [HB1]; · iexact HB1
    iexact Hm
  iintro %X2 %M2 %G2 %W2 %hR H9 H10 H11 HS HO HI0 HI1 HB0 HB1
  rw [wp_bind]
  iapply (own_dma 𝒱 (tile d i) bd EC ι (dst := canvM i arg5 k1_t1) rfl rfl (canvM i arg5 k1_t1).view.dmaCredit rfl (View.dmaCredit_pos _ (by decide))) $$ [H9 HZ Hv]
  · isplitl [H9]; · iexact H9
    isplitl [HZ]; · iexact HZ
    iexact Hv
  iintro HF
  rw [wp_bind]
  iapply (own_wait 𝒱 (tile d i) bd EC ι rfl rfl) $$ [HF HO]
  · isplitl [HF]; · iexact HF
    isplitl [HO]; · iexact HO
    iexact Hm
  iintro ⟨⟨HZ, H9⟩, Hv, HO⟩
  rw [show ∀ x, (pure x : Prog (TpuEff nD τ sig (Elt F) Λ₀ (tile d i).2) (BitVec 32)) = Prog.ret x from fun _ => rfl, wp_ret]
  imodintro
  iapply HQ $$ %_ [H9 H10 H11 HS HO HI0 HI1 HB0 HB1 Hv] [HZ]
  · unfold passRes
    iexists X2, M2, G2, _
    isplitl [H9]; · iexact H9
    isplitl [H10]; · iexact H10
    isplitl [H11]; · iexact H11
    isplitl [HS]; · iexact HS
    isplitl [HO]; · iexact HO
    isplitl [HI0]; · iexact HI0
    isplitl [HI1]; · iexact HI1
    isplitl [HB0]; · iexact HB0
    isplitl [HB1]; · iexact HB1
    iexact Hv
  · iexists X2
    isplitr
    · ipureintro; exact hR
    iexact HZ

end Body

end Cert.Pillar
-- ==== Proof.Tile.lean ====
/- A tile's whole run: four passes. -/
module

public import proofs.«01_k».proof.Proof.Pass

@[expose] public section

noncomputable section

namespace Cert.Pillar

open Idealize.ShloMosaic Idealize.ShloMosaic.Transfers
open Idealize.SL
open Idealize.SL.BI (sProp bigSep bigSep_univ_update bigSep_univ_at)
open scoped Idealize.SL.BI
open Idealize.SL.BI.BIBase Idealize.SL.BI.Laws Idealize.SL.Sem Idealize.SL.ProofMode
open Idealize.SL.RA Cert.KernelIdeal Cert.KernelIdeal.Gen

variable {F : FTy → Type} [FloatOps F]

theorem lanes_iota (k : Fin 16) : iota .scVector S16 32 [0] iota_S16_d0_w32_scVector (ix1 k) = BitVec.ofNat 32 k.val := by
  revert k; decide

section Body

variable {Ix : Type} [DecidableEq Ix] {Name : Type} [DecidableEq Name] [Infinite Name] {U : Type} [URA U] {Lvl : Type} [Preorder Lvl]
variable {defs : Defs nD τ sig (Elt F) Λ₀} (𝒱 : Variants) (d : Fin nD) (i : grid1.Coords) (bd : Option 𝒱.V)

local notation "𝕄" => MT nD τ sig Ix (Elt F) Name U Lvl

variable (arg2 : Memref sig .scVector .hbm S200704 .i32) (harg2 : arg2.IsWhole) (arg3 : Memref sig .scVector .hbm S200704x256 .f32) (harg3 : arg3.IsWhole) (arg4 : Memref sig .scVector .hbm S196x128x64 .i32) (harg4 : arg4.IsWhole) (arg5 : Memref sig .scVector .hbm S32768x256 .f32) (harg5 : arg5.IsWhole) (arg6 : Memref sig .scVector .vmem S2x1024 .i32) (harg6 : arg6.IsWhole) (arg7 : Memref sig .scVector .vmem S2x64 .i32) (harg7 : arg7.IsWhole) (arg8 : Memref sig .scVector .vmem S16x1x256 .f32) (harg8 : arg8.IsWhole) (arg9 : Memref sig .scVector .vmem S256x256 .f32) (harg9 : arg9.IsWhole) (arg10 : Memref sig .scVector .smem S16 .i32) (harg10 : arg10.IsWhole) (arg11 : Memref sig .scVector .smem S2 .i32) (harg11 : arg11.IsWhole) (arg12 : DmaSems sig S2) (arg13 : DmaSems sig S2) (arg14 : DmaSems sig S16) (v64_r0 : DmaSems sig S_)
variable (EC : UEmb Counters (MT nD τ sig Ix (Elt F) Name U Lvl)) (ι : Ix) (H : S200704x256.Idx → F .f32) (O : Debt nD τ sig Ix) (I : S200704.Idx → BitVec 32) (Bm : S196x128x64.Idx → BitVec 32)

/-- Pass `p`'s rows of the canvas, finished. -/
def rowsDone (p : Fin k1_t1_loop.trips) : sProp 𝕄 :=
  iprop(∃ Z, ⌜RowsOK I H Bm (colP i p) Z⌝ ∗ owns (tile d i) (canvM i arg5 p) fullShare Z)

/-- The same rows before the pass `n` has begun: finished if `p` is an earlier pass, held at some contents otherwise. -/
def rowsAt (n : ℕ) (p : Fin k1_t1_loop.trips) : sProp 𝕄 :=
  if p.val < n then rowsDone d i arg5 H I Bm p else iprop(∃ Z, owns (tile d i) (canvM i arg5 p) fullShare Z)

theorem rowsAt_done {n : ℕ} {p : Fin k1_t1_loop.trips} (h : p.val < n) : (rowsAt d i arg5 H I Bm n p : sProp 𝕄) = rowsDone d i arg5 H I Bm p := if_pos h

theorem rowsAt_held {n : ℕ} {p : Fin k1_t1_loop.trips} (h : ¬ p.val < n) : (rowsAt d i arg5 H I Bm n p : sProp 𝕄) = iprop(∃ Z, owns (tile d i) (canvM i arg5 p) fullShare Z) := if_neg h

theorem tile_wp [EC.LandsIn (upEmb : UEmb _ 𝕄)] {Q : PUnit → sProp 𝕄} :
    iprop(passRes d i arg2 arg3 arg4 arg6 arg7 arg8 arg9 arg10 arg11 arg12 arg13 arg14 v64_r0 EC ι H O I Bm ∗ MayWaits (tile d i) ι O.t ∗ bigSep Finset.univ (rowsAt d i arg5 H I Bm 0))
      ⊢ iprop((passRes d i arg2 arg3 arg4 arg6 arg7 arg8 arg9 arg10 arg11 arg12 arg13 arg14 v64_r0 EC ι H O I Bm -∗ bigSep Finset.univ (rowsDone d i arg5 H I Bm) -∗ Q ⟨⟩)
        -∗ wp frame (wpE defs 𝒱 (tile d i) bd) Set.univ (cc1__sc_scatter_body i arg2 harg2 arg3 harg3 arg4 harg4 arg5 harg5 arg6 harg6 arg7 harg7 arg8 harg8 arg9 harg9 arg10 harg10 arg11 harg11 arg12 arg13 arg14 v64_r0) Q) := by
  iintro HL HQ
  rw [cc1__sc_scatter_body_eq_skeleton]
  unfold cc1__sc_scatter_body_skel
  dsimp only
  iapply (Scf.wp_for_bind frame (wpE defs 𝒱 (tile d i) bd) Set.univ _ _ _ k1_t1_ok _ _
    (fun k _ => iprop(passRes d i arg2 arg3 arg4 arg6 arg7 arg8 arg9 arg10 arg11 arg12 arg13 arg14 v64_r0 EC ι H O I Bm ∗ MayWaits (tile d i) ι O.t ∗ bigSep Finset.univ (rowsAt d i arg5 H I Bm k)))
    (fun k acc => by
      iintro ⟨HR, #Hm, HB⟩
      ihave HB := (bigSep_univ_update (Φ := rowsAt d i arg5 H I Bm k.val) (Ψ := rowsAt d i arg5 H I Bm (k.val + 1)) k (fun j hj => by
        have hne : j.val ≠ k.val := fun h => hj (Fin.ext h)
        by_cases hlt : j.val < k.val
        · rw [rowsAt_done d i arg5 H I Bm hlt, rowsAt_done d i arg5 H I Bm (by omega)]
        · rw [rowsAt_held d i arg5 H I Bm hlt, rowsAt_held d i arg5 H I Bm (by omega)])) $$ HB
      icases HB with ⟨HZ, HB⟩
      ihave HZ := (eq_entails (rowsAt_held d i arg5 H I Bm (lt_irrefl k.val))) $$ HZ
      iapply (pass_step 𝒱 d i bd (EC := EC) (ι := ι) (H := H) (O := O) (I := I) (Bm := Bm) (hv1 := rfl) (hv := lanes_iota) (k1_t1 := k)) $$ [HR HZ]
      · isplitl [HR]; · iexact HR
        isplitr; · iexact Hm
        iexact HZ
      iintro %r HR HZ
      isplitl [HR]; · iexact HR
      isplitr; · iexact Hm
      iapply HB
      iapply (eq_entails (rowsAt_done d i arg5 H I Bm (Nat.lt_succ_self k.val)).symm)
      unfold rowsDone
      iexact HZ)) $$ HL
  iintro %acc HL
  icases HL with ⟨HR, -, HB⟩
  rw [show ∀ x, (pure x : Prog (TpuEff nD τ sig (Elt F) Λ₀ (tile d i).2) PUnit) = Prog.ret x from fun _ => rfl, wp_ret]
  imodintro
  iapply HQ $$ HR [HB]
  iapply (eq_entails (BI.bigSep_congr fun p _ => rowsAt_done d i arg5 H I Bm p.isLt))
  iexact HB

end Body

end Cert.Pillar
-- ==== Proof.Parts.lean ====
/- A memref owned in parts: read shares of it, and the slices of a family that covers it. -/
module

public import proofs.«01_k».proof.Proof.Own

@[expose] public section

noncomputable section

namespace Cert.Pillar

open Idealize.ShloMosaic
open Idealize.SL
open Idealize.SL.BI (sProp bigSep bigSep_insert bigSep_empty bigSep_mono bigSep_congr bigSep_exists_pi)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type} (c : Thread nD τ) {cs : Space} {s : Shape} {e : EltTy}

local notation "𝕄" => MT nD τ sig Ix Val Name U Lvl

theorem parts_mono {T : Type} (S : Finset T) {Φ Ψ : T → sProp 𝕄} (h : ∀ t, Φ t ⊢ Ψ t) : bigSep S Φ ⊢ bigSep S Ψ := bigSep_mono fun t _ => h t

theorem parts_sep {T : Type} (S : Finset T) (Φ Ψ : T → sProp 𝕄) : bigSep S (fun t => iprop(Φ t ∗ Ψ t)) ⊢ iprop(bigSep S Φ ∗ bigSep S Ψ) := by
  rw [BI.bigSep_sep']

theorem parts_join {T : Type} (S : Finset T) (Φ Ψ : T → sProp 𝕄) : iprop(bigSep S Φ ∗ bigSep S Ψ) ⊢ bigSep S (fun t => iprop(Φ t ∗ Ψ t)) := by
  rw [BI.bigSep_sep']

theorem both_ways {P Q : sProp 𝕄} (h : P ⊢ Q) (h' : Q ⊢ P) : P = Q := BI.equiv_iff.mp ⟨h, h'⟩

/-- What each member of a family of facts says, said of all of them. -/
theorem facts_all {T : Type} [DecidableEq T] (p : T → Prop) (S : Finset T) : (bigSep S fun t => (iprop(⌜p t⌝) : sProp 𝕄)) ⊢ iprop(⌜∀ t ∈ S, p t⌝) := by
  induction S using Finset.induction_on with
  | empty => iintro -; ipureintro; simp
  | insert t S ht ih =>
    rw [bigSep_insert ht]
    refine (show iprop(⌜p t⌝ ∗ bigSep S fun t => (iprop(⌜p t⌝) : sProp 𝕄)) ⊢ _ from ?_)
    iintro ⟨%h, H⟩
    ihave %hS := ih $$ H
    ipureintro
    intro t' ht'
    rcases Finset.mem_insert.mp ht' with rfl | ht'
    exacts [h, hS _ ht']

/-- A memref held with some share at contents `X`. -/
def shared (m : Memref sig c.2.kind cs s e) (X : s.Idx → Val e) : sProp 𝕄 := iprop(∃ q : PosShare TreeShare, owns c m q X)

/-- A share serves any number of holders. -/
theorem shared_deal {T : Type} [DecidableEq T] (m : Memref sig c.2.kind cs s e) (X : s.Idx → Val e) (S : Finset T) :
    (shared c m X : sProp 𝕄) ⊢ iprop((bigSep S fun _ => shared c m X) ∗ shared c m X) := by
  induction S using Finset.induction_on with
  | empty =>
    iintro H
    isplitr; · rw [bigSep_empty]; iempintro
    iexact H
  | insert t S ht ih =>
    rw [bigSep_insert ht]
    refine (show _ ⊢ iprop((shared c m X ∗ bigSep S fun _ => shared c m X) ∗ shared c m X) from ?_)
    iintro H
    ihave H := ih $$ H
    icases H with ⟨HS, H⟩
    unfold shared
    icases H with ⟨%q, H⟩
    ihave H := (owns_halves c m q X).1 $$ H
    icases H with ⟨H1, H2⟩
    isplitl [HS H1]
    · isplitl [H1]; · iexists _; iexact H1
      iexact HS
    iexists _; iexact H2

/-- A memref held at some contents. -/
def held (m : Memref sig c.2.kind cs s e) : sProp 𝕄 := iprop(∃ X, owns c m fullShare X)

theorem held_squeeze {m : Memref sig c.2.kind cs s e} {s' : Shape} (h : s.Squeezes s') : (held c (m.squeeze s' h) : sProp 𝕄) = held c m := by
  unfold held
  refine both_ways ?_ ?_
  · iintro ⟨%X, H⟩
    iexists (fun j => X ((Shape.reshapeEquiv h.numel_eq).symm j))
    iapply (show owns c (m.squeeze s' h) fullShare X ⊢ owns c m fullShare (fun j => X ((Shape.reshapeEquiv h.numel_eq).symm j)) from by rw [owns_squeeze])
    iexact H
  · iintro ⟨%X, H⟩
    iexists (fun j => X (Shape.reshapeEquiv h.numel_eq j))
    rw [owns_squeeze]
    simp only [Equiv.apply_symm_apply]
    iexact H

section Cover

variable {T : Type} [Fintype T] [DecidableEq T] {m : Memref sig c.2.kind cs s e} (r : T → Rect s) (hr : ∀ t, ∀ a, (r t).stride a = 1)
  (hd : ∀ t t', t ≠ t' → Disjoint (r t).set (r t').set) (hcov : (Finset.univ : Finset T).biUnion (fun t => (r t).set) = Finset.univ)
include hd hcov

theorem held_slices : (held c m : sProp 𝕄) ⊢ bigSep Finset.univ fun t => held c (m.slice (r t) (hr t)) := by
  unfold held
  iintro ⟨%X, H⟩
  ihave H := (owns_rects c m fullShare r hr hd hcov X) $$ H
  iapply (parts_mono Finset.univ (fun t => (show owns c (m.slice (r t) (hr t)) fullShare (fun j => X ((r t).emb j)) ⊢ iprop(∃ X, owns c (m.slice (r t) (hr t)) fullShare X) from by
    iintro H; iexists _; iexact H)))
  iexact H

omit hcov in
theorem slices_inj : Function.Injective (fun p : (t : T) × (r t).shape.Idx => (r p.1).emb p.2) := by
  rintro ⟨t, j⟩ ⟨t', j'⟩ h
  have h' : (r t).emb j = (r t').emb j' := h
  by_cases htt : t = t'
  · subst htt
    rw [(r t).emb.injective h']
  · exfalso
    have m1 : (r t).emb j ∈ (r t).set := by rw [← Rect.map_emb_univ]; exact Finset.mem_map_of_mem _ (Finset.mem_univ j)
    have m2 : (r t).emb j ∈ (r t').set := by rw [h', ← Rect.map_emb_univ]; exact Finset.mem_map_of_mem _ (Finset.mem_univ j')
    exact Finset.disjoint_left.mp (hd t t' htt) m1 m2

/-- The slices held, each meeting what is known of it, make the memref. -/
theorem owns_glue [∀ e, Nonempty (Val e)] (Φ : ∀ t, ((r t).shape.Idx → Val e) → Prop) :
    (bigSep Finset.univ fun t => iprop(∃ Y, ⌜Φ t Y⌝ ∗ owns c (m.slice (r t) (hr t)) fullShare Y) : sProp 𝕄)
      ⊢ iprop(∃ X, ⌜∀ t, Φ t (fun j => X ((r t).emb j))⌝ ∗ owns c m fullShare X) := by
  iintro H
  ihave H := (bigSep_exists_pi Finset.univ fun t (Y : (r t).shape.Idx → Val e) => iprop(⌜Φ t Y⌝ ∗ owns c (m.slice (r t) (hr t)) fullShare Y)) $$ H
  icases H with ⟨%Y, H⟩
  ihave H := (parts_sep Finset.univ (fun t => (iprop(⌜Φ t (Y t)⌝) : sProp 𝕄)) (fun t => owns c (m.slice (r t) (hr t)) fullShare (Y t))) $$ H
  icases H with ⟨HP, H⟩
  ihave %hP := (facts_all (fun t => Φ t (Y t)) Finset.univ) $$ HP
  have hinj := slices_inj r hd
  have hX (t : T) (j : (r t).shape.Idx) :
      Function.extend (fun p : (t : T) × (r t).shape.Idx => (r p.1).emb p.2) (fun p => Y p.1 p.2) (fun _ => Classical.arbitrary _) ((r t).emb j) = Y t j :=
    hinj.extend_apply (fun p => Y p.1 p.2) _ ⟨t, j⟩
  iexists (Function.extend (fun p : (t : T) × (r t).shape.Idx => (r p.1).emb p.2) (fun p => Y p.1 p.2) (fun _ => Classical.arbitrary _))
  isplitr
  · ipureintro
    intro t
    simp only [hX]
    exact hP t (Finset.mem_univ t)
  iapply (owns_of_rects c m fullShare r hr hd hcov _)
  simp only [hX]
  iexact H

theorem slices_held [∀ e, Nonempty (Val e)] : (bigSep Finset.univ fun t => held c (m.slice (r t) (hr t)) : sProp 𝕄) ⊢ held c m := by
  unfold held
  iintro H
  ihave H := (parts_mono Finset.univ (fun t => (show iprop(∃ X, owns c (m.slice (r t) (hr t)) fullShare X) ⊢ iprop(∃ X, ⌜True⌝ ∗ owns c (m.slice (r t) (hr t)) fullShare X) from by
    iintro ⟨%X, H⟩; iexists X; isplitr; · ipureintro; trivial
    iexact H))) $$ H
  ihave H := (owns_glue c r hr hd hcov (fun _ _ => True)) $$ H
  icases H with ⟨%X, -, H⟩
  iexists X
  iexact H

end Cover

end Cert.Pillar
-- ==== Proof.Setup.lean ====
/- A tile's scratch memory and semaphores, taken apart into what the passes hold and put together again. -/
module

public import proofs.«01_k».proof.Proof.Tile
public import proofs.«01_k».proof.Proof.Parts

@[expose] public section

noncomputable section

namespace Cert.Pillar

open Idealize.ShloMosaic Idealize.ShloMosaic.Transfers
open Idealize.SL
open Idealize.SL.BI (sProp bigSep bigSep_univ_update bigSep_univ_at)
open scoped Idealize.SL.BI
open Idealize.SL.BI.BIBase Idealize.SL.BI.Laws Idealize.SL.Sem Idealize.SL.ProofMode
open Idealize.SL.RA Cert.KernelIdeal Cert.KernelIdeal.Gen

variable {F : FTy → Type} [FloatOps F]

section Blocks

variable {T : Type} [Fintype T] [DecidableEq T] (s : Shape) (off : T → Fin s.rank → ℕ) (size : Fin s.rank → ℕ) (inb : ∀ t a, off t a + size a ≤ s.size a)
  (a : Fin s.rank) (B : ℕ) (k : T → ℕ) (ho : ∀ t, off t a = B * k t) (hs : size a = B)

include ho hs in
omit [Fintype T] [DecidableEq T] in
/-- Blocks of `B` coordinates of one axis, at different multiples of `B`, are apart. -/
theorem blocks_disjoint (hk : Function.Injective k) (t t' : T) (h : t ≠ t') :
    Disjoint (Rect.unit (s := s) (off t) size (inb t)).set (Rect.unit (s := s) (off t') size (inb t')).set := by
  refine Rect.unit_disjoint a ?_
  rw [ho, ho, hs]
  rcases lt_or_gt_of_ne (fun e => h (hk e)) with h | h
  · exact .inl ((Nat.mul_succ B (k t)).symm.le.trans (Nat.mul_le_mul_left _ h))
  · exact .inr ((Nat.mul_succ B (k t')).symm.le.trans (Nat.mul_le_mul_left _ h))

include ho hs in
omit [DecidableEq T] in
/-- They cover, when every multiple is some block's and the other axes are whole. -/
theorem blocks_cover (hB : 0 < B) (hk : ∀ x : s.Idx, ∃ t, k t = (x a).val / B) (hoth : ∀ t b, b ≠ a → off t b = 0 ∧ size b = s.size b) :
    (Finset.univ : Finset T).biUnion (fun t => (Rect.unit (s := s) (off t) size (inb t)).set) = Finset.univ := by
  refine Finset.eq_univ_iff_forall.mpr fun x => ?_
  obtain ⟨t, ht⟩ := hk x
  refine Finset.mem_biUnion.mpr ⟨t, Finset.mem_univ _, Rect.mem_set_unit.mpr fun b => ?_⟩
  by_cases hb : b = a
  · subst hb
    rw [ho, hs, ht]
    have := Nat.div_add_mod (x b).val B
    have := Nat.mod_lt (x b).val hB
    omega
  · obtain ⟨h0, h1⟩ := hoth t b hb
    rw [h0, h1]
    exact ⟨Nat.zero_le _, by have := (x b).isLt; omega⟩

/-- The rows of the ring's memory, one a slot. -/
theorem slot_apart : ∀ j j' : Fin 16, j ≠ j' → Disjoint (Rect.unit (s := S16x1x256) ![j.val, 0, 0] S1x1x256.size (slot_inb j)).set (Rect.unit (s := S16x1x256) ![j'.val, 0, 0] S1x1x256.size (slot_inb j')).set :=
  blocks_disjoint S16x1x256 (fun j : Fin 16 => ![j.val, 0, 0]) S1x1x256.size slot_inb (0 : Fin 3) 1 (fun j => j.val)
  (fun j => (Nat.one_mul _).symm) rfl Fin.val_injective

theorem slot_cover : (Finset.univ : Finset (Fin 16)).biUnion (fun j => (Rect.unit (s := S16x1x256) ![j.val, 0, 0] S1x1x256.size (slot_inb j)).set) = Finset.univ :=
  blocks_cover S16x1x256 (fun j : Fin 16 => ![j.val, 0, 0]) S1x1x256.size slot_inb (0 : Fin 3) 1 (fun j => j.val)
  (fun j => (Nat.one_mul _).symm) rfl Nat.one_pos (fun x => ⟨x 0, (Nat.div_one _).symm⟩)
  (fun j b hb => by fin_cases b; exacts [(hb rfl).elim, ⟨rfl, rfl⟩, ⟨rfl, rfl⟩])

/-- The two rows of the memory for the chunk's indices. -/
theorem idx_apart : ∀ j j' : Fin 2, j ≠ j' → Disjoint (Rect.unit (s := S2x1024) ![j.val, 0] S1x1024.size (idx_inb j)).set (Rect.unit (s := S2x1024) ![j'.val, 0] S1x1024.size (idx_inb j')).set :=
  blocks_disjoint S2x1024 (fun j : Fin 2 => ![j.val, 0]) S1x1024.size idx_inb (0 : Fin 2) 1 (fun j => j.val)
  (fun j => (Nat.one_mul _).symm) rfl Fin.val_injective

theorem idx_cover : (Finset.univ : Finset (Fin 2)).biUnion (fun j => (Rect.unit (s := S2x1024) ![j.val, 0] S1x1024.size (idx_inb j)).set) = Finset.univ :=
  blocks_cover S2x1024 (fun j : Fin 2 => ![j.val, 0]) S1x1024.size idx_inb (0 : Fin 2) 1 (fun j => j.val)
  (fun j => (Nat.one_mul _).symm) rfl Nat.one_pos (fun x => ⟨x 0, (Nat.div_one _).symm⟩)
  (fun j b hb => by fin_cases b; exacts [(hb rfl).elim, ⟨rfl, rfl⟩])

/-- The two rows of the memory for the chunk's words. -/
theorem bm_apart : ∀ j j' : Fin 2, j ≠ j' → Disjoint (Rect.unit (s := S2x64) ![j.val, 0] S1x64.size (bm_inb j)).set (Rect.unit (s := S2x64) ![j'.val, 0] S1x64.size (bm_inb j')).set :=
  blocks_disjoint S2x64 (fun j : Fin 2 => ![j.val, 0]) S1x64.size bm_inb (0 : Fin 2) 1 (fun j => j.val)
  (fun j => (Nat.one_mul _).symm) rfl Fin.val_injective

theorem bm_cover : (Finset.univ : Finset (Fin 2)).biUnion (fun j => (Rect.unit (s := S2x64) ![j.val, 0] S1x64.size (bm_inb j)).set) = Finset.univ :=
  blocks_cover S2x64 (fun j : Fin 2 => ![j.val, 0]) S1x64.size bm_inb (0 : Fin 2) 1 (fun j => j.val)
  (fun j => (Nat.one_mul _).symm) rfl Nat.one_pos (fun x => ⟨x 0, (Nat.div_one _).symm⟩)
  (fun j b hb => by fin_cases b; exacts [(hb rfl).elim, ⟨rfl, rfl⟩])

end Blocks

section Body

variable {Ix : Type} [DecidableEq Ix] {Name : Type} [DecidableEq Name] [Infinite Name] {U : Type} [URA U] {Lvl : Type} [Preorder Lvl]
variable {defs : Defs nD τ sig (Elt F) Λ₀} (𝒱 : Variants) (d : Fin nD) (i : grid1.Coords) (bd : Option 𝒱.V)

local notation "𝕄" => MT nD τ sig Ix (Elt F) Name U Lvl

variable (arg2 : Memref sig .scVector .hbm S200704 .i32) (harg2 : arg2.IsWhole) (arg3 : Memref sig .scVector .hbm S200704x256 .f32) (harg3 : arg3.IsWhole) (arg4 : Memref sig .scVector .hbm S196x128x64 .i32) (harg4 : arg4.IsWhole) (arg5 : Memref sig .scVector .hbm S32768x256 .f32) (harg5 : arg5.IsWhole) (arg6 : Memref sig .scVector .vmem S2x1024 .i32) (harg6 : arg6.IsWhole) (arg7 : Memref sig .scVector .vmem S2x64 .i32) (harg7 : arg7.IsWhole) (arg8 : Memref sig .scVector .vmem S16x1x256 .f32) (harg8 : arg8.IsWhole) (arg9 : Memref sig .scVector .vmem S256x256 .f32) (harg9 : arg9.IsWhole) (arg10 : Memref sig .scVector .smem S16 .i32) (harg10 : arg10.IsWhole) (arg11 : Memref sig .scVector .smem S2 .i32) (harg11 : arg11.IsWhole) (arg12 : DmaSems sig S2) (arg13 : DmaSems sig S2) (arg14 : DmaSems sig S16) (v64_r0 : DmaSems sig S_)
variable (EC : UEmb Counters (MT nD τ sig Ix (Elt F) Name U Lvl)) (ι : Ix) (H : S200704x256.Idx → F .f32) (O : Debt nD τ sig Ix) (I : S200704.Idx → BitVec 32) (Bm : S196x128x64.Idx → BitVec 32)

omit [Infinite Name] [Preorder Lvl] in
theorem slots_of : (held (tile d i) arg8 : sProp 𝕄) ⊢ bigSep Finset.univ fun j : Fin 16 => held (tile d i) (slotM arg8 j) := by
  refine (held_slices (tile d i) (m := arg8) (fun j : Fin 16 => Rect.unit (s := S16x1x256) ![j.val, 0, 0] S1x1x256.size (slot_inb j)) (fun _ _ => rfl)
    slot_apart slot_cover).trans ?_
  exact parts_mono _ fun j => by rw [held_squeeze]

theorem of_slots [∀ e, Nonempty (Elt F e)] : (bigSep Finset.univ fun j : Fin 16 => held (tile d i) (slotM arg8 j) : sProp 𝕄) ⊢ held (tile d i) arg8 := by
  refine Entails.trans ?_ (slices_held (tile d i) (m := arg8) (fun j : Fin 16 => Rect.unit (s := S16x1x256) ![j.val, 0, 0] S1x1x256.size (slot_inb j)) (fun _ _ => rfl)
    slot_apart slot_cover)
  exact parts_mono _ fun j => by rw [held_squeeze]

theorem idx_of : (held (tile d i) arg6 : sProp 𝕄) ⊢ bigSep Finset.univ fun j : Fin 2 => held (tile d i) (idxM arg6 j) := by
  refine (held_slices (tile d i) (m := arg6) (fun j : Fin 2 => Rect.unit (s := S2x1024) ![j.val, 0] S1x1024.size (idx_inb j)) (fun _ _ => rfl)
    idx_apart idx_cover).trans ?_
  exact parts_mono _ fun j => by unfold idxM; rw [held_squeeze]

theorem of_idx [∀ e, Nonempty (Elt F e)] : (bigSep Finset.univ fun j : Fin 2 => held (tile d i) (idxM arg6 j) : sProp 𝕄) ⊢ held (tile d i) arg6 := by
  refine Entails.trans ?_ (slices_held (tile d i) (m := arg6) (fun j : Fin 2 => Rect.unit (s := S2x1024) ![j.val, 0] S1x1024.size (idx_inb j)) (fun _ _ => rfl)
    idx_apart idx_cover)
  exact parts_mono _ fun j => by unfold idxM; rw [held_squeeze]

theorem bm_of : (held (tile d i) arg7 : sProp 𝕄) ⊢ bigSep Finset.univ fun j : Fin 2 => held (tile d i) (bmM arg7 j) := by
  refine (held_slices (tile d i) (m := arg7) (fun j : Fin 2 => Rect.unit (s := S2x64) ![j.val, 0] S1x64.size (bm_inb j)) (fun _ _ => rfl)
    bm_apart bm_cover).trans ?_
  exact parts_mono _ fun j => by unfold bmM; rw [held_squeeze]

theorem of_bm [∀ e, Nonempty (Elt F e)] : (bigSep Finset.univ fun j : Fin 2 => held (tile d i) (bmM arg7 j) : sProp 𝕄) ⊢ held (tile d i) arg7 := by
  refine Entails.trans ?_ (slices_held (tile d i) (m := arg7) (fun j : Fin 2 => Rect.unit (s := S2x64) ![j.val, 0] S1x64.size (bm_inb j)) (fun _ _ => rfl)
    bm_apart bm_cover)
  exact parts_mono _ fun j => by unfold bmM; rw [held_squeeze]

/-- The tile's semaphores at zero. -/
def semsRes : sProp 𝕄 :=
  iprop((bigSep Finset.univ fun s : Fin 2 => semVal (tile d i, SemLoc.dma (semS arg12 s)) 0) ∗ (bigSep Finset.univ fun s : Fin 2 => semVal (tile d i, SemLoc.dma (semS arg13 s)) 0)
    ∗ (bigSep Finset.univ fun j : Fin 16 => semVal (tile d i, SemLoc.dma (semG arg14 j)) 0) ∗ semVal (tile d i, SemLoc.dma v64_r0.sem) 0)

/-- The tile's scratch memory, at whatever it holds. -/
def bufsRes : sProp 𝕄 :=
  iprop(held (tile d i) arg6 ∗ held (tile d i) arg7 ∗ held (tile d i) arg8 ∗ held (tile d i) arg9 ∗ held (tile d i) arg10 ∗ held (tile d i) arg11)

theorem passRes_of :
    iprop(bufsRes d i arg6 arg7 arg8 arg9 arg10 arg11 ∗ semsRes d i arg12 arg13 arg14 v64_r0
      ∗ shared (tile d i) arg2 (I : S200704.Idx → Elt F .i32) ∗ shared (tile d i) arg3 H ∗ shared (tile d i) arg4 (Bm : S196x128x64.Idx → Elt F .i32) ∗ owes (tile d i) O.t O.w)
      ⊢ (passRes d i arg2 arg3 arg4 arg6 arg7 arg8 arg9 arg10 arg11 arg12 arg13 arg14 v64_r0 EC ι H O I Bm : sProp 𝕄) := by
  unfold bufsRes semsRes
  iintro ⟨⟨H6, H7, H8, H9, H10, H11⟩, ⟨HsI, HsB, HsG, Hs0⟩, Hi, Hh, Hb, HO⟩
  ihave H6 := (idx_of d i arg6) $$ H6
  ihave H6 := (eq_entails (BI.bigSep_univ_two _)) $$ H6
  icases H6 with ⟨H60, H61⟩
  ihave HsI := (eq_entails (BI.bigSep_univ_two _)) $$ HsI
  icases HsI with ⟨HsI0, HsI1⟩
  ihave H7 := (bm_of d i arg7) $$ H7
  ihave H7 := (eq_entails (BI.bigSep_univ_two _)) $$ H7
  icases H7 with ⟨H70, H71⟩
  ihave HsB := (eq_entails (BI.bigSep_univ_two _)) $$ HsB
  icases HsB with ⟨HsB0, HsB1⟩
  ihave H8 := (slots_of d i arg8) $$ H8
  ihave Hi := (shared_deal (tile d i) arg2 (I : S200704.Idx → Elt F .i32) (Finset.univ : Finset (Fin 2))) $$ Hi
  icases Hi with ⟨Hi, -⟩
  ihave Hi := (eq_entails (BI.bigSep_univ_two _)) $$ Hi
  icases Hi with ⟨Hi0, Hi1⟩
  ihave Hb := (shared_deal (tile d i) arg4 (Bm : S196x128x64.Idx → Elt F .i32) (Finset.univ : Finset (Fin 2))) $$ Hb
  icases Hb with ⟨Hb, -⟩
  ihave Hb := (eq_entails (BI.bigSep_univ_two _)) $$ Hb
  icases Hb with ⟨Hb0, Hb1⟩
  ihave Hh := (shared_deal (tile d i) arg3 H (Finset.univ : Finset (Fin 16))) $$ Hh
  icases Hh with ⟨Hh, -⟩
  ihave HS := (parts_join Finset.univ (fun j : Fin 16 => held (tile d i) (slotM arg8 j)) (fun j => semVal (tile d i, SemLoc.dma (semG arg14 j)) 0)) $$ [H8 HsG]
  · isplitl [H8] <;> iassumption
  ihave HS := (parts_join Finset.univ _ (fun _ : Fin 16 => shared (tile d i) arg3 H)) $$ [HS Hh]
  · isplitl [HS] <;> iassumption
  unfold held
  icases H9 with ⟨%X, H9⟩
  icases H10 with ⟨%M, H10⟩
  icases H11 with ⟨%G, H11⟩
  icases H60 with ⟨%Y60, H60⟩
  icases H61 with ⟨%Y61, H61⟩
  icases H70 with ⟨%Y70, H70⟩
  icases H71 with ⟨%Y71, H71⟩
  unfold shared
  icases Hi0 with ⟨%q0, Hi0⟩
  icases Hi1 with ⟨%q1, Hi1⟩
  icases Hb0 with ⟨%p0, Hb0⟩
  icases Hb1 with ⟨%p1, Hb1⟩
  unfold passRes
  iexists X; iexists M; iexists G; iexists O.w
  isplitl [H9]; · iexact H9
  isplitl [H10]; · iexact H10
  isplitl [H11]; · iexact H11
  isplitl [HS]
  · iapply (parts_mono Finset.univ (fun j : Fin 16 => (show iprop(((∃ X, owns (tile d i) (slotM arg8 j) fullShare X) ∗ semVal (tile d i, SemLoc.dma (semG arg14 j)) 0) ∗ ∃ q : PosShare TreeShare, owns (tile d i) arg3 q H)
      ⊢ slotRes d i arg3 arg8 arg14 EC ι H j none from by
        unfold slotRes freeSlot
        iintro ⟨⟨⟨%Y, H8⟩, Hs⟩, ⟨%q, Hh⟩⟩
        iexists Y; iexists q
        isplitl [H8]; · iexact H8
        isplitl [Hs]; · iexact Hs
        iexact Hh)))
    iexact HS
  isplitl [HO]
  · unfold owing
    isplitr; · ipureintro; exact fun p hp => .inl hp
    iexact HO
  isplitl [H60 HsI0 Hi0]
  · iapply (eq_entails (idxSlot_ge d i arg2 arg6 arg12 EC ι I 196 (by omega)).symm)
    iexists Y60; iexists q0
    isplitl [H60]; · iexact H60
    isplitl [HsI0]; · iexact HsI0
    iexact Hi0
  isplitl [H61 HsI1 Hi1]
  · iapply (eq_entails (idxSlot_ge d i arg2 arg6 arg12 EC ι I 197 (by omega)).symm)
    iexists Y61; iexists q1
    isplitl [H61]; · iexact H61
    isplitl [HsI1]; · iexact HsI1
    iexact Hi1
  isplitl [H70 HsB0 Hb0]
  · iapply (eq_entails (bmSlot_ge d i arg4 arg7 arg13 EC ι Bm (fun _ => 0#32) 196 (by omega)).symm)
    iexists Y70; iexists p0
    isplitl [H70]; · iexact H70
    isplitl [HsB0]; · iexact HsB0
    iexact Hb0
  isplitl [H71 HsB1 Hb1]
  · iapply (eq_entails (bmSlot_ge d i arg4 arg7 arg13 EC ι Bm (fun _ => 0#32) 197 (by omega)).symm)
    iexists Y71; iexists p1
    isplitl [H71]; · iexact H71
    isplitl [HsB1]; · iexact HsB1
    iexact Hb1
  iexact Hs0

theorem of_passRes [∀ e, Nonempty (Elt F e)] :
    (passRes d i arg2 arg3 arg4 arg6 arg7 arg8 arg9 arg10 arg11 arg12 arg13 arg14 v64_r0 EC ι H O I Bm : sProp 𝕄)
      ⊢ iprop(bufsRes d i arg6 arg7 arg8 arg9 arg10 arg11 ∗ semsRes d i arg12 arg13 arg14 v64_r0 ∗ ∃ W, owing (tile d i) ι O W) := by
  unfold passRes
  iintro ⟨%X, %M, %G, %W, H9, H10, H11, HS, HO, HI0, HI1, HB0, HB1, Hs0⟩
  ihave HI0 := (eq_entails (idxSlot_ge d i arg2 arg6 arg12 EC ι I 196 (by omega))) $$ HI0
  icases HI0 with ⟨%Y60, %q0, H60, HsI0, -⟩
  ihave HI1 := (eq_entails (idxSlot_ge d i arg2 arg6 arg12 EC ι I 197 (by omega))) $$ HI1
  icases HI1 with ⟨%Y61, %q1, H61, HsI1, -⟩
  ihave HB0 := (eq_entails (bmSlot_ge d i arg4 arg7 arg13 EC ι Bm (fun _ => 0#32) 196 (by omega))) $$ HB0
  icases HB0 with ⟨%Y70, %p0, H70, HsB0, -⟩
  ihave HB1 := (eq_entails (bmSlot_ge d i arg4 arg7 arg13 EC ι Bm (fun _ => 0#32) 197 (by omega))) $$ HB1
  icases HB1 with ⟨%Y71, %p1, H71, HsB1, -⟩
  ihave HS := (parts_mono Finset.univ (fun j : Fin 16 => (show (slotRes d i arg3 arg8 arg14 EC ι H j none : sProp 𝕄)
      ⊢ iprop(held (tile d i) (slotM arg8 j) ∗ semVal (tile d i, SemLoc.dma (semG arg14 j)) 0) from by
        unfold slotRes freeSlot held
        iintro ⟨%Y, %q, H8, Hs, -⟩
        isplitl [H8]; · iexists Y; iexact H8
        iexact Hs))) $$ HS
  ihave HS := (parts_sep Finset.univ (fun j : Fin 16 => held (tile d i) (slotM arg8 j)) (fun j => semVal (tile d i, SemLoc.dma (semG arg14 j)) 0)) $$ HS
  icases HS with ⟨H8, HsG⟩
  isplitl [H60 H61 H70 H71 H8 H9 H10 H11]
  · unfold bufsRes
    isplitl [H60 H61]
    · iapply (of_idx d i arg6)
      iapply (eq_entails (BI.bigSep_univ_two _).symm)
      unfold held
      isplitl [H60]; · iexists Y60; iexact H60
      iexists Y61; iexact H61
    isplitl [H70 H71]
    · iapply (of_bm d i arg7)
      iapply (eq_entails (BI.bigSep_univ_two _).symm)
      unfold held
      isplitl [H70]; · iexists Y70; iexact H70
      iexists Y71; iexact H71
    isplitl [H8]; · iapply (of_slots d i arg8); iexact H8
    unfold held
    isplitl [H9]; · iexists X; iexact H9
    isplitl [H10]; · iexists M; iexact H10
    iexists G; iexact H11
  isplitl [HsI0 HsI1 HsB0 HsB1 HsG Hs0]
  · unfold semsRes
    isplitl [HsI0 HsI1]
    · iapply (eq_entails (BI.bigSep_univ_two _).symm)
      isplitl [HsI0]; · iexact HsI0
      iexact HsI1
    isplitl [HsB0 HsB1]
    · iapply (eq_entails (BI.bigSep_univ_two _).symm)
      isplitl [HsB0]; · iexact HsB0
      iexact HsB1
    isplitl [HsG]; · iexact HsG
    iexact Hs0
  iexists W
  iexact HO

end Body

end Cert.Pillar
-- ==== Proof.Task.lean ====
/- The vector subcore's task from the launch's resources: its share of the arguments, its rows of the
   result, its scratch memory and semaphores, and what it owes the launch. -/
module

public import proofs.«01_k».proof.Defs
public import Idealize.ShloMosaic.Lib.SparseCore.Quiescent
public import Idealize.ShloMosaic.Lib.Pipeline.Kit
public import Idealize.ShloMosaic.Lib.Tactic
public import proofs.«01_k».proof.Proof.Setup

@[expose] public section

noncomputable section

namespace Cert.Pillar

open Cert.KernelIdeal Cert.KernelIdeal.Gen
open Idealize.ShloMosaic Idealize.ShloMosaic.Transfers
open Idealize.ShloMosaic.SparseCore.Cfg (HIx ownBufs ownSems0 ownCells ownRefs mem_ownCells)
open Idealize.SL Idealize.SL.RA
open Idealize.SL.BI (sProp bigSep bigSep_singleton)
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev iV : Memref sig .scVector .hbm S200704 .i32 := Memref.whole main_v37_scv
abbrev hV : Memref sig .scVector .hbm S200704x256 .f32 := Memref.whole main_v36_0_scv
abbrev bV : Memref sig .scVector .hbm S196x128x64 .i32 := Memref.whole main_v36_2_scv
abbrev oV : Memref sig .scVector .hbm S32768x256 .f32 := Memref.whole main_v38_scv

section Own

variable (d : Dev nD) (i : grid1.Coords)

/-- The scratch buffers, numbered. -/
def scr : Fin 6 → Ref sig .scVector := ![cc1_scratch0, cc1_scratch1, cc1_scratch2, cc1_scratch3, cc1_scratch4, cc1_scratch5]

def scrRef (k : Fin 6) : DevRef τ sig := (Proc.scVector ((i 0).castLE hcore1) ((i 1).castLE hsub1)).devRef (scr k)

theorem scr_inj : Function.Injective scr := by decide

theorem scrRef_inj : Function.Injective (scrRef i) := fun _ _ h => scr_inj (Proc.devRef_injective _ h)

theorem scrRef_mem (k : Fin 6) : scrRef i k ∈ ownRefs (τ := τ) (sig := sig) (tile d i).2 := by
  refine SparseCore.Cfg.mem_ownRefs_of_owner ?_
  revert k
  intro k
  fin_cases k <;> rfl

/-- The task's semaphores, numbered. -/
def scrSem : Fin 2 ⊕ Fin 2 ⊕ Fin 16 ⊕ Unit → DmaSem sig
  | .inl s => semS cc1_scratch6 s
  | .inr (.inl s) => semS cc1_scratch7 s
  | .inr (.inr (.inl j)) => semG cc1_scratch8 j
  | .inr (.inr (.inr _)) => cc1_scoped0.sem

theorem scrSem_inj : Function.Injective scrSem := by decide

def scrCell (k : Fin 2 ⊕ Fin 2 ⊕ Fin 16 ⊕ Unit) : GSem nD τ sig := (tile d i, .dma (scrSem k))

theorem scrCell_inj : Function.Injective (scrCell d i) := fun a b h => by
  unfold scrCell at h
  exact scrSem_inj (SemLoc.dma.inj (Prod.mk.inj h).2)

theorem scrCell_mem (k) : scrCell d i k ∈ ownCells (tile d i) := mem_ownCells.mpr ⟨rfl, rfl⟩

theorem ownBufs_tile :
    (ownBufs (tile d i) : sProp 𝕄) = iprop(bufsRes d i (Memref.whole cc1_scratch0) (Memref.whole cc1_scratch1) (Memref.whole cc1_scratch2) (Memref.whole cc1_scratch3) (Memref.whole cc1_scratch4) (Memref.whole cc1_scratch5)
      ∗ bigSep (ownRefs (tile d i).2 \ Finset.univ.image (scrRef i)) fun b => iprop(∃ f, ((d, b) : Loc nD τ sig) ↦{fullShare} f)) := by
  unfold SparseCore.Cfg.ownBufs
  rw [SparseCore.bigSep_sdiff_split' (t := Finset.univ.image (scrRef i)) (Finset.image_subset_iff.mpr fun k _ => scrRef_mem d i k),
    SparseCore.bigSep_image_of_injOn (scrRef_inj i).injOn]
  congr 1
  unfold bufsRes held
  simp only [owns_whole]
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]
  rfl

theorem ownSems_tile :
    (ownSems0 (tile d i) : sProp 𝕄) = iprop(semsRes d i cc1_scratch6 cc1_scratch7 cc1_scratch8 cc1_scoped0
      ∗ bigSep (ownCells (tile d i) \ Finset.univ.image (scrCell d i)) fun g => semVal g 0) := by
  unfold SparseCore.Cfg.ownSems0
  rw [SparseCore.bigSep_sdiff_split' (t := Finset.univ.image (scrCell d i)) (Finset.image_subset_iff.mpr fun k _ => scrCell_mem d i k),
    SparseCore.bigSep_image_of_injOn (scrCell_inj d i).injOn]
  congr 1
  rw [BI.bigSep_univ_sum, BI.bigSep_univ_sum, BI.bigSep_univ_sum]
  unfold semsRes
  rw [show (Finset.univ : Finset Unit) = {()} from rfl, bigSep_singleton]
  rfl

end Own

variable [FloatOps F] (H : S200704x256.Idx → F .f32) (I : S200704.Idx → BitVec 32) (Bm : S196x128x64.Idx → BitVec 32)

/-- What a task is handed: the arguments to read, its rows of the result at whatever they hold. -/
def tileIn (d : Dev nD) (i : grid1.Coords) : sProp 𝕄 :=
  iprop((shared (tile d i) iV (I : S200704.Idx → Elt F .i32) ∗ shared (tile d i) hV H ∗ shared (tile d i) bV (Bm : S196x128x64.Idx → Elt F .i32))
    ∗ bigSep Finset.univ fun p => held (tile d i) (canvM i oV p))

/-- What it hands back: its rows finished. -/
def tileOut (d : Dev nD) (i : grid1.Coords) : sProp 𝕄 := bigSep Finset.univ fun p => rowsDone d i oV H I Bm p

instance tileIn_storable (d : Dev nD) (i : grid1.Coords) : BI.Storable (upEmb : UEmb _ 𝕄) (tileIn H I Bm d i) := by
  unfold tileIn shared held; infer_instance

instance tileOut_storable (d : Dev nD) (i : grid1.Coords) : BI.Storable (upEmb : UEmb _ 𝕄) (tileOut H I Bm d i) := by
  unfold tileOut rowsDone; infer_instance

theorem tile_body [∀ e, Nonempty (Elt F e)] (hF : (K (F := F)).Facts) (d : Dev nD) (i : grid1.Coords) (O : CellTallies nD τ sig (HIx 1)) (W : Waits sig (HIx 1)) (hO : ∀ g, O g none = 0) :
    iprop(levAts (K (F := F)).L (K (F := F)).lev ∗ emp ∗ tileIn H I Bm d i
        ∗ scopedBufs (tile d i) ∗ scopedSems0 (tile d i) ∗ owes (tile d i) O W)
      ⊢ wp frame (wpE (defs₀ (F := F)) 𝒱₀ (tile d i) none) Set.univ
          (cc1__sc_scatter_body i iV (Memref.isWhole_whole _) hV (Memref.isWhole_whole _) bV (Memref.isWhole_whole _) oV (Memref.isWhole_whole _)
            (Memref.whole cc1_scratch0) (Memref.isWhole_whole _) (Memref.whole cc1_scratch1) (Memref.isWhole_whole _) (Memref.whole cc1_scratch2) (Memref.isWhole_whole _)
            (Memref.whole cc1_scratch3) (Memref.isWhole_whole _) (Memref.whole cc1_scratch4) (Memref.isWhole_whole _) (Memref.whole cc1_scratch5) (Memref.isWhole_whole _)
            cc1_scratch6 cc1_scratch7 cc1_scratch8 cc1_scoped0)
          fun _ => (iprop(tileOut H I Bm d i ∗ scopedBufs (tile d i) ∗ scopedSems0 (tile d i)
            ∗ ∃ W', ⌜∀ p ∈ W', p ∈ W ∨ p.2 = none⌝ ∗ owes (tile d i) O W') : sProp 𝕄) := by
  rw [(K (F := F)).scopedBufs_V hF d ((i 0).castLE hcore1) ((i 1).castLE hsub1), SparseCore.Cfg.scopedSems0_V (Val := Elt F) d ((i 0).castLE hcore1) ((i 1).castLE hsub1), ownBufs_tile, ownSems_tile]
  unfold tileIn
  iintro ⟨#Hlv, -, ⟨⟨Hi, Hh, Hb⟩, Ho⟩, ⟨Hbufs, Hbr⟩, ⟨Hsems, Hsr⟩, HO⟩
  ihave Hmw := ((K (F := F)).mayWaits_none (thr := tile d i) hO) $$ Hlv
  ihave HR := (passRes_of d i iV hV bV (Memref.whole cc1_scratch0) (Memref.whole cc1_scratch1) (Memref.whole cc1_scratch2) (Memref.whole cc1_scratch3) (Memref.whole cc1_scratch4) (Memref.whole cc1_scratch5)
    cc1_scratch6 cc1_scratch7 cc1_scratch8 cc1_scoped0 countersEmb none H ⟨O, W⟩ I Bm) $$ [Hbufs Hsems Hi Hh Hb HO]
  · isplitl [Hbufs]; · iexact Hbufs
    isplitl [Hsems]; · iexact Hsems
    isplitl [Hi]; · iexact Hi
    isplitl [Hh]; · iexact Hh
    isplitl [Hb]; · iexact Hb
    iexact HO
  ihave Ho := (parts_mono Finset.univ (fun p => (show (held (tile d i) (canvM i oV p) : sProp 𝕄) ⊢ rowsAt d i oV H I Bm 0 p from by
    rw [rowsAt_held d i oV H I Bm (Nat.not_lt_zero _)]; unfold held; exact Entails.refl))) $$ Ho
  iapply (tile_wp 𝒱₀ d i none iV (Memref.isWhole_whole _) hV (Memref.isWhole_whole _) bV (Memref.isWhole_whole _) oV (Memref.isWhole_whole _)
            (Memref.whole cc1_scratch0) (Memref.isWhole_whole _) (Memref.whole cc1_scratch1) (Memref.isWhole_whole _) (Memref.whole cc1_scratch2) (Memref.isWhole_whole _)
            (Memref.whole cc1_scratch3) (Memref.isWhole_whole _) (Memref.whole cc1_scratch4) (Memref.isWhole_whole _) (Memref.whole cc1_scratch5) (Memref.isWhole_whole _)
            cc1_scratch6 cc1_scratch7 cc1_scratch8 cc1_scoped0 countersEmb none H ⟨O, W⟩ I Bm) $$ [HR Hmw Ho]
  · isplitl [HR]; · iexact HR
    isplitl [Hmw]; · iexact Hmw
    iexact Ho
  iintro HR Ho
  ihave HR := (of_passRes d i iV hV bV (Memref.whole cc1_scratch0) (Memref.whole cc1_scratch1) (Memref.whole cc1_scratch2) (Memref.whole cc1_scratch3) (Memref.whole cc1_scratch4) (Memref.whole cc1_scratch5)
    cc1_scratch6 cc1_scratch7 cc1_scratch8 cc1_scoped0 countersEmb none H ⟨O, W⟩ I Bm) $$ HR
  icases HR with ⟨Hbufs, Hsems, %W', HO⟩
  unfold owing
  icases HO with ⟨%hW, HO⟩
  isplitl [Ho]; · unfold tileOut; iexact Ho
  isplitl [Hbufs Hbr]
  · isplitl [Hbufs]; · iexact Hbufs
    iexact Hbr
  isplitl [Hsems Hsr]
  · isplitl [Hsems]; · iexact Hsems
    iexact Hsr
  iexists W'
  isplitr; · ipureintro; exact hW
  iexact HO

end Cert.Pillar
-- ==== Proof.Body.lean ====
/- The TensorCore call's body: from its input blocks to the point rows, the indices and the bitmap of one block. -/
module

public import proofs.«01_k».proof.Proof.Task
public import proofs.«01_k».proof.Proof.Gen.KernelIdeal
public import Idealize.ShloMosaic.Lib.Pipeline.ReadBack
public import Idealize.ShloMosaic.Lib.VecWindow
public import Idealize.ShloMosaic.Lib.Pointwise.Index

@[expose] public section

set_option maxRecDepth 16384

noncomputable section

namespace Cert.Pillar

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A row of the transposed coordinates, and a count. -/
def coordRow (x1 : Vec F S3x1024 .f32) (j : Fin 3) : Vec F S1x1024 .f32 := fun y => x1 (ix2 j (y 1))
def countAt (x0 : Vec F S2 .i32) (j : Fin 2) : BitVec 32 := x0 (ix1 j)

/-- The rows of one block of points. -/
def hBlk (x1 : Vec F S3x1024 .f32) (x2 : Vec F S1024x64 .f32) (x3 : Vec F S64x128 .f32) (x4 : Vec F S8x128 .f32) (x5 x6 : Vec F S1x128 .f32) (x7 : Vec F S128x256 .f32) (x8 x9 : Vec F S1x256 .f32) : Vec F S1024x256 .f32 :=
  k0_pay1 (k0_pay18 (k0_pay10 (k0_pay2 (coordRow x1 0)) (k0_pay7 (coordRow x1 0))) (k0_pay11 (k0_pay3 (coordRow x1 1)) (k0_pay8 (coordRow x1 1)) k0_pay9) (k0_pay12 (k0_pay4 (coordRow x1 2))) x2 x3 x4)
    (k0_pay19 x5) x6 x7 x8 x9

/-- Their cells, and which of the 256-cell stretches each group of sixteen meets. -/
def cells (t : BitVec 32) (x0 : Vec F S2 .i32) (x1 : Vec F S3x1024 .f32) : IVec S1x1024 32 :=
  k0_pay13 (F := F) t (k0_pay5 (coordRow x1 0)) (k0_pay6 (coordRow x1 1)) (countAt (F := F) x0 0) (countAt (F := F) x0 1)
def iBlk (t : BitVec 32) (x0 : Vec F S2 .i32) (x1 : Vec F S3x1024 .f32) : Vec F S1x1x1024 .i32 :=
  k0_pay14 (F := F) t (k0_pay5 (coordRow x1 0)) (k0_pay6 (coordRow x1 1)) (countAt (F := F) x0 0) (countAt (F := F) x0 1)
def bBlk (t : BitVec 32) (x0 : Vec F S2 .i32) (x1 : Vec F S3x1024 .f32) (x10 : Vec F S1024x64 .f32) : Vec F S1x128x64 .i32 :=
  k0_pay17 (F := F) (cells t x0 x1) 256#32 (k0_pay15 (F := F) t (k0_pay5 (coordRow x1 0)) (k0_pay6 (coordRow x1 1)) (countAt (F := F) x0 0) (countAt (F := F) x0 1))
    (k0_pay16 (F := F) t (k0_pay5 (coordRow x1 0)) (k0_pay6 (coordRow x1 1)) (countAt (F := F) x0 0) (countAt (F := F) x0 1))
    (Scalar.extui (Scalar.cmpi .sgt 256#32 0#32)) (Scalar.extui (Scalar.cmpi .slt 256#32 0#32)) x10

theorem coordRow_read (c : Dev nD) {arg2 : Memref sig .tc .vmem S3x1024 .f32} (harg2 : arg2.IsWhole) (x1 : Vec F S3x1024 .f32) (j : Fin 3) {off : Fin 2 → ℕ} (ho : off = ![j.val, 0])
    (inb : ∀ a, off a + S1x1024.size a ≤ S3x1024.size a) :
    View.readAt (Elt F) arg2.view (Rect.unit (s := S3x1024) off S1x1024.size inb).toLoadRect (harg2.unread x1) = coordRow x1 j := by
  subst ho
  funext y
  show arg2.view.read (Elt F) (harg2.unread x1) _ = _
  rw [harg2.read_unread]
  refine congrArg x1 (funext fun a => ?_)
  match a with
  | 0 => exact Fin.ext (by have := (y 0).isLt; simp [Rect.unit, Rect.toLoadRect, LoadRect.idx] at this ⊢; omega)
  | 1 => exact Fin.ext (by simp [Rect.unit, Rect.toLoadRect, LoadRect.idx])

theorem whole_read {sp : Space} {s : Shape} {e : EltTy} {v : Memref sig .tc sp s e} (hv : v.IsWhole) (x : Vec F s e) {off : Fin s.rank → ℕ} (inb : ∀ a, off a + s.size a ≤ s.size a) :
    View.readAt (Elt F) v.view (Rect.unit off s.size inb).toLoadRect (hv.unread x) = x := by
  rw [View.readAt_full, hv.read_unread]

theorem countAt_read (c : Dev nD) {arg1 : Memref sig .tc .smem S2 .i32} (harg1 : arg1.IsWhole) (x0 : Vec F S2 .i32) (j : Fin 2) {off : Fin 1 → ℕ} (ho : off = ![j.val])
    (inb : ∀ a, off a + S1.size a ≤ S2.size a) (y : S1.Idx) :
    View.readAt (Elt F) arg1.view (Rect.unit (s := S2) off S1.size inb).toLoadRect (harg1.unread x0) y = countAt x0 j := by
  subst ho
  show arg1.view.read (Elt F) (harg1.unread x0) _ = _
  rw [harg1.read_unread]
  refine congrArg x0 (funext fun a => ?_)
  match a with
  | 0 => exact Fin.ext (by have := (y 0).isLt; simp [Rect.unit, Rect.toLoadRect, LoadRect.idx] at this ⊢; omega)

section Triple

variable (c : Dev nD) (i : grid0.Coords)
  {arg1 : Memref sig .tc .smem S2 .i32} (harg1 : arg1.IsWhole) {arg2 : Memref sig .tc .vmem S3x1024 .f32} (harg2 : arg2.IsWhole) {arg3 : Memref sig .tc .vmem S1024x64 .f32} (harg3 : arg3.IsWhole)
  {arg4 : Memref sig .tc .vmem S64x128 .f32} (harg4 : arg4.IsWhole) {arg5 : Memref sig .tc .vmem S8x128 .f32} (harg5 : arg5.IsWhole) {arg6 : Memref sig .tc .vmem S1x128 .f32} (harg6 : arg6.IsWhole)
  {arg7 : Memref sig .tc .vmem S1x128 .f32} (harg7 : arg7.IsWhole) {arg8 : Memref sig .tc .vmem S128x256 .f32} (harg8 : arg8.IsWhole) {arg9 : Memref sig .tc .vmem S1x256 .f32} (harg9 : arg9.IsWhole)
  {arg10 : Memref sig .tc .vmem S1x256 .f32} (harg10 : arg10.IsWhole) {arg11 : Memref sig .tc .vmem S1024x64 .f32} (harg11 : arg11.IsWhole) {arg12 : Memref sig .tc .vmem S1024x256 .f32} (harg12 : arg12.IsWhole)
  {arg13 : Memref sig .tc .vmem S1x1x1024 .i32} (harg13 : arg13.IsWhole) {arg14 : Memref sig .tc .vmem S1x128x64 .i32} (harg14 : arg14.IsWhole)
  (x0 : Vec F S2 .i32) (x1 : Vec F S3x1024 .f32) (x2 : Vec F S1024x64 .f32) (x3 : Vec F S64x128 .f32) (x4 : Vec F S8x128 .f32) (x5 x6 : Vec F S1x128 .f32) (x7 : Vec F S128x256 .f32) (x8 x9 : Vec F S1x256 .f32) (x10 : Vec F S1024x64 .f32)

set_option maxHeartbeats 1000000 in
theorem body_wp (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (hBlk x1 x2 x3 x4 x5 x6 x7 x8 x9) ∗ owns (c : Thread nD τ) arg13 fullShare (iBlk (BitVec.ofNat 32 (i 0).val) x0 x1)
            ∗ owns (c : Thread nD τ) arg14 fullShare (bBlk (BitVec.ofNat 32 (i 0).val) x0 x1 x10)) -∗ Q ⟨⟩))
      ⊢ wp frame (wpE (defs₀ (F := F)) Variants.none c none) Set.univ (cc0__mlp_body i arg1 harg1 arg2 harg2 arg3 harg3 arg4 harg4 arg5 harg5 arg6 harg6 arg7 harg7 arg8 harg8 arg9 harg9 arg10 harg10 arg11 harg11 arg12 harg12 arg13 harg13 arg14 harg14) Q := by
  simp only [cc0__mlp_body_eq_skeleton]; unfold cc0__mlp_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg7.eq_unread hf6; obtain rfl := harg8.eq_unread hf7; obtain rfl := harg9.eq_unread hf8; obtain rfl := harg10.eq_unread hf9; obtain rfl := harg11.eq_unread hf10
  sl_exec
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H4]; · iexists _; isplitr; · ipureintro; exact harg5.read_unread _
                  iexact H4
  isplitl [H5]; · iexists _; isplitr; · ipureintro; exact harg6.read_unread _
                  iexact H5
  isplitl [H6]; · iexists _; isplitr; · ipureintro; exact harg7.read_unread _
                  iexact H6
  isplitl [H7]; · iexists _; isplitr; · ipureintro; exact harg8.read_unread _
                  iexact H7
  isplitl [H8]; · iexists _; isplitr; · ipureintro; exact harg9.read_unread _
                  iexact H8
  isplitl [H9]; · iexists _; isplitr; · ipureintro; exact harg10.read_unread _
                  iexact H9
  isplitl [H10]; · iexists _; isplitr; · ipureintro; exact harg11.read_unread _
                   iexact H10
  isplitl [H11]
  · iexists _; isplitr
    swap; · iexact H11
    ipureintro
    refine (View.read_writes_full _ _ _ _ _).trans ?_
    unfold hBlk
    rw [← coordRow_read c harg2 x1 0 rfl inb_S3x1024_S1x1024_0_0, ← coordRow_read c harg2 x1 1 rfl inb_S3x1024_S1x1024_1_0, ← coordRow_read c harg2 x1 2 rfl inb_S3x1024_S1x1024_2_0]
    erw [whole_read harg7 x6, whole_read harg8 x7, whole_read harg9 x8, whole_read harg10 x9]
    refine congrArg₂ (fun a b => k0_pay1 a b x6 x7 x8 x9) ?_ ?_
    · conv_rhs => rw [← whole_read harg3 x2 (off := ![0, 0]) inb_S1024x64_S1024x64_0_0, ← whole_read harg4 x3 (off := ![0, 0]) inb_S64x128_S64x128_0_0, ← whole_read harg5 x4 (off := ![0, 0]) inb_S8x128_S8x128_0_0]
      rfl
    · conv_rhs => rw [← whole_read harg6 x5 (off := ![0, 0]) inb_S1x128_S1x128_0_0]
      rfl
  isplitl [H12]
  · iexists _; isplitr
    swap; · iexact H12
    ipureintro
    refine (View.read_writes_full _ _ _ _ _).trans ?_
    unfold iBlk
    rw [← coordRow_read c harg2 x1 0 rfl inb_S3x1024_S1x1024_0_0, ← coordRow_read c harg2 x1 1 rfl inb_S3x1024_S1x1024_1_0]
    rw [← countAt_read c harg1 x0 0 rfl inb_S2_S1_0 (Shape.Idx.first (numel1_S1.symm ▸ Nat.one_pos)), ← countAt_read c harg1 x0 1 rfl inb_S2_S1_1 (Shape.Idx.first (numel1_S1.symm ▸ Nat.one_pos))]
    rfl
  iexists _; isplitr
  swap; · iexact H13
  ipureintro
  refine (View.read_writes_full _ _ _ _ _).trans ?_
  unfold bBlk cells
  rw [← coordRow_read c harg2 x1 0 rfl inb_S3x1024_S1x1024_0_0, ← coordRow_read c harg2 x1 1 rfl inb_S3x1024_S1x1024_1_0]
  rw [← countAt_read c harg1 x0 0 rfl inb_S2_S1_0 (Shape.Idx.first (numel1_S1.symm ▸ Nat.one_pos)), ← countAt_read c harg1 x0 1 rfl inb_S2_S1_1 (Shape.Idx.first (numel1_S1.symm ▸ Nat.one_pos))]
  erw [whole_read harg11 x10]
  rfl

end Triple

end Cert.Pillar
-- ==== Proof.Coord.lean ====
/- One point in the kernel's block and in the reference: its cell, its row, and its bit in the bitmap, as scalars. -/
module

public import Idealize.ShloMosaic.Lib.Pointwise
public import proofs.«01_k».proof.Proof.Body

@[expose] public section

set_option maxRecDepth 16384

noncomputable section

namespace Cert.Pillar

open Cert.KernelIdeal Cert.KernelIdeal.Gen
open Idealize.ShloMosaic

/-- The cell coordinate of a position, and the cell's centre. -/
def cellOf (x : EReal) : BitVec 32 :=
  IntOp.minsi 127#32 (IntOp.maxsi 0#32 (Ideal.fptosi 32 (Ideal.liftRound Int.floor (Ideal.div x (Ideal.ofBits .f32 0x3ECCCCCD#32)))))
def midOf (k : BitVec 32) : EReal :=
  (FloatOps.sitofp (F := Ideal) .f32 k + Ideal.ofBits .f32 0x3F000000#32) * Ideal.ofBits .f32 0x3ECCCCCD#32

theorem pay5_at (v : FVec Ideal S1x1024 .f32) (i : Fin 1024) : k0_pay5 (F := Ideal) v (ix2 0 i) = cellOf (v (ix2 0 i)) := by
  unfold cellOf k0_pay5 k0_pay2
  pointwise
  rfl

theorem pay6_at (v : FVec Ideal S1x1024 .f32) (i : Fin 1024) : k0_pay6 (F := Ideal) v (ix2 0 i) = cellOf (v (ix2 0 i)) := by
  unfold cellOf k0_pay6 k0_pay3
  pointwise
  rfl

/-- The three coordinates of a point from its cell's centre. -/
def relOf (x : Fin 3 → EReal) (j : Fin 3) : EReal :=
  match j with
  | ⟨0, _⟩ => x 0 - midOf (cellOf (x 0))
  | ⟨1, _⟩ => x 1 - midOf (cellOf (x 1))
  | ⟨2, _⟩ => x 2 - Ideal.ofBits .f32 0xBF800000#32

theorem rel0_at (x1 : FVec Ideal S3x1024 .f32) (i : Fin 1024) :
    k0_pay10 (F := Ideal) (k0_pay2 (coordRow x1 0)) (k0_pay7 (coordRow x1 0)) (ix2 0 i) = relOf (fun j => x1 (ix2 j i)) 0 := by
  unfold relOf midOf k0_pay10 k0_pay7 k0_pay2
  pointwise
  rw [pay5_at]
  rfl

theorem rel1_at (x1 : FVec Ideal S3x1024 .f32) (i : Fin 1024) :
    k0_pay11 (F := Ideal) (k0_pay3 (coordRow x1 1)) (k0_pay8 (coordRow x1 1)) k0_pay9 (ix2 0 i) = relOf (fun j => x1 (ix2 j i)) 1 := by
  unfold relOf midOf k0_pay11 k0_pay8 k0_pay3 k0_pay9
  pointwise
  rw [pay6_at]
  rfl

theorem rel2_at (x1 : FVec Ideal S3x1024 .f32) (i : Fin 1024) :
    k0_pay12 (F := Ideal) (k0_pay4 (coordRow x1 2)) (ix2 0 i) = relOf (fun j => x1 (ix2 j i)) 2 := by
  unfold relOf k0_pay12 k0_pay4
  pointwise
  rfl

/-- A point's first product in the kernel. -/
theorem pay18_at (a b z : FVec Ideal S1x1024 .f32) (x2 : FVec Ideal S1024x64 .f32) (x3 : FVec Ideal S64x128 .f32) (x4 : FVec Ideal S8x128 .f32) (i : Fin 1024) (k : Fin 128) :
    k0_pay18 (F := Ideal) a b z x2 x3 x4 (ix2 i k)
      = (∑ j : Fin 64, x2 (ix2 i j) * x3 (ix2 j k)) + (a (ix2 0 i) * x4 (ix2 0 k) + b (ix2 0 i) * x4 (ix2 1 k) + z (ix2 0 i) * x4 (ix2 2 k)) := by
  unfold k0_pay18
  pointwise
  refine congrArg _ ?_
  rw [Fin.sum_univ_eight]
  simp

theorem pay1_at (p : FVec Ideal S1024x128 .f32) (x5 x6 : FVec Ideal S1x128 .f32) (x7 : FVec Ideal S128x256 .f32) (x8 x9 : FVec Ideal S1x256 .f32) (i : Fin 1024) (c : Fin 256) :
    k0_pay1 (F := Ideal) p x5 x6 x7 x8 x9 (ix2 i c)
      = max ((∑ k : Fin 128, max (p (ix2 i k) * x5 (ix2 0 k) + x6 (ix2 0 k)) 0 * x7 (ix2 k c)) * x8 (ix2 0 c) + x9 (ix2 0 c)) 0 := by
  unfold k0_pay1
  pointwise

/-- A point's row in the kernel. -/
theorem hBlk_at (x1 : FVec Ideal S3x1024 .f32) (x2 : FVec Ideal S1024x64 .f32) (x3 : FVec Ideal S64x128 .f32) (x4 : FVec Ideal S8x128 .f32) (x5 x6 : FVec Ideal S1x128 .f32)
    (x7 : FVec Ideal S128x256 .f32) (x8 x9 : FVec Ideal S1x256 .f32) (i : Fin 1024) (c : Fin 256) :
    hBlk (F := Ideal) x1 x2 x3 x4 x5 x6 x7 x8 x9 (ix2 i c)
      = max ((∑ k : Fin 128, max (((∑ j : Fin 64, x2 (ix2 i j) * x3 (ix2 j k))
            + (relOf (fun j => x1 (ix2 j i)) 0 * x4 (ix2 0 k) + relOf (fun j => x1 (ix2 j i)) 1 * x4 (ix2 1 k) + relOf (fun j => x1 (ix2 j i)) 2 * x4 (ix2 2 k)))
          * x5 (ix2 0 k) + x6 (ix2 0 k)) 0 * x7 (ix2 k c)) * x8 (ix2 0 c) + x9 (ix2 0 c)) 0 := by
  unfold hBlk
  rw [pay1_at]
  simp only [pay18_at, rel0_at, rel1_at, rel2_at]
  rw [show k0_pay19 (F := Ideal) x5 = x5 from by unfold k0_pay19; exact shapeCast_self _ _]

/-- The number of a point's batch, and its cell. -/
def batchOf (n c0 c1 : BitVec 32) : BitVec 32 := IntOp.addi (BitVec.setWidth 32 (IntOp.cmpi .sge n c0)) (BitVec.setWidth 32 (IntOp.cmpi .sge n c1))
def indexOf (b ix iy : BitVec 32) : BitVec 32 := IntOp.addi (IntOp.addi (IntOp.muli b 16384#32) (IntOp.muli iy 128#32)) ix

theorem cells_at (t : BitVec 32) (x0 : IVec S2 32) (x1 : FVec Ideal S3x1024 .f32) (i : Fin 1024) :
    cells (F := Ideal) t x0 x1 (ix2 0 i)
      = Scalar.select (IntOp.cmpi .slt (IntOp.addi (IntOp.muli t 1024#32) (BitVec.ofNat 32 i.val)) (IntOp.addi (x0 (ix1 0)) (x0 (ix1 1))))
          (indexOf (batchOf (IntOp.addi (IntOp.muli t 1024#32) (BitVec.ofNat 32 i.val)) (x0 (ix1 0)) (IntOp.addi (x0 (ix1 0)) (x0 (ix1 1)))) (cellOf (x1 (ix2 0 i))) (cellOf (x1 (ix2 1 i)))) 32768#32 := by
  unfold cells k0_pay13 indexOf batchOf
  pointwise
  rw [pay5_at, pay6_at]
  rfl

theorem iBlk_at (t : BitVec 32) (x0 : IVec S2 32) (x1 : FVec Ideal S3x1024 .f32) (i : Fin 1024) :
    iBlk (F := Ideal) t x0 x1 (ix3 0 0 i) = cells (F := Ideal) t x0 x1 (ix2 0 i) := by
  unfold iBlk cells k0_pay14
  pointwise

/-- The number of a cell's 256-cell stretch, as the kernel computes it. -/
def stretchOf (k : BitVec 32) : BitVec 32 :=
  Scalar.select (IntOp.andi (IntOp.cmpi .ne (IntOp.subi (BitVec.setWidth 32 (IntOp.cmpi .sgt k 0#32)) (BitVec.setWidth 32 (IntOp.cmpi .slt k 0#32))) 1#32) (IntOp.cmpi .ne (IntOp.remsi .vector k 256#32) 0#32))
    (IntOp.subi (IntOp.divsi .vector k 256#32) 1#32) (IntOp.divsi .vector k 256#32)

theorem bBlk_at (t : BitVec 32) (x0 : IVec S2 32) (x1 : FVec Ideal S3x1024 .f32) (x10 : FVec Ideal S1024x64 .f32) (P : Fin 128) (k : Fin 64) :
    bBlk (F := Ideal) t x0 x1 x10 (ix3 0 P k)
      = Ideal.fptosi 32 (∑ i : Fin 1024, Scalar.select (IntOp.cmpi .eq (stretchOf (cells (F := Ideal) t x0 x1 (ix2 0 i))) (BitVec.ofNat 32 P.val)) (x10 (ix2 i k)) (0 : EReal)) := by
  unfold bBlk k0_pay17 k0_pay15 k0_pay16 stretchOf
  pointwise
  rfl

end Cert.Pillar
-- ==== Proof.RefPoint.lean ====
/- One point in the reference: its cell and its row. -/
module

public import Idealize.ShloMosaic.Lib.Pointwise
public import proofs.«01_k».proof.Proof.Gen.ReferenceIdeal.Run
public import proofs.«01_k».proof.Proof.RefCanvas
public import proofs.«01_k».proof.Proof.Coord

@[expose] public section

set_option maxRecDepth 16384

noncomputable section

namespace Cert.RefCanvas

open Idealize.ShloMosaic Cert.ReferenceIdeal Cert.ReferenceIdeal.Gen
open Cert.Pillar (cellOf midOf relOf batchOf indexOf)

/-- The three positions, and a position's cell coordinate. -/
def pos0 (a0 : FVec Ideal S200000x3 .f32) : FVec Ideal S200000 .f32 := shapeCast _ (extractStridedSlice S200000x1 ![0, 0] a0 slices_S200000x3_S200000x1_0_0) shapeCasts_S200000x1_S200000
def pos1 (a0 : FVec Ideal S200000x3 .f32) : FVec Ideal S200000 .f32 := shapeCast _ (extractStridedSlice S200000x1 ![0, 1] a0 slices_S200000x3_S200000x1_0_1) shapeCasts_S200000x1_S200000
def pos2 (a0 : FVec Ideal S200000x3 .f32) : FVec Ideal S200000 .f32 := shapeCast _ (extractStridedSlice S200000x1 ![0, 2] a0 slices_S200000x3_S200000x1_0_2) shapeCasts_S200000x1_S200000
def cellAll (x : FVec Ideal S200000 .f32) : IVec S200000 32 :=
  minsi (broadcastInDim S200000 ![] bcast_S_S200000 (id (constantI S_ 32 127#32))) (maxsi (broadcastInDim S200000 ![] bcast_S_S200000 (id (constantI S_ 32 0#32))) (fptosi 32 (Host.floor (Host.divf (subf x (broadcastInDim S200000 ![] bcast_S_S200000 (constant S_ .f32 0x00000000#32))) (broadcastInDim S200000 ![] bcast_S_S200000 (constant S_ .f32 0x3ECCCCCD#32))))))
def relAll (x : FVec Ideal S200000 .f32) : FVec Ideal S200000 .f32 :=
  subf x (addf (broadcastInDim S200000 ![] bcast_S_S200000 (constant S_ .f32 0x00000000#32)) (mulf (addf (sitofp .f32 (cellAll x)) (broadcastInDim S200000 ![] bcast_S_S200000 (constant S_ .f32 0x3F000000#32))) (broadcastInDim S200000 ![] bcast_S_S200000 (constant S_ .f32 0x3ECCCCCD#32))))
def relLast (x : FVec Ideal S200000 .f32) : FVec Ideal S200000 .f32 := subf x (broadcastInDim S200000 ![] bcast_S_S200000 (constant S_ .f32 0xBF800000#32))

/-- The first count, and the two together. -/
def cum0 (a1 : IVec S2 32) : IVec S_ 32 := shapeCast _ (extractStridedSlice S1 ![0] a1 slices_S2_S1_0) shapeCasts_S1_S_
def cum1 (a1 : IVec S2 32) : IVec S_ 32 := addi (cum0 a1) (shapeCast _ (extractStridedSlice S1 ![1] a1 slices_S2_S1_1) shapeCasts_S1_S_)

/-- The points' cells. -/
def indexAll (a0 : FVec Ideal S200000x3 .f32) (a1 : IVec S2 32) : IVec S200000 32 :=
  addi (addi (muli (addi (extui 32 (cmpi .sge (iotaInDim S200000 32 0) (broadcastInDim S200000 ![] bcast_S_S200000 (cum0 a1))) natLt_1_32) (extui 32 (cmpi .sge (iotaInDim S200000 32 0) (broadcastInDim S200000 ![] bcast_S_S200000 (cum1 a1))) natLt_1_32)) (broadcastInDim S200000 ![] bcast_S_S200000 (constantI S_ 32 16384#32))) (muli (cellAll (pos1 a0)) (broadcastInDim S200000 ![] bcast_S_S200000 (constantI S_ 32 128#32)))) (cellAll (pos0 a0))

/-- The points' features. -/
def featAll (a0 : FVec Ideal S200000x3 .f32) (a2 : FVec Ideal S200000x64 .f32) : FVec Ideal S200000x67 .f32 :=
  concatenate S200000x67 1 [⟨S200000x3, (concatenate S200000x3 1 [⟨S200000x1, broadcastInDim S200000x1 ![0] bcast_S200000_S200000x1_0 (relAll (pos0 a0))⟩, ⟨S200000x1, broadcastInDim S200000x1 ![0] bcast_S200000_S200000x1_0 (relAll (pos1 a0))⟩, ⟨S200000x1, broadcastInDim S200000x1 ![0] bcast_S200000_S200000x1_0 (relLast (pos2 a0))⟩] concatenates_S200000x1_S200000x1_S200000x1_S200000x3_d1)⟩, ⟨S200000x64, a2⟩] concatenates_S200000x3_S200000x64_S200000x67_d1

def invAll : FVec Ideal S_ .f32 := Host.divf (constant S_ .f32 0x3F800000#32) (Host.sqrt (constant S_ .f32 0x3F800054#32))

/-- The two layers. -/
def layer1 (f : FVec Ideal S200000x67 .f32) (a3 : FVec Ideal S128x67 .f32) (a4 a5 : FVec Ideal S128 .f32) : FVec Ideal S200000x128 .f32 :=
  maximumf (addf (mulf (mulf (Host.dotGeneral dot_S200000x67_S67x128_S200000x128_1_0_0_1_n_n none f (transpose S67x128 [1, 0] a3 transposes_S128x67_S67x128_1_0)) (broadcastInDim S200000x128 ![] bcast_S_S200000x128 invAll)) (broadcastInDim S200000x128 ![0, 1] bcast_S1x128_S200000x128_0_1 (broadcastInDim S1x128 ![1] bcast_S128_S1x128_1 a4))) (broadcastInDim S200000x128 ![0, 1] bcast_S1x128_S200000x128_0_1 (broadcastInDim S1x128 ![1] bcast_S128_S1x128_1 a5))) (broadcastInDim S200000x128 ![] bcast_S_S200000x128 (constant S_ .f32 0x00000000#32))
def layer2 (f : FVec Ideal S200000x128 .f32) (a6 : FVec Ideal S256x128 .f32) (a7 a8 : FVec Ideal S256 .f32) : FVec Ideal S200000x256 .f32 :=
  maximumf (addf (mulf (mulf (Host.dotGeneral dot_S200000x128_S128x256_S200000x256_1_0_0_1_n_n none f (transpose S128x256 [1, 0] a6 transposes_S256x128_S128x256_1_0)) (broadcastInDim S200000x256 ![] bcast_S_S200000x256 invAll)) (broadcastInDim S200000x256 ![0, 1] bcast_S1x256_S200000x256_0_1 (broadcastInDim S1x256 ![1] bcast_S256_S1x256_1 a7))) (broadcastInDim S200000x256 ![0, 1] bcast_S1x256_S200000x256_0_1 (broadcastInDim S1x256 ![1] bcast_S256_S1x256_1 a8))) (broadcastInDim S200000x256 ![] bcast_S_S200000x256 (constant S_ .f32 0x00000000#32))
def rowsAll (a0 : FVec Ideal S200000x3 .f32) (a2 : FVec Ideal S200000x64 .f32) (a3 : FVec Ideal S128x67 .f32) (a4 a5 : FVec Ideal S128 .f32) (a6 : FVec Ideal S256x128 .f32) (a7 a8 : FVec Ideal S256 .f32) :
    FVec Ideal S200000x256 .f32 := layer2 (layer1 (featAll a0 a2) a3 a4 a5) a6 a7 a8

theorem result_eq (m : (ℓ : Loc nD τ sig) → Buf (Elt Ideal) ℓ) (c : Dev nD) :
    Cert.ReferenceIdeal.Value.res_main_v107 (F := Ideal) m c
      = transpose S2x256x128x128 [0, 3, 1, 2] (shapeCast S2x128x128x256 (refCanvas
          (indexAll (m ((c.tc : Thread nD τ).loc main_arg0)) (m ((c.tc : Thread nD τ).loc main_arg1)))
          (rowsAll (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)))) shapeCasts_S32768x256_S2x128x128x256) transposes_S2x128x128x256_S2x256x128x128_0_3_1_2 := rfl

variable (a0 : FVec Ideal S200000x3 .f32) (a1 : IVec S2 32) (a2 : FVec Ideal S200000x64 .f32) (a3 : FVec Ideal S128x67 .f32) (a4 a5 : FVec Ideal S128 .f32) (a6 : FVec Ideal S256x128 .f32) (a7 a8 : FVec Ideal S256 .f32)

theorem pos0_at (n : Fin 200000) : pos0 a0 (ix1 n) = a0 (ix2 n 0) := by unfold pos0; pointwise
theorem pos1_at (n : Fin 200000) : pos1 a0 (ix1 n) = a0 (ix2 n 1) := by unfold pos1; pointwise
theorem pos2_at (n : Fin 200000) : pos2 a0 (ix1 n) = a0 (ix2 n 2) := by unfold pos2; pointwise
theorem cellAll_at (x : FVec Ideal S200000 .f32) (n : Fin 200000) : cellAll x (ix1 n) = cellOf (x (ix1 n)) := by unfold cellAll cellOf; pointwise; rfl
theorem relAll_at (x : FVec Ideal S200000 .f32) (n : Fin 200000) : relAll x (ix1 n) = (x (ix1 n) : EReal) - midOf (cellOf (x (ix1 n))) := by
  unfold relAll midOf; pointwise; rw [cellAll_at]
theorem relLast_at (x : FVec Ideal S200000 .f32) (n : Fin 200000) : relLast x (ix1 n) = (x (ix1 n) : EReal) - Ideal.ofBits .f32 0xBF800000#32 := by unfold relLast; pointwise
theorem cum0_at (k : S_.Idx) : cum0 a1 k = a1 (ix1 0) := by unfold cum0; pointwise
theorem cum1_at (k : S_.Idx) : cum1 a1 k = IntOp.addi (a1 (ix1 0)) (a1 (ix1 1)) := by unfold cum1 cum0; pointwise

theorem indexAll_at (n : Fin 200000) : indexAll a0 a1 (ix1 n)
    = indexOf (batchOf (BitVec.ofNat 32 n.val) (a1 (ix1 0)) (IntOp.addi (a1 (ix1 0)) (a1 (ix1 1)))) (cellOf (a0 (ix2 n 0))) (cellOf (a0 (ix2 n 1))) := by
  unfold indexAll indexOf batchOf
  pointwise
  rw [cellAll_at, cellAll_at, pos0_at, pos1_at, cum0_at, cum1_at]

theorem layer1_at (f : FVec Ideal S200000x67 .f32) (n : Fin 200000) (k : Fin 128) :
    layer1 f a3 a4 a5 (ix2 n k) = max ((∑ j : Fin 67, f (ix2 n j) * a3 (ix2 k j)) * invAll ix0 * a4 (ix1 k) + a5 (ix1 k)) 0 := by
  unfold layer1
  pointwise

theorem layer2_at (f : FVec Ideal S200000x128 .f32) (n : Fin 200000) (k : Fin 256) :
    layer2 f a6 a7 a8 (ix2 n k) = max ((∑ j : Fin 128, f (ix2 n j) * a6 (ix2 k j)) * invAll ix0 * a7 (ix1 k) + a8 (ix1 k)) 0 := by
  unfold layer2
  pointwise

theorem featAll_at (n : Fin 200000) (j : Fin 67) : featAll a0 a2 (ix2 n j) = if h : j.val < 3 then relOf (fun j => a0 (ix2 n j)) ⟨j.val, h⟩ else a2 (ix2 n ⟨j.val - 3, by omega⟩) := by
  unfold featAll
  pointwise
  rw [relAll_at, relAll_at, relLast_at, pos0_at, pos1_at, pos2_at]
  obtain ⟨j, hj⟩ := j
  by_cases h : j < 3
  · simp only [dif_pos h]
    match j, h with
    | 0, _ => rfl
    | 1, _ => rfl
    | 2, _ => rfl
  · simp only [dif_neg h]

end Cert.RefCanvas
-- ==== Proof.Where.lean ====
/- Which points name which rows: the words of cells, of batches and of the stretches of 256 rows. -/
module

public import Idealize.ShloMosaic.Lib.WordCmp
public import proofs.«01_k».proof.Proof.Coord

@[expose] public section

noncomputable section

namespace Cert.Pillar

open Idealize.ShloMosaic

theorem clamp_le (z : BitVec 32) : (IntOp.minsi 127#32 (IntOp.maxsi 0#32 z)).toNat ≤ 127 := by
  unfold IntOp.minsi IntOp.maxsi
  simp only [BitVec.slt_eq_decide, decide_eq_true_eq]
  have h0 : (0#32 : BitVec 32).toInt = 0 := rfl
  have h1 : (127#32 : BitVec 32).toInt = 127 := rfl
  have h2 := BitVec.toInt_eq_toNat_cond z
  have h3 := z.isLt
  rw [h0]
  by_cases hz : z.toInt < 0
  · rw [if_pos hz, h0, h1, if_neg (by omega)]; decide
  · rw [if_neg hz, h1]
    by_cases hy : 127 < z.toInt
    · rw [if_pos hy]; decide
    · rw [if_neg hy]; split at h2 <;> omega

theorem cellOf_le (x : EReal) : (cellOf x).toNat ≤ 127 := clamp_le _

theorem chunk_word (t i n : ℕ) (h : 1024 * t + i = n) : IntOp.addi (IntOp.muli (BitVec.ofNat 32 t) 1024#32) (BitVec.ofNat 32 i) = BitVec.ofNat 32 n := by
  rw [show (1024#32 : BitVec 32) = BitVec.ofNat 32 1024 from rfl, WordCmp.muli_ofNat, WordCmp.addi_ofNat, Nat.mul_comm, h]

/-- A point past both counts names no row. -/
theorem past_rows {n c0 c1 : BitVec 32} (h0 : c0.toInt ≤ n.toInt) (h1 : c1.toInt ≤ n.toInt) (x y : EReal) :
    32768 ≤ (indexOf (batchOf n c0 c1) (cellOf x) (cellOf y)).toNat := by
  have hb : batchOf n c0 c1 = 2#32 := by
    unfold batchOf
    rw [WordCmp.cmpi_sge_eq, WordCmp.cmpi_sge_eq, decide_eq_true h0, decide_eq_true h1]; rfl
  have hx := cellOf_le x
  have hy := cellOf_le y
  rw [hb]
  show 32768 ≤ (2#32 * 16384#32 + cellOf y * 128#32 + cellOf x).toNat
  rw [BitVec.toNat_add, BitVec.toNat_add, BitVec.toNat_mul, BitVec.toNat_mul]
  have e2 : (2#32 : BitVec 32).toNat = 2 := rfl
  have e3 : (16384#32 : BitVec 32).toNat = 16384 := rfl
  have e4 : (128#32 : BitVec 32).toNat = 128 := rfl
  rw [e2, e3, e4]
  omega

theorem stretch_all : ∀ r : Fin 32768, stretchOf (BitVec.ofNat 32 r.val) = BitVec.ofNat 32 (r.val / 256) := by decide +kernel

theorem stretchOf_eq {k : BitVec 32} {P : ℕ} (hP : P < 128) (hlo : 256 * P ≤ k.toNat) (hhi : k.toNat < 256 * P + 256) : stretchOf k = BitVec.ofNat 32 P := by
  have h := stretch_all ⟨k.toNat, by omega⟩
  have hk : BitVec.ofNat 32 k.toNat = k := by simp
  rw [show k.toNat / 256 = P by omega] at h
  exact hk ▸ h

/-- A number that is at least one is a positive word. -/
theorem word_pos {x : EReal} (h : 1 ≤ x) : 0 < (Ideal.fptosi 32 x).toInt := by
  have hc : ∀ z : ℤ, 1 ≤ z → z ≤ 2147483647 → 0 < (BitVec.ofInt 32 z).toInt := by
    intro z h0 h1
    rw [BitVec.toInt_ofInt, Int.bmod_def]
    omega
  unfold Ideal.fptosi
  refine hc _ ?_ ?_
  all_goals
    induction x with
    | bot => exact absurd h (not_le.2 (EReal.bot_lt_zero.trans zero_lt_one))
    | top => rw [show ∀ a b : ℤ, Ideal.toIntClamped a b ⊤ = b from fun _ _ => rfl]; norm_num
    | coe r =>
      have hr : (1 : ℝ) ≤ r := by exact_mod_cast h
      have hf : (1 : ℤ) ≤ ⌊r⌋ := Int.le_floor.2 (by exact_mod_cast hr)
      simp only [Ideal.toIntClamped_coe, if_pos (zero_le_one.trans hr)]
      norm_num
      try omega

end Cert.Pillar
-- ==== Proof.Canvas.lean ====
/- The result's rows dealt to the tiles, pass by pass, and put together again. -/
module

public import proofs.«01_k».proof.Proof.Task

@[expose] public section

noncomputable section

namespace Cert.Pillar

open Cert.KernelIdeal Cert.KernelIdeal.Gen
open Idealize.ShloMosaic Idealize.ShloMosaic.Transfers
open Idealize.ShloMosaic.SparseCore.Cfg (HIx)
open Idealize.SL Idealize.SL.RA
open Idealize.SL.BI (sProp bigSep)
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The tile at core `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- A tile's pass. -/
abbrev Piece : Type := Fin 2 × Fin 16 × Fin k1_t1_loop.trips

def pieceRect (t : Piece) : Rect S32768x256 := Rect.unit (s := S32768x256) (k1_off66 (coordsV t.1 t.2.1) t.2.2) S256x256.size (k1_off66_inb (coordsV t.1 t.2.1) t.2.2)

def pieceNum (t : Piece) : ℕ := 32 * t.2.2.val + 2 * t.2.1.val + t.1.val

theorem trips_four : k1_t1_loop.trips = 4 := by decide

theorem piece_off (t : Piece) : k1_off66 (coordsV t.1 t.2.1) t.2.2 (0 : Fin 2) = 256 * pieceNum t := by
  rw [k1_off66_eq]
  show 8192 * t.2.2.val + 512 * t.2.1.val + 256 * t.1.val = _
  unfold pieceNum
  omega

theorem pieceNum_inj : Function.Injective pieceNum := fun a b h => by
  unfold pieceNum at h
  have h1 := a.1.isLt
  have h2 := b.1.isLt
  have h3 := a.2.1.isLt
  have h4 := b.2.1.isLt
  refine Prod.ext (Fin.ext ?_) (Prod.ext (Fin.ext ?_) (Fin.ext ?_)) <;> omega

theorem piece_apart : ∀ t t' : Piece, t ≠ t' → Disjoint (pieceRect t).set (pieceRect t').set :=
  blocks_disjoint S32768x256 (fun t : Piece => k1_off66 (coordsV t.1 t.2.1) t.2.2) S256x256.size (fun t => k1_off66_inb (coordsV t.1 t.2.1) t.2.2) (0 : Fin 2) 256 pieceNum
    piece_off rfl pieceNum_inj

/-- The piece of a number below 128. -/
def pieceOf (n : ℕ) (h : n < 128) : Piece := (⟨n % 2, by omega⟩, ⟨n % 32 / 2, by omega⟩, ⟨n / 32, by rw [trips_four]; omega⟩)

theorem pieceNum_of (n : ℕ) (h : n < 128) : pieceNum (pieceOf n h) = n := by
  show 32 * (n / 32) + 2 * (n % 32 / 2) + n % 2 = n
  omega

theorem piece_cover : (Finset.univ : Finset Piece).biUnion (fun t => (pieceRect t).set) = Finset.univ :=
  blocks_cover S32768x256 (fun t : Piece => k1_off66 (coordsV t.1 t.2.1) t.2.2) S256x256.size (fun t => k1_off66_inb (coordsV t.1 t.2.1) t.2.2) (0 : Fin 2) 256 pieceNum
    piece_off rfl (by decide) (fun x => ⟨pieceOf ((x 0).val / 256) (by have : (x 0).val < 32768 := (x 0).isLt; omega), pieceNum_of _ _⟩)
    (fun t b hb => by
      rw [k1_off66_eq]
      fin_cases b
      exacts [(hb rfl).elim, ⟨rfl, rfl⟩])

variable (d : Dev nD) (i₀ : grid1.Coords)

/-- The result, held whole, is held in the tiles' pieces. -/
theorem canvas_deal : (held (tile d i₀) oV : sProp 𝕄)
    ⊢ bigSep Finset.univ fun c : Fin 2 => bigSep Finset.univ fun s : Fin 16 => bigSep Finset.univ fun p => held (tile d (coordsV c s)) (canvM (coordsV c s) oV p) := by
  refine (held_slices (tile d i₀) (m := oV) pieceRect (fun _ _ => rfl) piece_apart piece_cover).trans ?_
  rw [BI.bigSep_univ_prod]
  refine parts_mono _ fun c => ?_
  rw [BI.bigSep_univ_prod]
  exact Entails.refl

variable [FloatOps F] (H : S200704x256.Idx → F .f32) (I : S200704.Idx → BitVec 32) (Bm : S196x128x64.Idx → BitVec 32)

/-- The whole result, finished: every block of 256 rows is. -/
def CanvasOK (X : S32768x256.Idx → F .f32) : Prop :=
  ∀ P : Fin 128, RowsOK I H Bm P fun j => X (ix2 ⟨256 * P.val + (j 0).val, by have h0 : (j 0).val < 256 := (j 0).isLt; have h1 := P.isLt; show _ < 32768; omega⟩ (j 1))

theorem canvas_glue [∀ e, Nonempty (Elt F e)] :
    (bigSep Finset.univ fun c : Fin 2 => bigSep Finset.univ fun s : Fin 16 => tileOut H I Bm d (coordsV c s) : sProp 𝕄)
      ⊢ iprop(∃ X : S32768x256.Idx → Elt F .f32, ⌜CanvasOK H I Bm X⌝ ∗ owns (tile d i₀) oV fullShare X) := by
  iintro HO
  ihave HO := (show (bigSep Finset.univ fun c : Fin 2 => bigSep Finset.univ fun s : Fin 16 => tileOut H I Bm d (coordsV c s) : sProp 𝕄)
      ⊢ bigSep Finset.univ fun t : Piece => iprop(∃ Y, ⌜RowsOK I H Bm (colP (coordsV t.1 t.2.1) t.2.2) Y⌝ ∗ owns (tile d i₀) (oV.slice (pieceRect t) (fun _ => rfl)) fullShare Y) from by
    rw [BI.bigSep_univ_prod]
    refine parts_mono _ fun c => ?_
    rw [BI.bigSep_univ_prod]
    exact Entails.refl) $$ HO
  ihave HO := (show (bigSep Finset.univ fun t : Piece => iprop(∃ Y, ⌜RowsOK I H Bm (colP (coordsV t.1 t.2.1) t.2.2) Y⌝ ∗ owns (tile d i₀) (oV.slice (pieceRect t) (fun _ => rfl)) fullShare Y) : sProp 𝕄)
      ⊢ iprop(∃ X : S32768x256.Idx → Elt F .f32, ⌜∀ t : Piece, RowsOK I H Bm (colP (coordsV t.1 t.2.1) t.2.2) (fun j => X ((pieceRect t).emb j))⌝ ∗ owns (tile d i₀) oV fullShare X) from
    owns_glue (tile d i₀) (m := oV) pieceRect (fun _ _ => rfl) piece_apart piece_cover (fun t (Y : S256x256.Idx → Elt F .f32) => RowsOK I H Bm (colP (coordsV t.1 t.2.1) t.2.2) Y)) $$ HO
  icases HO with ⟨%X, %hX, HO⟩
  iexists X
  isplitr
  · ipureintro
    intro P
    have h := hX (pieceOf P.val P.isLt)
    have e : colP (coordsV (pieceOf P.val P.isLt).1 (pieceOf P.val P.isLt).2.1) (pieceOf P.val P.isLt).2.2 = P := Fin.ext (pieceNum_of P.val P.isLt)
    rw [e] at h
    refine (congrArg (RowsOK I H Bm P) (funext fun j => congrArg X ?_)).mp h
    funext a
    apply Fin.ext
    refine (emb_unit_val _ j a).trans ?_
    refine (congrArg (fun o : Fin 2 → ℕ => o a + (j a).val) (k1_off66_eq _ _)).trans ?_
    fin_cases a
    · show 8192 * (P.val / 32) + 512 * (P.val % 32 / 2) + 256 * (P.val % 2) + (j 0).val = 256 * P.val + (j 0).val
      omega
    · show 0 + (j 1).val = (j 1).val
      omega
  iexact HO

end Cert.Pillar
-- ==== Proof.Launch.lean ====
/- The SparseCore call's launch: what it hands each tile and takes back, over any contents of its arguments. -/
module

public import proofs.«01_k».proof.Proof.Canvas

@[expose] public section

noncomputable section

namespace Cert.Pillar

open Cert.KernelIdeal Cert.KernelIdeal.Gen
open Idealize.ShloMosaic Idealize.ShloMosaic.Transfers
open Idealize.ShloMosaic.SparseCore.Cfg (HIx Pay)
open Idealize.SL Idealize.SL.RA
open Idealize.SL.BI (sProp bigSep bigSep_congr bigSep_emp_const)
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The handshakes' rounds, the left factor; the transfers' counters are the right one. -/
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F] (H : Dev nD → S200704x256.Idx → F .f32) (I : Dev nD → S200704.Idx → BitVec 32) (Bm : Dev nD → S196x128x64.Idx → BitVec 32)

/-- The call's payloads: a core's are its tiles'. -/
def P : (K (F := F)).Pay (nD := nD) (Val := Elt F) (Name := ℕ) (U := UU) where
  st := fun q d c => match q with
    | 0 => bigSep Finset.univ fun s : Fin 16 => tileIn (H d) (I d) (Bm d) d (coordsV c s)
  dn := fun q d c => match q with
    | 0 => bigSep Finset.univ fun s : Fin 16 => tileOut (H d) (I d) (Bm d) d (coordsV c s)
  go := fun q d c s => match q with
    | 0 => tileIn (H d) (I d) (Bm d) d (coordsV c s)
  td := fun q d c s => match q with
    | 0 => tileOut (H d) (I d) (Bm d) d (coordsV c s)
  x := fun _ _ => iprop(emp)

instance P_storable : (P H I Bm).IsStorable where
  st q d c := match q with
    | 0 => by
      have hs : ∀ s : Fin 16, BI.Storable (upEmb : UEmb _ 𝕄) (tileIn (H d) (I d) (Bm d) d (coordsV c s)) := fun s => tileIn_storable (H d) (I d) (Bm d) d (coordsV c s)
      exact BI.Storable.bigSep (upEmb : UEmb _ 𝕄) Finset.univ (fun s : Fin 16 => (tileIn (H d) (I d) (Bm d) d (coordsV c s) : sProp 𝕄))
  dn q d c := match q with
    | 0 => by
      have hs : ∀ s : Fin 16, BI.Storable (upEmb : UEmb _ 𝕄) (tileOut (H d) (I d) (Bm d) d (coordsV c s)) := fun s => tileOut_storable (H d) (I d) (Bm d) d (coordsV c s)
      exact BI.Storable.bigSep (upEmb : UEmb _ 𝕄) Finset.univ (fun s : Fin 16 => (tileOut (H d) (I d) (Bm d) d (coordsV c s) : sProp 𝕄))
  go q d c s := match q with
    | 0 => (inferInstance : BI.Storable (upEmb : UEmb _ 𝕄) (tileIn (H d) (I d) (Bm d) d (coordsV c s)))
  td q d c s := match q with
    | 0 => (inferInstance : BI.Storable (upEmb : UEmb _ 𝕄) (tileOut (H d) (I d) (Bm d) d (coordsV c s)))

theorem defs₀_vector (c : Fin τ.nSC) (s : Fin τ.nSub) :
    defs₀ (F := F) (.scVector c s) 1 ()
      = SparseCore.onTile hcore1 hsub1 (fun c s => cc1__sc_scatter_body (coordsV c s) iV (Memref.isWhole_whole _) hV (Memref.isWhole_whole _) bV (Memref.isWhole_whole _) oV (Memref.isWhole_whole _)
            (Memref.whole cc1_scratch0) (Memref.isWhole_whole _) (Memref.whole cc1_scratch1) (Memref.isWhole_whole _) (Memref.whole cc1_scratch2) (Memref.isWhole_whole _)
            (Memref.whole cc1_scratch3) (Memref.isWhole_whole _) (Memref.whole cc1_scratch4) (Memref.isWhole_whole _) (Memref.whole cc1_scratch5) (Memref.isWhole_whole _)
            cc1_scratch6 cc1_scratch7 cc1_scratch8 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] : (K (F := F)).TileObl (D (F := F)) 𝒱 (P H I Bm) v₀ 0 := by
  intro d c i O W hO _ _
  -- the kernel owes nothing of its own
  simp only [show (P H I Bm).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body (H d) (I d) (Bm d) facts d (coordsV ⟨_, hc.1⟩ ⟨_, hc.2⟩) O W hO).trans (wp_mono frame _ _ fun _ => obl_post)

theorem vecSplit : (K (F := F)).VecSplit' (P H I Bm) 0 := by
  intro d c
  show (bigSep Finset.univ fun s : Fin 16 => tileIn (H d) (I d) (Bm d) d (coordsV c s) : sProp 𝕄) ⊢ |={Set.univ}=> iprop(
      (bigSep Finset.univ fun s : Fin 16 => tileIn (H d) (I d) (Bm d) d (coordsV c s))
      ∗ ((bigSep Finset.univ fun s : Fin 16 => tileOut (H d) (I d) (Bm d) d (coordsV c s))
          -∗ bigSep Finset.univ fun s : Fin 16 => tileOut (H d) (I d) (Bm d) d (coordsV c s)))
  iintro HI; imodintro
  isplitl [HI]; · iexact HI
  iintro HO; iexact HO

variable (d : Dev nD)

/-- The tile the whole arrays are spoken of from. -/
abbrev i₀ : grid1.Coords := coordsV ⟨0, by decide⟩ ⟨0, by decide⟩

omit [FloatOps F] in
/-- A share of an argument serves every tile. -/
theorem shared_tiles {s : Shape} {e : EltTy} (mr : Memref sig .scVector .hbm s e) (X : s.Idx → Elt F e) :
    (shared (tile d i₀) mr X : sProp 𝕄) ⊢ iprop((bigSep Finset.univ fun _ : Fin 2 => bigSep Finset.univ fun _ : Fin 16 => shared (tile d i₀) mr X) ∗ shared (tile d i₀) mr X) := by
  iintro HX
  ihave HX := (shared_deal (tile d i₀) mr X (Finset.univ : Finset (Fin 2))) $$ HX
  icases HX with ⟨HX, HX'⟩
  isplitl [HX]
  · iapply (parts_mono Finset.univ (fun _ : Fin 2 => (show (shared (tile d i₀) mr X : sProp 𝕄) ⊢ bigSep Finset.univ fun _ : Fin 16 => shared (tile d i₀) mr X from by
      iintro HX
      ihave HX := (shared_deal (tile d i₀) mr X (Finset.univ : Finset (Fin 16))) $$ HX
      icases HX with ⟨HX, -⟩
      iexact HX)))
    iexact HX
  iexact HX'

omit [FloatOps F] in
theorem tiles_join (A B : Fin 2 → Fin 16 → sProp 𝕄) :
    iprop((bigSep Finset.univ fun c => bigSep Finset.univ fun s => A c s) ∗ (bigSep Finset.univ fun c => bigSep Finset.univ fun s => B c s))
      ⊢ bigSep Finset.univ fun c => bigSep Finset.univ fun s => iprop(A c s ∗ B c s) :=
  (parts_join Finset.univ _ _).trans (parts_mono _ fun _ => parts_join Finset.univ _ _)

set_option maxHeartbeats 1000000 in
/-- What the call takes: the arguments to read, one share of each, and the result. -/
theorem call_in :
    iprop(shared (tile d i₀) iV (I d : S200704.Idx → Elt F .i32) ∗ shared (tile d i₀) hV (H d) ∗ shared (tile d i₀) bV (Bm d : S196x128x64.Idx → Elt F .i32) ∗ held (tile d i₀) oV)
      ⊢ iprop((bigSep Finset.univ fun c : Fin ((K (F := F)).nCore 0) => (P H I Bm).st 0 d c) ∗ shared (tile d i₀) hV (H d) ∗ shared (tile d i₀) bV (Bm d : S196x128x64.Idx → Elt F .i32) : sProp 𝕄) := by
  iintro ⟨Hi, Hh, Hb, Ho⟩
  ihave Hi := (shared_tiles d iV (I d : S200704.Idx → Elt F .i32)) $$ Hi
  icases Hi with ⟨Hi, -⟩
  ihave Hh := (shared_tiles d hV (H d)) $$ Hh
  icases Hh with ⟨Hh, Hh'⟩
  ihave Hb := (shared_tiles d bV (Bm d : S196x128x64.Idx → Elt F .i32)) $$ Hb
  icases Hb with ⟨Hb, Hb'⟩
  ihave Ho := (canvas_deal d i₀) $$ Ho
  isplitr [Hh' Hb']
  · ihave Hhb := (tiles_join (fun _ _ => shared (tile d i₀) hV (H d)) (fun _ _ => shared (tile d i₀) bV (Bm d : S196x128x64.Idx → Elt F .i32))) $$ [Hh Hb]
    · isplitl [Hh]; · iexact Hh
      iexact Hb
    ihave Ha := (tiles_join (fun _ _ => shared (tile d i₀) iV (I d : S200704.Idx → Elt F .i32)) _) $$ [Hi Hhb]
    · isplitl [Hi]; · iexact Hi
      iexact Hhb
    ihave Ha := (tiles_join _ (fun c s => bigSep Finset.univ fun p => held (tile d (coordsV c s)) (canvM (coordsV c s) oV p))) $$ [Ha Ho]
    · isplitl [Ha]; · iexact Ha
      iexact Ho
    iexact Ha
  isplitl [Hh']; · iexact Hh'
  iexact Hb'

/-- What it gives back: the result, finished. -/
theorem call_out [∀ e, Nonempty (Elt F e)] :
    (bigSep Finset.univ fun c : Fin ((K (F := F)).nCore 0) => (P H I Bm).dn 0 d c)
      ⊢ (iprop(∃ X : S32768x256.Idx → Elt F .f32, ⌜CanvasOK (H d) (I d) (Bm d) X⌝ ∗ owns (tile d i₀) oV fullShare X) : sProp 𝕄) :=
  canvas_glue d i₀ (H d) (I d) (Bm d)

end Cert.Pillar
-- ==== Proof.Region.lean ====
/- The TensorCore call: what its windows hold point by point, its body, and its region as a step of the program. -/
module

public import proofs.«01_k».proof.Proof.Body
public import proofs.«01_k».proof.Proof.Launch
public import proofs.«01_k».proof.Proof.Gen.KernelIdeal.Points
public import proofs.«01_k».proof.Proof.Gen.KernelIdeal.Launch
public import Idealize.ShloMosaic.Lib.Pipeline.FrameBody
public import Idealize.ShloMosaic.Lib.Pipeline.FrameTail
public import Idealize.ShloMosaic.Lib.Pipeline.RegionArrays
public import Idealize.ShloMosaic.Lib.Pipeline.RegionArraysS

@[expose] public section

set_option maxRecDepth 16384

noncomputable section

namespace Cert.Pillar

open Cert.KernelIdeal Cert.KernelIdeal.Gen
open Idealize.ShloMosaic Idealize.ShloMosaic.TcCoe Idealize.ShloMosaic.Tactic
open Idealize.ShloMosaic.SparseCore.Cfg (HIx)
open Idealize.ShloMosaic.Pipeline (Dat arrRef arrRefs afterRegion)
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (Vv : Dev nD → Valuation τ sig (Elt F))

/-- An input's block at a point. -/
def iblk (c : Dev nD) (w : Fin cfg0.W) (t : Fin cfg0.N) : ((cfg0.win w).xblock (cfg0.grid.coords t)).Idx → Elt F (cfg0.win w).elt :=
  ((cfg0.win w).blk t).view.read (Elt F) (Vv c (Proc.devRef .tc (arrRef spec0 w)))

/-- The block's number as the body computes with it. -/
abbrev tWord (t : Fin cfg0.N) : BitVec 32 := BitVec.ofNat 32 ((grid0.coords t) 0).val

/-- What the call's windows hold. -/
def dats (_ : Fin 1) (c : Dev nD) : Dat τ (Elt F) (HIx 1) ℕ UU ℕ cfg0 c where
  A w := Vv c (Proc.devRef .tc (arrRef spec0 w))
  after w t := match w with
    | ⟨0, _⟩ => iblk Vv c 0 t
    | ⟨1, _⟩ => iblk Vv c 1 t
    | ⟨2, _⟩ => iblk Vv c 2 t
    | ⟨3, _⟩ => iblk Vv c 3 t
    | ⟨4, _⟩ => iblk Vv c 4 t
    | ⟨5, _⟩ => iblk Vv c 5 t
    | ⟨6, _⟩ => iblk Vv c 6 t
    | ⟨7, _⟩ => iblk Vv c 7 t
    | ⟨8, _⟩ => iblk Vv c 8 t
    | ⟨9, _⟩ => iblk Vv c 9 t
    | ⟨10, _⟩ => iblk Vv c 10 t
    | ⟨11, _⟩ => hBlk (iblk Vv c 1 t) (iblk Vv c 2 t) (iblk Vv c 3 t) (iblk Vv c 4 t) (iblk Vv c 5 t) (iblk Vv c 6 t) (iblk Vv c 7 t) (iblk Vv c 8 t) (iblk Vv c 9 t)
    | ⟨12, _⟩ => iBlk (F := F) (tWord t) (iblk Vv c 0 t) (iblk Vv c 1 t)
    | ⟨13, _⟩ => bBlk (tWord t) (iblk Vv c 0 t) (iblk Vv c 1 t) (iblk Vv c 10 t)
  Φ _ := Pipeline.scopedRest spec0 c
  q _ := fullShare
  owed _ := (K (F := F)).Otc c 0
  recorded _ := {p | (K (F := F)).lev ((c : Thread nD τ), p.1) p.2 ≤ 0}

theorem A_eq (c : Dev nD) (w : Fin cfg0.W) : (dats Vv 0 c).A w = Vv c (Proc.devRef .tc (arrRef spec0 w)) := by dsimp only [dats]
theorem after0_0 (c : Dev nD) (t : Fin cfg0.N) : (dats Vv 0 c).after 0 t = iblk Vv c 0 t := by dsimp only [dats]
theorem after0_1 (c : Dev nD) (t : Fin cfg0.N) : (dats Vv 0 c).after 1 t = iblk Vv c 1 t := by dsimp only [dats]
theorem after0_2 (c : Dev nD) (t : Fin cfg0.N) : (dats Vv 0 c).after 2 t = iblk Vv c 2 t := by dsimp only [dats]
theorem after0_3 (c : Dev nD) (t : Fin cfg0.N) : (dats Vv 0 c).after 3 t = iblk Vv c 3 t := by dsimp only [dats]
theorem after0_4 (c : Dev nD) (t : Fin cfg0.N) : (dats Vv 0 c).after 4 t = iblk Vv c 4 t := by dsimp only [dats]
theorem after0_5 (c : Dev nD) (t : Fin cfg0.N) : (dats Vv 0 c).after 5 t = iblk Vv c 5 t := by dsimp only [dats]
theorem after0_6 (c : Dev nD) (t : Fin cfg0.N) : (dats Vv 0 c).after 6 t = iblk Vv c 6 t := by dsimp only [dats]
theorem after0_7 (c : Dev nD) (t : Fin cfg0.N) : (dats Vv 0 c).after 7 t = iblk Vv c 7 t := by dsimp only [dats]
theorem after0_8 (c : Dev nD) (t : Fin cfg0.N) : (dats Vv 0 c).after 8 t = iblk Vv c 8 t := by dsimp only [dats]
theorem after0_9 (c : Dev nD) (t : Fin cfg0.N) : (dats Vv 0 c).after 9 t = iblk Vv c 9 t := by dsimp only [dats]
theorem after0_10 (c : Dev nD) (t : Fin cfg0.N) : (dats Vv 0 c).after 10 t = iblk Vv c 10 t := by dsimp only [dats]
theorem after0_11 (c : Dev nD) (t : Fin cfg0.N) : (dats Vv 0 c).after 11 t = hBlk (iblk Vv c 1 t) (iblk Vv c 2 t) (iblk Vv c 3 t) (iblk Vv c 4 t) (iblk Vv c 5 t) (iblk Vv c 6 t) (iblk Vv c 7 t) (iblk Vv c 8 t) (iblk Vv c 9 t) := by dsimp only [dats]
theorem after0_12 (c : Dev nD) (t : Fin cfg0.N) : (dats Vv 0 c).after 12 t = iBlk (F := F) (tWord t) (iblk Vv c 0 t) (iblk Vv c 1 t) := by dsimp only [dats]
theorem after0_13 (c : Dev nD) (t : Fin cfg0.N) : (dats Vv 0 c).after 13 t = bBlk (tWord t) (iblk Vv c 0 t) (iblk Vv c 1 t) (iblk Vv c 10 t) := by dsimp only [dats]

theorem before0_0 (c : Dev nD) (t : Fin cfg0.N) (d) : (dats Vv 0 c).before 0 t d = iblk Vv c 0 t :=
  ((dats Vv 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats Vv 0 c).before 1 t d = iblk Vv c 1 t :=
  ((dats Vv 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats Vv 0 c).before 2 t d = iblk Vv c 2 t :=
  ((dats Vv 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats Vv 0 c).before 3 t d = iblk Vv c 3 t :=
  ((dats Vv 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats Vv 0 c).before 4 t d = iblk Vv c 4 t :=
  ((dats Vv 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats Vv 0 c).before 5 t d = iblk Vv c 5 t :=
  ((dats Vv 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats Vv 0 c).before 6 t d = iblk Vv c 6 t :=
  ((dats Vv 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats Vv 0 c).before 7 t d = iblk Vv c 7 t :=
  ((dats Vv 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats Vv 0 c).before 8 t d = iblk Vv c 8 t :=
  ((dats Vv 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats Vv 0 c).before 9 t d = iblk Vv c 9 t :=
  ((dats Vv 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats Vv 0 c).before 10 t d = iblk Vv c 10 t :=
  ((dats Vv 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)

/-- The body at a point, from its windows one by one. -/
def bodyPre (c : Dev nD) (t : Fin cfg0.N) : sProp 𝕄 :=
  iprop((dats Vv 0 c).Φ t.castSucc ∗ (dats Vv 0 c).owesAt none t.castSucc
    ∗ (∃ d, owns (c : Thread nD τ) (st0_0 t) fullShare ((dats Vv 0 c).before 0 t d))
    ∗ (∃ d, owns (c : Thread nD τ) (st0_1 t) fullShare ((dats Vv 0 c).before 1 t d))
    ∗ (∃ d, owns (c : Thread nD τ) (st0_2 t) fullShare ((dats Vv 0 c).before 2 t d))
    ∗ (∃ d, owns (c : Thread nD τ) (st0_3 t) fullShare ((dats Vv 0 c).before 3 t d))
    ∗ (∃ d, owns (c : Thread nD τ) (st0_4 t) fullShare ((dats Vv 0 c).before 4 t d))
    ∗ (∃ d, owns (c : Thread nD τ) (st0_5 t) fullShare ((dats Vv 0 c).before 5 t d))
    ∗ (∃ d, owns (c : Thread nD τ) (st0_6 t) fullShare ((dats Vv 0 c).before 6 t d))
    ∗ (∃ d, owns (c : Thread nD τ) (st0_7 t) fullShare ((dats Vv 0 c).before 7 t d))
    ∗ (∃ d, owns (c : Thread nD τ) (st0_8 t) fullShare ((dats Vv 0 c).before 8 t d))
    ∗ (∃ d, owns (c : Thread nD τ) (st0_9 t) fullShare ((dats Vv 0 c).before 9 t d))
    ∗ (∃ d, owns (c : Thread nD τ) (st0_10 t) fullShare ((dats Vv 0 c).before 10 t d))
    ∗ (∃ d, owns (c : Thread nD τ) (st0_11 t) fullShare ((dats Vv 0 c).before 11 t d))
    ∗ (∃ d, owns (c : Thread nD τ) (st0_12 t) fullShare ((dats Vv 0 c).before 12 t d))
    ∗ (∃ d, owns (c : Thread nD τ) (st0_13 t) fullShare ((dats Vv 0 c).before 13 t d)))

def bodyPost (c : Dev nD) (t : Fin cfg0.N) : sProp 𝕄 :=
  iprop((dats Vv 0 c).Φ t.succ ∗ (dats Vv 0 c).owesAt none t.succ
    ∗ owns (c : Thread nD τ) (st0_0 t) fullShare ((dats Vv 0 c).after 0 t)
    ∗ owns (c : Thread nD τ) (st0_1 t) fullShare ((dats Vv 0 c).after 1 t)
    ∗ owns (c : Thread nD τ) (st0_2 t) fullShare ((dats Vv 0 c).after 2 t)
    ∗ owns (c : Thread nD τ) (st0_3 t) fullShare ((dats Vv 0 c).after 3 t)
    ∗ owns (c : Thread nD τ) (st0_4 t) fullShare ((dats Vv 0 c).after 4 t)
    ∗ owns (c : Thread nD τ) (st0_5 t) fullShare ((dats Vv 0 c).after 5 t)
    ∗ owns (c : Thread nD τ) (st0_6 t) fullShare ((dats Vv 0 c).after 6 t)
    ∗ owns (c : Thread nD τ) (st0_7 t) fullShare ((dats Vv 0 c).after 7 t)
    ∗ owns (c : Thread nD τ) (st0_8 t) fullShare ((dats Vv 0 c).after 8 t)
    ∗ owns (c : Thread nD τ) (st0_9 t) fullShare ((dats Vv 0 c).after 9 t)
    ∗ owns (c : Thread nD τ) (st0_10 t) fullShare ((dats Vv 0 c).after 10 t)
    ∗ owns (c : Thread nD τ) (st0_11 t) fullShare ((dats Vv 0 c).after 11 t)
    ∗ owns (c : Thread nD τ) (st0_12 t) fullShare ((dats Vv 0 c).after 12 t)
    ∗ owns (c : Thread nD τ) (st0_13 t) fullShare ((dats Vv 0 c).after 13 t))

set_option maxHeartbeats 1200000 in
theorem sound_body (c : Dev nD) (t : Fin cfg0.N) :
    bodyPre Vv c t ⊢ wp frame (wpE (defs₀ (F := F)) Variants.none c none) Set.univ (bodyAt0 t) (fun _ => bodyPost Vv c t) := by
  unfold bodyPre bodyPost bodyAt0
  simp only [before0_0, before0_1, before0_2, before0_3, before0_4, before0_5, before0_6, before0_7, before0_8, before0_9, before0_10]
  rw [show (dats Vv 0 c).Φ t.succ = (dats Vv 0 c).Φ t.castSucc from rfl, show (dats Vv 0 c).owesAt none t.succ = (dats Vv 0 c).owesAt none t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_wp c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (hstage0_13 ((cfg0.slots t 13).cast nbuf0_13)) (iblk Vv c 0 t) (iblk Vv c 1 t) (iblk Vv c 2 t) (iblk Vv c 3 t) (iblk Vv c 4 t) (iblk Vv c 5 t) (iblk Vv c 6 t) (iblk Vv c 7 t) (iblk Vv c 8 t) (iblk Vv c 9 t) (iblk Vv c 10 t) (fun _ => _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) : defs₀ (F := F) .tc cfg0.body (cfg0.bodyArgs t (cfg0.slots t)) = bodyAt0 t := rfl

theorem body_obligation (c : Dev nD) : Pipeline.BodyObligation (dats Vv 0 c) (defs₀ (F := F)) Variants.none none Set.univ := fun t => by
  rw [bigSep_W0, bigSep_W0, defs₀_row]
  exact triple_restated (sound_body Vv c t) rfl .rfl fun _ => .rfl

theorem Otc_none (d : Dev nD) (g : GSem nD τ sig) : (K (F := F)).Otc (N := 1) d 0 g none = 0 := by
  unfold SparseCore.Cfg.Otc
  simp only [Fin.isValue, Finset.univ_unique, Finset.sum_singleton, Finset.sum_apply, Finsupp.finset_sum_apply, tallyAt]
  simp [tallyOn, Pi.single_apply]
  constructor <;> split_ifs <;> simp

/-- The one pipeline's tables: it prefetches none. -/
abbrev padm : (p : Fin 1) → (pcfgs (F := F) p).Adm := fun p => (cfgs p).toPCfg_adm

/-- The call's step: from its arrays at the entry's contents to them at the exit's, the handshakes' debt carried. -/
def region : Pipeline.RegionSeg (pcfgs (F := F)) padm (fun p c => dats Vv p c) none (defs₀ (F := F)) 𝒱₀ (K (F := F)).L (K (F := F)).lev 0 where
  win := winFacts0.to₀
  block_pos := block_pos0
  stage_whole := stage_whole0
  K := PEmpty
  osem k := k.elim
  ho := Pipeline.OwnSemFacts.none _
  hbody c := (body_obligation Vv c).loose
  hwaits c := Pipeline.cellsWaits_intro _ _ none 0 c fun w s t => (K (F := F)).mayWait_none _ (Otc_none c)
  pre c := iprop((dats Vv 0 c).arrays ((dats Vv 0 c).arrAt · 0) ∗ ∃ W, ⌜(K (F := F)).WBelow (SparseCore.T c) W 0⌝ ∗ owes (c : Thread nD τ) ((K (F := F)).Otc c 0) W)
  post c := iprop((dats Vv 0 c).arrays ((dats Vv 0 c).arrAt · cfg0.N) ∗ ∃ W, ⌜(K (F := F)).WBelow (SparseCore.T c) W 0⌝ ∗ owes (c : Thread nD τ) ((K (F := F)).Otc c 0) W)
  X _ := iprop(emp)
  Y _ := iprop(emp)
  Z _ := iprop(emp)
  hentry c := by
    rw [Pipeline.ownSems0_none, Pipeline.prefHeld_of_none _ rfl]
    iintro ⟨⟨Ha, %W, %hW, HO⟩, -, -⟩
    imodintro
    isplitl [Ha]; · iexact Ha
    isplitr; · iempintro
    isplitl [HO]
    · unfold Pipeline.Dat.owesAt Pipeline.owesWithin
      iexists W; isplitr; · ipureintro; exact fun p hp => Or.inl (hW p hp)
      iexact HO
    isplitr; · iempintro
    iempintro
  hin c := by
    show iprop(emp ∗ _ ∗ (Pipeline.scopedRest spec0 c : sProp 𝕄)) ⊢ (Pipeline.scopedRest spec0 c : sProp 𝕄)
    iintro ⟨-, -, Hr⟩
    iexact Hr
  hout c := by
    rw [Pipeline.ownSems0_none]
    show (Pipeline.scopedRest spec0 c : sProp 𝕄) ⊢ iprop(emp ∗ emp ∗ (Pipeline.scopedRest spec0 c : sProp 𝕄))
    iintro Hr
    isplitr; · iempintro
    isplitr; · iempintro
    iexact Hr
  hexit c := by
    iintro ⟨Ha, HO, -, -⟩
    imodintro
    isplitl [Ha]; · iexact Ha
    unfold Pipeline.Dat.owesAt Pipeline.owesWithin
    icases HO with ⟨%W, %hW, HO⟩
    iexists W; isplitr
    · ipureintro
      intro p hp
      rcases hW hp with h | ⟨w, s, rfl⟩
      · exact h
      · exact le_of_eq rfl
    iexact HO

end Cert.Pillar
-- ==== Proof.Blocks.lean ====
/- The TensorCore call's arrays, block by block: a point's row, its cell, and its group's words. -/
module

public import Idealize.ShloMosaic.Lib.Pipeline.ValueKit
public import proofs.«01_k».proof.Proof.Coord
public import proofs.«01_k».proof.Proof.Region

@[expose] public section

set_option maxRecDepth 16384

noncomputable section

namespace Cert.Pillar

open Cert.KernelIdeal Cert.KernelIdeal.Gen
open Idealize.ShloMosaic Idealize.ShloMosaic.TcCoe
open Idealize.ShloMosaic.Pipeline (arrRef)

variable (Vv : Dev nD → Valuation τ sig (Elt Ideal)) (c : Dev nD)

theorem idx_all : ∀ t : Fin cfg0.N, win0_0.index t = ![0] ∧ win0_1.index t = ![0, t.val] ∧ win0_2.index t = ![t.val, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![t.val, 0] ∧ win0_12.index t = ![t.val, 0, 0] ∧ win0_13.index t = ![t.val, 0, 0] ∧ ((grid0.coords t) 0).val = t.val := by decide +kernel

theorem iblk1_at (t : Fin cfg0.N) (j : Fin 3) (i : Fin 1024) (h : 1024 * t.val + i.val < 200704) :
    (iblk Vv c 1 t : FVec Ideal S3x1024 .f32) (ix2 j i) = (Vv c (Proc.devRef .tc main_v1) : FVec Ideal S3x200704 .f32) (ix2 j ⟨1024 * t.val + i.val, h⟩) := by
  have e := idx_all t
  blk_ext [iblk, e]

theorem iblk2_at (t : Fin cfg0.N) (i : Fin 1024) (j : Fin 64) (h : 1024 * t.val + i.val < 200704) :
    (iblk Vv c 2 t : FVec Ideal S1024x64 .f32) (ix2 i j) = (Vv c (Proc.devRef .tc main_v2) : FVec Ideal S200704x64 .f32) (ix2 ⟨1024 * t.val + i.val, h⟩ j) := by
  have e := idx_all t
  blk_ext [iblk, e]

theorem iblk0_eq (t : Fin cfg0.N) : (iblk Vv c 0 t : IVec S2 32) = (Vv c (Proc.devRef .tc main_arg1) : IVec S2 32) := by have e := idx_all t; funext y; blk_ext [iblk, e]
theorem iblk3_eq (t : Fin cfg0.N) : (iblk Vv c 3 t : FVec Ideal S64x128 .f32) = (Vv c (Proc.devRef .tc main_v6) : FVec Ideal S64x128 .f32) := by have e := idx_all t; funext y; blk_ext [iblk, e]
theorem iblk4_eq (t : Fin cfg0.N) : (iblk Vv c 4 t : FVec Ideal S8x128 .f32) = (Vv c (Proc.devRef .tc main_v9) : FVec Ideal S8x128 .f32) := by have e := idx_all t; funext y; blk_ext [iblk, e]
theorem iblk5_eq (t : Fin cfg0.N) : (iblk Vv c 5 t : FVec Ideal S1x128 .f32) = (Vv c (Proc.devRef .tc main_v12) : FVec Ideal S1x128 .f32) := by have e := idx_all t; funext y; blk_ext [iblk, e]
theorem iblk6_eq (t : Fin cfg0.N) : (iblk Vv c 6 t : FVec Ideal S1x128 .f32) = (Vv c (Proc.devRef .tc main_v13) : FVec Ideal S1x128 .f32) := by have e := idx_all t; funext y; blk_ext [iblk, e]
theorem iblk7_eq (t : Fin cfg0.N) : (iblk Vv c 7 t : FVec Ideal S128x256 .f32) = (Vv c (Proc.devRef .tc main_v14) : FVec Ideal S128x256 .f32) := by have e := idx_all t; funext y; blk_ext [iblk, e]
theorem iblk8_eq (t : Fin cfg0.N) : (iblk Vv c 8 t : FVec Ideal S1x256 .f32) = (Vv c (Proc.devRef .tc main_v17) : FVec Ideal S1x256 .f32) := by have e := idx_all t; funext y; blk_ext [iblk, e]
theorem iblk9_eq (t : Fin cfg0.N) : (iblk Vv c 9 t : FVec Ideal S1x256 .f32) = (Vv c (Proc.devRef .tc main_v18) : FVec Ideal S1x256 .f32) := by have e := idx_all t; funext y; blk_ext [iblk, e]
theorem iblk10_eq (t : Fin cfg0.N) : (iblk Vv c 10 t : FVec Ideal S1024x64 .f32) = (Vv c (Proc.devRef .tc main_v35) : FVec Ideal S1024x64 .f32) := by have e := idx_all t; funext y; blk_ext [iblk, e]

theorem flush_all : ∀ t : Fin cfg0.N, (cfg0.win 11).flush t = true ∧ (cfg0.win 12).flush t = true ∧ (cfg0.win 13).flush t = true := by decide +kernel

theorem disjoint11 : ∀ t t' : Fin cfg0.N, (cfg0.win 11).flush t = true → (cfg0.win 11).flush t' = true → t ≠ t' → Disjoint ((cfg0.win 11).blk t).view.set ((cfg0.win 11).blk t').view.set :=
  fun t t' _ _ hne => (cfg0.win 11).disjoint_blk fun h => hne (Fin.ext (by
    have h' : win0_11.index t = win0_11.index t' := h
    rw [(idx_all t).2.2.2.2.2.2.2.2.2.2.2.1, (idx_all t').2.2.2.2.2.2.2.2.2.2.2.1] at h'
    exact congrFun h' 0))
theorem disjoint12 : ∀ t t' : Fin cfg0.N, (cfg0.win 12).flush t = true → (cfg0.win 12).flush t' = true → t ≠ t' → Disjoint ((cfg0.win 12).blk t).view.set ((cfg0.win 12).blk t').view.set :=
  fun t t' _ _ hne => (cfg0.win 12).disjoint_blk fun h => hne (Fin.ext (by
    have h' : win0_12.index t = win0_12.index t' := h
    rw [(idx_all t).2.2.2.2.2.2.2.2.2.2.2.2.1, (idx_all t').2.2.2.2.2.2.2.2.2.2.2.2.1] at h'
    exact congrFun h' 0))
theorem disjoint13 : ∀ t t' : Fin cfg0.N, (cfg0.win 13).flush t = true → (cfg0.win 13).flush t' = true → t ≠ t' → Disjoint ((cfg0.win 13).blk t).view.set ((cfg0.win 13).blk t').view.set :=
  fun t t' _ _ hne => (cfg0.win 13).disjoint_blk fun h => hne (Fin.ext (by
    have h' : win0_13.index t = win0_13.index t' := h
    rw [(idx_all t).2.2.2.2.2.2.2.2.2.2.2.2.2.1, (idx_all t').2.2.2.2.2.2.2.2.2.2.2.2.2.1] at h'
    exact congrFun h' 0))

theorem h_at (t : Fin cfg0.N) (i : Fin 1024) (k : Fin 256) (h : 1024 * t.val + i.val < 200704) :
    ((dats Vv 0 c).arrAt 11 cfg0.N : FVec Ideal S200704x256 .f32) (ix2 ⟨1024 * t.val + i.val, h⟩ k)
      = hBlk (F := Ideal) (iblk Vv c 1 t) (iblk Vv c 2 t) (iblk Vv c 3 t) (iblk Vv c 4 t) (iblk Vv c 5 t) (iblk Vv c 6 t) (iblk Vv c 7 t) (iblk Vv c 8 t) (iblk Vv c 9 t) (ix2 i k) := by
  have e := idx_all t
  have hb := congrFun ((dats Vv 0 c).read_blk_arrAt_eq_flushed 11 disjoint11 cfg0.N t t.isLt (flush_all t).1) (ix2 i k)
  rw [← after0_11]
  refine Eq.trans ?_ hb
  blk_ext [e]

theorem idx_at (t : Fin cfg0.N) (i : Fin 1024) :
    ((dats Vv 0 c).arrAt 12 cfg0.N : IVec S196x1x1024 32) (ix3 t 0 i) = iBlk (F := Ideal) (tWord t) (iblk Vv c 0 t) (iblk Vv c 1 t) (ix3 0 0 i) := by
  have e := idx_all t
  have hb := congrFun ((dats Vv 0 c).read_blk_arrAt_eq_flushed 12 disjoint12 cfg0.N t t.isLt (flush_all t).2.1) (ix3 0 0 i)
  rw [← after0_12]
  refine Eq.trans ?_ hb
  blk_ext [e]

theorem bm_at (t : Fin cfg0.N) (P : Fin 128) (k : Fin 64) :
    ((dats Vv 0 c).arrAt 13 cfg0.N : IVec S196x128x64 32) (ix3 t P k) = bBlk (F := Ideal) (tWord t) (iblk Vv c 0 t) (iblk Vv c 1 t) (iblk Vv c 10 t) (ix3 0 P k) := by
  have e := idx_all t
  have hb := congrFun ((dats Vv 0 c).read_blk_arrAt_eq_flushed 13 disjoint13 cfg0.N t t.isLt (flush_all t).2.2) (ix3 0 P k)
  rw [← after0_13]
  refine Eq.trans ?_ hb
  blk_ext [e]

end Cert.Pillar
-- ==== Proof.Host.lean ====
/- The operations before the first call: the constants, the paddings, the folded scales and the powers of two. -/
module

public import proofs.«01_k».proof.Proof.Task
public import proofs.«01_k».proof.Proof.Gen.KernelIdeal
public import Idealize.ShloMosaic.Lib.StableHlo.Run
public import Idealize.ShloMosaic.Lib.Pipeline.Regions
public import Idealize.ShloMosaic.Lib.Tactic

@[expose] public section

set_option maxRecDepth 16384

noncomputable section

namespace Cert.Pillar

open Cert.KernelIdeal Cert.KernelIdeal.Gen
open Idealize.ShloMosaic Idealize.ShloMosaic.TcCoe Idealize.ShloMosaic.Tactic
open Idealize.SL.Sem

variable {F : FTy → Type} [FloatOps F]

abbrev pre0 : List (HloOp τ sig (Elt F)) :=
  [ StableHlo.nullary main_c (constantI S_ 32 0#32) ]
theorem pre0_sub : (pre0 : List (HloOp τ sig (Elt F))).Forall fun op => op.bufs ⊆ StableHlo.tcRefs τ sig :=
  StableHlo.nullary_bufs_sub ..
theorem pre0_fresh : (pre0 : List (HloOp τ sig (Elt F))).Forall fun op => op.fresh = ∅ := by
  simp only [List.Forall]; repeat' constructor

abbrev pre1 : List (HloOp τ sig (Elt F)) :=
  [ StableHlo.TRef.unary (.of main_c : StableHlo.TRef sig ⟨S_, .i32⟩) (.of main_call0_v0 : StableHlo.TRef sig ⟨S_, .f32⟩) (sitofp .f32),
    StableHlo.TRef.binary (.of main_arg0 : StableHlo.TRef sig ⟨S200000x3, .f32⟩) (.of main_call0_v0 : StableHlo.TRef sig ⟨S_, .f32⟩) (.of main_v0 : StableHlo.TRef sig ⟨S200704x3, .f32⟩) (fun x v => pad S200704x3 ![0, 0] ![704, 0] ![0, 0] x v pads_S200000x3_S200704x3_07040_000 h_S_) ]
theorem pre1_sub : (pre1 : List (HloOp τ sig (Elt F))).Forall fun op => op.bufs ⊆ StableHlo.tcRefs τ sig :=
  ⟨StableHlo.unary_bufs_sub .., StableHlo.binary_bufs_sub ..⟩
theorem pre1_fresh : (pre1 : List (HloOp τ sig (Elt F))).Forall fun op => op.fresh = ∅ := by
  simp only [List.Forall]; repeat' constructor

abbrev pre2 : List (HloOp τ sig (Elt F)) :=
  [ StableHlo.unary main_v0 main_v1 ((transpose S3x200704 [1, 0] · transposes_S200704x3_S3x200704_1_0) : (⟨S200704x3, .f32⟩ : BufTy).Contents (Elt F) → (⟨S3x200704, .f32⟩ : BufTy).Contents (Elt F)),
    StableHlo.nullary main_c_0 (constantI S_ 32 0#32) ]
theorem pre2_sub : (pre2 : List (HloOp τ sig (Elt F))).Forall fun op => op.bufs ⊆ StableHlo.tcRefs τ sig :=
  ⟨StableHlo.unary_bufs_sub .., StableHlo.nullary_bufs_sub ..⟩
theorem pre2_fresh : (pre2 : List (HloOp τ sig (Elt F))).Forall fun op => op.fresh = ∅ := by
  simp only [List.Forall]; repeat' constructor

abbrev pre3 : List (HloOp τ sig (Elt F)) :=
  [ StableHlo.TRef.unary (.of main_c_0 : StableHlo.TRef sig ⟨S_, .i32⟩) (.of main_call1_v0 : StableHlo.TRef sig ⟨S_, .f32⟩) (sitofp .f32),
    StableHlo.TRef.binary (.of main_arg2 : StableHlo.TRef sig ⟨S200000x64, .f32⟩) (.of main_call1_v0 : StableHlo.TRef sig ⟨S_, .f32⟩) (.of main_v2 : StableHlo.TRef sig ⟨S200704x64, .f32⟩) (fun x v => pad S200704x64 ![0, 0] ![704, 0] ![0, 0] x v pads_S200000x64_S200704x64_07040_000 h_S_) ]
theorem pre3_sub : (pre3 : List (HloOp τ sig (Elt F))).Forall fun op => op.bufs ⊆ StableHlo.tcRefs τ sig :=
  ⟨StableHlo.unary_bufs_sub .., StableHlo.binary_bufs_sub ..⟩
theorem pre3_fresh : (pre3 : List (HloOp τ sig (Elt F))).Forall fun op => op.fresh = ∅ := by
  simp only [List.Forall]; repeat' constructor

abbrev pre4 : List (HloOp τ sig (Elt F)) :=
  [ StableHlo.nullary main_cst (constant S_ .f32 0x3F800054#32),
    StableHlo.unary main_cst main_v3 (Host.sqrt : (⟨S_, .f32⟩ : BufTy).Contents (Elt F) → (⟨S_, .f32⟩ : BufTy).Contents (Elt F)),
    StableHlo.nullary main_cst_1 (constant S_ .f32 0x3F800000#32),
    StableHlo.binary main_cst_1 main_v3 main_v4 (Host.divf : (⟨S_, .f32⟩ : BufTy).Contents (Elt F) → (⟨S_, .f32⟩ : BufTy).Contents (Elt F) → (⟨S_, .f32⟩ : BufTy).Contents (Elt F)),
    StableHlo.unary main_arg3 main_v5 ((extractStridedSlice S128x64 ![0, 3] · slices_S128x67_S128x64_0_3) : (⟨S128x67, .f32⟩ : BufTy).Contents (Elt F) → (⟨S128x64, .f32⟩ : BufTy).Contents (Elt F)),
    StableHlo.unary main_v5 main_v6 ((transpose S64x128 [1, 0] · transposes_S128x64_S64x128_1_0) : (⟨S128x64, .f32⟩ : BufTy).Contents (Elt F) → (⟨S64x128, .f32⟩ : BufTy).Contents (Elt F)),
    StableHlo.unary main_arg3 main_v7 ((extractStridedSlice S128x3 ![0, 0] · slices_S128x67_S128x3_0_0) : (⟨S128x67, .f32⟩ : BufTy).Contents (Elt F) → (⟨S128x3, .f32⟩ : BufTy).Contents (Elt F)),
    StableHlo.unary main_v7 main_v8 ((transpose S3x128 [1, 0] · transposes_S128x3_S3x128_1_0) : (⟨S128x3, .f32⟩ : BufTy).Contents (Elt F) → (⟨S3x128, .f32⟩ : BufTy).Contents (Elt F)),
    StableHlo.nullary main_c_2 (constantI S_ 32 0#32) ]
theorem pre4_sub : (pre4 : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.unary_bufs_sub .., StableHlo.unary_bufs_sub .., StableHlo.unary_bufs_sub .., StableHlo.unary_bufs_sub .., StableHlo.nullary_bufs_sub ..⟩
theorem pre4_fresh : (pre4 : List (HloOp τ sig (Elt F))).Forall fun op => op.fresh = ∅ := by
  simp only [List.Forall]; repeat' constructor

abbrev pre5 : List (HloOp τ sig (Elt F)) :=
  [ StableHlo.TRef.unary (.of main_c_2 : StableHlo.TRef sig ⟨S_, .i32⟩) (.of main_call2_v0 : StableHlo.TRef sig ⟨S_, .f32⟩) (sitofp .f32),
    StableHlo.TRef.binary (.of main_v8 : StableHlo.TRef sig ⟨S3x128, .f32⟩) (.of main_call2_v0 : StableHlo.TRef sig ⟨S_, .f32⟩) (.of main_v9 : StableHlo.TRef sig ⟨S8x128, .f32⟩) (fun x v => pad S8x128 ![0, 0] ![5, 0] ![0, 0] x v pads_S3x128_S8x128_050_000 h_S_) ]
theorem pre5_sub : (pre5 : List (HloOp τ sig (Elt F))).Forall fun op => op.bufs ⊆ StableHlo.tcRefs τ sig :=
  ⟨StableHlo.unary_bufs_sub .., StableHlo.binary_bufs_sub ..⟩
theorem pre5_fresh : (pre5 : List (HloOp τ sig (Elt F))).Forall fun op => op.fresh = ∅ := by
  simp only [List.Forall]; repeat' constructor

abbrev pre6 : List (HloOp τ sig (Elt F)) :=
  [ StableHlo.unary main_v4 main_v10 (broadcastInDim S128 ![] bcast_S_S128 : (⟨S_, .f32⟩ : BufTy).Contents (Elt F) → (⟨S128, .f32⟩ : BufTy).Contents (Elt F)),
    StableHlo.binary main_v10 main_arg4 main_v11 (mulf : (⟨S128, .f32⟩ : BufTy).Contents (Elt F) → (⟨S128, .f32⟩ : BufTy).Contents (Elt F) → (⟨S128, .f32⟩ : BufTy).Contents (Elt F)),
    StableHlo.reshape main_v11 main_v12 (rfl : (.f32 : EltTy) = .f32) shapeCasts_S128_S1x128,
    StableHlo.reshape main_arg5 main_v13 (rfl : (.f32 : EltTy) = .f32) shapeCasts_S128_S1x128,
    StableHlo.unary main_arg6 main_v14 ((transpose S128x256 [1, 0] · transposes_S256x128_S128x256_1_0) : (⟨S256x128, .f32⟩ : BufTy).Contents (Elt F) → (⟨S128x256, .f32⟩ : BufTy).Contents (Elt F)),
    StableHlo.unary main_v4 main_v15 (broadcastInDim S256 ![] bcast_S_S256 : (⟨S_, .f32⟩ : BufTy).Contents (Elt F) → (⟨S256, .f32⟩ : BufTy).Contents (Elt F)),
    StableHlo.binary main_v15 main_arg7 main_v16 (mulf : (⟨S256, .f32⟩ : BufTy).Contents (Elt F) → (⟨S256, .f32⟩ : BufTy).Contents (Elt F) → (⟨S256, .f32⟩ : BufTy).Contents (Elt F)),
    StableHlo.reshape main_v16 main_v17 (rfl : (.f32 : EltTy) = .f32) shapeCasts_S256_S1x256,
    StableHlo.reshape main_arg8 main_v18 (rfl : (.f32 : EltTy) = .f32) shapeCasts_S256_S1x256,
    StableHlo.nullary main_v19 (iotaInDim S1024 32 0),
    StableHlo.unary main_v19 main_v20 (broadcastInDim S1024x1 ![0] bcast_S1024_S1024x1_0 : (⟨S1024, .i32⟩ : BufTy).Contents (Elt F) → (⟨S1024x1, .i32⟩ : BufTy).Contents (Elt F)),
    StableHlo.nullary main_c_3 (constantI S_ 32 16#32) ]
theorem pre6_sub : (pre6 : List (HloOp τ sig (Elt F))).Forall fun op => op.bufs ⊆ StableHlo.tcRefs τ sig :=
  ⟨StableHlo.unary_bufs_sub .., StableHlo.binary_bufs_sub .., StableHlo.reshape_bufs_sub .., StableHlo.reshape_bufs_sub .., StableHlo.unary_bufs_sub .., StableHlo.unary_bufs_sub .., StableHlo.binary_bufs_sub .., StableHlo.reshape_bufs_sub .., StableHlo.reshape_bufs_sub .., StableHlo.nullary_bufs_sub .., StableHlo.unary_bufs_sub .., StableHlo.nullary_bufs_sub ..⟩
theorem pre6_fresh : (pre6 : List (HloOp τ sig (Elt F))).Forall fun op => op.fresh = ∅ := by
  simp only [List.Forall]; repeat' constructor

abbrev pre7 : List (HloOp τ sig (Elt F)) :=
  [ StableHlo.TRef.unary (.of main_c_3 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S1024x1, .i32⟩) (broadcastInDim S1024x1 ![] bcast_S_S1024x1),
    StableHlo.TRef.binary (.of main_v20 : StableHlo.TRef sig ⟨S1024x1, .i32⟩) (.of main_call3_v1 : StableHlo.TRef sig ⟨S1024x1, .i32⟩) (.of main_call3_v2 : StableHlo.TRef sig ⟨S1024x1, .i32⟩) Host.divsi,
    StableHlo.TRef.unary (.of main_v20 : StableHlo.TRef sig ⟨S1024x1, .i32⟩) (.of main_call3_v3 : StableHlo.TRef sig ⟨S1024x1, .i32⟩) signi,
    StableHlo.TRef.unary (.of main_call3_v0 : StableHlo.TRef sig ⟨S_, .i32⟩) (.of main_call3_v4 : StableHlo.TRef sig ⟨S_, .i32⟩) signi,
    StableHlo.TRef.unary (.of main_call3_v4 : StableHlo.TRef sig ⟨S_, .i32⟩) (.of main_call3_v5 : StableHlo.TRef sig ⟨S1024x1, .i32⟩) (broadcastInDim S1024x1 ![] bcast_S_S1024x1),
    StableHlo.TRef.binary (.of main_call3_v3 : StableHlo.TRef sig ⟨S1024x1, .i32⟩) (.of main_call3_v5 : StableHlo.TRef sig ⟨S1024x1, .i32⟩) (.of main_call3_v6 : StableHlo.TRef sig ⟨S1024x1, .i1⟩) (cmpi .ne),
    StableHlo.TRef.unary (.of main_call3_v0 : StableHlo.TRef sig ⟨S_, .i32⟩) (.of main_call3_v7 : StableHlo.TRef sig ⟨S1024x1, .i32⟩) (broadcastInDim S1024x1 ![] bcast_S_S1024x1),
    StableHlo.TRef.binary (.of main_v20 : StableHlo.TRef sig ⟨S1024x1, .i32⟩) (.of main_call3_v7 : StableHlo.TRef sig ⟨S1024x1, .i32⟩) (.of main_call3_v8 : StableHlo.TRef sig ⟨S1024x1, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v9 : StableHlo.TRef sig ⟨S1024x1, .i32⟩) (broadcastInDim S1024x1 ![] bcast_S_S1024x1),
    StableHlo.TRef.binary (.of main_call3_v8 : StableHlo.TRef sig ⟨S1024x1, .i32⟩) (.of main_call3_v9 : StableHlo.TRef sig ⟨S1024x1, .i32⟩) (.of main_call3_v10 : StableHlo.TRef sig ⟨S1024x1, .i1⟩) (cmpi .ne),
    StableHlo.TRef.binary (.of main_call3_v6 : StableHlo.TRef sig ⟨S1024x1, .i1⟩) (.of main_call3_v10 : StableHlo.TRef sig ⟨S1024x1, .i1⟩) (.of main_call3_v11 : StableHlo.TRef sig ⟨S1024x1, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v12 : StableHlo.TRef sig ⟨S1024x1, .i32⟩) (broadcastInDim S1024x1 ![] bcast_S_S1024x1),
    StableHlo.TRef.binary (.of main_call3_v2 : StableHlo.TRef sig ⟨S1024x1, .i32⟩) (.of main_call3_v12 : StableHlo.TRef sig ⟨S1024x1, .i32⟩) (.of main_call3_v13 : StableHlo.TRef sig ⟨S1024x1, .i32⟩) subi,
    StableHlo.TRef.ternary (.of main_call3_v11 : StableHlo.TRef sig ⟨S1024x1, .i1⟩) (.of main_call3_v13 : StableHlo.TRef sig ⟨S1024x1, .i32⟩) (.of main_call3_v2 : StableHlo.TRef sig ⟨S1024x1, .i32⟩) (.of main_v21 : StableHlo.TRef sig ⟨S1024x1, .i32⟩) select ]
theorem pre7_sub : (pre7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem pre7_fresh : (pre7 : List (HloOp τ sig (Elt F))).Forall fun op => op.fresh = ∅ := by
  simp only [List.Forall]; repeat' constructor

abbrev pre8 : List (HloOp τ sig (Elt F)) :=
  [ StableHlo.nullary main_v22 (iotaInDim S64 32 0),
    StableHlo.unary main_v22 main_v23 (broadcastInDim S1x64 ![1] bcast_S64_S1x64_1 : (⟨S64, .i32⟩ : BufTy).Contents (Elt F) → (⟨S1x64, .i32⟩ : BufTy).Contents (Elt F)),
    StableHlo.unary main_v21 main_v24 (broadcastInDim S1024x64 ![0, 1] bcast_S1024x1_S1024x64_0_1 : (⟨S1024x1, .i32⟩ : BufTy).Contents (Elt F) → (⟨S1024x64, .i32⟩ : BufTy).Contents (Elt F)),
    StableHlo.unary main_v23 main_v25 (broadcastInDim S1024x64 ![0, 1] bcast_S1x64_S1024x64_0_1 : (⟨S1x64, .i32⟩ : BufTy).Contents (Elt F) → (⟨S1024x64, .i32⟩ : BufTy).Contents (Elt F)),
    StableHlo.binary main_v24 main_v25 main_v26 (cmpi .eq : (⟨S1024x64, .i32⟩ : BufTy).Contents (Elt F) → (⟨S1024x64, .i32⟩ : BufTy).Contents (Elt F) → (⟨S1024x64, .i1⟩ : BufTy).Contents (Elt F)),
    StableHlo.unary main_v26 main_v27 (uitofp .f32 : (⟨S1024x64, .i1⟩ : BufTy).Contents (Elt F) → (⟨S1024x64, .f32⟩ : BufTy).Contents (Elt F)),
    StableHlo.nullary main_c_4 (constantI S_ 32 16#32) ]
theorem pre8_sub : (pre8 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.binary_bufs_sub .., StableHlo.unary_bufs_sub .., StableHlo.nullary_bufs_sub ..⟩
theorem pre8_fresh : (pre8 : List (HloOp τ sig (Elt F))).Forall fun op => op.fresh = ∅ := by
  simp only [List.Forall]; repeat' constructor

abbrev pre9 : List (HloOp τ sig (Elt F)) :=
  [ StableHlo.TRef.unary (.of main_c_4 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary main_call4_call0.v0 (.of main_call4_v3 : StableHlo.TRef sig ⟨S1024, .i32⟩) (broadcastInDim S1024 ![] bcast_S_S1024),
    StableHlo.TRef.binary (.of main_v19 : StableHlo.TRef sig ⟨S1024, .i32⟩) (.of main_call4_v3 : StableHlo.TRef sig ⟨S1024, .i32⟩) (.of main_call4_v4 : StableHlo.TRef sig ⟨S1024, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S1024, .i32⟩) (broadcastInDim S1024 ![] bcast_S_S1024),
    StableHlo.TRef.binary (.of main_call4_v4 : StableHlo.TRef sig ⟨S1024, .i32⟩) (.of main_call4_v5 : StableHlo.TRef sig ⟨S1024, .i32⟩) (.of main_call4_v6 : StableHlo.TRef sig ⟨S1024, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S1024, .i32⟩) (broadcastInDim S1024 ![] bcast_S_S1024),
    StableHlo.TRef.binary (.of main_call4_v4 : StableHlo.TRef sig ⟨S1024, .i32⟩) (.of main_call4_v7 : StableHlo.TRef sig ⟨S1024, .i32⟩) (.of main_call4_v8 : StableHlo.TRef sig ⟨S1024, .i1⟩) (cmpi .slt),
    StableHlo.TRef.nullary (.of main_call4_c_3 : StableHlo.TRef sig ⟨S_, .i32⟩) (constantI S_ 32 0#32),
    StableHlo.TRef.binary main_call4_call0.v0 (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S1024, .i1⟩) (broadcastInDim S1024 ![] bcast_S_S1024),
    StableHlo.TRef.binary (.of main_call4_v8 : StableHlo.TRef sig ⟨S1024, .i1⟩) (.of main_call4_v10 : StableHlo.TRef sig ⟨S1024, .i1⟩) (.of main_call4_v11 : StableHlo.TRef sig ⟨S1024, .i1⟩) (cmpi .ne),
    StableHlo.TRef.binary (.of main_call4_v11 : StableHlo.TRef sig ⟨S1024, .i1⟩) (.of main_call4_v6 : StableHlo.TRef sig ⟨S1024, .i1⟩) (.of main_call4_v12 : StableHlo.TRef sig ⟨S1024, .i1⟩) andi,
    StableHlo.TRef.unary main_call4_call0.v0 (.of main_call4_v13 : StableHlo.TRef sig ⟨S1024, .i32⟩) (broadcastInDim S1024 ![] bcast_S_S1024),
    StableHlo.TRef.binary (.of main_call4_v4 : StableHlo.TRef sig ⟨S1024, .i32⟩) (.of main_call4_v13 : StableHlo.TRef sig ⟨S1024, .i32⟩) (.of main_call4_v14 : StableHlo.TRef sig ⟨S1024, .i32⟩) addi,
    StableHlo.TRef.ternary (.of main_call4_v12 : StableHlo.TRef sig ⟨S1024, .i1⟩) (.of main_call4_v14 : StableHlo.TRef sig ⟨S1024, .i32⟩) (.of main_call4_v4 : StableHlo.TRef sig ⟨S1024, .i32⟩) (.of main_v28 : StableHlo.TRef sig ⟨S1024, .i32⟩) select ]
theorem pre9_sub : (pre9 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem pre9_fresh : (pre9 : List (HloOp τ sig (Elt F))).Forall fun op => op.fresh = ∅ := by
  simp only [List.Forall]; repeat' constructor

abbrev pre10 : List (HloOp τ sig (Elt F)) :=
  [ StableHlo.unary main_v28 main_v29 (sitofp .f32 : (⟨S1024, .i32⟩ : BufTy).Contents (Elt F) → (⟨S1024, .f32⟩ : BufTy).Contents (Elt F)),
    StableHlo.nullary main_cst_5 (constant S_ .f32 0x40000000#32),
    StableHlo.unary main_v28 main_v30 (sitofp .f32 : (⟨S1024, .i32⟩ : BufTy).Contents (Elt F) → (⟨S1024, .f32⟩ : BufTy).Contents (Elt F)),
    StableHlo.unary main_cst_5 main_v31 (broadcastInDim S1024 ![] bcast_S_S1024 : (⟨S_, .f32⟩ : BufTy).Contents (Elt F) → (⟨S1024, .f32⟩ : BufTy).Contents (Elt F)),
    StableHlo.binary main_v31 main_v30 main_v32 (Host.powf : (⟨S1024, .f32⟩ : BufTy).Contents (Elt F) → (⟨S1024, .f32⟩ : BufTy).Contents (Elt F) → (⟨S1024, .f32⟩ : BufTy).Contents (Elt F)),
    StableHlo.unary main_v32 main_v33 (broadcastInDim S1024x1 ![0] bcast_S1024_S1024x1_0 : (⟨S1024, .f32⟩ : BufTy).Contents (Elt F) → (⟨S1024x1, .f32⟩ : BufTy).Contents (Elt F)),
    StableHlo.unary main_v33 main_v34 (broadcastInDim S1024x64 ![0, 1] bcast_S1024x1_S1024x64_0_1 : (⟨S1024x1, .f32⟩ : BufTy).Contents (Elt F) → (⟨S1024x64, .f32⟩ : BufTy).Contents (Elt F)),
    StableHlo.binary main_v27 main_v34 main_v35 (mulf : (⟨S1024x64, .f32⟩ : BufTy).Contents (Elt F) → (⟨S1024x64, .f32⟩ : BufTy).Contents (Elt F) → (⟨S1024x64, .f32⟩ : BufTy).Contents (Elt F)) ]
theorem pre10_sub : (pre10 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub ..⟩
theorem pre10_fresh : (pre10 : List (HloOp τ sig (Elt F))).Forall fun op => op.fresh = ∅ := by
  simp only [List.Forall]; repeat' constructor

end Cert.Pillar
-- ==== Proof.Step.lean ====
/- The TensorCore call as one step of the program, over the arrays held. -/
module

public import Idealize.ShloMosaic.Lib.StableHlo.Run
public import Idealize.ShloMosaic.Lib.Pipeline.Sound
public import Idealize.ShloMosaic.Lib.Pipeline.Frame
public import proofs.«01_k».proof.Proof.Host
public import proofs.«01_k».proof.Proof.Region

@[expose] public section

set_option maxRecDepth 16384

noncomputable section

namespace Cert.Pillar

open Cert.KernelIdeal Cert.KernelIdeal.Gen
open Idealize.ShloMosaic Idealize.ShloMosaic.TcCoe Idealize.ShloMosaic.Tactic Idealize.ShloMosaic.Transfers
open Idealize.ShloMosaic.SparseCore.Cfg (HIx Pay)
open Idealize.ShloMosaic.Pipeline (Dat arrRef arrRefs afterRegion ucRefs)
open Idealize.SL Idealize.SL.RA
open Idealize.SL.BI (sProp bigSep bigSep_singleton bigSep_univ_at)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The TensorCore call's own rounds, within the ghost state. -/
abbrev EP : Emb UP 𝕄 := (Emb.inl : Emb UP (UP × Counters)).trans embR

instance EP_landsIn : (EP (F := F)).LandsIn (upEmb : UEmb _ 𝕄) := by
  unfold EP embR; infer_instance

abbrev pcells := Pipeline.cells (nD := nD) (τ := τ) (Pipeline.pin (pcfgs (F := F)) padm) (launch0.toP.cellOf_inj padm)
abbrev ptoks := Pipeline.launchToks (nD := nD) (τ := τ) (Pipeline.pin (pcfgs (F := F)) padm) (launch0.toP.cellOf_inj padm)

/-- What the TensorCore call starts from, of the ghost state. -/
def Ghost (d : Dev nD) : sProp 𝕄 :=
  iprop(Pipeline.cellsGhost (Pipeline.pin (pcfgs (F := F)) padm) EP 0 d ∗ Pipeline.toksInit (Pipeline.pin (pcfgs (F := F)) padm) EP 0 d)

def u₀ : UU := (initOf (K (F := F)).hsCells (K (F := F)).hsToks, (initOf (pcells (F := F)) (ptoks (F := F)), 1))

omit [FloatOps F] in
theorem bigSep_emp' {T : Type} (s : Finset T) : (bigSep s fun _ => iprop(emp)) = (iprop(emp) : sProp 𝕄) := BI.bigSep_emp_const s

theorem hu₀ (H : Dev nD → S200704x256.Idx → F .f32) (I : Dev nD → S200704.Idx → BitVec 32) (Bm : Dev nD → S196x128x64.Idx → BitVec 32) : (ownU (u₀ (F := F)) : sProp 𝕄)
    ⊢ |={Set.univ}=> iprop(BI.own (EH (initOf (K (F := F)).hsCells (K (F := F)).hsToks)) ∗ (bigSep Finset.univ fun d : Dev nD => Ghost d)
        ∗ bigSep Finset.univ fun thr : Thread nD τ => bigSep Finset.univ fun q : Fin 1 => (P H I Bm).x q thr) := by
  unfold u₀
  iintro Hu
  ihave HU := (ownU_pair _ _) $$ Hu
  icases HU with ⟨HH, HR⟩
  ihave HP := (own_pair_emb (embR : Emb (UP × Counters) 𝕄) (initOf (pcells (F := F)) (ptoks (F := F))) 1) $$ HR
  icases HP with ⟨HP, -⟩
  ihave HG := (Pipeline.fund_ghost (nD := nD) (τ := τ) (Pipeline.pin (pcfgs (F := F)) padm) (EP (F := F)) (launch0.toP.cellOf_inj padm)) $$ HP
  imod HG with ⟨Hc, Ht⟩
  imodintro
  isplitl [HH]; · iexact HH
  isplitl [Hc Ht]
  · simp only [Finset.univ_unique, bigSep_singleton]
    unfold Ghost
    isplitl [Hc]; · iexact Hc
    iexact Ht
  unfold P; dsimp only
  rw [show (bigSep Finset.univ fun _ : Thread nD τ => bigSep Finset.univ fun _ : Fin 1 => (iprop(emp) : sProp 𝕄)) = iprop(emp) from by
    rw [BI.bigSep_congr fun _ _ => bigSep_emp' _, bigSep_emp']]
  iempintro

/-- The arrays after the TensorCore call. -/
def Va (Vv : Dev nD → Valuation τ sig (Elt F)) (d : Dev nD) : Valuation τ sig (Elt F) := afterRegion (dats Vv 0 d) (Vv d)

/-- The handshakes' debt before the SparseCore call. -/
def owesB (d : Dev nD) : sProp 𝕄 := iprop(∃ W, ⌜(K (F := F)).WBelow (SparseCore.T d) W 0⌝ ∗ owes (d : Thread nD τ) ((K (F := F)).Otc d 0) W)

theorem Va_arr (Vv : Dev nD → Valuation τ sig (Elt F)) (d : Dev nD) (w : Fin cfg0.W) :
    Va Vv d (Proc.devRef .tc (arrRef spec0 w)) = (dats Vv 0 d).arrAt w cfg0.N :=
  Pipeline.afterRegion_arr (dats Vv 0 d) (Vv d) winFacts0.arr_inj w

theorem arrays_in (Vv : Dev nD → Valuation τ sig (Elt F)) (d : Dev nD) :
    ((dats Vv 0 d).arrays ((dats Vv 0 d).arrAt · 0) : sProp 𝕄) = StableHlo.held (d.tc : Thread nD τ) (arrRefs spec0) (Vv d) :=
  Pipeline.arrays_held (pcfgs (F := F)) padm (fun p c => dats Vv p c) 0 launch0.toP d ((dats Vv 0 d).share_full fun _ => rfl) ((dats Vv 0 d).arrAt · 0) (Vv d) (fun w => rfl)

theorem arrays_out (Vv : Dev nD → Valuation τ sig (Elt F)) (d : Dev nD) :
    ((dats Vv 0 d).arrays ((dats Vv 0 d).arrAt · cfg0.N) : sProp 𝕄) = StableHlo.held (d.tc : Thread nD τ) (arrRefs spec0) (Va Vv d) :=
  Pipeline.arrays_held (pcfgs (F := F)) padm (fun p c => dats Vv p c) 0 launch0.toP d ((dats Vv 0 d).share_full fun _ => rfl) ((dats Vv 0 d).arrAt · cfg0.N) (Va Vv d)
    (fun w => (Va_arr Vv d w).symm)

theorem region_pre (Vv : Dev nD → Valuation τ sig (Elt F)) (d : Dev nD) :
    (region Vv).pre d = iprop(StableHlo.held (d.tc : Thread nD τ) (arrRefs spec0) (Vv d) ∗ owesB d) := by
  rw [← arrays_in]; rfl

theorem region_post (Vv : Dev nD → Valuation τ sig (Elt F)) (d : Dev nD) :
    (region Vv).post d = iprop(StableHlo.held (d.tc : Thread nD τ) (arrRefs spec0) (Va Vv d) ∗ owesB d) := by
  rw [← arrays_out]; rfl

theorem held_rest (Vv : Dev nD → Valuation τ sig (Elt F)) (d : Dev nD) :
    (StableHlo.held (d.tc : Thread nD τ) (ucRefs τ sig \ arrRefs spec0) (Va Vv d) : sProp 𝕄)
      = StableHlo.held (d.tc : Thread nD τ) (ucRefs τ sig \ arrRefs spec0) (Vv d) := by
  unfold StableHlo.held
  refine BI.bigSep_congr fun b hb => ?_
  rw [show Va Vv d b = Vv d b from Pipeline.afterRegion_off (dats Vv 0 d) (Vv d) (ucRefs τ sig) b hb]

theorem region_step [∀ e, Nonempty (Elt F e)] (Vv : Dev nD → Valuation τ sig (Elt F)) (d : Dev nD) {Φ : PUnit.{1} → sProp 𝕄} :
    iprop((iprop(boundary (d.tc : Thread nD τ) ∗ StableHlo.held (d.tc : Thread nD τ) (ucRefs τ sig) (Va Vv d) ∗ owesB d) -∗ Φ ⟨⟩)
        ∗ boundary (d.tc : Thread nD τ) ∗ StableHlo.held (d.tc : Thread nD τ) (ucRefs τ sig) (Vv d) ∗ owesB d
        ∗ levAts (K (F := F)).L (K (F := F)).lev ∗ Ghost d)
      ⊢ wp frame (wpE ((K (F := F)).defs (D (F := F))) 𝒱 (SparseCore.T d) none) Set.univ
          (Prog.lift (.customCall (SparseCore.inner (Pipeline.entry 0)) ())) Φ := by
  have h1 := Pipeline.RegionSeg.wp (pcfgs (F := F)) padm (fun p c => dats Vv p c) none (launch0.toP.cellOf_inj padm) EP (defs₀ (F := F)) 𝒱₀
    (K (F := F)).L (K (F := F)).lev (region Vv) d none (fun u h => absurd h (Option.not_mem_none u)) .ret Φ
  have h2 := (K (F := F)).wp_liftProg (D (F := F)) 𝒱 (SparseCore.T d) Set.univ none (Prog.lift (.customCall (Pipeline.entry 0) ())) Φ
  refine Entails.trans ?_ (h1.trans h2)
  clear h1 h2
  have hsub : arrRefs (τ := τ) spec0 ⊆ ucRefs τ sig := Pipeline.arrRefs_sub_ucRefs spec0 winFacts0.arr_unscoped
  rw [region_pre, region_post, StableHlo.held_sub_split _ hsub (Vv d), StableHlo.held_sub_split _ hsub (Va Vv d), held_rest]
  unfold Ghost
  generalize (StableHlo.held (d.tc : Thread nD τ) (arrRefs spec0) (Vv d) : sProp 𝕄) = A1
  generalize (StableHlo.held (d.tc : Thread nD τ) (arrRefs spec0) (Va Vv d) : sProp 𝕄) = A2
  generalize (StableHlo.held (d.tc : Thread nD τ) (ucRefs τ sig \ arrRefs spec0) (Vv d) : sProp 𝕄) = R
  iintro ⟨Hk, Hb, ⟨Ha, Hr⟩, HO, HL, Hg, Ht⟩
  isplitl [Hk Hr]
  · iintro ⟨Hb, Ha, HO⟩
    rw [wp_ret]; imodintro
    iapply Hk
    isplitl [Hb]; · iexact Hb
    isplitr [HO]
    · isplitl [Ha]; · iexact Ha
      iexact Hr
    iexact HO
  isplitl [Hb]; · iexact Hb
  isplitl [Ha HO]
  · isplitl [Ha]; · iexact Ha
    iexact HO
  isplitl [HL]; · iexact HL
  isplitl [Hg]; · iexact Hg
  iexact Ht

end Cert.Pillar
-- ==== Proof.Chain.lean ====
/- The program's run: the host's operations, the TensorCore call, the SparseCore call, the result reshaped and transposed. -/
module

public import Idealize.ShloMosaic.Lib.StableHlo.Run
public import Idealize.ShloMosaic.Lib.Pipeline.Sound
public import Idealize.ShloMosaic.Lib.Pipeline.Frame
public import proofs.«01_k».proof.Proof.Host
public import proofs.«01_k».proof.Proof.Region

@[expose] public section

set_option maxRecDepth 16384

noncomputable section

namespace Cert.Pillar

open Cert.KernelIdeal Cert.KernelIdeal.Gen
open Idealize.ShloMosaic Idealize.ShloMosaic.TcCoe Idealize.ShloMosaic.Tactic Idealize.ShloMosaic.Transfers
open Idealize.ShloMosaic.SparseCore.Cfg (HIx Pay)
open Idealize.ShloMosaic.Pipeline (Dat arrRef arrRefs afterRegion ucRefs)
open Idealize.SL Idealize.SL.RA
open Idealize.SL.BI (sProp bigSep bigSep_singleton bigSep_univ_at)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev v (b : Ref sig .tc) : DevRef τ sig := Proc.devRef .tc b

abbrev opIdx : HloOp τ sig (Elt F) := StableHlo.reshape main_v36_1 main_v37 (rfl : (.i32 : EltTy) = .i32) shapeCasts_S196x1x1024_S200704
abbrev opRows : HloOp τ sig (Elt F) := StableHlo.reshape main_v38 main_v39 (rfl : (.f32 : EltTy) = .f32) shapeCasts_S32768x256_S2x128x128x256
abbrev opOut : HloOp τ sig (Elt F) := StableHlo.unary main_v39 main_v40 ((transpose S2x256x128x128 [0, 3, 1, 2] · transposes_S2x128x128x256_S2x256x128x128_0_3_1_2) : (⟨S2x128x128x256, .f32⟩ : BufTy).Contents (Elt F) → (⟨S2x256x128x128, .f32⟩ : BufTy).Contents (Elt F))

theorem main_chain (c : Dev nD) : main (F := F) c = (Pipeline.chain
  [ StableHlo.seq pre0, StableHlo.seq pre1, StableHlo.seq pre2, StableHlo.seq pre3, StableHlo.seq pre4, StableHlo.seq pre5, StableHlo.seq pre6,
    StableHlo.seq pre7, StableHlo.seq pre8, StableHlo.seq pre9, StableHlo.seq pre10,
    Prog.lift (.customCall (SparseCore.inner (Pipeline.entry 0)) ()),
    StableHlo.seq [opIdx], sc.run c 0, StableHlo.seq [opRows, opOut] ]) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.Pillar
-- ==== Proof.Main.lean ====
/- The program's run: the host's operations, the TensorCore call, the SparseCore call, the result reshaped and transposed. -/
module

public import Idealize.ShloMosaic.Lib.StableHlo.Run
public import Idealize.ShloMosaic.Lib.Pipeline.Sound
public import Idealize.ShloMosaic.Lib.Pipeline.Frame
public import proofs.«01_k».proof.Proof.Host
public import proofs.«01_k».proof.Proof.Step
public import proofs.«01_k».proof.Proof.Chain

@[expose] public section

set_option maxRecDepth 16384

noncomputable section

namespace Cert.Pillar

open Cert.KernelIdeal Cert.KernelIdeal.Gen
open Idealize.ShloMosaic Idealize.ShloMosaic.TcCoe Idealize.ShloMosaic.Tactic Idealize.ShloMosaic.Transfers
open Idealize.ShloMosaic.SparseCore.Cfg (HIx Pay)
open Idealize.ShloMosaic.Pipeline (Dat arrRef arrRefs afterRegion ucRefs)
open Idealize.SL Idealize.SL.RA
open Idealize.SL.BI (sProp bigSep bigSep_singleton bigSep_univ_at)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem seqs (d : Dev nD) (rest : List (Prog (TpuEff nD τ sig (Elt F) (SparseCore.Sig (ΛP (F := F)) 1) .tc) PUnit.{1})) {Φ : PUnit.{1} → sProp 𝕄} :
    ∀ (ls : List (List (HloOp τ sig (Elt F)))) (_ : ls.Forall fun ops => ops.Forall fun op => op.bufs ⊆ StableHlo.tcRefs τ sig) (_ : ls.Forall fun ops => ops.Forall fun op => op.fresh = ∅)
      (V : Valuation τ sig (Elt F)),
    iprop(boundary (d.tc : Thread nD τ) ∗ (StableHlo.held (d.tc : Thread nD τ) (ucRefs τ sig) V : sProp 𝕄))
      ⊢ iprop(((boundary (d.tc : Thread nD τ) ∗ (StableHlo.held (d.tc : Thread nD τ) (ucRefs τ sig) (StableHlo.after ls.flatten V) : sProp 𝕄))
                -∗ wp frame (wpE ((K (F := F)).defs (D (F := F))) 𝒱 (d.tc : Thread nD τ) none) Set.univ (Pipeline.chain rest) Φ)
        -∗ wp frame (wpE ((K (F := F)).defs (D (F := F))) 𝒱 (d.tc : Thread nD τ) none) Set.univ (Pipeline.chain (ls.map StableHlo.seq ++ rest)) Φ)
  | [], _, _, V => by
    rw [List.map_nil, List.nil_append, List.flatten_nil, StableHlo.after_nil]
    iintro H Hk; iapply Hk; iexact H
  | ops :: ls, hs, hf, V => by
    rw [List.map_cons, List.cons_append, Pipeline.chain_cons, List.flatten_cons, StableHlo.after_append]
    have hs' := List.forall_iff_forall_mem.mp hs
    have hf' := List.forall_iff_forall_mem.mp hf
    iintro H Hk
    iapply (StableHlo.wp_seq 𝒱 none Set.univ d (ucRefs τ sig) (fun _ => Pipeline.chain (ls.map StableHlo.seq ++ rest)) ops
      (fun op h => Pipeline.sub_ucRefs op (List.forall_iff_forall_mem.mp (hs' ops List.mem_cons_self) op h))
      (fun op h => List.forall_iff_forall_mem.mp (hf' ops List.mem_cons_self) op h) V) $$ H
    iintro H
    iapply (seqs d rest ls (List.forall_iff_forall_mem.mpr fun o h => hs' o (List.mem_cons_of_mem _ h)) (List.forall_iff_forall_mem.mpr fun o h => hf' o (List.mem_cons_of_mem _ h)) (StableHlo.after ops V)) $$ H
    iexact Hk

/-- The host's operations before the first call. -/
abbrev pres : List (List (HloOp τ sig (Elt F))) := [pre0, pre1, pre2, pre3, pre4, pre5, pre6, pre7, pre8, pre9, pre10]

variable (m : (ℓ : Loc nD τ sig) → Buf (Elt F) ℓ) (ρ : Dev nD → PrngReg) (d : Dev nD)

/-- The arrays at launch; before the TensorCore call; after it and the row of indices. -/
def V0 (d : Dev nD) : Valuation τ sig (Elt F) := fun b => m (d, b)
def Vt (d : Dev nD) : Valuation τ sig (Elt F) := StableHlo.after pres.flatten (V0 m d)
def V1 (d : Dev nD) : Valuation τ sig (Elt F) := (opIdx (F := F)).result (Va (Vt m) d)

/-- The SparseCore call's arguments: what the TensorCore call leaves. -/
def Hm (d : Dev nD) : S200704x256.Idx → F .f32 := (dats (Vt m) 0 d).arrAt 11 cfg0.N
def Im3 (d : Dev nD) : S196x1x1024.Idx → BitVec 32 := (dats (Vt m) 0 d).arrAt 12 cfg0.N
def Im (d : Dev nD) : S200704.Idx → BitVec 32 := shapeCast (α := Elt F .i32) S200704 (Im3 m d) shapeCasts_S196x1x1024_S200704
def Bmm (d : Dev nD) : S196x128x64.Idx → BitVec 32 := (dats (Vt m) 0 d).arrAt 13 cfg0.N

/-- The program's result from the SparseCore call's. -/
def outOf (X : S32768x256.Idx → Elt F .f32) : S2x256x128x128.Idx → Elt F .f32 :=
  transpose S2x256x128x128 [0, 3, 1, 2] (shapeCast S2x128x128x256 X shapeCasts_S32768x256_S2x128x128x256) transposes_S2x128x128x256_S2x256x128x128_0_3_1_2

abbrev loc (b : Ref sig .tc) : Loc nD τ sig := (d.tc : Thread nD τ).loc b

abbrev argRefs : Finset (Ref sig .tc) := {main_arg0, main_arg1, main_arg2, main_arg3, main_arg4, main_arg5, main_arg6, main_arg7, main_arg8}
abbrev useRefs : Finset (Ref sig .tc) := {main_v36_0, main_v36_2, main_v37, main_v38, main_v39, main_v40}
abbrev up (S : Finset (Ref sig .tc)) : Finset (DevRef τ sig) := S.map ⟨Proc.devRef (sig := sig) (.tc : Proc τ), Proc.devRef_injective _⟩

theorem held_up (S : Finset (Ref sig .tc)) (W : Valuation τ sig (Elt F)) :
    (StableHlo.held (d.tc : Thread nD τ) (up S) W : sProp 𝕄) = bigSep S fun b => (loc d b ↦{fullShare} W (v b)) := by
  unfold StableHlo.held
  exact BI.bigSep_map _

theorem up_sub (S : Finset (Ref sig .tc)) (h : ∀ b ∈ S, b.isScoped = false) : up S ⊆ ucRefs τ sig := fun b hb => by
  obtain ⟨r, hr, rfl⟩ := Finset.mem_map.mp hb
  exact Finset.mem_filter.mpr ⟨StableHlo.devRef_mem_tcRefs r, fun h' => Bool.false_ne_true ((h r hr).symm.trans h')⟩

/-- The arrays the rest of the program uses, out of all the arrays held. -/
theorem take (W : Valuation τ sig (Elt F)) : (StableHlo.held (d.tc : Thread nD τ) (ucRefs τ sig) W : sProp 𝕄)
    ⊢ iprop((bigSep argRefs fun b => (loc d b ↦{fullShare} W (v b))) ∗ (loc d main_v36_0 ↦{fullShare} W (v main_v36_0)) ∗ (loc d main_v36_2 ↦{fullShare} W (v main_v36_2))
      ∗ (loc d main_v37 ↦{fullShare} W (v main_v37)) ∗ (loc d main_v38 ↦{fullShare} W (v main_v38)) ∗ (loc d main_v39 ↦{fullShare} W (v main_v39)) ∗ loc d main_v40 ↦{fullShare} W (v main_v40)) := by
  rw [StableHlo.held_sub_split _ (up_sub (argRefs ∪ useRefs) (by decide)) W, held_up, BI.bigSep_union (by decide : Disjoint argRefs useRefs)]
  rw [SparseCore.bigSep_insert' (s := {main_v36_2, main_v37, main_v38, main_v39, main_v40}) (by decide), SparseCore.bigSep_insert' (s := {main_v37, main_v38, main_v39, main_v40}) (by decide),
    SparseCore.bigSep_insert' (s := {main_v38, main_v39, main_v40}) (by decide), SparseCore.bigSep_insert' (s := {main_v39, main_v40}) (by decide), SparseCore.bigSep_insert' (s := {main_v40}) (by decide), bigSep_singleton]
  iintro ⟨H, -⟩
  iexact H

theorem held_three (W : Valuation τ sig (Elt F)) : (StableHlo.held (d.tc : Thread nD τ) (up {main_v38, main_v39, main_v40}) W : sProp 𝕄)
    = iprop((loc d main_v38 ↦{fullShare} W (v main_v38)) ∗ (loc d main_v39 ↦{fullShare} W (v main_v39)) ∗ loc d main_v40 ↦{fullShare} W (v main_v40)) := by
  rw [held_up, SparseCore.bigSep_insert' (s := {main_v39, main_v40}) (by decide), SparseCore.bigSep_insert' (s := {main_v40}) (by decide), bigSep_singleton]

set_option maxHeartbeats 1000000 in
theorem pre_keeps (b : Ref sig .tc) (hb : b ∈ argRefs) (W : Valuation τ sig (Elt F)) : StableHlo.after pres.flatten W (v b) = W (v b) :=
  StableHlo.after_of_forall_not_mem (b := v b) _ _ (List.forall_iff_forall_mem.mp (by
    simp only [Finset.mem_insert, Finset.mem_singleton] at hb
    rcases hb with rfl | rfl | rfl | rfl | rfl | rfl | rfl | rfl | rfl
    all_goals
      simp only [pres, pre0, pre1, pre2, pre3, pre4, pre5, pre6, pre7, pre8, pre9, pre10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem Va_keeps (b : Ref sig .tc) (hb : b ∈ argRefs) (Vv : Dev nD → Valuation τ sig (Elt F)) : Va Vv d (v b) = Vv d (v b) :=
  Pipeline.afterRegion_keeps (dats Vv 0 d) (Vv d) winFacts0.arr_inj (fun w => A_eq Vv d w) b
    ((by decide : ∀ b ∈ argRefs, ∀ w : Fin cfg0.W, arrRef spec0 w = b → (cfg0.win w).isOut = false) b hb)

theorem idx_ne (b : Ref sig .tc) (h : b ≠ main_v37) (W : Valuation τ sig (Elt F)) : (opIdx (F := F)).result W (v b) = W (v b) :=
  (opIdx (F := F)).result_of_not_mem W (by rw [StableHlo.reshape_writes, Finset.mem_singleton]; exact StableHlo.devRef_ne_of_ne h)

theorem V1_arg (b : Ref sig .tc) (hb : b ∈ argRefs) : V1 m d (v b) = m (loc d b) := by
  unfold V1
  rw [idx_ne b ((by decide : ∀ b ∈ argRefs, b ≠ main_v37) b hb), Va_keeps d b hb]
  unfold Vt
  rw [pre_keeps b hb]
  rfl

theorem V1_h : V1 m d (v main_v36_0) = Hm m d := (idx_ne main_v36_0 (by decide) _).trans (Va_arr (Vt m) d 11)
theorem V1_bm : V1 m d (v main_v36_2) = Bmm m d := (idx_ne main_v36_2 (by decide) _).trans (Va_arr (Vt m) d 13)
theorem V1_idx : V1 m d (v main_v37) = Im m d := by
  unfold V1
  rw [StableHlo.reshape_result]
  exact congrArg (fun J : S196x1x1024.Idx → BitVec 32 => shapeCast (α := Elt F .i32) S200704 J shapeCasts_S196x1x1024_S200704) (Va_arr (Vt m) d 12)

def V2 (X : S32768x256.Idx → Elt F .f32) : Valuation τ sig (Elt F) := Function.update (V1 m d) (v main_v38) X

theorem V2_38 (X : S32768x256.Idx → Elt F .f32) : V2 m d X (v main_v38) = X := by unfold V2; rw [Function.update_self]
theorem V2_39 (X : S32768x256.Idx → Elt F .f32) : V2 m d X (v main_v39) = V1 m d (v main_v39) := Function.update_of_ne (StableHlo.devRef_ne_of_ne (by decide)) _ _
theorem V2_40 (X : S32768x256.Idx → Elt F .f32) : V2 m d X (v main_v40) = V1 m d (v main_v40) := Function.update_of_ne (StableHlo.devRef_ne_of_ne (by decide)) _ _

theorem out_after (X : S32768x256.Idx → Elt F .f32) : StableHlo.after [opRows, opOut] (V2 m d X) (v main_v40) = outOf X := by
  rw [StableHlo.after_cons, StableHlo.after_cons, StableHlo.after_nil, StableHlo.unary_result, StableHlo.reshape_result]
  unfold V2
  rw [Function.update_self]
  rfl

/-- What the program leaves: the arguments as they were, the result from a finished canvas. -/
def FIN : sProp 𝕄 :=
  iprop(∃ X : S32768x256.Idx → Elt F .f32, ⌜CanvasOK (Hm m d) (Im m d) (Bmm m d) X⌝ ∗ (bigSep argRefs fun b => (loc d b ↦{fullShare} m (loc d b))) ∗ loc d main_v40 ↦{fullShare} outOf X)

theorem tcSt_owes : ((K (F := F)).tcSt EH d 0 : sProp 𝕄) ⊢ iprop(owesB d ∗ (owesB d -∗ (K (F := F)).tcSt EH d 0)) := by
  unfold SparseCore.Cfg.tcSt owesB
  iintro ⟨HO, Hr⟩
  isplitl [HO]; · iexact HO
  iintro HO
  isplitl [HO]; · iexact HO
  iexact Hr

theorem tail_sub : ∀ op ∈ ([opRows, opOut] : List (HloOp τ sig (Elt F))), op.bufs ⊆ up {main_v38, main_v39, main_v40} := by
  intro op h
  rcases List.mem_cons.mp h with rfl | h
  · exact Finset.Subset.trans (s₂ := {v main_v38, v main_v39}) (Finset.Subset.refl _) (by decide)
  · obtain rfl := List.mem_singleton.mp h
    exact Finset.Subset.trans (s₂ := {v main_v39, v main_v40}) (Finset.Subset.refl _) (by decide)

theorem tail_fresh : ∀ op ∈ ([opRows, opOut] : List (HloOp τ sig (Elt F))), op.fresh = ∅ := by
  intro op h
  rcases List.mem_cons.mp h with rfl | h
  · rfl
  · obtain rfl := List.mem_singleton.mp h
    rfl

theorem tail [∀ e, Nonempty (Elt F e)] (κ : GSem nD τ sig → ℕ) :
    iprop((K (F := F)).ctx EH (P (Hm m) (Im m) (Bmm m)) κ ∗ (K (F := F)).tcSt EH d 0 ∗ (K (F := F)).tcSems0 d ∗ boundary (d.tc : Thread nD τ) ∗ StableHlo.held (d.tc : Thread nD τ) (ucRefs τ sig) (V1 m d))
      ⊢ wp frame (wpE ((K (F := F)).defs (D (F := F))) 𝒱 (SparseCore.T d) none) Set.univ (Pipeline.chain [sc.run d 0, StableHlo.seq [opRows, opOut]])
          fun _ => iprop((K (F := F)).tcSt EH d 1 ∗ FIN m d ∗ (K (F := F)).tcEnd d) := by
  unfold SparseCore.Cfg.tcEnd
  rw [Pipeline.chain_cons, wp_bind]
  iintro ⟨#Hctx, Hst, Hts, Hb, Hh⟩
  ihave Hh := (take d (V1 m d)) $$ Hh
  icases Hh with ⟨Hargs, Ha1, Ha2, Hv0, Hv1, Hv2, Hv3⟩
  ihave Hargs := (eq_entails (BI.bigSep_congr (fun b hb => congrArg (fun f => (loc d b ↦{fullShare} f : sProp 𝕄)) (V1_arg m d b hb)))) $$ Hargs
  ihave Ha1 := (eq_entails (congrArg (fun f => (loc d main_v36_0 ↦{fullShare} f : sProp 𝕄)) (V1_h m d))) $$ Ha1
  ihave Ha2 := (eq_entails (congrArg (fun f => (loc d main_v36_2 ↦{fullShare} f : sProp 𝕄)) (V1_bm m d))) $$ Ha2
  ihave Hv0 := (eq_entails (congrArg (fun f => (loc d main_v37 ↦{fullShare} f : sProp 𝕄)) (V1_idx m d))) $$ Hv0
  ihave Hin := (call_in (Hm m) (Im m) (Bmm m) d) $$ [Hv0 Ha1 Ha2 Hv1]
  · unfold shared Cert.Pillar.held
    simp only [owns_whole]
    isplitl [Hv0]; · iexists fullShare; iexact Hv0
    isplitl [Ha1]; · iexists fullShare; iexact Ha1
    isplitl [Ha2]; · iexists fullShare; iexact Ha2
    iexists (V1 m d (v main_v38)); iexact Hv1
  icases Hin with ⟨Hin, -, -⟩
  iapply ((K (F := F)).wp_run (D (F := F)) 𝒱 (EH := EH) (P := P (Hm m) (Im m) (Bmm m)) κ d 0) $$ [Hst Hin Hb Hargs Hv2 Hv3 Hts]
  isplitr; · iexact Hctx
  isplitl [Hst]; · iexact Hst
  isplitl [Hin]; · iexact Hin
  iintro ⟨Hst, Hdn⟩
  ihave Hdn := (call_out (Hm m) (Im m) (Bmm m) d) $$ Hdn
  icases Hdn with ⟨%X, %hX, Hv1⟩
  ihave Hv1 := (eq_entails (owns_whole (tile d i₀) main_v38_scv fullShare X)) $$ Hv1
  rw [Pipeline.chain_cons]
  iapply (StableHlo.wp_seq 𝒱 none Set.univ d (up {main_v38, main_v39, main_v40}) (fun _ => Pipeline.chain []) [opRows, opOut]
    tail_sub tail_fresh (V2 m d X)) $$ [Hb Hv1 Hv2 Hv3]
  · isplitl [Hb]; · iexact Hb
    iapply (eq_entails (held_three d (V2 m d X)).symm)
    isplitl [Hv1]
    · iapply (eq_entails (congrArg (fun f => (loc d main_v38 ↦{fullShare} f : sProp 𝕄)) (V2_38 m d X).symm))
      iexact Hv1
    isplitl [Hv2]
    · iapply (eq_entails (congrArg (fun f => (loc d main_v39 ↦{fullShare} f : sProp 𝕄)) (V2_39 m d X).symm))
      iexact Hv2
    iapply (eq_entails (congrArg (fun f => (loc d main_v40 ↦{fullShare} f : sProp 𝕄)) (V2_40 m d X).symm))
    iexact Hv3
  iintro ⟨Hb, Hheld⟩
  ihave Hheld := (eq_entails (held_three d _)) $$ Hheld
  icases Hheld with ⟨-, -, Hv3⟩
  ihave Hv3 := (eq_entails (congrArg (fun f => (loc d main_v40 ↦{fullShare} f : sProp 𝕄)) (out_after m d X))) $$ Hv3
  rw [Pipeline.chain_nil, wp_pure]; imodintro
  isplitl [Hst]; · iexact Hst
  isplitr [Hb Hts]
  · unfold FIN
    iexists X
    isplitr; · ipureintro; exact hX
    isplitl [Hargs]; · iexact Hargs
    iexact Hv3
  isplitl [Hb] <;> iassumption

theorem hmain [∀ e, Nonempty (Elt F e)] (κ : GSem nD τ sig → ℕ) :
    iprop((K (F := F)).ctx EH (P (Hm m) (Im m) (Bmm m)) κ ∗ (K (F := F)).tcSt EH d 0 ∗ (K (F := F)).tcRes m ρ d ∗ Ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes
  rw [main_chain, show unscopedBufs d (fun b => m ((d.tc : Thread nD τ).loc b)) = (StableHlo.held (d.tc : Thread nD τ) (ucRefs τ sig) (V0 m d) : sProp 𝕄) from Pipeline.unscopedBufs_held d (V0 m d)]
  iintro ⟨#Hctx, Hst, ⟨Hb, Hh, Hts, -⟩, Hg⟩
  iapply (seqs d [Prog.lift (.customCall (SparseCore.inner (Pipeline.entry 0)) ()), StableHlo.seq [opIdx], sc.run d 0, StableHlo.seq [opRows, opOut]] pres
    ⟨pre0_sub, pre1_sub, pre2_sub, pre3_sub, pre4_sub, pre5_sub, pre6_sub, pre7_sub, pre8_sub, pre9_sub, pre10_sub⟩
    ⟨pre0_fresh, pre1_fresh, pre2_fresh, pre3_fresh, pre4_fresh, pre5_fresh, pre6_fresh, pre7_fresh, pre8_fresh, pre9_fresh, pre10_fresh⟩ (V0 m d)) $$ [Hb Hh]
  · isplitl [Hb] <;> iassumption
  iintro ⟨Hb, Hh⟩
  rw [Pipeline.chain_cons, wp_bind]
  ihave Hst := (tcSt_owes d) $$ Hst
  icases Hst with ⟨HO, Hst⟩
  iapply (region_step (Vt m) d) $$ [Hctx Hst Hb Hh Hts HO Hg]
  isplitl [Hst Hts]
  · iintro ⟨Hb, Hh, HO⟩
    ihave Hst := Hst $$ HO
    iapply (seqs d [sc.run d 0, StableHlo.seq [opRows, opOut]] [[opIdx]] (by simp only [List.Forall]; exact StableHlo.reshape_bufs_sub ..) (by simp only [List.Forall]; rfl) (Va (Vt m) d)) $$ [Hb Hh]
    · isplitl [Hb] <;> iassumption
    iintro ⟨Hb, Hh⟩
    iapply (tail m d κ)
    isplitr; · iexact Hctx
    isplitl [Hst]; · iexact Hst
    isplitl [Hts]; · iexact Hts
    isplitl [Hb]; · iexact Hb
    iexact Hh
  isplitl [Hb]; · iexact Hb
  isplitl [Hh]; · iexact Hh
  isplitl [HO]; · iexact HO
  isplitr; · iapply ((K (F := F)).ctx_levAts (EH := EH) (P := P (Hm m) (Im m) (Bmm m)) κ); iexact Hctx
  iexact Hg

/-- What is read of the final memory. -/
def fq (s' : Phys nD τ sig (Elt F)) : Prop :=
  ∃ X : S32768x256.Idx → Elt F .f32, CanvasOK (Hm m d) (Im m d) (Bmm m d) X ∧ s'.mem.mem (loc d main_v40) = outOf X
    ∧ ∀ b ∈ argRefs, s'.mem.mem (loc d b) = m (loc d b)

theorem kept (s' : Phys nD τ sig (Elt F)) (S : Finset (Ref sig .tc)) :
    iprop((bigSep S fun b => (loc d b ↦{fullShare} m (loc d b))) ∗ SI s') ⊢ (⌜∀ b ∈ S, s'.mem.mem (loc d b) = m (loc d b)⌝ : sProp 𝕄) := by
  induction S using Finset.induction_on with
  | empty => iintro -; ipureintro; intro b hb; exact absurd hb (Finset.notMem_empty b)
  | insert a S ha ih =>
    rw [SparseCore.bigSep_insert' ha]
    iintro ⟨⟨Ha, HS⟩, HSI⟩
    ihave HH := (persistent_entails_right (SI_pointsTo_agree (st := s') (ℓ := loc d a) (I := Finset.univ) (q := fullShare) (f := m (loc d a)))) $$ [HSI Ha]
    · isplitl [HSI] <;> iassumption
    icases HH with ⟨%h0, HSI, -⟩
    ihave HH := ih $$ [HS HSI]
    · isplitl [HS] <;> iassumption
    icases HH with %h1
    ipureintro
    intro b hb
    rcases Finset.mem_insert.mp hb with rfl | hb
    · exact funext fun i => h0 i (Finset.mem_univ i)
    · exact h1 b hb

theorem hfin (s' : Phys nD τ sig (Elt F)) : iprop(FIN m d ∗ SI s') ⊢ (⌜fq m d s'⌝ : sProp 𝕄) := by
  unfold FIN
  iintro ⟨⟨%X, %hX, Hargs, Hv3⟩, HSI⟩
  ihave HH := (persistent_entails_right (SI_pointsTo_agree (st := s') (ℓ := loc d main_v40) (I := Finset.univ) (q := fullShare) (f := outOf X))) $$ [HSI Hv3]
  · isplitl [HSI] <;> iassumption
  icases HH with ⟨%h3, HSI, -⟩
  ihave HH := (kept m d s' argRefs) $$ [Hargs HSI]
  · isplitl [Hargs] <;> iassumption
  icases HH with %h
  ipureintro
  exact ⟨X, hX, funext fun i => h3 i (Finset.mem_univ i), h⟩

def QC : PUnit × MemSt nD τ sig (Elt F) → Prop := fun r =>
  (∀ d : Dev nD, ∃ X : S32768x256.Idx → Elt F .f32, CanvasOK (Hm m d) (Im m d) (Bmm m d) X ∧ r.2.mem (loc d main_v40) = outOf X
    ∧ ∀ b ∈ argRefs, r.2.mem (loc d b) = m (loc d b)) ∧ r.2.sem = fun _ => 0

/-- Every run ends with the result made of a finished canvas, the arguments kept, every counter back at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Hm m) (Im m) (Bmm m)) (A := ∅) facts v₀
    (fun q hq => match q with | 0 => nomatch hq)
    (fun q _ => match q with | 0 => tileObl (Hm m) (Im m) (Bmm m))
    (fun q _ => match q with | 0 => SparseCore.Cfg.VecSplit.of_plain (vecSplit (Hm m) (Im m) (Bmm m)))
    m ρ main (fun d => Ghost d) (fun d => FIN m d) (u₀ (F := F)) (sep_elim_left.trans (hu₀ (Hm m) (Im m) (Bmm m))) (fun κ d => hmain m ρ d κ) (fun d => fq m d) (fun d s' => hfin m d s') (QC m) (fun _ h hz => ⟨h, hz⟩)

end Cert.Pillar
-- ==== Proof.HostAt.lean ====
/- What the host's operations hand the TensorCore call, entry by entry. -/
module

public import Idealize.ShloMosaic.Lib.Pointwise
public import Idealize.ShloMosaic.Lib.WordCmp
public import proofs.«01_k».proof.Proof.Coord
public import proofs.«01_k».proof.Proof.Main

@[expose] public section

set_option maxRecDepth 16384

noncomputable section

namespace Cert.Pillar

open Cert.KernelIdeal Cert.KernelIdeal.Gen
open Idealize.ShloMosaic Idealize.ShloMosaic.TcCoe

/-- The reciprocal by which the products are scaled. -/
def invOf : EReal := (Host.divf (F := Ideal) (constant S_ .f32 0x3F800000#32) (Host.sqrt (constant S_ .f32 0x3F800054#32)) : FVec Ideal S_ .f32) ix0

variable (W : Valuation τ sig (Elt Ideal))

set_option maxHeartbeats 2000000 in
theorem v1_at (j : Fin 3) (n : Fin 200704) (h : n.val < 200000) :
    (StableHlo.after pres.flatten W (v main_v1) : FVec Ideal S3x200704 .f32) (ix2 j n) = (W (v main_arg0) : FVec Ideal S200000x3 .f32) (ix2 ⟨n.val, h⟩ j) := by
  simp only [pres, pre0, pre1, pre2, pre3, pre4, pre5, pre6, pre7, pre8, pre9, pre10, List.flatten_cons, List.flatten_nil, List.append_nil, List.cons_append, List.nil_append, StableHlo.TRef.binary, StableHlo.TRef.ternary, StableHlo.TRef.unary, StableHlo.TRef.nullary, StableHlo.TRef.toBuf, StableHlo.TRef.ofBuf, cast_eq]
  after_results_simp
  generalize W (Proc.devRef .tc main_arg0) = x
  pointwise
  exact dif_pos h

set_option maxHeartbeats 2000000 in
theorem v2_at (n : Fin 200704) (j : Fin 64) (h : n.val < 200000) :
    (StableHlo.after pres.flatten W (v main_v2) : FVec Ideal S200704x64 .f32) (ix2 n j) = (W (v main_arg2) : FVec Ideal S200000x64 .f32) (ix2 ⟨n.val, h⟩ j) := by
  simp only [pres, pre0, pre1, pre2, pre3, pre4, pre5, pre6, pre7, pre8, pre9, pre10, List.flatten_cons, List.flatten_nil, List.append_nil, List.cons_append, List.nil_append, StableHlo.TRef.binary, StableHlo.TRef.ternary, StableHlo.TRef.unary, StableHlo.TRef.nullary, StableHlo.TRef.toBuf, StableHlo.TRef.ofBuf, cast_eq]
  after_results_simp
  generalize W (Proc.devRef .tc main_arg2) = x
  pointwise
  exact dif_pos h

set_option maxHeartbeats 2000000 in
theorem v6_at (j : Fin 64) (k : Fin 128) :
    (StableHlo.after pres.flatten W (v main_v6) : FVec Ideal S64x128 .f32) (ix2 j k) = (W (v main_arg3) : FVec Ideal S128x67 .f32) (ix2 k ⟨3 + j.val, by omega⟩) := by
  simp only [pres, pre0, pre1, pre2, pre3, pre4, pre5, pre6, pre7, pre8, pre9, pre10, List.flatten_cons, List.flatten_nil, List.append_nil, List.cons_append, List.nil_append, StableHlo.TRef.binary, StableHlo.TRef.ternary, StableHlo.TRef.unary, StableHlo.TRef.nullary, StableHlo.TRef.toBuf, StableHlo.TRef.ofBuf, cast_eq]
  after_results_simp
  generalize W (Proc.devRef .tc main_arg3) = x
  pointwise

set_option maxHeartbeats 2000000 in
theorem v9_at (j : Fin 8) (k : Fin 128) (h : j.val < 3) :
    (StableHlo.after pres.flatten W (v main_v9) : FVec Ideal S8x128 .f32) (ix2 j k) = (W (v main_arg3) : FVec Ideal S128x67 .f32) (ix2 k ⟨j.val, by omega⟩) := by
  simp only [pres, pre0, pre1, pre2, pre3, pre4, pre5, pre6, pre7, pre8, pre9, pre10, List.flatten_cons, List.flatten_nil, List.append_nil, List.cons_append, List.nil_append, StableHlo.TRef.binary, StableHlo.TRef.ternary, StableHlo.TRef.unary, StableHlo.TRef.nullary, StableHlo.TRef.toBuf, StableHlo.TRef.ofBuf, cast_eq]
  after_results_simp
  generalize W (Proc.devRef .tc main_arg3) = x
  pointwise
  exact dif_pos h

set_option maxHeartbeats 2000000 in
theorem v12_at (k : Fin 128) :
    (StableHlo.after pres.flatten W (v main_v12) : FVec Ideal S1x128 .f32) (ix2 0 k) = invOf * (W (v main_arg4) : FVec Ideal S128 .f32) (ix1 k) := by
  simp only [pres, pre0, pre1, pre2, pre3, pre4, pre5, pre6, pre7, pre8, pre9, pre10, List.flatten_cons, List.flatten_nil, List.append_nil, List.cons_append, List.nil_append, StableHlo.TRef.binary, StableHlo.TRef.ternary, StableHlo.TRef.unary, StableHlo.TRef.nullary, StableHlo.TRef.toBuf, StableHlo.TRef.ofBuf, cast_eq]
  after_results_simp
  generalize W (Proc.devRef .tc main_arg4) = x
  unfold invOf
  pointwise

set_option maxHeartbeats 2000000 in
theorem v13_at (k : Fin 128) :
    (StableHlo.after pres.flatten W (v main_v13) : FVec Ideal S1x128 .f32) (ix2 0 k) = (W (v main_arg5) : FVec Ideal S128 .f32) (ix1 k) := by
  simp only [pres, pre0, pre1, pre2, pre3, pre4, pre5, pre6, pre7, pre8, pre9, pre10, List.flatten_cons, List.flatten_nil, List.append_nil, List.cons_append, List.nil_append, StableHlo.TRef.binary, StableHlo.TRef.ternary, StableHlo.TRef.unary, StableHlo.TRef.nullary, StableHlo.TRef.toBuf, StableHlo.TRef.ofBuf, cast_eq]
  after_results_simp
  generalize W (Proc.devRef .tc main_arg5) = x
  pointwise

set_option maxHeartbeats 2000000 in
theorem v14_at (k : Fin 128) (c : Fin 256) :
    (StableHlo.after pres.flatten W (v main_v14) : FVec Ideal S128x256 .f32) (ix2 k c) = (W (v main_arg6) : FVec Ideal S256x128 .f32) (ix2 c k) := by
  simp only [pres, pre0, pre1, pre2, pre3, pre4, pre5, pre6, pre7, pre8, pre9, pre10, List.flatten_cons, List.flatten_nil, List.append_nil, List.cons_append, List.nil_append, StableHlo.TRef.binary, StableHlo.TRef.ternary, StableHlo.TRef.unary, StableHlo.TRef.nullary, StableHlo.TRef.toBuf, StableHlo.TRef.ofBuf, cast_eq]
  after_results_simp
  generalize W (Proc.devRef .tc main_arg6) = x
  pointwise

set_option maxHeartbeats 2000000 in
theorem v17_at (k : Fin 256) :
    (StableHlo.after pres.flatten W (v main_v17) : FVec Ideal S1x256 .f32) (ix2 0 k) = invOf * (W (v main_arg7) : FVec Ideal S256 .f32) (ix1 k) := by
  simp only [pres, pre0, pre1, pre2, pre3, pre4, pre5, pre6, pre7, pre8, pre9, pre10, List.flatten_cons, List.flatten_nil, List.append_nil, List.cons_append, List.nil_append, StableHlo.TRef.binary, StableHlo.TRef.ternary, StableHlo.TRef.unary, StableHlo.TRef.nullary, StableHlo.TRef.toBuf, StableHlo.TRef.ofBuf, cast_eq]
  after_results_simp
  generalize W (Proc.devRef .tc main_arg7) = x
  unfold invOf
  pointwise

set_option maxHeartbeats 2000000 in
theorem v18_at (k : Fin 256) :
    (StableHlo.after pres.flatten W (v main_v18) : FVec Ideal S1x256 .f32) (ix2 0 k) = (W (v main_arg8) : FVec Ideal S256 .f32) (ix1 k) := by
  simp only [pres, pre0, pre1, pre2, pre3, pre4, pre5, pre6, pre7, pre8, pre9, pre10, List.flatten_cons, List.flatten_nil, List.append_nil, List.cons_append, List.nil_append, StableHlo.TRef.binary, StableHlo.TRef.ternary, StableHlo.TRef.unary, StableHlo.TRef.nullary, StableHlo.TRef.toBuf, StableHlo.TRef.ofBuf, cast_eq]
  after_results_simp
  generalize W (Proc.devRef .tc main_arg8) = x
  pointwise

/-- A word by sixteen, rounded down, and the rest, as the host divides. -/
def signOf (w : BitVec 32) : BitVec 32 := if w = 0 then 0 else if w.msb = true then -1 else 1
def quot16 (w : BitVec 32) : BitVec 32 :=
  Scalar.select (IntOp.andi (IntOp.cmpi .ne (signOf w) (signOf 16#32)) (IntOp.cmpi .ne (IntOp.remsi .host w 16#32) 0#32))
    (IntOp.subi (IntOp.divsi .host w 16#32) 1#32) (IntOp.divsi .host w 16#32)
def divisor16 : BitVec 32 := Scalar.select (IntOp.cmpi .eq 16#32 0#32) 1#32 16#32
def rest16 (w : BitVec 32) : BitVec 32 :=
  Scalar.select (IntOp.andi (IntOp.cmpi .ne (IntOp.cmpi .slt (IntOp.remsi .host w divisor16) 0#32) (IntOp.cmpi .slt divisor16 0#32)) (IntOp.cmpi .ne (IntOp.remsi .host w divisor16) 0#32))
    (IntOp.addi (IntOp.remsi .host w divisor16) divisor16) (IntOp.remsi .host w divisor16)

theorem quot16_eq : ∀ i : Fin 1024, quot16 (BitVec.ofNat 32 i.val) = BitVec.ofNat 32 (i.val / 16) := by decide +kernel
theorem rest16_nonneg : ∀ i : Fin 1024, 0 ≤ (rest16 (BitVec.ofNat 32 i.val)).toInt := by decide +kernel

set_option maxHeartbeats 2000000 in
theorem v35_at (i : Fin 1024) (k : Fin 64) :
    (StableHlo.after pres.flatten W (v main_v35) : FVec Ideal S1024x64 .f32) (ix2 i k)
      = FloatOps.uitofp (F := Ideal) .f32 (IntOp.cmpi .eq (quot16 (BitVec.ofNat 32 i.val)) (BitVec.ofNat 32 k.val))
        * Ideal.pow (Ideal.ofBits .f32 0x40000000#32) (FloatOps.sitofp (F := Ideal) .f32 (rest16 (BitVec.ofNat 32 i.val))) := by
  simp only [pres, pre0, pre1, pre2, pre3, pre4, pre5, pre6, pre7, pre8, pre9, pre10, List.flatten_cons, List.flatten_nil, List.append_nil, List.cons_append, List.nil_append, StableHlo.TRef.binary, StableHlo.TRef.ternary, StableHlo.TRef.unary, StableHlo.TRef.nullary, StableHlo.TRef.toBuf, StableHlo.TRef.ofBuf, cast_eq]
  after_results_simp
  pointwise
  rfl

theorem two_eq : Ideal.ofBits .f32 0x40000000#32 = ((2 : ℝ) : EReal) := by
  simp [Ideal.ofBits, Ideal.ieee, -EReal.coe_mul]; norm_num

theorem power_ge (w : BitVec 32) (h : 0 ≤ w.toInt) : (1 : EReal) ≤ Ideal.pow (Ideal.ofBits .f32 0x40000000#32) (FloatOps.sitofp (F := Ideal) .f32 w) := by
  rw [two_eq]
  show (1 : EReal) ≤ ((Real.rpow 2 (w.toInt : ℝ) : ℝ) : EReal)
  exact EReal.coe_le_coe_iff.2 (Real.one_le_rpow (by norm_num : (1 : ℝ) ≤ 2) (by exact_mod_cast h : (0 : ℝ) ≤ (w.toInt : ℝ)))

/-- No entry is negative, and a point's own word has at least one. -/
theorem v35_nonneg (i : Fin 1024) (k : Fin 64) : (0 : EReal) ≤ (StableHlo.after pres.flatten W (v main_v35) : FVec Ideal S1024x64 .f32) (ix2 i k) := by
  rw [v35_at]
  refine mul_nonneg ?_ (zero_le_one.trans (power_ge _ (rest16_nonneg i)))
  show (0 : EReal) ≤ ((((_ : BitVec 1).toNat : ℝ)) : EReal)
  exact_mod_cast Nat.zero_le _

theorem v35_own (i : Fin 1024) (k : Fin 64) (h : i.val / 16 = k.val) : (1 : EReal) ≤ (StableHlo.after pres.flatten W (v main_v35) : FVec Ideal S1024x64 .f32) (ix2 i k) := by
  rw [v35_at, quot16_eq, h]
  have e : FloatOps.uitofp (F := Ideal) .f32 (IntOp.cmpi .eq (BitVec.ofNat 32 k.val) (BitVec.ofNat 32 k.val)) = (1 : EReal) := by
    rw [show IntOp.cmpi .eq (BitVec.ofNat 32 k.val) (BitVec.ofNat 32 k.val) = 1#1 by rw [WordCmp.cmpi_eq_eq, decide_eq_true rfl]; rfl]
    show ((((1#1 : BitVec 1).toNat : ℝ)) : EReal) = 1
    norm_num
  rw [e, one_mul]
  exact power_ge _ (rest16_nonneg i)

end Cert.Pillar
-- ==== Proof.Value.lean ====
/- What the canvas holds, as a maximum: the points' rows and cells, the groups' words, and the reference's canvas. -/
module

public import Idealize.ShloMosaic.Lib.Pointwise
public import Idealize.ShloMosaic.Lib.WordCmp
public import proofs.«01_k».proof.Proof.RefPoint
public import proofs.«01_k».proof.Proof.Where
public import proofs.«01_k».proof.Proof.Blocks
public import proofs.«01_k».proof.Proof.HostAt
public import proofs.«01_k».proof.Proof.Gen.Pre_counts_ascend
public import proofs.«01_k».proof.Proof.Main

@[expose] public section

noncomputable section

namespace Cert.Pillar

open Idealize.ShloMosaic Idealize.ShloMosaic.TcCoe
open Cert.RefCanvas (ideal_zero refCanvas indexAll rowsAll invAll layer1_at layer2_at featAll_at indexAll_at)

/-- The upper bounds of a maximum from zero. -/
theorem acc_le {h : Fin 200704 → Ideal .f32} {S : Finset (Fin 200704)} {x : Ideal .f32} (ha : Acc h S x) (y : EReal) :
    (x : EReal) ≤ y ↔ 0 ≤ y ∧ ∀ n ∈ S, (h n : EReal) ≤ y := by
  induction ha with
  | zero =>
    rw [show (Scalar.ofBits .f32 0x00000000#32 : Ideal .f32) = (0 : EReal) from ideal_zero]
    exact ⟨fun h0 => ⟨h0, fun n hn => absurd hn (Finset.notMem_empty n)⟩, fun h0 => h0.1⟩
  | step n _ ih =>
    refine (max_le_iff (α := EReal)).trans ?_
    rw [ih]
    constructor
    · rintro ⟨⟨h0, hS⟩, hn⟩
      exact ⟨h0, fun k hk => (Finset.mem_insert.1 hk).elim (fun e => e ▸ hn) (hS k)⟩
    · rintro ⟨h0, hS⟩
      exact ⟨⟨h0, fun k hk => hS k (Finset.mem_insert_of_mem hk)⟩, hS n (Finset.mem_insert_self _ _)⟩

section Precondition

open Cert.Pre_counts_ascend Cert.Pre_counts_ascend.Gen

variable (a0 : FVec Ideal S200000x3 .f32) (a1 : IVec S2 32) (a2 : FVec Ideal S200000x64 .f32) (a3 : FVec Ideal S128x67 .f32) (a4 a5 : FVec Ideal S128 .f32) (a6 : FVec Ideal S256x128 .f32) (a7 a8 : FVec Ideal S256 .f32)

theorem fn_at : Cert.Pre_counts_ascend.fn (F := Ideal) a0 a1 a2 a3 a4 a5 a6 a7 a8 ix0
    = IntOp.andi (IntOp.cmpi .sle (a1 (ix1 0)) (IntOp.addi (a1 (ix1 0)) (a1 (ix1 1)))) (IntOp.cmpi .sle (IntOp.addi (a1 (ix1 0)) (a1 (ix1 1))) 200000#32) := by
  unfold Cert.Pre_counts_ascend.fn
  pointwise

/-- The counts ascend, and stay within the points. -/
theorem ascend (hp : Cert.Pre_counts_ascend.fn (F := Ideal) a0 a1 a2 a3 a4 a5 a6 a7 a8 = fun _ => 1#1) :
    (a1 (ix1 0)).toInt ≤ (IntOp.addi (a1 (ix1 0)) (a1 (ix1 1))).toInt ∧ (IntOp.addi (a1 (ix1 0)) (a1 (ix1 1))).toInt ≤ 200000 := by
  have h := (fn_at a0 a1 a2 a3 a4 a5 a6 a7 a8).symm.trans (congrFun hp ix0)
  rw [WordCmp.cmpi_sle_eq, WordCmp.cmpi_sle_eq, WordCmp.andi_ofBool, WordCmp.ofBool_eq_one_iff, Bool.and_eq_true, decide_eq_true_eq, decide_eq_true_eq] at h
  exact h

end Precondition

section Rows

open Cert.KernelIdeal Cert.KernelIdeal.Gen

theorem sum67 (f : Fin 67 → EReal) : ∑ j, f j = ∑ j : Fin 64, f ⟨3 + j.val, by omega⟩ + (f 0 + f 1 + f 2) := by
  rw [show ∑ j : Fin 67, f j = ∑ j : Fin (3 + 64), f j from rfl, Fin.sum_univ_add, add_comm, Fin.sum_univ_three]
  rfl

/-- One row of the call is the reference's two layers, from a point and its features. -/
theorem row_of {x1 : FVec Ideal S3x1024 .f32} {x2 : FVec Ideal S1024x64 .f32} {x3 : FVec Ideal S64x128 .f32} {x4 : FVec Ideal S8x128 .f32} {x5 x6 : FVec Ideal S1x128 .f32}
    {x7 : FVec Ideal S128x256 .f32} {x8 x9 : FVec Ideal S1x256 .f32}
    (a0 : FVec Ideal S200000x3 .f32) (a2 : FVec Ideal S200000x64 .f32) (a3 : FVec Ideal S128x67 .f32) (a4 a5 : FVec Ideal S128 .f32) (a6 : FVec Ideal S256x128 .f32) (a7 a8 : FVec Ideal S256 .f32)
    (i : Fin 1024) (n : Fin 200000) (c : Fin 256)
    (h1 : ∀ j : Fin 3, x1 (ix2 j i) = a0 (ix2 n j)) (h2 : ∀ j : Fin 64, x2 (ix2 i j) = a2 (ix2 n j)) (h3 : ∀ (j : Fin 64) (k : Fin 128), x3 (ix2 j k) = a3 (ix2 k ⟨3 + j.val, by omega⟩))
    (h40 : ∀ k : Fin 128, x4 (ix2 0 k) = a3 (ix2 k 0)) (h41 : ∀ k : Fin 128, x4 (ix2 1 k) = a3 (ix2 k 1)) (h42 : ∀ k : Fin 128, x4 (ix2 2 k) = a3 (ix2 k 2))
    (h5 : ∀ k : Fin 128, x5 (ix2 0 k) = invAll ix0 * a4 (ix1 k)) (h6 : ∀ k : Fin 128, x6 (ix2 0 k) = a5 (ix1 k)) (h7 : ∀ k : Fin 128, x7 (ix2 k c) = a6 (ix2 c k))
    (h8 : x8 (ix2 0 c) = invAll ix0 * a7 (ix1 c)) (h9 : x9 (ix2 0 c) = a8 (ix1 c)) :
    hBlk (F := Ideal) x1 x2 x3 x4 x5 x6 x7 x8 x9 (ix2 i c) = rowsAll a0 a2 a3 a4 a5 a6 a7 a8 (ix2 n c) := by
  have hf : ∀ k : Fin 128, ∑ j : Fin 67, Cert.RefCanvas.featAll a0 a2 (ix2 n j) * a3 (ix2 k j)
      = (∑ j : Fin 64, a2 (ix2 n j) * a3 (ix2 k ⟨3 + j.val, by omega⟩))
        + (relOf (fun j => a0 (ix2 n j)) 0 * a3 (ix2 k 0) + relOf (fun j => a0 (ix2 n j)) 1 * a3 (ix2 k 1) + relOf (fun j => a0 (ix2 n j)) 2 * a3 (ix2 k 2)) := by
    intro k
    refine (sum67 _).trans (congrArg₂ (· + ·) (Finset.sum_congr rfl fun j _ => ?_) (congrArg₂ (· + ·) (congrArg₂ (· + ·) ?_ ?_) ?_))
    · rw [featAll_at, dif_neg (by show ¬ 3 + j.val < 3; omega)]
      exact congrArg (fun q : Fin 64 => a2 (ix2 n q) * a3 (ix2 k ⟨3 + j.val, by omega⟩)) (Fin.ext (by show 3 + j.val - 3 = j.val; omega))
    · rw [featAll_at, dif_pos (by decide)]; rfl
    · rw [featAll_at, dif_pos (by decide)]; rfl
    · rw [featAll_at, dif_pos (by decide)]; rfl
  rw [hBlk_at]
  unfold rowsAll
  rw [layer2_at]
  simp only [layer1_at, h1, h2, h3, h40, h41, h42, h5, h6, h7, h8, h9, hf, mul_assoc]

end Rows

section Canvas

open Cert.KernelIdeal Cert.KernelIdeal.Gen

variable (m : (ℓ : Loc nD τ sig) → Buf (Elt Ideal) ℓ) (d : Dev nD)

/-- The two counts' sums. -/
abbrev count0 : BitVec 32 := (m (loc d main_arg1) : IVec S2 32) (ix1 0)
abbrev count1 : BitVec 32 := IntOp.addi ((m (loc d main_arg1) : IVec S2 32) (ix1 0)) ((m (loc d main_arg1) : IVec S2 32) (ix1 1))

/-- A point's chunk and its place in it. -/
abbrev chunkOf (n : Fin 200704) : Fin cfg0.N := ⟨n.val / 1024, by have h : cfg0.N = 196 := rfl; omega⟩
abbrev placeOf (n : Fin 200704) : Fin 1024 := ⟨n.val % 1024, by omega⟩

theorem place_eq (n : Fin 200704) (h : 1024 * (chunkOf n).val + (placeOf n).val < 200704) : (⟨1024 * (chunkOf n).val + (placeOf n).val, h⟩ : Fin 200704) = n :=
  Fin.ext (by show 1024 * (n.val / 1024) + n.val % 1024 = n.val; omega)

theorem place_lt (n : Fin 200704) : 1024 * (chunkOf n).val + (placeOf n).val < 200704 := by
  have h := n.isLt
  show 1024 * (n.val / 1024) + n.val % 1024 < 200704
  omega

/-- The points' rows of cells, read from their chunk. -/
theorem points_at (a : IVec S196x1x1024 32) (h : S196x1x1024.ShapeCasts S200704) (n : Fin 200704) :
    shapeCast S200704 a h (ix1 n) = a (ix3 (⟨n.val / 1024, by omega⟩ : Fin 196) 0 (placeOf n)) :=
  shapeCast_apply a h _ _ (by
    rw [Shape.rowMajor_val_three, Shape.rowMajor_val_one]
    show (n.val / 1024 * 1 + 0) * 1024 + n.val % 1024 = n.val
    omega)

theorem im_cells (n : Fin 200704) : Im m d (ix1 n) = cells (F := Ideal) (tWord (chunkOf n)) (iblk (Vt m) d 0 (chunkOf n)) (iblk (Vt m) d 1 (chunkOf n)) (ix2 0 (placeOf n)) := by
  refine (points_at (Im3 m d) _ n).trans ?_
  refine (idx_at (Vt m) d (chunkOf n) (placeOf n)).trans ?_
  rw [iBlk_at]

/-- A point's cell, from its position and the counts. -/
theorem im_at (n : Fin 200704) : Im m d (ix1 n)
    = Scalar.select (IntOp.cmpi .slt (BitVec.ofNat 32 n.val) (count1 m d))
        (indexOf (batchOf (BitVec.ofNat 32 n.val) (count0 m d) (count1 m d)) (cellOf ((Vt m d (v main_v1) : FVec Ideal S3x200704 .f32) (ix2 0 n))) (cellOf ((Vt m d (v main_v1) : FVec Ideal S3x200704 .f32) (ix2 1 n))))
        32768#32 := by
  rw [im_cells, cells_at]
  have hw : IntOp.addi (IntOp.muli (tWord (chunkOf n)) 1024#32) (BitVec.ofNat 32 (placeOf n).val) = BitVec.ofNat 32 n.val := by
    refine chunk_word _ _ _ ?_
    rw [(idx_all (chunkOf n)).2.2.2.2.2.2.2.2.2.2.2.2.2.2]
    show 1024 * (n.val / 1024) + n.val % 1024 = n.val
    omega
  have h0 : (iblk (Vt m) d 0 (chunkOf n) : IVec S2 32) = (m (loc d main_arg1) : IVec S2 32) :=
    (iblk0_eq (Vt m) d (chunkOf n)).trans (pre_keeps main_arg1 (by decide) (V0 m d))
  have h1 : ∀ j : Fin 3, (iblk (Vt m) d 1 (chunkOf n) : FVec Ideal S3x1024 .f32) (ix2 j (placeOf n)) = (Vt m d (v main_v1) : FVec Ideal S3x200704 .f32) (ix2 j n) := fun j =>
    (iblk1_at (Vt m) d (chunkOf n) j (placeOf n) (place_lt n)).trans (congrArg (fun q : Fin 200704 => (Vt m d (v main_v1) : FVec Ideal S3x200704 .f32) (ix2 j q)) (place_eq n (place_lt n)))
  rw [hw, h1 0, h1 1, h0]

/-- The reference's cells and rows, from the arguments. -/
abbrev refIdx : IVec Cert.ReferenceIdeal.S200000 32 := indexAll (m (loc d main_arg0)) (m (loc d main_arg1))
abbrev refRows : FVec Ideal Cert.ReferenceIdeal.S200000x256 .f32 :=
  rowsAll (m (loc d main_arg0)) (m (loc d main_arg2)) (m (loc d main_arg3)) (m (loc d main_arg4)) (m (loc d main_arg5)) (m (loc d main_arg6)) (m (loc d main_arg7)) (m (loc d main_arg8))

/-- The same points name a row of the canvas in the kernel and in the reference. -/
theorem im_iff (h0 : (count0 m d).toInt ≤ (count1 m d).toInt) (h1 : (count1 m d).toInt ≤ 200000) (n : Fin 200704) (r : ℕ) (hr : r < 32768) :
    (Im m d (ix1 n)).toNat = r ↔ ∃ h : n.val < 200000, (refIdx m d (ix1 (⟨n.val, h⟩ : Fin 200000))).toNat = r := by
  have hn : (BitVec.ofNat 32 n.val).toInt = (n.val : ℤ) := WordCmp.toInt_ofNat_of_lt (by have := n.isLt; omega)
  rw [im_at, WordCmp.cmpi_slt_eq, WordCmp.select_decide]
  by_cases hc : (BitVec.ofNat 32 n.val).toInt < (count1 m d).toInt
  · have hlt : n.val < 200000 := by omega
    have hv : ∀ j : Fin 3, (Vt m d (v main_v1) : FVec Ideal S3x200704 .f32) (ix2 j n) = (m (loc d main_arg0) : FVec Ideal S200000x3 .f32) (ix2 ⟨n.val, hlt⟩ j) := fun j => v1_at (V0 m d) j n hlt
    rw [if_pos hc, hv 0, hv 1]
    have e := indexAll_at (m (loc d main_arg0)) (m (loc d main_arg1)) (⟨n.val, hlt⟩ : Fin 200000)
    exact ⟨fun h => ⟨hlt, (congrArg BitVec.toNat e).trans h⟩, fun ⟨_, h⟩ => (congrArg BitVec.toNat e).symm.trans h⟩
  · rw [if_neg hc]
    refine ⟨fun h => absurd h (by show ¬ 32768 = r; omega), fun ⟨hlt, h⟩ => ?_⟩
    have e := indexAll_at (m (loc d main_arg0)) (m (loc d main_arg1)) (⟨n.val, hlt⟩ : Fin 200000)
    have hp := past_rows (n := BitVec.ofNat 32 n.val) (c0 := count0 m d) (c1 := count1 m d) (by omega) (by omega)
      ((m (loc d main_arg0) : FVec Ideal S200000x3 .f32) (ix2 ⟨n.val, hlt⟩ 0)) ((m (loc d main_arg0) : FVec Ideal S200000x3 .f32) (ix2 ⟨n.val, hlt⟩ 1))
    have e' := (congrArg BitVec.toNat e).symm.trans h
    exact absurd (hp.trans_eq e') (by omega)

/-- The rows of the points are the reference's. -/
theorem row_eq (n : Fin 200704) (h : n.val < 200000) (c : Fin 256) : Hm m d (ix2 n c) = refRows m d (ix2 (⟨n.val, h⟩ : Fin 200000) c) := by
  have hb := h_at (Vt m) d (chunkOf n) (placeOf n) c (place_lt n)
  rw [place_eq n (place_lt n)] at hb
  refine hb.trans (row_of _ _ _ _ _ _ _ _ (placeOf n) ⟨n.val, h⟩ c (fun j => ?_) (fun j => ?_) (fun j k => ?_) (fun k => ?_) (fun k => ?_) (fun k => ?_) (fun k => ?_) (fun k => ?_) (fun k => ?_) ?_ ?_)
  · refine (iblk1_at (Vt m) d (chunkOf n) j (placeOf n) (place_lt n)).trans ?_
    rw [place_eq n (place_lt n)]
    exact v1_at (V0 m d) j n h
  · refine (iblk2_at (Vt m) d (chunkOf n) (placeOf n) j (place_lt n)).trans ?_
    rw [place_eq n (place_lt n)]
    exact v2_at (V0 m d) n j h
  · exact (congrFun (iblk3_eq (Vt m) d (chunkOf n)) _).trans (v6_at (V0 m d) j k)
  · exact (congrFun (iblk4_eq (Vt m) d (chunkOf n)) _).trans (v9_at (V0 m d) 0 k (by decide))
  · exact (congrFun (iblk4_eq (Vt m) d (chunkOf n)) _).trans (v9_at (V0 m d) 1 k (by decide))
  · exact (congrFun (iblk4_eq (Vt m) d (chunkOf n)) _).trans (v9_at (V0 m d) 2 k (by decide))
  · exact (congrFun (iblk5_eq (Vt m) d (chunkOf n)) _).trans (v12_at (V0 m d) k)
  · exact (congrFun (iblk6_eq (Vt m) d (chunkOf n)) _).trans (v13_at (V0 m d) k)
  · exact (congrFun (iblk7_eq (Vt m) d (chunkOf n)) _).trans (v14_at (V0 m d) k c)
  · exact (congrFun (iblk8_eq (Vt m) d (chunkOf n)) _).trans (v17_at (V0 m d) c)
  · exact (congrFun (iblk9_eq (Vt m) d (chunkOf n)) _).trans (v18_at (V0 m d) c)

/-- The word of a point in a column is positive. -/
theorem covered (n : Fin 200704) (P : Fin 128) (hlo : 256 * P.val ≤ (Im m d (ix1 n)).toNat) (hhi : (Im m d (ix1 n)).toNat < 256 * P.val + 256) :
    0 < (Bmm m d (ix3 (⟨n.val / 1024, by omega⟩ : Fin 196) P (⟨n.val % 1024 / 16, by omega⟩ : Fin 64))).toInt := by
  have hb := (bm_at (Vt m) d (chunkOf n) P (⟨n.val % 1024 / 16, by omega⟩ : Fin 64)).trans (bBlk_at _ _ _ _ P _)
  refine lt_of_lt_of_eq ?_ (congrArg BitVec.toInt hb.symm)
  refine word_pos ?_
  have hx : ∀ i : Fin 1024, (iblk (Vt m) d 10 (chunkOf n) : FVec Ideal S1024x64 .f32) (ix2 i (⟨n.val % 1024 / 16, by omega⟩ : Fin 64))
      = (StableHlo.after pres.flatten (V0 m d) (v main_v35) : FVec Ideal S1024x64 .f32) (ix2 i (⟨n.val % 1024 / 16, by omega⟩ : Fin 64)) := fun i =>
    congrFun (iblk10_eq (Vt m) d (chunkOf n)) _
  refine le_trans ?_ (Finset.single_le_sum (fun i _ => ?_) (Finset.mem_univ (placeOf n)))
  · rw [← im_cells, stretchOf_eq P.isLt hlo hhi, WordCmp.cmpi_eq_eq, decide_eq_true rfl, hx]
    exact v35_own (V0 m d) (placeOf n) _ rfl
  · rw [hx]
    unfold Scalar.select
    split
    · exact v35_nonneg (V0 m d) i _
    · exact le_refl _

/-- A finished canvas is the reference's, where the counts ascend. -/
theorem canvas_eq (h0 : (count0 m d).toInt ≤ (count1 m d).toInt) (h1 : (count1 m d).toInt ≤ 200000)
    {X : S32768x256.Idx → Elt Ideal .f32} (hX : CanvasOK (Hm m d) (Im m d) (Bmm m d) X) : X = refCanvas (refIdx m d) (refRows m d) := by
  funext j
  obtain ⟨r, c, rfl⟩ : ∃ (r : Fin 32768) (c : Fin 256), j = ix2 r c := ⟨j 0, j 1, eq_ix2 j⟩
  have hr := r.isLt
  have ha := hX ⟨r.val / 256, by omega⟩ ⟨r.val % 256, by omega⟩ c
  have hrow : (ix2 (⟨256 * (r.val / 256) + r.val % 256, by omega⟩ : Fin 32768) c : S32768x256.Idx) = ix2 r c :=
    congrArg (fun q : Fin 32768 => (ix2 q c : S32768x256.Idx)) (Fin.ext (by show 256 * (r.val / 256) + r.val % 256 = r.val; omega))
  have ha' := ha.cast (congrArg X hrow)
  refine eq_of_forall_ge_iff (α := EReal) fun y => ?_
  refine (acc_le ha' y).trans ((and_congr_right' ?_).trans (Cert.RefCanvas.ref_le _ (refRows m d) r c y).symm)
  have hmid : (∀ n : Fin 200704, (Im m d (ix1 n)).toNat = r.val → (Hm m d (ix2 n c) : EReal) ≤ y) ↔ ∀ n : Fin 200000, (refIdx m d (ix1 n)).toNat = r.val → (refRows m d (ix2 n c) : EReal) ≤ y := by
    constructor
    · intro h n e
      have hn : n.val < 200704 := by have := n.isLt; omega
      exact (row_eq m d ⟨n.val, hn⟩ n.isLt c).symm.trans_le (h ⟨n.val, hn⟩ ((im_iff m d h0 h1 ⟨n.val, hn⟩ r.val hr).2 ⟨n.isLt, e⟩))
    · intro h n e
      obtain ⟨hn, e'⟩ := (im_iff m d h0 h1 n r.val hr).1 e
      exact (row_eq m d n hn c).trans_le (h ⟨n.val, hn⟩ e')
  refine Iff.trans (forall_congr' fun n => imp_congr_left ?_) hmid
  rw [Finset.mem_filter]
  constructor
  · rintro ⟨-, e⟩
    exact e.trans (show 256 * (r.val / 256) + r.val % 256 = r.val by omega)
  · intro e
    have hn := n.isLt
    refine ⟨?_, e.trans (show r.val = 256 * (r.val / 256) + r.val % 256 by omega)⟩
    refine Finset.mem_filter.2 ⟨Finset.mem_univ _, Finset.mem_filter.2 ⟨Finset.mem_range.2 (by omega), ?_⟩, ?_, ?_⟩
    · have hc := covered m d n (⟨r.val / 256, by omega⟩ : Fin 128) (by show 256 * (r.val / 256) ≤ _; omega) (by show _ < 256 * (r.val / 256) + 256; omega)
      rw [colWords_at (Bmm m d) (⟨r.val / 256, by omega⟩ : Fin 128) (⟨n.val / 1024, by omega⟩ : Fin 196) (⟨n.val % 1024 / 16, by omega⟩ : Fin 64)] at hc
      have hi : 64 * (n.val / 1024) + n.val % 1024 / 16 = n.val / 16 := by omega
      rw [← hi]
      exact hc
    · show 256 * (r.val / 256) ≤ _
      exact le_of_le_of_eq (by omega) e.symm
    · show _ < 256 * (r.val / 256) + 256
      exact lt_of_eq_of_lt e (by omega)

end Canvas

end Cert.Pillar
-- ==== Proof.lean ====
/- The proof of the claim: the frames of the kernel and of the reference, and that they compute the same function. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_counts_ascend
public import proofs.«01_k».proof.Proof.Value

@[expose] public section

noncomputable section

namespace Cert.Proof

open Idealize.ShloMosaic Idealize.SL.Sem Cert.Pillar Cert.KernelIdeal

/-- The arguments, one by one. -/
theorem args_of {F : FTy → Type} {m m' : (ℓ : Loc nD τ sig) → Buf (Elt F) ℓ} {d : Dev nD} (h : ∀ b ∈ argRefs, m' (loc d b) = m (loc d b)) :
    m' (loc d main_arg0) = m (loc d main_arg0) ∧ m' (loc d main_arg1) = m (loc d main_arg1) ∧ m' (loc d main_arg2) = m (loc d main_arg2) ∧ m' (loc d main_arg3) = m (loc d main_arg3)
      ∧ m' (loc d main_arg4) = m (loc d main_arg4) ∧ m' (loc d main_arg5) = m (loc d main_arg5) ∧ m' (loc d main_arg6) = m (loc d main_arg6) ∧ m' (loc d main_arg7) = m (loc d main_arg7)
      ∧ m' (loc d main_arg8) = m (loc d main_arg8) :=
  ⟨h _ (by decide), h _ (by decide), h _ (by decide), h _ (by decide), h _ (by decide), h _ (by decide), h _ (by decide), h _ (by decide), h _ (by decide)⟩

/-- A run from these contents and register states ends, the arguments kept, every counter back at zero. -/
def Frames {F : FTy → Type} [FloatOps F] (m : (ℓ : Loc nD τ sig) → Buf (Elt F) ℓ) (ρ : Dev nD → PrngReg) : Prop :=
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0)

theorem frame {F : FTy → Type} [FloatOps F] [∀ e, Nonempty (Elt F e)] (m : (ℓ : Loc nD τ sig) → Buf (Elt F) ℓ) (ρ : Dev nD → PrngReg) : Frames m ρ :=
  (θ_run (defs (F := F)) _ _).mono (fun _ h => ⟨fun c => (h.1 c).elim fun _ hX => args_of hX.2.2, h.2⟩) (run_main (F := F) m ρ)

/-- The kernel over bits is the same program, under its own names. -/
theorem same_program : Cert.quiescent_Kernel (hKernel := Cert.Kernel.Gen.facts) =
    ∀ (m : (ℓ : Loc nD τ sig) → Buf (Elt Bits) ℓ) (ρ : Dev nD → PrngReg), True → Frames m ρ := by
  chain_rfl

theorem frame_kernel : Cert.quiescent_Kernel (hKernel := Cert.Kernel.Gen.facts) := same_program.mpr fun m ρ _ => frame m ρ

theorem frame_ideal : Cert.quiescent_KernelIdeal (hKernelIdeal := Cert.KernelIdeal.Gen.facts) := fun m ρ _ => frame m ρ

theorem frame_ref : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

/-- From memories that agree on the arguments, the finished canvas is the reference's and so are the results made of it. -/
theorem value : Cert.algebraic_KernelIdeal_ReferenceIdeal_pre_counts_ascend (hKernelIdeal := Cert.KernelIdeal.Gen.facts) (hReferenceIdeal := Cert.ReferenceIdeal.Gen.facts)
    (hPre_counts_ascend := Cert.Pre_counts_ascend.Gen.facts) := by
  intro m g m' g' hp hm
  refine ⟨fun c => outOf (F := Ideal) (Cert.RefCanvas.refCanvas (refIdx m c) (refRows m c)), ?_, ?_⟩
  · refine (θ_run (Cert.KernelIdeal.defs (F := Ideal)) _ _).mono (fun _ h c => ?_) (run_main (F := Ideal) m g)
    obtain ⟨X, hX, hv, ha⟩ := h.1 c
    obtain ⟨h0, h1⟩ := ascend _ _ _ _ _ _ _ _ _ (hp c)
    exact ⟨hv.trans (congrArg outOf (canvas_eq m c h0 h1 hX)), args_of ha⟩
  · refine (θ_run _ _ _).mono (fun _ h c => ?_) (Cert.ReferenceIdeal.Value.run (F := Ideal) m' g')
    obtain ⟨hv, ha⟩ := h c
    obtain ⟨e0, e1, e2, e3, e4, e5, e6, e7, e8⟩ := hm c
    have hr := hv.trans (Cert.RefCanvas.result_eq m' c)
    rw [e0, e1, e2, e3, e4, e5, e6, e7, e8] at hr
    exact ⟨hr, ha⟩

theorem claim : Cert.Claim :=
  ⟨Cert.Kernel.Gen.facts, Cert.KernelIdeal.Gen.facts, Cert.ReferenceIdeal.Gen.facts, Cert.Pre_counts_ascend.Gen.facts,
    frame_kernel, frame_ideal, fun m g _ => frame_ideal m g trivial, frame_ref, fun m g _ => frame_ref m g trivial, trivial, value⟩

end Cert.Proof

end
